-- ==== Defs.lean ====
def Pre_Lin (m : (ℓ : Loc Cert.Lin.nD Cert.Lin.τ Cert.Lin.sig) → Buf (Elt Bits) ℓ) : Prop :=
  True

def Pre_LinIdeal (m : (ℓ : Loc Cert.LinIdeal.nD Cert.LinIdeal.τ Cert.LinIdeal.sig) → Buf (Elt Ideal) ℓ) : Prop :=
  True

def Pre_LinRefIdeal (m : (ℓ : Loc Cert.LinRefIdeal.nD Cert.LinRefIdeal.τ Cert.LinRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Plain (m : (ℓ : Loc Cert.Plain.nD Cert.Plain.τ Cert.Plain.sig) → Buf (Elt Bits) ℓ) : Prop :=
  True

def Pre_PlainIdeal (m : (ℓ : Loc Cert.PlainIdeal.nD Cert.PlainIdeal.τ Cert.PlainIdeal.sig) → Buf (Elt Ideal) ℓ) : Prop :=
  True

def Pre_PlainRefIdeal (m : (ℓ : Loc Cert.PlainRefIdeal.nD Cert.PlainRefIdeal.τ Cert.PlainRefIdeal.sig) → Buf (Elt Ideal) ℓ) : Prop :=
  True

def Pre_LinS (m : (ℓ : Loc Cert.LinS.nD Cert.LinS.τ Cert.LinS.sig) → Buf (Elt Bits) ℓ) : Prop :=
  True

def Pre_LinSIdeal (m : (ℓ : Loc Cert.LinSIdeal.nD Cert.LinSIdeal.τ Cert.LinSIdeal.sig) → Buf (Elt Ideal) ℓ) : Prop :=
  True

def Pre_LinSRefIdeal (m : (ℓ : Loc Cert.LinSRefIdeal.nD Cert.LinSRefIdeal.τ Cert.LinSRefIdeal.sig) → Buf (Elt Ideal) ℓ) : Prop :=
  True

def Pre_QkvS (m : (ℓ : Loc Cert.QkvS.nD Cert.QkvS.τ Cert.QkvS.sig) → Buf (Elt Bits) ℓ) : Prop :=
  True

def Pre_QkvSIdeal (m : (ℓ : Loc Cert.QkvSIdeal.nD Cert.QkvSIdeal.τ Cert.QkvSIdeal.sig) → Buf (Elt Ideal) ℓ) : Prop :=
  True

def Pre_QkvSRefIdeal (m : (ℓ : Loc Cert.QkvSRefIdeal.nD Cert.QkvSRefIdeal.τ Cert.QkvSRefIdeal.sig) → Buf (Elt Ideal) ℓ) : Prop :=
  True

def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepRefIdeal (m : (ℓ : Loc Cert.StepRefIdeal.nD Cert.StepRefIdeal.τ Cert.StepRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Mlstm (m : (ℓ : Loc Cert.Mlstm.nD Cert.Mlstm.τ Cert.Mlstm.sig) → Buf (Elt Bits) ℓ) : Prop :=
  True

def Pre_MlstmIdeal (m : (ℓ : Loc Cert.MlstmIdeal.nD Cert.MlstmIdeal.τ Cert.MlstmIdeal.sig) → Buf (Elt Ideal) ℓ) : Prop :=
  True

def Pre_MlstmIdeal_finite_tokens [hPre_finite_tokens : Cert.Pre_finite_tokens.Facts] (m : (ℓ : Loc Cert.MlstmIdeal.nD Cert.MlstmIdeal.τ Cert.MlstmIdeal.sig) → Buf (Elt Ideal) ℓ) : Prop :=
  ∀ c : Dev Cert.MlstmIdeal.nD,
    (Cert.Pre_finite_tokens.fn (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3))).1 = (fun _ => 1#1)
    ∧ (Cert.Pre_finite_tokens.fn (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3))).2.1 = (fun _ => 1#1)
    ∧ (Cert.Pre_finite_tokens.fn (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3))).2.2.1 = (fun _ => 1#1)
    ∧ (Cert.Pre_finite_tokens.fn (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3))).2.2.2 = (fun _ => 1#1)

def Pre_MlstmRefIdeal (m : (ℓ : Loc Cert.MlstmRefIdeal.nD Cert.MlstmRefIdeal.τ Cert.MlstmRefIdeal.sig) → Buf (Elt Ideal) ℓ) : Prop :=
  True

def Pre_MlstmRefIdeal_finite_tokens [hPre_finite_tokens : Cert.Pre_finite_tokens.Facts] (m : (ℓ : Loc Cert.MlstmRefIdeal.nD Cert.MlstmRefIdeal.τ Cert.MlstmRefIdeal.sig) → Buf (Elt Ideal) ℓ) : Prop :=
  ∀ c : Dev Cert.MlstmRefIdeal.nD,
    (Cert.Pre_finite_tokens.fn (F := Ideal) (m ((c.tc : Thread Cert.MlstmRefIdeal.nD Cert.MlstmRefIdeal.τ).loc Cert.MlstmRefIdeal.main_arg0)) (m ((c.tc : Thread Cert.MlstmRefIdeal.nD Cert.MlstmRefIdeal.τ).loc Cert.MlstmRefIdeal.main_arg1)) (m ((c.tc : Thread Cert.MlstmRefIdeal.nD Cert.MlstmRefIdeal.τ).loc Cert.MlstmRefIdeal.main_arg2)) (m ((c.tc : Thread Cert.MlstmRefIdeal.nD Cert.MlstmRefIdeal.τ).loc Cert.MlstmRefIdeal.main_arg3))).1 = (fun _ => 1#1)
    ∧ (Cert.Pre_finite_tokens.fn (F := Ideal) (m ((c.tc : Thread Cert.MlstmRefIdeal.nD Cert.MlstmRefIdeal.τ).loc Cert.MlstmRefIdeal.main_arg0)) (m ((c.tc : Thread Cert.MlstmRefIdeal.nD Cert.MlstmRefIdeal.τ).loc Cert.MlstmRefIdeal.main_arg1)) (m ((c.tc : Thread Cert.MlstmRefIdeal.nD Cert.MlstmRefIdeal.τ).loc Cert.MlstmRefIdeal.main_arg2)) (m ((c.tc : Thread Cert.MlstmRefIdeal.nD Cert.MlstmRefIdeal.τ).loc Cert.MlstmRefIdeal.main_arg3))).2.1 = (fun _ => 1#1)
    ∧ (Cert.Pre_finite_tokens.fn (F := Ideal) (m ((c.tc : Thread Cert.MlstmRefIdeal.nD Cert.MlstmRefIdeal.τ).loc Cert.MlstmRefIdeal.main_arg0)) (m ((c.tc : Thread Cert.MlstmRefIdeal.nD Cert.MlstmRefIdeal.τ).loc Cert.MlstmRefIdeal.main_arg1)) (m ((c.tc : Thread Cert.MlstmRefIdeal.nD Cert.MlstmRefIdeal.τ).loc Cert.MlstmRefIdeal.main_arg2)) (m ((c.tc : Thread Cert.MlstmRefIdeal.nD Cert.MlstmRefIdeal.τ).loc Cert.MlstmRefIdeal.main_arg3))).2.2.1 = (fun _ => 1#1)
    ∧ (Cert.Pre_finite_tokens.fn (F := Ideal) (m ((c.tc : Thread Cert.MlstmRefIdeal.nD Cert.MlstmRefIdeal.τ).loc Cert.MlstmRefIdeal.main_arg0)) (m ((c.tc : Thread Cert.MlstmRefIdeal.nD Cert.MlstmRefIdeal.τ).loc Cert.MlstmRefIdeal.main_arg1)) (m ((c.tc : Thread Cert.MlstmRefIdeal.nD Cert.MlstmRefIdeal.τ).loc Cert.MlstmRefIdeal.main_arg2)) (m ((c.tc : Thread Cert.MlstmRefIdeal.nD Cert.MlstmRefIdeal.τ).loc Cert.MlstmRefIdeal.main_arg3))).2.2.2 = (fun _ => 1#1)

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_finite_inputs [hPre_finite_inputs : Cert.Pre_finite_inputs.Facts] (m : (ℓ : Loc Cert.SwaIdeal.nD Cert.SwaIdeal.τ Cert.SwaIdeal.sig) → Buf (Elt Ideal) ℓ) : Prop :=
  ∀ c : Dev Cert.SwaIdeal.nD,
    (Cert.Pre_finite_inputs.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2))).1 = (fun _ => 1#1)
    ∧ (Cert.Pre_finite_inputs.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2))).2.1 = (fun _ => 1#1)
    ∧ (Cert.Pre_finite_inputs.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2))).2.2 = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_finite_inputs [hPre_finite_inputs : Cert.Pre_finite_inputs.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_finite_inputs.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2))).1 = (fun _ => 1#1)
    ∧ (Cert.Pre_finite_inputs.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2))).2.1 = (fun _ => 1#1)
    ∧ (Cert.Pre_finite_inputs.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2))).2.2 = (fun _ => 1#1)

def quiescent_Lin [hLin : Cert.Lin.Facts] : Prop :=
  ∀ (m : (ℓ : Loc Cert.Lin.nD Cert.Lin.τ Cert.Lin.sig) → Buf (Elt Bits) ℓ) (g : Dev Cert.Lin.nD → PrngReg), Pre_Lin m →
    θ_run (Cert.Lin.defs (F := Bits)) (onTc (τ := Cert.Lin.τ) (Cert.Lin.main (F := Bits))) ⟨m, fun _ => 0, g⟩ (fun r => (∀ c : Dev Cert.Lin.nD,
      r.2.mem ((c.tc : Thread Cert.Lin.nD Cert.Lin.τ).loc Cert.Lin.main_arg0) = m ((c.tc : Thread Cert.Lin.nD Cert.Lin.τ).loc Cert.Lin.main_arg0)
      ∧ r.2.mem ((c.tc : Thread Cert.Lin.nD Cert.Lin.τ).loc Cert.Lin.main_arg1) = m ((c.tc : Thread Cert.Lin.nD Cert.Lin.τ).loc Cert.Lin.main_arg1)
      ∧ r.2.mem ((c.tc : Thread Cert.Lin.nD Cert.Lin.τ).loc Cert.Lin.main_arg2) = m ((c.tc : Thread Cert.Lin.nD Cert.Lin.τ).loc Cert.Lin.main_arg2))
      ∧ r.2.sem = fun _ => 0)

def quiescent_LinIdeal [hLinIdeal : Cert.LinIdeal.Facts] : Prop :=
  ∀ (m : (ℓ : Loc Cert.LinIdeal.nD Cert.LinIdeal.τ Cert.LinIdeal.sig) → Buf (Elt Ideal) ℓ) (g : Dev Cert.LinIdeal.nD → PrngReg), Pre_LinIdeal m →
    θ_run (Cert.LinIdeal.defs (F := Ideal)) (onTc (τ := Cert.LinIdeal.τ) (Cert.LinIdeal.main (F := Ideal))) ⟨m, fun _ => 0, g⟩ (fun r => (∀ c : Dev Cert.LinIdeal.nD,
      r.2.mem ((c.tc : Thread Cert.LinIdeal.nD Cert.LinIdeal.τ).loc Cert.LinIdeal.main_arg0) = m ((c.tc : Thread Cert.LinIdeal.nD Cert.LinIdeal.τ).loc Cert.LinIdeal.main_arg0)
      ∧ r.2.mem ((c.tc : Thread Cert.LinIdeal.nD Cert.LinIdeal.τ).loc Cert.LinIdeal.main_arg1) = m ((c.tc : Thread Cert.LinIdeal.nD Cert.LinIdeal.τ).loc Cert.LinIdeal.main_arg1)
      ∧ r.2.mem ((c.tc : Thread Cert.LinIdeal.nD Cert.LinIdeal.τ).loc Cert.LinIdeal.main_arg2) = m ((c.tc : Thread Cert.LinIdeal.nD Cert.LinIdeal.τ).loc Cert.LinIdeal.main_arg2))
      ∧ r.2.sem = fun _ => 0)

def quiescent_LinRefIdeal [hLinRefIdeal : Cert.LinRefIdeal.Facts] : Prop :=
  ∀ (m : (ℓ : Loc Cert.LinRefIdeal.nD Cert.LinRefIdeal.τ Cert.LinRefIdeal.sig) → Buf (Elt Ideal) ℓ) (g : Dev Cert.LinRefIdeal.nD → PrngReg), Pre_LinRefIdeal m →
    θ_run (Cert.LinRefIdeal.defs (F := Ideal)) (onTc (τ := Cert.LinRefIdeal.τ) (Cert.LinRefIdeal.main (F := Ideal))) ⟨m, fun _ => 0, g⟩ (fun r => (∀ c : Dev Cert.LinRefIdeal.nD,
      r.2.mem ((c.tc : Thread Cert.LinRefIdeal.nD Cert.LinRefIdeal.τ).loc Cert.LinRefIdeal.main_arg0) = m ((c.tc : Thread Cert.LinRefIdeal.nD Cert.LinRefIdeal.τ).loc Cert.LinRefIdeal.main_arg0)
      ∧ r.2.mem ((c.tc : Thread Cert.LinRefIdeal.nD Cert.LinRefIdeal.τ).loc Cert.LinRefIdeal.main_arg1) = m ((c.tc : Thread Cert.LinRefIdeal.nD Cert.LinRefIdeal.τ).loc Cert.LinRefIdeal.main_arg1)
      ∧ r.2.mem ((c.tc : Thread Cert.LinRefIdeal.nD Cert.LinRefIdeal.τ).loc Cert.LinRefIdeal.main_arg2) = m ((c.tc : Thread Cert.LinRefIdeal.nD Cert.LinRefIdeal.τ).loc Cert.LinRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_Plain [hPlain : Cert.Plain.Facts] : Prop :=
  ∀ (m : (ℓ : Loc Cert.Plain.nD Cert.Plain.τ Cert.Plain.sig) → Buf (Elt Bits) ℓ) (g : Dev Cert.Plain.nD → PrngReg), Pre_Plain m →
    θ_run (Cert.Plain.defs (F := Bits)) (onTc (τ := Cert.Plain.τ) (Cert.Plain.main (F := Bits))) ⟨m, fun _ => 0, g⟩ (fun r => (∀ c : Dev Cert.Plain.nD,
      r.2.mem ((c.tc : Thread Cert.Plain.nD Cert.Plain.τ).loc Cert.Plain.main_arg0) = m ((c.tc : Thread Cert.Plain.nD Cert.Plain.τ).loc Cert.Plain.main_arg0)
      ∧ r.2.mem ((c.tc : Thread Cert.Plain.nD Cert.Plain.τ).loc Cert.Plain.main_arg1) = m ((c.tc : Thread Cert.Plain.nD Cert.Plain.τ).loc Cert.Plain.main_arg1)
      ∧ r.2.mem ((c.tc : Thread Cert.Plain.nD Cert.Plain.τ).loc Cert.Plain.main_arg2) = m ((c.tc : Thread Cert.Plain.nD Cert.Plain.τ).loc Cert.Plain.main_arg2)
      ∧ r.2.mem ((c.tc : Thread Cert.Plain.nD Cert.Plain.τ).loc Cert.Plain.main_arg3) = m ((c.tc : Thread Cert.Plain.nD Cert.Plain.τ).loc Cert.Plain.main_arg3)
      ∧ r.2.mem ((c.tc : Thread Cert.Plain.nD Cert.Plain.τ).loc Cert.Plain.main_arg4) = m ((c.tc : Thread Cert.Plain.nD Cert.Plain.τ).loc Cert.Plain.main_arg4))
      ∧ r.2.sem = fun _ => 0)

def quiescent_PlainIdeal [hPlainIdeal : Cert.PlainIdeal.Facts] : Prop :=
  ∀ (m : (ℓ : Loc Cert.PlainIdeal.nD Cert.PlainIdeal.τ Cert.PlainIdeal.sig) → Buf (Elt Ideal) ℓ) (g : Dev Cert.PlainIdeal.nD → PrngReg), Pre_PlainIdeal m →
    θ_run (Cert.PlainIdeal.defs (F := Ideal)) (onTc (τ := Cert.PlainIdeal.τ) (Cert.PlainIdeal.main (F := Ideal))) ⟨m, fun _ => 0, g⟩ (fun r => (∀ c : Dev Cert.PlainIdeal.nD,
      r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
      ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1)
      ∧ r.2.mem ((c.tc : Thread Cert.PlainIdeal.nD Cert.PlainIdeal.τ).loc Cert.PlainIdeal.main_arg2) = m ((c.tc : Thread Cert.PlainIdeal.nD Cert.PlainIdeal.τ).loc Cert.PlainIdeal.main_arg2)
      ∧ r.2.mem ((c.tc : Thread Cert.PlainIdeal.nD Cert.PlainIdeal.τ).loc Cert.PlainIdeal.main_arg3) = m ((c.tc : Thread Cert.PlainIdeal.nD Cert.PlainIdeal.τ).loc Cert.PlainIdeal.main_arg3)
      ∧ r.2.mem ((c.tc : Thread Cert.PlainIdeal.nD Cert.PlainIdeal.τ).loc Cert.PlainIdeal.main_arg4) = m ((c.tc : Thread Cert.PlainIdeal.nD Cert.PlainIdeal.τ).loc Cert.PlainIdeal.main_arg4))
      ∧ r.2.sem = fun _ => 0)

def quiescent_PlainRefIdeal [hPlainRefIdeal : Cert.PlainRefIdeal.Facts] : Prop :=
  ∀ (m : (ℓ : Loc Cert.PlainRefIdeal.nD Cert.PlainRefIdeal.τ Cert.PlainRefIdeal.sig) → Buf (Elt Ideal) ℓ) (g : Dev Cert.PlainRefIdeal.nD → PrngReg), Pre_PlainRefIdeal m →
    θ_run (Cert.PlainRefIdeal.defs (F := Ideal)) (onTc (τ := Cert.PlainRefIdeal.τ) (Cert.PlainRefIdeal.main (F := Ideal))) ⟨m, fun _ => 0, g⟩ (fun r => (∀ c : Dev Cert.PlainRefIdeal.nD,
      r.2.mem ((c.tc : Thread Cert.PlainRefIdeal.nD Cert.PlainRefIdeal.τ).loc Cert.PlainRefIdeal.main_arg0) = m ((c.tc : Thread Cert.PlainRefIdeal.nD Cert.PlainRefIdeal.τ).loc Cert.PlainRefIdeal.main_arg0)
      ∧ r.2.mem ((c.tc : Thread Cert.PlainRefIdeal.nD Cert.PlainRefIdeal.τ).loc Cert.PlainRefIdeal.main_arg1) = m ((c.tc : Thread Cert.PlainRefIdeal.nD Cert.PlainRefIdeal.τ).loc Cert.PlainRefIdeal.main_arg1)
      ∧ r.2.mem ((c.tc : Thread Cert.PlainRefIdeal.nD Cert.PlainRefIdeal.τ).loc Cert.PlainRefIdeal.main_arg2) = m ((c.tc : Thread Cert.PlainRefIdeal.nD Cert.PlainRefIdeal.τ).loc Cert.PlainRefIdeal.main_arg2)
      ∧ r.2.mem ((c.tc : Thread Cert.PlainRefIdeal.nD Cert.PlainRefIdeal.τ).loc Cert.PlainRefIdeal.main_arg3) = m ((c.tc : Thread Cert.PlainRefIdeal.nD Cert.PlainRefIdeal.τ).loc Cert.PlainRefIdeal.main_arg3)
      ∧ r.2.mem ((c.tc : Thread Cert.PlainRefIdeal.nD Cert.PlainRefIdeal.τ).loc Cert.PlainRefIdeal.main_arg4) = m ((c.tc : Thread Cert.PlainRefIdeal.nD Cert.PlainRefIdeal.τ).loc Cert.PlainRefIdeal.main_arg4))
      ∧ r.2.sem = fun _ => 0)

def quiescent_LinS [hLinS : Cert.LinS.Facts] : Prop :=
  ∀ (m : (ℓ : Loc Cert.LinS.nD Cert.LinS.τ Cert.LinS.sig) → Buf (Elt Bits) ℓ) (g : Dev Cert.LinS.nD → PrngReg), Pre_LinS m →
    θ_run (Cert.LinS.defs (F := Bits)) (onTc (τ := Cert.LinS.τ) (Cert.LinS.main (F := Bits))) ⟨m, fun _ => 0, g⟩ (fun r => (∀ c : Dev Cert.LinS.nD,
      r.2.mem ((c.tc : Thread Cert.LinS.nD Cert.LinS.τ).loc Cert.LinS.main_arg0) = m ((c.tc : Thread Cert.LinS.nD Cert.LinS.τ).loc Cert.LinS.main_arg0)
      ∧ r.2.mem ((c.tc : Thread Cert.LinS.nD Cert.LinS.τ).loc Cert.LinS.main_arg1) = m ((c.tc : Thread Cert.LinS.nD Cert.LinS.τ).loc Cert.LinS.main_arg1)
      ∧ r.2.mem ((c.tc : Thread Cert.LinS.nD Cert.LinS.τ).loc Cert.LinS.main_arg2) = m ((c.tc : Thread Cert.LinS.nD Cert.LinS.τ).loc Cert.LinS.main_arg2))
      ∧ r.2.sem = fun _ => 0)

def quiescent_LinSIdeal [hLinSIdeal : Cert.LinSIdeal.Facts] : Prop :=
  ∀ (m : (ℓ : Loc Cert.LinSIdeal.nD Cert.LinSIdeal.τ Cert.LinSIdeal.sig) → Buf (Elt Ideal) ℓ) (g : Dev Cert.LinSIdeal.nD → PrngReg), Pre_LinSIdeal m →
    θ_run (Cert.LinSIdeal.defs (F := Ideal)) (onTc (τ := Cert.LinSIdeal.τ) (Cert.LinSIdeal.main (F := Ideal))) ⟨m, fun _ => 0, g⟩ (fun r => (∀ c : Dev Cert.LinSIdeal.nD,
      r.2.mem ((c.tc : Thread Cert.LinSIdeal.nD Cert.LinSIdeal.τ).loc Cert.LinSIdeal.main_arg0) = m ((c.tc : Thread Cert.LinSIdeal.nD Cert.LinSIdeal.τ).loc Cert.LinSIdeal.main_arg0)
      ∧ r.2.mem ((c.tc : Thread Cert.LinSIdeal.nD Cert.LinSIdeal.τ).loc Cert.LinSIdeal.main_arg1) = m ((c.tc : Thread Cert.LinSIdeal.nD Cert.LinSIdeal.τ).loc Cert.LinSIdeal.main_arg1)
      ∧ r.2.mem ((c.tc : Thread Cert.LinSIdeal.nD Cert.LinSIdeal.τ).loc Cert.LinSIdeal.main_arg2) = m ((c.tc : Thread Cert.LinSIdeal.nD Cert.LinSIdeal.τ).loc Cert.LinSIdeal.main_arg2))
      ∧ r.2.sem = fun _ => 0)

def quiescent_LinSRefIdeal [hLinSRefIdeal : Cert.LinSRefIdeal.Facts] : Prop :=
  ∀ (m : (ℓ : Loc Cert.LinSRefIdeal.nD Cert.LinSRefIdeal.τ Cert.LinSRefIdeal.sig) → Buf (Elt Ideal) ℓ) (g : Dev Cert.LinSRefIdeal.nD → PrngReg), Pre_LinSRefIdeal m →
    θ_run (Cert.LinSRefIdeal.defs (F := Ideal)) (onTc (τ := Cert.LinSRefIdeal.τ) (Cert.LinSRefIdeal.main (F := Ideal))) ⟨m, fun _ => 0, g⟩ (fun r => (∀ c : Dev Cert.LinSRefIdeal.nD,
      r.2.mem ((c.tc : Thread Cert.LinSRefIdeal.nD Cert.LinSRefIdeal.τ).loc Cert.LinSRefIdeal.main_arg0) = m ((c.tc : Thread Cert.LinSRefIdeal.nD Cert.LinSRefIdeal.τ).loc Cert.LinSRefIdeal.main_arg0)
      ∧ r.2.mem ((c.tc : Thread Cert.LinSRefIdeal.nD Cert.LinSRefIdeal.τ).loc Cert.LinSRefIdeal.main_arg1) = m ((c.tc : Thread Cert.LinSRefIdeal.nD Cert.LinSRefIdeal.τ).loc Cert.LinSRefIdeal.main_arg1)
      ∧ r.2.mem ((c.tc : Thread Cert.LinSRefIdeal.nD Cert.LinSRefIdeal.τ).loc Cert.LinSRefIdeal.main_arg2) = m ((c.tc : Thread Cert.LinSRefIdeal.nD Cert.LinSRefIdeal.τ).loc Cert.LinSRefIdeal.main_arg2))
      ∧ r.2.sem = fun _ => 0)

def quiescent_QkvS [hQkvS : Cert.QkvS.Facts] : Prop :=
  ∀ (m : (ℓ : Loc Cert.QkvS.nD Cert.QkvS.τ Cert.QkvS.sig) → Buf (Elt Bits) ℓ) (g : Dev Cert.QkvS.nD → PrngReg), Pre_QkvS m →
    θ_run (Cert.QkvS.defs (F := Bits)) (onTc (τ := Cert.QkvS.τ) (Cert.QkvS.main (F := Bits))) ⟨m, fun _ => 0, g⟩ (fun r => (∀ c : Dev Cert.QkvS.nD,
      r.2.mem ((c.tc : Thread Cert.QkvS.nD Cert.QkvS.τ).loc Cert.QkvS.main_arg0) = m ((c.tc : Thread Cert.QkvS.nD Cert.QkvS.τ).loc Cert.QkvS.main_arg0)
      ∧ r.2.mem ((c.tc : Thread Cert.QkvS.nD Cert.QkvS.τ).loc Cert.QkvS.main_arg1) = m ((c.tc : Thread Cert.QkvS.nD Cert.QkvS.τ).loc Cert.QkvS.main_arg1)
      ∧ r.2.mem ((c.tc : Thread Cert.QkvS.nD Cert.QkvS.τ).loc Cert.QkvS.main_arg2) = m ((c.tc : Thread Cert.QkvS.nD Cert.QkvS.τ).loc Cert.QkvS.main_arg2))
      ∧ r.2.sem = fun _ => 0)

def quiescent_QkvSIdeal [hQkvSIdeal : Cert.QkvSIdeal.Facts] : Prop :=
  ∀ (m : (ℓ : Loc Cert.QkvSIdeal.nD Cert.QkvSIdeal.τ Cert.QkvSIdeal.sig) → Buf (Elt Ideal) ℓ) (g : Dev Cert.QkvSIdeal.nD → PrngReg), Pre_QkvSIdeal m →
    θ_run (Cert.QkvSIdeal.defs (F := Ideal)) (onTc (τ := Cert.QkvSIdeal.τ) (Cert.QkvSIdeal.main (F := Ideal))) ⟨m, fun _ => 0, g⟩ (fun r => (∀ c : Dev Cert.QkvSIdeal.nD,
      r.2.mem ((c.tc : Thread Cert.QkvSIdeal.nD Cert.QkvSIdeal.τ).loc Cert.QkvSIdeal.main_arg0) = m ((c.tc : Thread Cert.QkvSIdeal.nD Cert.QkvSIdeal.τ).loc Cert.QkvSIdeal.main_arg0)
      ∧ r.2.mem ((c.tc : Thread Cert.QkvSIdeal.nD Cert.QkvSIdeal.τ).loc Cert.QkvSIdeal.main_arg1) = m ((c.tc : Thread Cert.QkvSIdeal.nD Cert.QkvSIdeal.τ).loc Cert.QkvSIdeal.main_arg1)
      ∧ r.2.mem ((c.tc : Thread Cert.QkvSIdeal.nD Cert.QkvSIdeal.τ).loc Cert.QkvSIdeal.main_arg2) = m ((c.tc : Thread Cert.QkvSIdeal.nD Cert.QkvSIdeal.τ).loc Cert.QkvSIdeal.main_arg2))
      ∧ r.2.sem = fun _ => 0)

def quiescent_QkvSRefIdeal [hQkvSRefIdeal : Cert.QkvSRefIdeal.Facts] : Prop :=
  ∀ (m : (ℓ : Loc Cert.QkvSRefIdeal.nD Cert.QkvSRefIdeal.τ Cert.QkvSRefIdeal.sig) → Buf (Elt Ideal) ℓ) (g : Dev Cert.QkvSRefIdeal.nD → PrngReg), Pre_QkvSRefIdeal m →
    θ_run (Cert.QkvSRefIdeal.defs (F := Ideal)) (onTc (τ := Cert.QkvSRefIdeal.τ) (Cert.QkvSRefIdeal.main (F := Ideal))) ⟨m, fun _ => 0, g⟩ (fun r => (∀ c : Dev Cert.QkvSRefIdeal.nD,
      r.2.mem ((c.tc : Thread Cert.QkvSRefIdeal.nD Cert.QkvSRefIdeal.τ).loc Cert.QkvSRefIdeal.main_arg0) = m ((c.tc : Thread Cert.QkvSRefIdeal.nD Cert.QkvSRefIdeal.τ).loc Cert.QkvSRefIdeal.main_arg0)
      ∧ r.2.mem ((c.tc : Thread Cert.QkvSRefIdeal.nD Cert.QkvSRefIdeal.τ).loc Cert.QkvSRefIdeal.main_arg1) = m ((c.tc : Thread Cert.QkvSRefIdeal.nD Cert.QkvSRefIdeal.τ).loc Cert.QkvSRefIdeal.main_arg1)
      ∧ r.2.mem ((c.tc : Thread Cert.QkvSRefIdeal.nD Cert.QkvSRefIdeal.τ).loc Cert.QkvSRefIdeal.main_arg2) = m ((c.tc : Thread Cert.QkvSRefIdeal.nD Cert.QkvSRefIdeal.τ).loc Cert.QkvSRefIdeal.main_arg2))
      ∧ r.2.sem = fun _ => 0)

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3)
      ∧ r.2.mem ((c.tc : Thread Cert.Step.nD Cert.Step.τ).loc Cert.Step.main_arg4) = m ((c.tc : Thread Cert.Step.nD Cert.Step.τ).loc Cert.Step.main_arg4)
      ∧ r.2.mem ((c.tc : Thread Cert.Step.nD Cert.Step.τ).loc Cert.Step.main_arg5) = m ((c.tc : Thread Cert.Step.nD Cert.Step.τ).loc Cert.Step.main_arg5)
      ∧ r.2.mem ((c.tc : Thread Cert.Step.nD Cert.Step.τ).loc Cert.Step.main_arg6) = m ((c.tc : Thread Cert.Step.nD Cert.Step.τ).loc Cert.Step.main_arg6))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
      ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
      ∧ r.2.mem ((c.tc : Thread Cert.StepIdeal.nD Cert.StepIdeal.τ).loc Cert.StepIdeal.main_arg6) = m ((c.tc : Thread Cert.StepIdeal.nD Cert.StepIdeal.τ).loc Cert.StepIdeal.main_arg6))
      ∧ r.2.sem = fun _ => 0)

def quiescent_StepRefIdeal [hStepRefIdeal : Cert.StepRefIdeal.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3)
      ∧ r.2.mem ((c.tc : Thread Cert.StepRefIdeal.nD Cert.StepRefIdeal.τ).loc Cert.StepRefIdeal.main_arg4) = m ((c.tc : Thread Cert.StepRefIdeal.nD Cert.StepRefIdeal.τ).loc Cert.StepRefIdeal.main_arg4)
      ∧ r.2.mem ((c.tc : Thread Cert.StepRefIdeal.nD Cert.StepRefIdeal.τ).loc Cert.StepRefIdeal.main_arg5) = m ((c.tc : Thread Cert.StepRefIdeal.nD Cert.StepRefIdeal.τ).loc Cert.StepRefIdeal.main_arg5)
      ∧ r.2.mem ((c.tc : Thread Cert.StepRefIdeal.nD Cert.StepRefIdeal.τ).loc Cert.StepRefIdeal.main_arg6) = m ((c.tc : Thread Cert.StepRefIdeal.nD Cert.StepRefIdeal.τ).loc Cert.StepRefIdeal.main_arg6))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0))
      ∧ r.2.sem = fun _ => 0)

def quiescent_Mlstm [hMlstm : Cert.Mlstm.Facts] : Prop :=
  ∀ (m : (ℓ : Loc Cert.Mlstm.nD Cert.Mlstm.τ Cert.Mlstm.sig) → Buf (Elt Bits) ℓ) (g : Dev Cert.Mlstm.nD → PrngReg), Pre_Mlstm m →
    θ_run (Cert.Mlstm.defs (F := Bits)) (onTc (τ := Cert.Mlstm.τ) (Cert.Mlstm.main (F := Bits))) ⟨m, fun _ => 0, g⟩ (fun r => (∀ c : Dev Cert.Mlstm.nD,
      r.2.mem ((c.tc : Thread Cert.Mlstm.nD Cert.Mlstm.τ).loc Cert.Mlstm.main_arg0) = m ((c.tc : Thread Cert.Mlstm.nD Cert.Mlstm.τ).loc Cert.Mlstm.main_arg0)
      ∧ r.2.mem ((c.tc : Thread Cert.Mlstm.nD Cert.Mlstm.τ).loc Cert.Mlstm.main_arg1) = m ((c.tc : Thread Cert.Mlstm.nD Cert.Mlstm.τ).loc Cert.Mlstm.main_arg1)
      ∧ r.2.mem ((c.tc : Thread Cert.Mlstm.nD Cert.Mlstm.τ).loc Cert.Mlstm.main_arg2) = m ((c.tc : Thread Cert.Mlstm.nD Cert.Mlstm.τ).loc Cert.Mlstm.main_arg2)
      ∧ r.2.mem ((c.tc : Thread Cert.Mlstm.nD Cert.Mlstm.τ).loc Cert.Mlstm.main_arg3) = m ((c.tc : Thread Cert.Mlstm.nD Cert.Mlstm.τ).loc Cert.Mlstm.main_arg3))
      ∧ r.2.sem = fun _ => 0)

def quiescent_MlstmIdeal [hMlstmIdeal : Cert.MlstmIdeal.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3))
      ∧ r.2.sem = fun _ => 0)

def quiescent_MlstmIdeal_pre_finite_tokens [hMlstmIdeal : Cert.MlstmIdeal.Facts] [hPre_finite_tokens : Cert.Pre_finite_tokens.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal_finite_tokens m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3))
      ∧ r.2.sem = fun _ => 0)

def quiescent_MlstmRefIdeal [hMlstmRefIdeal : Cert.MlstmRefIdeal.Facts] : Prop :=
  ∀ (m : (ℓ : Loc Cert.MlstmRefIdeal.nD Cert.MlstmRefIdeal.τ Cert.MlstmRefIdeal.sig) → Buf (Elt Ideal) ℓ) (g : Dev Cert.MlstmRefIdeal.nD → PrngReg), Pre_MlstmRefIdeal m →
    θ_run (Cert.MlstmRefIdeal.defs (F := Ideal)) (onTc (τ := Cert.MlstmRefIdeal.τ) (Cert.MlstmRefIdeal.main (F := Ideal))) ⟨m, fun _ => 0, g⟩ (fun r => (∀ c : Dev Cert.MlstmRefIdeal.nD,
      r.2.mem ((c.tc : Thread Cert.MlstmRefIdeal.nD Cert.MlstmRefIdeal.τ).loc Cert.MlstmRefIdeal.main_arg0) = m ((c.tc : Thread Cert.MlstmRefIdeal.nD Cert.MlstmRefIdeal.τ).loc Cert.MlstmRefIdeal.main_arg0)
      ∧ r.2.mem ((c.tc : Thread Cert.MlstmRefIdeal.nD Cert.MlstmRefIdeal.τ).loc Cert.MlstmRefIdeal.main_arg1) = m ((c.tc : Thread Cert.MlstmRefIdeal.nD Cert.MlstmRefIdeal.τ).loc Cert.MlstmRefIdeal.main_arg1)
      ∧ r.2.mem ((c.tc : Thread Cert.MlstmRefIdeal.nD Cert.MlstmRefIdeal.τ).loc Cert.MlstmRefIdeal.main_arg2) = m ((c.tc : Thread Cert.MlstmRefIdeal.nD Cert.MlstmRefIdeal.τ).loc Cert.MlstmRefIdeal.main_arg2)
      ∧ r.2.mem ((c.tc : Thread Cert.MlstmRefIdeal.nD Cert.MlstmRefIdeal.τ).loc Cert.MlstmRefIdeal.main_arg3) = m ((c.tc : Thread Cert.MlstmRefIdeal.nD Cert.MlstmRefIdeal.τ).loc Cert.MlstmRefIdeal.main_arg3))
      ∧ r.2.sem = fun _ => 0)

def quiescent_MlstmRefIdeal_pre_finite_tokens [hMlstmRefIdeal : Cert.MlstmRefIdeal.Facts] [hPre_finite_tokens : Cert.Pre_finite_tokens.Facts] : Prop :=
  ∀ (m : (ℓ : Loc Cert.MlstmRefIdeal.nD Cert.MlstmRefIdeal.τ Cert.MlstmRefIdeal.sig) → Buf (Elt Ideal) ℓ) (g : Dev Cert.MlstmRefIdeal.nD → PrngReg), Pre_MlstmRefIdeal_finite_tokens m →
    θ_run (Cert.MlstmRefIdeal.defs (F := Ideal)) (onTc (τ := Cert.MlstmRefIdeal.τ) (Cert.MlstmRefIdeal.main (F := Ideal))) ⟨m, fun _ => 0, g⟩ (fun r => (∀ c : Dev Cert.MlstmRefIdeal.nD,
      r.2.mem ((c.tc : Thread Cert.MlstmRefIdeal.nD Cert.MlstmRefIdeal.τ).loc Cert.MlstmRefIdeal.main_arg0) = m ((c.tc : Thread Cert.MlstmRefIdeal.nD Cert.MlstmRefIdeal.τ).loc Cert.MlstmRefIdeal.main_arg0)
      ∧ r.2.mem ((c.tc : Thread Cert.MlstmRefIdeal.nD Cert.MlstmRefIdeal.τ).loc Cert.MlstmRefIdeal.main_arg1) = m ((c.tc : Thread Cert.MlstmRefIdeal.nD Cert.MlstmRefIdeal.τ).loc Cert.MlstmRefIdeal.main_arg1)
      ∧ r.2.mem ((c.tc : Thread Cert.MlstmRefIdeal.nD Cert.MlstmRefIdeal.τ).loc Cert.MlstmRefIdeal.main_arg2) = m ((c.tc : Thread Cert.MlstmRefIdeal.nD Cert.MlstmRefIdeal.τ).loc Cert.MlstmRefIdeal.main_arg2)
      ∧ r.2.mem ((c.tc : Thread Cert.MlstmRefIdeal.nD Cert.MlstmRefIdeal.τ).loc Cert.MlstmRefIdeal.main_arg3) = m ((c.tc : Thread Cert.MlstmRefIdeal.nD Cert.MlstmRefIdeal.τ).loc Cert.MlstmRefIdeal.main_arg3))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ r.2.sem = fun _ => 0)

def quiescent_SwaIdeal_pre_finite_inputs [hSwaIdeal : Cert.SwaIdeal.Facts] [hPre_finite_inputs : Cert.Pre_finite_inputs.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_finite_inputs m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2))
      ∧ r.2.sem = fun _ => 0)

def quiescent_SwaRefIdeal_pre_finite_inputs [hSwaRefIdeal : Cert.SwaRefIdeal.Facts] [hPre_finite_inputs : Cert.Pre_finite_inputs.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_finite_inputs m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2))
      ∧ r.2.sem = fun _ => 0)

def preserves_Lin_LinIdeal : Prop :=
  True

def algebraic_LinIdeal_LinRefIdeal [hLinIdeal : Cert.LinIdeal.Facts] [hLinRefIdeal : Cert.LinRefIdeal.Facts] : Prop :=
  ∀ (m : (ℓ : Loc Cert.LinIdeal.nD Cert.LinIdeal.τ Cert.LinIdeal.sig) → Buf (Elt Ideal) ℓ) (g : Dev Cert.LinIdeal.nD → PrngReg)
    (m' : (ℓ : Loc Cert.LinRefIdeal.nD Cert.LinRefIdeal.τ Cert.LinRefIdeal.sig) → Buf (Elt Ideal) ℓ) (g' : Dev Cert.LinRefIdeal.nD → PrngReg), Pre_LinIdeal m →
    (∀ c : Dev Cert.LinIdeal.nD,
      m' ((c.tc : Thread Cert.LinRefIdeal.nD Cert.LinRefIdeal.τ).loc Cert.LinRefIdeal.main_arg0) = m ((c.tc : Thread Cert.LinIdeal.nD Cert.LinIdeal.τ).loc Cert.LinIdeal.main_arg0)
      ∧ m' ((c.tc : Thread Cert.LinRefIdeal.nD Cert.LinRefIdeal.τ).loc Cert.LinRefIdeal.main_arg1) = m ((c.tc : Thread Cert.LinIdeal.nD Cert.LinIdeal.τ).loc Cert.LinIdeal.main_arg1)
      ∧ m' ((c.tc : Thread Cert.LinRefIdeal.nD Cert.LinRefIdeal.τ).loc Cert.LinRefIdeal.main_arg2) = m ((c.tc : Thread Cert.LinIdeal.nD Cert.LinIdeal.τ).loc Cert.LinIdeal.main_arg2)) →
    ∃ (v0 : (c : Dev Cert.LinIdeal.nD) → Buf (Elt Ideal) ((c.tc : Thread Cert.LinIdeal.nD Cert.LinIdeal.τ).loc Cert.LinIdeal.main_v7)),
      θ_run (Cert.LinIdeal.defs (F := Ideal)) (onTc (τ := Cert.LinIdeal.τ) (Cert.LinIdeal.main (F := Ideal))) ⟨m, fun _ => 0, g⟩ (fun r => ∀ c : Dev Cert.LinIdeal.nD,
          r.2.mem ((c.tc : Thread Cert.LinIdeal.nD Cert.LinIdeal.τ).loc Cert.LinIdeal.main_v7) = v0 c
          ∧ r.2.mem ((c.tc : Thread Cert.LinIdeal.nD Cert.LinIdeal.τ).loc Cert.LinIdeal.main_arg0) = m ((c.tc : Thread Cert.LinIdeal.nD Cert.LinIdeal.τ).loc Cert.LinIdeal.main_arg0)
          ∧ r.2.mem ((c.tc : Thread Cert.LinIdeal.nD Cert.LinIdeal.τ).loc Cert.LinIdeal.main_arg1) = m ((c.tc : Thread Cert.LinIdeal.nD Cert.LinIdeal.τ).loc Cert.LinIdeal.main_arg1)
          ∧ r.2.mem ((c.tc : Thread Cert.LinIdeal.nD Cert.LinIdeal.τ).loc Cert.LinIdeal.main_arg2) = m ((c.tc : Thread Cert.LinIdeal.nD Cert.LinIdeal.τ).loc Cert.LinIdeal.main_arg2))
      ∧ θ_run (Cert.LinRefIdeal.defs (F := Ideal)) (onTc (τ := Cert.LinRefIdeal.τ) (Cert.LinRefIdeal.main (F := Ideal))) ⟨m', fun _ => 0, g'⟩ (fun r => ∀ c : Dev Cert.LinRefIdeal.nD,
          r.2.mem ((c.tc : Thread Cert.LinRefIdeal.nD Cert.LinRefIdeal.τ).loc Cert.LinRefIdeal.main_v7) = v0 c
          ∧ r.2.mem ((c.tc : Thread Cert.LinRefIdeal.nD Cert.LinRefIdeal.τ).loc Cert.LinRefIdeal.main_arg0) = m' ((c.tc : Thread Cert.LinRefIdeal.nD Cert.LinRefIdeal.τ).loc Cert.LinRefIdeal.main_arg0)
          ∧ r.2.mem ((c.tc : Thread Cert.LinRefIdeal.nD Cert.LinRefIdeal.τ).loc Cert.LinRefIdeal.main_arg1) = m' ((c.tc : Thread Cert.LinRefIdeal.nD Cert.LinRefIdeal.τ).loc Cert.LinRefIdeal.main_arg1)
          ∧ r.2.mem ((c.tc : Thread Cert.LinRefIdeal.nD Cert.LinRefIdeal.τ).loc Cert.LinRefIdeal.main_arg2) = m' ((c.tc : Thread Cert.LinRefIdeal.nD Cert.LinRefIdeal.τ).loc Cert.LinRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)) →
    ∃ (v0 : (c : Dev Cert.ConvIdeal.nD) → Buf (Elt Ideal) ((c.tc : Thread Cert.ConvIdeal.nD Cert.ConvIdeal.τ).loc Cert.ConvIdeal.main_v9_0)) (v1 : (c : Dev Cert.ConvIdeal.nD) → Buf (Elt Ideal) ((c.tc : Thread Cert.ConvIdeal.nD Cert.ConvIdeal.τ).loc Cert.ConvIdeal.main_v9_1)) (v2 : (c : Dev Cert.ConvIdeal.nD) → Buf (Elt Ideal) ((c.tc : Thread Cert.ConvIdeal.nD Cert.ConvIdeal.τ).loc Cert.ConvIdeal.main_v9_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v9_0) = v0 c
          ∧ r.2.mem ((c.tc : Thread Cert.ConvIdeal.nD Cert.ConvIdeal.τ).loc Cert.ConvIdeal.main_v9_1) = v1 c
          ∧ r.2.mem ((c.tc : Thread Cert.ConvIdeal.nD Cert.ConvIdeal.τ).loc Cert.ConvIdeal.main_v9_2) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v53) = v0 c
          ∧ r.2.mem ((c.tc : Thread Cert.ConvRefIdeal.nD Cert.ConvRefIdeal.τ).loc Cert.ConvRefIdeal.main_v55) = v1 c
          ∧ r.2.mem ((c.tc : Thread Cert.ConvRefIdeal.nD Cert.ConvRefIdeal.τ).loc Cert.ConvRefIdeal.main_v57) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v9)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v9) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v42) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v4) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v3) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_Plain_PlainIdeal : Prop :=
  True

def algebraic_PlainIdeal_PlainRefIdeal [hPlainIdeal : Cert.PlainIdeal.Facts] [hPlainRefIdeal : Cert.PlainRefIdeal.Facts] : Prop :=
  ∀ (m : (ℓ : Loc Cert.PlainIdeal.nD Cert.PlainIdeal.τ Cert.PlainIdeal.sig) → Buf (Elt Ideal) ℓ) (g : Dev Cert.PlainIdeal.nD → PrngReg)
    (m' : (ℓ : Loc Cert.PlainRefIdeal.nD Cert.PlainRefIdeal.τ Cert.PlainRefIdeal.sig) → Buf (Elt Ideal) ℓ) (g' : Dev Cert.PlainRefIdeal.nD → PrngReg), Pre_PlainIdeal m →
    (∀ c : Dev Cert.PlainIdeal.nD,
      m' ((c.tc : Thread Cert.PlainRefIdeal.nD Cert.PlainRefIdeal.τ).loc Cert.PlainRefIdeal.main_arg0) = m ((c.tc : Thread Cert.PlainIdeal.nD Cert.PlainIdeal.τ).loc Cert.PlainIdeal.main_arg0)
      ∧ m' ((c.tc : Thread Cert.PlainRefIdeal.nD Cert.PlainRefIdeal.τ).loc Cert.PlainRefIdeal.main_arg1) = m ((c.tc : Thread Cert.PlainIdeal.nD Cert.PlainIdeal.τ).loc Cert.PlainIdeal.main_arg1)
      ∧ m' ((c.tc : Thread Cert.PlainRefIdeal.nD Cert.PlainRefIdeal.τ).loc Cert.PlainRefIdeal.main_arg2) = m ((c.tc : Thread Cert.PlainIdeal.nD Cert.PlainIdeal.τ).loc Cert.PlainIdeal.main_arg2)
      ∧ m' ((c.tc : Thread Cert.PlainRefIdeal.nD Cert.PlainRefIdeal.τ).loc Cert.PlainRefIdeal.main_arg3) = m ((c.tc : Thread Cert.PlainIdeal.nD Cert.PlainIdeal.τ).loc Cert.PlainIdeal.main_arg3)
      ∧ m' ((c.tc : Thread Cert.PlainRefIdeal.nD Cert.PlainRefIdeal.τ).loc Cert.PlainRefIdeal.main_arg4) = m ((c.tc : Thread Cert.PlainIdeal.nD Cert.PlainIdeal.τ).loc Cert.PlainIdeal.main_arg4)) →
    ∃ (v0 : (c : Dev Cert.PlainIdeal.nD) → Buf (Elt Ideal) ((c.tc : Thread Cert.PlainIdeal.nD Cert.PlainIdeal.τ).loc Cert.PlainIdeal.main_v8)),
      θ_run (Cert.PlainIdeal.defs (F := Ideal)) (onTc (τ := Cert.PlainIdeal.τ) (Cert.PlainIdeal.main (F := Ideal))) ⟨m, fun _ => 0, g⟩ (fun r => ∀ c : Dev Cert.PlainIdeal.nD,
          r.2.mem ((c.tc : Thread Cert.PlainIdeal.nD Cert.PlainIdeal.τ).loc Cert.PlainIdeal.main_v8) = v0 c
          ∧ r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
          ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1)
          ∧ r.2.mem ((c.tc : Thread Cert.PlainIdeal.nD Cert.PlainIdeal.τ).loc Cert.PlainIdeal.main_arg2) = m ((c.tc : Thread Cert.PlainIdeal.nD Cert.PlainIdeal.τ).loc Cert.PlainIdeal.main_arg2)
          ∧ r.2.mem ((c.tc : Thread Cert.PlainIdeal.nD Cert.PlainIdeal.τ).loc Cert.PlainIdeal.main_arg3) = m ((c.tc : Thread Cert.PlainIdeal.nD Cert.PlainIdeal.τ).loc Cert.PlainIdeal.main_arg3)
          ∧ r.2.mem ((c.tc : Thread Cert.PlainIdeal.nD Cert.PlainIdeal.τ).loc Cert.PlainIdeal.main_arg4) = m ((c.tc : Thread Cert.PlainIdeal.nD Cert.PlainIdeal.τ).loc Cert.PlainIdeal.main_arg4))
      ∧ θ_run (Cert.PlainRefIdeal.defs (F := Ideal)) (onTc (τ := Cert.PlainRefIdeal.τ) (Cert.PlainRefIdeal.main (F := Ideal))) ⟨m', fun _ => 0, g'⟩ (fun r => ∀ c : Dev Cert.PlainRefIdeal.nD,
          r.2.mem ((c.tc : Thread Cert.PlainRefIdeal.nD Cert.PlainRefIdeal.τ).loc Cert.PlainRefIdeal.main_v32) = v0 c
          ∧ r.2.mem ((c.tc : Thread Cert.PlainRefIdeal.nD Cert.PlainRefIdeal.τ).loc Cert.PlainRefIdeal.main_arg0) = m' ((c.tc : Thread Cert.PlainRefIdeal.nD Cert.PlainRefIdeal.τ).loc Cert.PlainRefIdeal.main_arg0)
          ∧ r.2.mem ((c.tc : Thread Cert.PlainRefIdeal.nD Cert.PlainRefIdeal.τ).loc Cert.PlainRefIdeal.main_arg1) = m' ((c.tc : Thread Cert.PlainRefIdeal.nD Cert.PlainRefIdeal.τ).loc Cert.PlainRefIdeal.main_arg1)
          ∧ r.2.mem ((c.tc : Thread Cert.PlainRefIdeal.nD Cert.PlainRefIdeal.τ).loc Cert.PlainRefIdeal.main_arg2) = m' ((c.tc : Thread Cert.PlainRefIdeal.nD Cert.PlainRefIdeal.τ).loc Cert.PlainRefIdeal.main_arg2)
          ∧ r.2.mem ((c.tc : Thread Cert.PlainRefIdeal.nD Cert.PlainRefIdeal.τ).loc Cert.PlainRefIdeal.main_arg3) = m' ((c.tc : Thread Cert.PlainRefIdeal.nD Cert.PlainRefIdeal.τ).loc Cert.PlainRefIdeal.main_arg3)
          ∧ r.2.mem ((c.tc : Thread Cert.PlainRefIdeal.nD Cert.PlainRefIdeal.τ).loc Cert.PlainRefIdeal.main_arg4) = m' ((c.tc : Thread Cert.PlainRefIdeal.nD Cert.PlainRefIdeal.τ).loc Cert.PlainRefIdeal.main_arg4))

def preserves_LinS_LinSIdeal : Prop :=
  True

def algebraic_LinSIdeal_LinSRefIdeal [hLinSIdeal : Cert.LinSIdeal.Facts] [hLinSRefIdeal : Cert.LinSRefIdeal.Facts] : Prop :=
  ∀ (m : (ℓ : Loc Cert.LinSIdeal.nD Cert.LinSIdeal.τ Cert.LinSIdeal.sig) → Buf (Elt Ideal) ℓ) (g : Dev Cert.LinSIdeal.nD → PrngReg)
    (m' : (ℓ : Loc Cert.LinSRefIdeal.nD Cert.LinSRefIdeal.τ Cert.LinSRefIdeal.sig) → Buf (Elt Ideal) ℓ) (g' : Dev Cert.LinSRefIdeal.nD → PrngReg), Pre_LinSIdeal m →
    (∀ c : Dev Cert.LinSIdeal.nD,
      m' ((c.tc : Thread Cert.LinSRefIdeal.nD Cert.LinSRefIdeal.τ).loc Cert.LinSRefIdeal.main_arg0) = m ((c.tc : Thread Cert.LinSIdeal.nD Cert.LinSIdeal.τ).loc Cert.LinSIdeal.main_arg0)
      ∧ m' ((c.tc : Thread Cert.LinSRefIdeal.nD Cert.LinSRefIdeal.τ).loc Cert.LinSRefIdeal.main_arg1) = m ((c.tc : Thread Cert.LinSIdeal.nD Cert.LinSIdeal.τ).loc Cert.LinSIdeal.main_arg1)
      ∧ m' ((c.tc : Thread Cert.LinSRefIdeal.nD Cert.LinSRefIdeal.τ).loc Cert.LinSRefIdeal.main_arg2) = m ((c.tc : Thread Cert.LinSIdeal.nD Cert.LinSIdeal.τ).loc Cert.LinSIdeal.main_arg2)) →
    ∃ (v0 : (c : Dev Cert.LinSIdeal.nD) → Buf (Elt Ideal) ((c.tc : Thread Cert.LinSIdeal.nD Cert.LinSIdeal.τ).loc Cert.LinSIdeal.main_v7)),
      θ_run (Cert.LinSIdeal.defs (F := Ideal)) (onTc (τ := Cert.LinSIdeal.τ) (Cert.LinSIdeal.main (F := Ideal))) ⟨m, fun _ => 0, g⟩ (fun r => ∀ c : Dev Cert.LinSIdeal.nD,
          r.2.mem ((c.tc : Thread Cert.LinSIdeal.nD Cert.LinSIdeal.τ).loc Cert.LinSIdeal.main_v7) = v0 c
          ∧ r.2.mem ((c.tc : Thread Cert.LinSIdeal.nD Cert.LinSIdeal.τ).loc Cert.LinSIdeal.main_arg0) = m ((c.tc : Thread Cert.LinSIdeal.nD Cert.LinSIdeal.τ).loc Cert.LinSIdeal.main_arg0)
          ∧ r.2.mem ((c.tc : Thread Cert.LinSIdeal.nD Cert.LinSIdeal.τ).loc Cert.LinSIdeal.main_arg1) = m ((c.tc : Thread Cert.LinSIdeal.nD Cert.LinSIdeal.τ).loc Cert.LinSIdeal.main_arg1)
          ∧ r.2.mem ((c.tc : Thread Cert.LinSIdeal.nD Cert.LinSIdeal.τ).loc Cert.LinSIdeal.main_arg2) = m ((c.tc : Thread Cert.LinSIdeal.nD Cert.LinSIdeal.τ).loc Cert.LinSIdeal.main_arg2))
      ∧ θ_run (Cert.LinSRefIdeal.defs (F := Ideal)) (onTc (τ := Cert.LinSRefIdeal.τ) (Cert.LinSRefIdeal.main (F := Ideal))) ⟨m', fun _ => 0, g'⟩ (fun r => ∀ c : Dev Cert.LinSRefIdeal.nD,
          r.2.mem ((c.tc : Thread Cert.LinSRefIdeal.nD Cert.LinSRefIdeal.τ).loc Cert.LinSRefIdeal.main_v7) = v0 c
          ∧ r.2.mem ((c.tc : Thread Cert.LinSRefIdeal.nD Cert.LinSRefIdeal.τ).loc Cert.LinSRefIdeal.main_arg0) = m' ((c.tc : Thread Cert.LinSRefIdeal.nD Cert.LinSRefIdeal.τ).loc Cert.LinSRefIdeal.main_arg0)
          ∧ r.2.mem ((c.tc : Thread Cert.LinSRefIdeal.nD Cert.LinSRefIdeal.τ).loc Cert.LinSRefIdeal.main_arg1) = m' ((c.tc : Thread Cert.LinSRefIdeal.nD Cert.LinSRefIdeal.τ).loc Cert.LinSRefIdeal.main_arg1)
          ∧ r.2.mem ((c.tc : Thread Cert.LinSRefIdeal.nD Cert.LinSRefIdeal.τ).loc Cert.LinSRefIdeal.main_arg2) = m' ((c.tc : Thread Cert.LinSRefIdeal.nD Cert.LinSRefIdeal.τ).loc Cert.LinSRefIdeal.main_arg2))

def preserves_QkvS_QkvSIdeal : Prop :=
  True

def algebraic_QkvSIdeal_QkvSRefIdeal [hQkvSIdeal : Cert.QkvSIdeal.Facts] [hQkvSRefIdeal : Cert.QkvSRefIdeal.Facts] : Prop :=
  ∀ (m : (ℓ : Loc Cert.QkvSIdeal.nD Cert.QkvSIdeal.τ Cert.QkvSIdeal.sig) → Buf (Elt Ideal) ℓ) (g : Dev Cert.QkvSIdeal.nD → PrngReg)
    (m' : (ℓ : Loc Cert.QkvSRefIdeal.nD Cert.QkvSRefIdeal.τ Cert.QkvSRefIdeal.sig) → Buf (Elt Ideal) ℓ) (g' : Dev Cert.QkvSRefIdeal.nD → PrngReg), Pre_QkvSIdeal m →
    (∀ c : Dev Cert.QkvSIdeal.nD,
      m' ((c.tc : Thread Cert.QkvSRefIdeal.nD Cert.QkvSRefIdeal.τ).loc Cert.QkvSRefIdeal.main_arg0) = m ((c.tc : Thread Cert.QkvSIdeal.nD Cert.QkvSIdeal.τ).loc Cert.QkvSIdeal.main_arg0)
      ∧ m' ((c.tc : Thread Cert.QkvSRefIdeal.nD Cert.QkvSRefIdeal.τ).loc Cert.QkvSRefIdeal.main_arg1) = m ((c.tc : Thread Cert.QkvSIdeal.nD Cert.QkvSIdeal.τ).loc Cert.QkvSIdeal.main_arg1)
      ∧ m' ((c.tc : Thread Cert.QkvSRefIdeal.nD Cert.QkvSRefIdeal.τ).loc Cert.QkvSRefIdeal.main_arg2) = m ((c.tc : Thread Cert.QkvSIdeal.nD Cert.QkvSIdeal.τ).loc Cert.QkvSIdeal.main_arg2)) →
    ∃ (v0 : (c : Dev Cert.QkvSIdeal.nD) → Buf (Elt Ideal) ((c.tc : Thread Cert.QkvSIdeal.nD Cert.QkvSIdeal.τ).loc Cert.QkvSIdeal.main_v4)),
      θ_run (Cert.QkvSIdeal.defs (F := Ideal)) (onTc (τ := Cert.QkvSIdeal.τ) (Cert.QkvSIdeal.main (F := Ideal))) ⟨m, fun _ => 0, g⟩ (fun r => ∀ c : Dev Cert.QkvSIdeal.nD,
          r.2.mem ((c.tc : Thread Cert.QkvSIdeal.nD Cert.QkvSIdeal.τ).loc Cert.QkvSIdeal.main_v4) = v0 c
          ∧ r.2.mem ((c.tc : Thread Cert.QkvSIdeal.nD Cert.QkvSIdeal.τ).loc Cert.QkvSIdeal.main_arg0) = m ((c.tc : Thread Cert.QkvSIdeal.nD Cert.QkvSIdeal.τ).loc Cert.QkvSIdeal.main_arg0)
          ∧ r.2.mem ((c.tc : Thread Cert.QkvSIdeal.nD Cert.QkvSIdeal.τ).loc Cert.QkvSIdeal.main_arg1) = m ((c.tc : Thread Cert.QkvSIdeal.nD Cert.QkvSIdeal.τ).loc Cert.QkvSIdeal.main_arg1)
          ∧ r.2.mem ((c.tc : Thread Cert.QkvSIdeal.nD Cert.QkvSIdeal.τ).loc Cert.QkvSIdeal.main_arg2) = m ((c.tc : Thread Cert.QkvSIdeal.nD Cert.QkvSIdeal.τ).loc Cert.QkvSIdeal.main_arg2))
      ∧ θ_run (Cert.QkvSRefIdeal.defs (F := Ideal)) (onTc (τ := Cert.QkvSRefIdeal.τ) (Cert.QkvSRefIdeal.main (F := Ideal))) ⟨m', fun _ => 0, g'⟩ (fun r => ∀ c : Dev Cert.QkvSRefIdeal.nD,
          r.2.mem ((c.tc : Thread Cert.QkvSRefIdeal.nD Cert.QkvSRefIdeal.τ).loc Cert.QkvSRefIdeal.main_v3) = v0 c
          ∧ r.2.mem ((c.tc : Thread Cert.QkvSRefIdeal.nD Cert.QkvSRefIdeal.τ).loc Cert.QkvSRefIdeal.main_arg0) = m' ((c.tc : Thread Cert.QkvSRefIdeal.nD Cert.QkvSRefIdeal.τ).loc Cert.QkvSRefIdeal.main_arg0)
          ∧ r.2.mem ((c.tc : Thread Cert.QkvSRefIdeal.nD Cert.QkvSRefIdeal.τ).loc Cert.QkvSRefIdeal.main_arg1) = m' ((c.tc : Thread Cert.QkvSRefIdeal.nD Cert.QkvSRefIdeal.τ).loc Cert.QkvSRefIdeal.main_arg1)
          ∧ r.2.mem ((c.tc : Thread Cert.QkvSRefIdeal.nD Cert.QkvSRefIdeal.τ).loc Cert.QkvSRefIdeal.main_arg2) = m' ((c.tc : Thread Cert.QkvSRefIdeal.nD Cert.QkvSRefIdeal.τ).loc Cert.QkvSRefIdeal.main_arg2))

def preserves_Step_StepIdeal : Prop :=
  True

def algebraic_StepIdeal_StepRefIdeal [hStepIdeal : Cert.StepIdeal.Facts] [hStepRefIdeal : Cert.StepRefIdeal.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepRefIdeal.nD Cert.StepRefIdeal.τ Cert.StepRefIdeal.sig) → Buf (Elt Ideal) ℓ) (g' : Dev Cert.StepRefIdeal.nD → PrngReg), Pre_StepIdeal m →
    (∀ c : Dev Cert.StepIdeal.nD,
      m' ((c.tc : Thread Cert.StepRefIdeal.nD Cert.StepRefIdeal.τ).loc Cert.StepRefIdeal.main_arg0) = m ((c.tc : Thread Cert.StepIdeal.nD Cert.StepIdeal.τ).loc Cert.StepIdeal.main_arg0)
      ∧ m' ((c.tc : Thread Cert.StepRefIdeal.nD Cert.StepRefIdeal.τ).loc Cert.StepRefIdeal.main_arg1) = m ((c.tc : Thread Cert.StepIdeal.nD Cert.StepIdeal.τ).loc Cert.StepIdeal.main_arg1)
      ∧ m' ((c.tc : Thread Cert.StepRefIdeal.nD Cert.StepRefIdeal.τ).loc Cert.StepRefIdeal.main_arg2) = m ((c.tc : Thread Cert.StepIdeal.nD Cert.StepIdeal.τ).loc Cert.StepIdeal.main_arg2)
      ∧ m' ((c.tc : Thread Cert.StepRefIdeal.nD Cert.StepRefIdeal.τ).loc Cert.StepRefIdeal.main_arg3) = m ((c.tc : Thread Cert.StepIdeal.nD Cert.StepIdeal.τ).loc Cert.StepIdeal.main_arg3)
      ∧ m' ((c.tc : Thread Cert.StepRefIdeal.nD Cert.StepRefIdeal.τ).loc Cert.StepRefIdeal.main_arg4) = m ((c.tc : Thread Cert.StepIdeal.nD Cert.StepIdeal.τ).loc Cert.StepIdeal.main_arg4)
      ∧ m' ((c.tc : Thread Cert.StepRefIdeal.nD Cert.StepRefIdeal.τ).loc Cert.StepRefIdeal.main_arg5) = m ((c.tc : Thread Cert.StepIdeal.nD Cert.StepIdeal.τ).loc Cert.StepIdeal.main_arg5)
      ∧ m' ((c.tc : Thread Cert.StepRefIdeal.nD Cert.StepRefIdeal.τ).loc Cert.StepRefIdeal.main_arg6) = m ((c.tc : Thread Cert.StepIdeal.nD Cert.StepIdeal.τ).loc Cert.StepIdeal.main_arg6)) →
    ∃ (v0 : (c : Dev Cert.StepIdeal.nD) → Buf (Elt Ideal) ((c.tc : Thread Cert.StepIdeal.nD Cert.StepIdeal.τ).loc Cert.StepIdeal.main_v8_0)) (v1 : (c : Dev Cert.StepIdeal.nD) → Buf (Elt Ideal) ((c.tc : Thread Cert.StepIdeal.nD Cert.StepIdeal.τ).loc Cert.StepIdeal.main_v8_1)) (v2 : (c : Dev Cert.StepIdeal.nD) → Buf (Elt Ideal) ((c.tc : Thread Cert.StepIdeal.nD Cert.StepIdeal.τ).loc Cert.StepIdeal.main_v8_2)) (v3 : (c : Dev Cert.StepIdeal.nD) → Buf (Elt Ideal) ((c.tc : Thread Cert.StepIdeal.nD Cert.StepIdeal.τ).loc Cert.StepIdeal.main_v8_3)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v8_0) = v0 c
          ∧ r.2.mem ((c.tc : Thread Cert.StepIdeal.nD Cert.StepIdeal.τ).loc Cert.StepIdeal.main_v8_1) = v1 c
          ∧ r.2.mem ((c.tc : Thread Cert.StepIdeal.nD Cert.StepIdeal.τ).loc Cert.StepIdeal.main_v8_2) = v2 c
          ∧ r.2.mem ((c.tc : Thread Cert.StepIdeal.nD Cert.StepIdeal.τ).loc Cert.StepIdeal.main_v8_3) = v3 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
          ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
          ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
          ∧ r.2.mem ((c.tc : Thread Cert.StepIdeal.nD Cert.StepIdeal.τ).loc Cert.StepIdeal.main_arg6) = m ((c.tc : Thread Cert.StepIdeal.nD Cert.StepIdeal.τ).loc Cert.StepIdeal.main_arg6))
      ∧ θ_run (Cert.StepRefIdeal.defs (F := Ideal)) (onTc (τ := Cert.StepRefIdeal.τ) (Cert.StepRefIdeal.main (F := Ideal))) ⟨m', fun _ => 0, g'⟩ (fun r => ∀ c : Dev Cert.StepRefIdeal.nD,
          r.2.mem ((c.tc : Thread Cert.StepRefIdeal.nD Cert.StepRefIdeal.τ).loc Cert.StepRefIdeal.main_v52) = v0 c
          ∧ r.2.mem ((c.tc : Thread Cert.StepRefIdeal.nD Cert.StepRefIdeal.τ).loc Cert.StepRefIdeal.main_v47) = v1 c
          ∧ r.2.mem ((c.tc : Thread Cert.StepRefIdeal.nD Cert.StepRefIdeal.τ).loc Cert.StepRefIdeal.main_v53) = v2 c
          ∧ r.2.mem ((c.tc : Thread Cert.StepRefIdeal.nD Cert.StepRefIdeal.τ).loc Cert.StepRefIdeal.main_v55) = v3 c
          ∧ r.2.mem ((c.tc : Thread Cert.StepRefIdeal.nD Cert.StepRefIdeal.τ).loc Cert.StepRefIdeal.main_arg0) = m' ((c.tc : Thread Cert.StepRefIdeal.nD Cert.StepRefIdeal.τ).loc Cert.StepRefIdeal.main_arg0)
          ∧ r.2.mem ((c.tc : Thread Cert.StepRefIdeal.nD Cert.StepRefIdeal.τ).loc Cert.StepRefIdeal.main_arg1) = m' ((c.tc : Thread Cert.StepRefIdeal.nD Cert.StepRefIdeal.τ).loc Cert.StepRefIdeal.main_arg1)
          ∧ r.2.mem ((c.tc : Thread Cert.StepRefIdeal.nD Cert.StepRefIdeal.τ).loc Cert.StepRefIdeal.main_arg2) = m' ((c.tc : Thread Cert.StepRefIdeal.nD Cert.StepRefIdeal.τ).loc Cert.StepRefIdeal.main_arg2)
          ∧ r.2.mem ((c.tc : Thread Cert.StepRefIdeal.nD Cert.StepRefIdeal.τ).loc Cert.StepRefIdeal.main_arg3) = m' ((c.tc : Thread Cert.StepRefIdeal.nD Cert.StepRefIdeal.τ).loc Cert.StepRefIdeal.main_arg3)
          ∧ r.2.mem ((c.tc : Thread Cert.StepRefIdeal.nD Cert.StepRefIdeal.τ).loc Cert.StepRefIdeal.main_arg4) = m' ((c.tc : Thread Cert.StepRefIdeal.nD Cert.StepRefIdeal.τ).loc Cert.StepRefIdeal.main_arg4)
          ∧ r.2.mem ((c.tc : Thread Cert.StepRefIdeal.nD Cert.StepRefIdeal.τ).loc Cert.StepRefIdeal.main_arg5) = m' ((c.tc : Thread Cert.StepRefIdeal.nD Cert.StepRefIdeal.τ).loc Cert.StepRefIdeal.main_arg5)
          ∧ r.2.mem ((c.tc : Thread Cert.StepRefIdeal.nD Cert.StepRefIdeal.τ).loc Cert.StepRefIdeal.main_arg6) = m' ((c.tc : Thread Cert.StepRefIdeal.nD Cert.StepRefIdeal.τ).loc Cert.StepRefIdeal.main_arg6))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)) →
    ∃ (v0 : (c : Dev Cert.GatesIdeal.nD) → Buf (Elt Ideal) ((c.tc : Thread Cert.GatesIdeal.nD Cert.GatesIdeal.τ).loc Cert.GatesIdeal.main_v0_0)) (v1 : (c : Dev Cert.GatesIdeal.nD) → Buf (Elt Ideal) ((c.tc : Thread Cert.GatesIdeal.nD Cert.GatesIdeal.τ).loc Cert.GatesIdeal.main_v0_1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v0_0) = v0 c
          ∧ r.2.mem ((c.tc : Thread Cert.GatesIdeal.nD Cert.GatesIdeal.τ).loc Cert.GatesIdeal.main_v0_1) = v1 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v15) = v0 c
          ∧ r.2.mem ((c.tc : Thread Cert.GatesRefIdeal.nD Cert.GatesRefIdeal.τ).loc Cert.GatesRefIdeal.main_v17) = v1 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0))

def preserves_Mlstm_MlstmIdeal : Prop :=
  IdealRules.named_const.Statement Cert.MlstmIdeal.κ "mask" .f32 0xF149F2CA#32 ⊥

def algebraic_MlstmIdeal_MlstmRefIdeal_pre_finite_tokens [hMlstmIdeal : Cert.MlstmIdeal.Facts] [hMlstmRefIdeal : Cert.MlstmRefIdeal.Facts] [hPre_finite_tokens : Cert.Pre_finite_tokens.Facts] : Prop :=
  ∀ (m : (ℓ : Loc Cert.MlstmIdeal.nD Cert.MlstmIdeal.τ Cert.MlstmIdeal.sig) → Buf (Elt Ideal) ℓ) (g : Dev Cert.MlstmIdeal.nD → PrngReg)
    (m' : (ℓ : Loc Cert.MlstmRefIdeal.nD Cert.MlstmRefIdeal.τ Cert.MlstmRefIdeal.sig) → Buf (Elt Ideal) ℓ) (g' : Dev Cert.MlstmRefIdeal.nD → PrngReg), Pre_MlstmIdeal_finite_tokens m →
    (∀ c : Dev Cert.MlstmIdeal.nD,
      m' ((c.tc : Thread Cert.MlstmRefIdeal.nD Cert.MlstmRefIdeal.τ).loc Cert.MlstmRefIdeal.main_arg0) = m ((c.tc : Thread Cert.MlstmIdeal.nD Cert.MlstmIdeal.τ).loc Cert.MlstmIdeal.main_arg0)
      ∧ m' ((c.tc : Thread Cert.MlstmRefIdeal.nD Cert.MlstmRefIdeal.τ).loc Cert.MlstmRefIdeal.main_arg1) = m ((c.tc : Thread Cert.MlstmIdeal.nD Cert.MlstmIdeal.τ).loc Cert.MlstmIdeal.main_arg1)
      ∧ m' ((c.tc : Thread Cert.MlstmRefIdeal.nD Cert.MlstmRefIdeal.τ).loc Cert.MlstmRefIdeal.main_arg2) = m ((c.tc : Thread Cert.MlstmIdeal.nD Cert.MlstmIdeal.τ).loc Cert.MlstmIdeal.main_arg2)
      ∧ m' ((c.tc : Thread Cert.MlstmRefIdeal.nD Cert.MlstmRefIdeal.τ).loc Cert.MlstmRefIdeal.main_arg3) = m ((c.tc : Thread Cert.MlstmIdeal.nD Cert.MlstmIdeal.τ).loc Cert.MlstmIdeal.main_arg3)) →
    ∃ (v0 : (c : Dev Cert.MlstmIdeal.nD) → Buf (Elt Ideal) ((c.tc : Thread Cert.MlstmIdeal.nD Cert.MlstmIdeal.τ).loc Cert.MlstmIdeal.main_v18_0)) (v1 : (c : Dev Cert.MlstmIdeal.nD) → Buf (Elt Ideal) ((c.tc : Thread Cert.MlstmIdeal.nD Cert.MlstmIdeal.τ).loc Cert.MlstmIdeal.main_v18_1)) (v2 : (c : Dev Cert.MlstmIdeal.nD) → Buf (Elt Ideal) ((c.tc : Thread Cert.MlstmIdeal.nD Cert.MlstmIdeal.τ).loc Cert.MlstmIdeal.main_v18_2)) (v3 : (c : Dev Cert.MlstmIdeal.nD) → Buf (Elt Ideal) ((c.tc : Thread Cert.MlstmIdeal.nD Cert.MlstmIdeal.τ).loc Cert.MlstmIdeal.main_v18_3)),
      θ_run (Cert.MlstmIdeal.defs (F := Ideal)) (onTc (τ := Cert.MlstmIdeal.τ) (Cert.MlstmIdeal.main (F := Ideal))) ⟨m, fun _ => 0, g⟩ (fun r => ∀ c : Dev Cert.MlstmIdeal.nD,
          r.2.mem ((c.tc : Thread Cert.MlstmIdeal.nD Cert.MlstmIdeal.τ).loc Cert.MlstmIdeal.main_v18_0) = v0 c
          ∧ r.2.mem ((c.tc : Thread Cert.MlstmIdeal.nD Cert.MlstmIdeal.τ).loc Cert.MlstmIdeal.main_v18_1) = v1 c
          ∧ r.2.mem ((c.tc : Thread Cert.MlstmIdeal.nD Cert.MlstmIdeal.τ).loc Cert.MlstmIdeal.main_v18_2) = v2 c
          ∧ r.2.mem ((c.tc : Thread Cert.MlstmIdeal.nD Cert.MlstmIdeal.τ).loc Cert.MlstmIdeal.main_v18_3) = v3 c
          ∧ r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
          ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
          ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
          ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3))
      ∧ θ_run (Cert.MlstmRefIdeal.defs (F := Ideal)) (onTc (τ := Cert.MlstmRefIdeal.τ) (Cert.MlstmRefIdeal.main (F := Ideal))) ⟨m', fun _ => 0, g'⟩ (fun r => ∀ c : Dev Cert.MlstmRefIdeal.nD,
          r.2.mem ((c.tc : Thread Cert.MlstmRefIdeal.nD Cert.MlstmRefIdeal.τ).loc Cert.MlstmRefIdeal.main_v62) = v0 c
          ∧ r.2.mem ((c.tc : Thread Cert.MlstmRefIdeal.nD Cert.MlstmRefIdeal.τ).loc Cert.MlstmRefIdeal.main_v60) = v1 c
          ∧ r.2.mem ((c.tc : Thread Cert.MlstmRefIdeal.nD Cert.MlstmRefIdeal.τ).loc Cert.MlstmRefIdeal.main_v64) = v2 c
          ∧ r.2.mem ((c.tc : Thread Cert.MlstmRefIdeal.nD Cert.MlstmRefIdeal.τ).loc Cert.MlstmRefIdeal.main_v66) = v3 c
          ∧ r.2.mem ((c.tc : Thread Cert.MlstmRefIdeal.nD Cert.MlstmRefIdeal.τ).loc Cert.MlstmRefIdeal.main_arg0) = m' ((c.tc : Thread Cert.MlstmRefIdeal.nD Cert.MlstmRefIdeal.τ).loc Cert.MlstmRefIdeal.main_arg0)
          ∧ r.2.mem ((c.tc : Thread Cert.MlstmRefIdeal.nD Cert.MlstmRefIdeal.τ).loc Cert.MlstmRefIdeal.main_arg1) = m' ((c.tc : Thread Cert.MlstmRefIdeal.nD Cert.MlstmRefIdeal.τ).loc Cert.MlstmRefIdeal.main_arg1)
          ∧ r.2.mem ((c.tc : Thread Cert.MlstmRefIdeal.nD Cert.MlstmRefIdeal.τ).loc Cert.MlstmRefIdeal.main_arg2) = m' ((c.tc : Thread Cert.MlstmRefIdeal.nD Cert.MlstmRefIdeal.τ).loc Cert.MlstmRefIdeal.main_arg2)
          ∧ r.2.mem ((c.tc : Thread Cert.MlstmRefIdeal.nD Cert.MlstmRefIdeal.τ).loc Cert.MlstmRefIdeal.main_arg3) = m' ((c.tc : Thread Cert.MlstmRefIdeal.nD Cert.MlstmRefIdeal.τ).loc Cert.MlstmRefIdeal.main_arg3))

def preserves_Swa_SwaIdeal : Prop :=
  IdealRules.named_const.Statement Cert.SwaIdeal.κ "mask" .f32 0xF149F2CA#32 ⊥

def algebraic_SwaIdeal_SwaRefIdeal_pre_finite_inputs [hSwaIdeal : Cert.SwaIdeal.Facts] [hSwaRefIdeal : Cert.SwaRefIdeal.Facts] [hPre_finite_inputs : Cert.Pre_finite_inputs.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_finite_inputs m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)) →
    ∃ (v0 : (c : Dev Cert.SwaIdeal.nD) → Buf (Elt Ideal) ((c.tc : Thread Cert.SwaIdeal.nD Cert.SwaIdeal.τ).loc Cert.SwaIdeal.main_v0)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v0) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v85) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2))

def Claim : Prop :=
  ∃ (hLin : Cert.Lin.Facts) (hLinIdeal : Cert.LinIdeal.Facts) (hLinRefIdeal : Cert.LinRefIdeal.Facts) (hConv : Cert.Conv.Facts) (hConvIdeal : Cert.ConvIdeal.Facts) (hConvRefIdeal : Cert.ConvRefIdeal.Facts) (hOut : Cert.Out.Facts) (hOutIdeal : Cert.OutIdeal.Facts) (hOutRefIdeal : Cert.OutRefIdeal.Facts) (hQkv : Cert.Qkv.Facts) (hQkvIdeal : Cert.QkvIdeal.Facts) (hQkvRefIdeal : Cert.QkvRefIdeal.Facts) (hPlain : Cert.Plain.Facts) (hPlainIdeal : Cert.PlainIdeal.Facts) (hPlainRefIdeal : Cert.PlainRefIdeal.Facts) (hLinS : Cert.LinS.Facts) (hLinSIdeal : Cert.LinSIdeal.Facts) (hLinSRefIdeal : Cert.LinSRefIdeal.Facts) (hQkvS : Cert.QkvS.Facts) (hQkvSIdeal : Cert.QkvSIdeal.Facts) (hQkvSRefIdeal : Cert.QkvSRefIdeal.Facts) (hStep : Cert.Step.Facts) (hStepIdeal : Cert.StepIdeal.Facts) (hStepRefIdeal : Cert.StepRefIdeal.Facts) (hGates : Cert.Gates.Facts) (hGatesIdeal : Cert.GatesIdeal.Facts) (hGatesRefIdeal : Cert.GatesRefIdeal.Facts) (hMlstm : Cert.Mlstm.Facts) (hMlstmIdeal : Cert.MlstmIdeal.Facts) (hMlstmRefIdeal : Cert.MlstmRefIdeal.Facts) (hSwa : Cert.Swa.Facts) (hSwaIdeal : Cert.SwaIdeal.Facts) (hSwaRefIdeal : Cert.SwaRefIdeal.Facts) (hPre_finite_tokens : Cert.Pre_finite_tokens.Facts) (hPre_finite_inputs : Cert.Pre_finite_inputs.Facts),
    quiescent_Lin (hLin := hLin)
    ∧ quiescent_LinIdeal (hLinIdeal := hLinIdeal)
    ∧ quiescent_LinRefIdeal (hLinRefIdeal := hLinRefIdeal)
    ∧ quiescent_Conv (hConv := hConv)
    ∧ quiescent_ConvIdeal (hConvIdeal := hConvIdeal)
    ∧ quiescent_ConvRefIdeal (hConvRefIdeal := hConvRefIdeal)
    ∧ quiescent_Out (hOut := hOut)
    ∧ quiescent_OutIdeal (hOutIdeal := hOutIdeal)
    ∧ quiescent_OutRefIdeal (hOutRefIdeal := hOutRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Plain (hPlain := hPlain)
    ∧ quiescent_PlainIdeal (hPlainIdeal := hPlainIdeal)
    ∧ quiescent_PlainRefIdeal (hPlainRefIdeal := hPlainRefIdeal)
    ∧ quiescent_LinS (hLinS := hLinS)
    ∧ quiescent_LinSIdeal (hLinSIdeal := hLinSIdeal)
    ∧ quiescent_LinSRefIdeal (hLinSRefIdeal := hLinSRefIdeal)
    ∧ quiescent_QkvS (hQkvS := hQkvS)
    ∧ quiescent_QkvSIdeal (hQkvSIdeal := hQkvSIdeal)
    ∧ quiescent_QkvSRefIdeal (hQkvSRefIdeal := hQkvSRefIdeal)
    ∧ quiescent_Step (hStep := hStep)
    ∧ quiescent_StepIdeal (hStepIdeal := hStepIdeal)
    ∧ quiescent_StepRefIdeal (hStepRefIdeal := hStepRefIdeal)
    ∧ quiescent_Gates (hGates := hGates)
    ∧ quiescent_GatesIdeal (hGatesIdeal := hGatesIdeal)
    ∧ quiescent_GatesRefIdeal (hGatesRefIdeal := hGatesRefIdeal)
    ∧ quiescent_Mlstm (hMlstm := hMlstm)
    ∧ quiescent_MlstmIdeal (hMlstmIdeal := hMlstmIdeal)
    ∧ quiescent_MlstmIdeal_pre_finite_tokens (hMlstmIdeal := hMlstmIdeal) (hPre_finite_tokens := hPre_finite_tokens)
    ∧ quiescent_MlstmRefIdeal (hMlstmRefIdeal := hMlstmRefIdeal)
    ∧ quiescent_MlstmRefIdeal_pre_finite_tokens (hMlstmRefIdeal := hMlstmRefIdeal) (hPre_finite_tokens := hPre_finite_tokens)
    ∧ quiescent_Swa (hSwa := hSwa)
    ∧ quiescent_SwaIdeal (hSwaIdeal := hSwaIdeal)
    ∧ quiescent_SwaIdeal_pre_finite_inputs (hSwaIdeal := hSwaIdeal) (hPre_finite_inputs := hPre_finite_inputs)
    ∧ quiescent_SwaRefIdeal (hSwaRefIdeal := hSwaRefIdeal)
    ∧ quiescent_SwaRefIdeal_pre_finite_inputs (hSwaRefIdeal := hSwaRefIdeal) (hPre_finite_inputs := hPre_finite_inputs)
    ∧ preserves_Lin_LinIdeal
    ∧ algebraic_LinIdeal_LinRefIdeal (hLinIdeal := hLinIdeal) (hLinRefIdeal := hLinRefIdeal)
    ∧ preserves_Conv_ConvIdeal
    ∧ algebraic_ConvIdeal_ConvRefIdeal (hConvIdeal := hConvIdeal) (hConvRefIdeal := hConvRefIdeal)
    ∧ preserves_Out_OutIdeal
    ∧ algebraic_OutIdeal_OutRefIdeal (hOutIdeal := hOutIdeal) (hOutRefIdeal := hOutRefIdeal)
    ∧ preserves_Qkv_QkvIdeal
    ∧ algebraic_QkvIdeal_QkvRefIdeal (hQkvIdeal := hQkvIdeal) (hQkvRefIdeal := hQkvRefIdeal)
    ∧ preserves_Plain_PlainIdeal
    ∧ algebraic_PlainIdeal_PlainRefIdeal (hPlainIdeal := hPlainIdeal) (hPlainRefIdeal := hPlainRefIdeal)
    ∧ preserves_LinS_LinSIdeal
    ∧ algebraic_LinSIdeal_LinSRefIdeal (hLinSIdeal := hLinSIdeal) (hLinSRefIdeal := hLinSRefIdeal)
    ∧ preserves_QkvS_QkvSIdeal
    ∧ algebraic_QkvSIdeal_QkvSRefIdeal (hQkvSIdeal := hQkvSIdeal) (hQkvSRefIdeal := hQkvSRefIdeal)
    ∧ preserves_Step_StepIdeal
    ∧ algebraic_StepIdeal_StepRefIdeal (hStepIdeal := hStepIdeal) (hStepRefIdeal := hStepRefIdeal)
    ∧ preserves_Gates_GatesIdeal
    ∧ algebraic_GatesIdeal_GatesRefIdeal (hGatesIdeal := hGatesIdeal) (hGatesRefIdeal := hGatesRefIdeal)
    ∧ preserves_Mlstm_MlstmIdeal
    ∧ algebraic_MlstmIdeal_MlstmRefIdeal_pre_finite_tokens (hMlstmIdeal := hMlstmIdeal) (hMlstmRefIdeal := hMlstmRefIdeal) (hPre_finite_tokens := hPre_finite_tokens)
    ∧ preserves_Swa_SwaIdeal
    ∧ algebraic_SwaIdeal_SwaRefIdeal_pre_finite_inputs (hSwaIdeal := hSwaIdeal) (hSwaRefIdeal := hSwaRefIdeal) (hPre_finite_inputs := hPre_finite_inputs)
-- ==== Pre_finite_inputs.lean ====
abbrev S16384x1536 : Shape := ⟨2, ![16384, 1536]⟩
abbrev S16x128x256 : Shape := ⟨3, ![16, 128, 256]⟩
abbrev S1x16 : Shape := ⟨2, ![1, 16]⟩
abbrev S_ : Shape := ⟨0, ![]⟩

class Facts : Prop where
  bcast_S_S16384x1536 : S_.BroadcastsInDim S16384x1536 (![] : Fin 0 → Fin S16384x1536.rank)
  bcast_S_S16x128x256 : S_.BroadcastsInDim S16x128x256 (![] : Fin 0 → Fin S16x128x256.rank)
  bcast_S_S1x16 : S_.BroadcastsInDim S1x16 (![] : Fin 0 → Fin S1x16.rank)

variable [Facts]

def fn {F : FTy → Type} [FloatOps F] (main_arg0 : FVec F S16384x1536 .f32) (main_arg1 : FVec F S16x128x256 .f32) (main_arg2 : FVec F S1x16 .f32) : IVec S16384x1536 1 × IVec S16x128x256 1 × IVec S1x16 1 :=
  let main_v0 : FVec F S16384x1536 .f32 := Host.absf main_arg0
  let main_cst : FVec F S_ .f32 := constant S_ .f32 0x7F800000#32
  let main_v1 : FVec F S16384x1536 .f32 := broadcastInDim S16384x1536 ![] bcast_S_S16384x1536 main_cst
  let main_v2 : IVec S16384x1536 1 := cmpf .olt main_v0 main_v1
  let main_v3 : FVec F S16x128x256 .f32 := Host.absf main_arg1
  let main_cst_0 : FVec F S_ .f32 := constant S_ .f32 0x7F800000#32
  let main_v4 : FVec F S16x128x256 .f32 := broadcastInDim S16x128x256 ![] bcast_S_S16x128x256 main_cst_0
  let main_v5 : IVec S16x128x256 1 := cmpf .olt main_v3 main_v4
  let main_v6 : FVec F S1x16 .f32 := Host.absf main_arg2
  let main_cst_1 : FVec F S_ .f32 := constant S_ .f32 0x7F800000#32
  let main_v7 : FVec F S1x16 .f32 := broadcastInDim S1x16 ![] bcast_S_S1x16 main_cst_1
  let main_v8 : IVec S1x16 1 := cmpf .olt main_v6 main_v7
  (main_v2, main_v5, main_v8)
-- ==== Pre_finite_tokens.lean ====
abbrev S16384x2048 : Shape := ⟨2, ![16384, 2048]⟩
abbrev S16384x128 : Shape := ⟨2, ![16384, 128]⟩
abbrev S_ : Shape := ⟨0, ![]⟩

class Facts : Prop where
  bitsLt_bf16_f32 : FTy.bits .bf16 < FTy.bits .f32
  bcast_S_S16384x2048 : S_.BroadcastsInDim S16384x2048 (![] : Fin 0 → Fin S16384x2048.rank)
  bcast_S_S16384x128 : S_.BroadcastsInDim S16384x128 (![] : Fin 0 → Fin S16384x128.rank)

variable [Facts]

def fn {F : FTy → Type} [FloatOps F] (main_arg0 : FVec F S16384x2048 .bf16) (main_arg1 : FVec F S16384x2048 .bf16) (main_arg2 : FVec F S16384x2048 .bf16) (main_arg3 : FVec F S16384x128 .f32) : IVec S16384x2048 1 × IVec S16384x2048 1 × IVec S16384x2048 1 × IVec S16384x128 1 :=
  let main_v0 : FVec F S16384x2048 .f32 := (extf .f32 · bitsLt_bf16_f32) main_arg0
  let main_v1 : FVec F S16384x2048 .f32 := Host.absf main_v0
  let main_cst : FVec F S_ .f32 := constant S_ .f32 0x7F800000#32
  let main_v2 : FVec F S16384x2048 .f32 := broadcastInDim S16384x2048 ![] bcast_S_S16384x2048 main_cst
  let main_v3 : IVec S16384x2048 1 := cmpf .olt main_v1 main_v2
  let main_v4 : FVec F S16384x2048 .f32 := (extf .f32 · bitsLt_bf16_f32) main_arg1
  let main_v5 : FVec F S16384x2048 .f32 := Host.absf main_v4
  let main_cst_0 : FVec F S_ .f32 := constant S_ .f32 0x7F800000#32
  let main_v6 : FVec F S16384x2048 .f32 := broadcastInDim S16384x2048 ![] bcast_S_S16384x2048 main_cst_0
  let main_v7 : IVec S16384x2048 1 := cmpf .olt main_v5 main_v6
  let main_v8 : FVec F S16384x2048 .f32 := (extf .f32 · bitsLt_bf16_f32) main_arg2
  let main_v9 : FVec F S16384x2048 .f32 := Host.absf main_v8
  let main_cst_1 : FVec F S_ .f32 := constant S_ .f32 0x7F800000#32
  let main_v10 : FVec F S16384x2048 .f32 := broadcastInDim S16384x2048 ![] bcast_S_S16384x2048 main_cst_1
  let main_v11 : IVec S16384x2048 1 := cmpf .olt main_v9 main_v10
  let main_v12 : FVec F S16384x128 .f32 := Host.absf main_arg3
  let main_cst_2 : FVec F S_ .f32 := constant S_ .f32 0x7F800000#32
  let main_v13 : FVec F S16384x128 .f32 := broadcastInDim S16384x128 ![] bcast_S_S16384x128 main_cst_2
  let main_v14 : IVec S16384x128 1 := cmpf .olt main_v12 main_v13
  (main_v3, main_v7, main_v11, main_v14)
-- ==== Lin.lean ====
abbrev S8x2048x1024 : Shape := ⟨3, ![8, 2048, 1024]⟩
abbrev S1x1024x4104 : Shape := ⟨3, ![1, 1024, 4104]⟩
abbrev S1x4104 : Shape := ⟨2, ![1, 4104]⟩
abbrev S16384x1024 : Shape := ⟨2, ![16384, 1024]⟩
abbrev S1024x4104 : Shape := ⟨2, ![1024, 4104]⟩
abbrev S4104 : Shape := ⟨1, ![4104]⟩
abbrev S1024x4096 : Shape := ⟨2, ![1024, 4096]⟩
abbrev S4096 : Shape := ⟨1, ![4096]⟩
abbrev S1x4096 : Shape := ⟨2, ![1, 4096]⟩
abbrev S16384x4096 : Shape := ⟨2, ![16384, 4096]⟩
abbrev S512x1024 : Shape := ⟨2, ![512, 1024]⟩
abbrev S1024x512 : Shape := ⟨2, ![1024, 512]⟩
abbrev S1x512 : Shape := ⟨2, ![1, 512]⟩
abbrev S512x512 : Shape := ⟨2, ![512, 512]⟩

abbrev nBuf : Space → Nat
  | .hbm => 11
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S1x1024x4104, .f32⟩
  | .hbm, ⟨2, _⟩ => ⟨S1x4104, .f32⟩
  | .hbm, ⟨3, _⟩ => ⟨S16384x1024, .f32⟩
  | .hbm, ⟨4, _⟩ => ⟨S1024x4104, .f32⟩
  | .hbm, ⟨5, _⟩ => ⟨S4104, .f32⟩
  | .hbm, ⟨6, _⟩ => ⟨S1024x4096, .f32⟩
  | .hbm, ⟨7, _⟩ => ⟨S1024x4096, .bf16⟩
  | .hbm, ⟨8, _⟩ => ⟨S4096, .f32⟩
  | .hbm, ⟨9, _⟩ => ⟨S1x4096, .f32⟩
  | .hbm, ⟨10, _⟩ => ⟨S16384x4096, .f32⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S1024x512, .bf16⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LinRefIdeal.lean ====
abbrev S8x2048x1024 : Shape := ⟨3, ![8, 2048, 1024]⟩
abbrev S1x1024x4104 : Shape := ⟨3, ![1, 1024, 4104]⟩
abbrev S1x4104 : Shape := ⟨2, ![1, 4104]⟩
abbrev S1024x4104 : Shape := ⟨2, ![1024, 4104]⟩
abbrev S8x2048x4104 : Shape := ⟨3, ![8, 2048, 4104]⟩
abbrev S4104 : Shape := ⟨1, ![4104]⟩
abbrev S1x1x4104 : Shape := ⟨3, ![1, 1, 4104]⟩
abbrev S8x2048x4096 : Shape := ⟨3, ![8, 2048, 4096]⟩
abbrev S16384x4096 : Shape := ⟨2, ![16384, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024x4104, .f32⟩
  | .hbm, ⟨2, _⟩ => ⟨S1x4104, .f32⟩
  | .hbm, ⟨3, _⟩ => ⟨S1024x4104, .f32⟩
  | .hbm, ⟨4, _⟩ => ⟨S8x2048x4104, .f32⟩
  | .hbm, ⟨5, _⟩ => ⟨S4104, .f32⟩
  | .hbm, ⟨6, _⟩ => ⟨S1x1x4104, .f32⟩
  | .hbm, ⟨7, _⟩ => ⟨S8x2048x4104, .f32⟩
  | .hbm, ⟨8, _⟩ => ⟨S8x2048x4104, .f32⟩
  | .hbm, ⟨9, _⟩ => ⟨S8x2048x4096, .f32⟩
  | .hbm, ⟨10, _⟩ => ⟨S16384x4096, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Conv.lean ====
abbrev S16384x4096 : Shape := ⟨2, ![16384, 4096]⟩
abbrev S1x4x2048 : Shape := ⟨3, ![1, 4, 2048]⟩
abbrev S1x2048 : Shape := ⟨2, ![1, 2048]⟩
abbrev S1x4x512x512 : Shape := ⟨4, ![1, 4, 512, 512]⟩
abbrev S4x2048 : Shape := ⟨2, ![4, 2048]⟩
abbrev S2048 : Shape := ⟨1, ![2048]⟩
abbrev S4x512x512 : Shape := ⟨3, ![4, 512, 512]⟩
abbrev S16384x2048 : Shape := ⟨2, ![16384, 2048]⟩
abbrev S2048x512 : Shape := ⟨2, ![2048, 512]⟩
abbrev S4x512 : Shape := ⟨2, ![4, 512]⟩
abbrev S1x512 : Shape := ⟨2, ![1, 512]⟩
abbrev S1x512x512 : Shape := ⟨3, ![1, 512, 512]⟩
abbrev S2056x512 : Shape := ⟨2, ![2056, 512]⟩
abbrev S8x512 : Shape := ⟨2, ![8, 512]⟩
abbrev S512x512 : Shape := ⟨2, ![512, 512]⟩

abbrev nBuf : Space → Nat
  | .hbm => 18
  | .vmem => 19
  | .smem => 0
  | _ => 0

abbrev bufTy : (tb : Table) → Fin (tcTables nBuf tb) → BufTy
  | .hbm, ⟨0, _⟩ => ⟨S16384x4096, .f32⟩
  | .hbm, ⟨1, _⟩ => ⟨S1x4x2048, .f32⟩
  | .hbm, ⟨2, _⟩ => ⟨S1x2048, .f32⟩
  | .hbm, ⟨3, _⟩ => ⟨S1x4x512x512, .f32⟩
  | .hbm, ⟨4, _⟩ => ⟨S1x4x512x512, .f32⟩
  | .hbm, ⟨5, _⟩ => ⟨S1x4x512x512, .f32⟩
  | .hbm, ⟨6, _⟩ => ⟨S4x2048, .f32⟩
  | .hbm, ⟨7, _⟩ => ⟨S2048, .f32⟩
  | .hbm, ⟨8, _⟩ => ⟨S1x2048, .f32⟩
  | .hbm, ⟨9, _⟩ => ⟨S4x512x512, .f32⟩
  | .hbm, ⟨10, _⟩ => ⟨S4x512x512, .bf16⟩
  | .hbm, ⟨11, _⟩ => ⟨S4x512x512, .f32⟩
  | .hbm, ⟨12, _⟩ => ⟨S4x512x512, .bf16⟩
  | .hbm, ⟨13, _⟩ => ⟨S4x512x512, .f32⟩
  | .hbm, ⟨14, _⟩ => ⟨S4x512x512, .bf16⟩
  | .hbm, ⟨15, _⟩ => ⟨S16384x2048, .bf16⟩
  | .hbm, ⟨16, _⟩ => ⟨S16384x2048, .bf16⟩
  | .hbm, ⟨17, _⟩ => ⟨S16384x2048, .bf16⟩
  | .local _ .vmem, ⟨0, _⟩ => ⟨S2048x512, .f32⟩
  | .local _ .vmem, ⟨1, _⟩ => ⟨S2048x512, .f32⟩
  | .local _ .vmem, ⟨2, _⟩ => ⟨S4x512, .f32⟩
  | .local _ .vmem, ⟨3, _⟩ => ⟨S4x512, .f32⟩
  | .local _ .vmem, ⟨4, _⟩ => ⟨S1x512, .f32⟩
  | .local _ .vmem, ⟨5, _⟩ => ⟨S1x512, .f32⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S2048x512, .bf16⟩
  | .local _ .vmem, ⟨16, _⟩ => ⟨S2048x512, .bf16⟩
  | .local _ .vmem, ⟨17, _⟩ => ⟨S2048x512, .bf16⟩
  | .local _ .vmem, ⟨18, _⟩ => ⟨S2056x512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ConvRefIdeal.lean ====
abbrev S16384x4096 : Shape := ⟨2, ![16384, 4096]⟩
abbrev S1x4x2048 : Shape := ⟨3, ![1, 4, 2048]⟩
abbrev S1x2048 : Shape := ⟨2, ![1, 2048]⟩
abbrev S1x4x512x512 : Shape := ⟨4, ![1, 4, 512, 512]⟩
abbrev S4x2048 : Shape := ⟨2, ![4, 2048]⟩
abbrev S2048 : Shape := ⟨1, ![2048]⟩
abbrev S4x512x512 : Shape := ⟨3, ![4, 512, 512]⟩
abbrev S8x2048x4096 : Shape := ⟨3, ![8, 2048, 4096]⟩
abbrev S8x2048x2048 : Shape := ⟨3, ![8, 2048, 2048]⟩
abbrev S_ : Shape := ⟨0, ![]⟩
abbrev S8x3x2048 : Shape := ⟨3, ![8, 3, 2048]⟩
abbrev S8x2051x2048 : Shape := ⟨3, ![8, 2051, 2048]⟩
abbrev S1x1x2048 : Shape := ⟨3, ![1, 1, 2048]⟩
abbrev S8x2048x4x512 : Shape := ⟨4, ![8, 2048, 4, 512]⟩
abbrev S4x512x8x2048 : Shape := ⟨4, ![4, 512, 8, 2048]⟩
abbrev S16384x2048 : Shape := ⟨2, ![16384, 2048]⟩

abbrev nBuf : Space → Nat
  | .hbm => 75
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x4x2048, .f32⟩
  | .hbm, ⟨2, _⟩ => ⟨S1x2048, .f32⟩
  | .hbm, ⟨3, _⟩ => ⟨S1x4x512x512, .f32⟩
  | .hbm, ⟨4, _⟩ => ⟨S1x4x512x512, .f32⟩
  | .hbm, ⟨5, _⟩ => ⟨S1x4x512x512, .f32⟩
  | .hbm, ⟨6, _⟩ => ⟨S4x2048, .f32⟩
  | .hbm, ⟨7, _⟩ => ⟨S2048, .f32⟩
  | .hbm, ⟨8, _⟩ => ⟨S4x512x512, .f32⟩
  | .hbm, ⟨9, _⟩ => ⟨S4x512x512, .f32⟩
  | .hbm, ⟨10, _⟩ => ⟨S4x512x512, .f32⟩
  | .hbm, ⟨11, _⟩ => ⟨S8x2048x4096, .f32⟩
  | .hbm, ⟨12, _⟩ => ⟨S8x2048x2048, .f32⟩
  | .hbm, ⟨13, _⟩ => ⟨S_, .f32⟩
  | .hbm, ⟨14, _⟩ => ⟨S8x3x2048, .f32⟩
  | .hbm, ⟨15, _⟩ => ⟨S8x2051x2048, .f32⟩
  | .hbm, ⟨16, _⟩ => ⟨S8x2048x2048, .f32⟩
  | .hbm, ⟨17, _⟩ => ⟨S1x2048, .f32⟩
  | .hbm, ⟨18, _⟩ => ⟨S2048, .f32⟩
  | .hbm, ⟨19, _⟩ => ⟨S1x1x2048, .f32⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S1x2048, .f32⟩
  | .hbm, ⟨27, _⟩ => ⟨S2048, .f32⟩
  | .hbm, ⟨28, _⟩ => ⟨S1x1x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S1x2048, .f32⟩
  | .hbm, ⟨34, _⟩ => ⟨S2048, .f32⟩
  | .hbm, ⟨35, _⟩ => ⟨S1x1x2048, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S8x2048x2048, .f32⟩
  | .hbm, ⟨40, _⟩ => ⟨S1x2048, .f32⟩
  | .hbm, ⟨41, _⟩ => ⟨S2048, .f32⟩
  | .hbm, ⟨42, _⟩ => ⟨S1x1x2048, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S1x1x2048, .f32⟩
  | .hbm, ⟨47, _⟩ => ⟨S8x2048x2048, .f32⟩
  | .hbm, ⟨48, _⟩ => ⟨S8x2048x2048, .f32⟩
  | .hbm, ⟨49, _⟩ => ⟨S8x2048x2048, .f32⟩
  | .hbm, ⟨50, _⟩ => ⟨S8x2048x2048, .f32⟩
  | .hbm, ⟨51, _⟩ => ⟨S_, .f32⟩
  | .hbm, ⟨52, _⟩ => ⟨S8x2048x2048, .f32⟩
  | .hbm, ⟨53, _⟩ => ⟨S8x2048x2048, .f32⟩
  | .hbm, ⟨54, _⟩ => ⟨S_, .f32⟩
  | .hbm, ⟨55, _⟩ => ⟨S8x2048x2048, .f32⟩
  | .hbm, ⟨56, _⟩ => ⟨S8x2048x2048, .f32⟩
  | .hbm, ⟨57, _⟩ => ⟨S8x2048x2048, .f32⟩
  | .hbm, ⟨58, _⟩ => ⟨S8x2048x4x512, .f32⟩
  | .hbm, ⟨59, _⟩ => ⟨S8x2048x4x512, .f32⟩
  | .hbm, ⟨60, _⟩ => ⟨S4x512x8x2048, .f32⟩
  | .hbm, ⟨61, _⟩ => ⟨S8x2048x4x512, .f32⟩
  | .hbm, ⟨62, _⟩ => ⟨S4x512x8x2048, .f32⟩
  | .hbm, ⟨63, _⟩ => ⟨S8x2048x4x512, .f32⟩
  | .hbm, ⟨64, _⟩ => ⟨S_, .f32⟩
  | .hbm, ⟨65, _⟩ => ⟨S8x2048x4x512, .f32⟩
  | .hbm, ⟨66, _⟩ => ⟨S8x2048x4x512, .f32⟩
  | .hbm, ⟨67, _⟩ => ⟨S4x512x8x2048, .f32⟩
  | .hbm, ⟨68, _⟩ => ⟨S8x2048x4x512, .f32⟩
  | .hbm, ⟨69, _⟩ => ⟨S16384x2048, .f32⟩
  | .hbm, ⟨70, _⟩ => ⟨S16384x2048, .bf16⟩
  | .hbm, ⟨71, _⟩ => ⟨S16384x2048, .f32⟩
  | .hbm, ⟨72, _⟩ => ⟨S16384x2048, .bf16⟩
  | .hbm, ⟨73, _⟩ => ⟨S16384x2048, .f32⟩
  | .hbm, ⟨74, _⟩ => ⟨S16384x2048, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_1 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩

abbrev nD : Nat := 1
abbrev τ : Topo := Topo.v7x

variable {F : FTy → Type} [FloatOps F]
-- ==== Out.lean ====
abbrev S16384x2048 : Shape := ⟨2, ![16384, 2048]⟩
abbrev S16384x4096 : Shape := ⟨2, ![16384, 4096]⟩
abbrev S1x2048x1024 : Shape := ⟨3, ![1, 2048, 1024]⟩
abbrev S8x2048x1024 : Shape := ⟨3, ![8, 2048, 1024]⟩
abbrev S2x1024 : Shape := ⟨2, ![2, 1024]⟩
abbrev S2048x1024 : Shape := ⟨2, ![2048, 1024]⟩
abbrev S16384x1024 : Shape := ⟨2, ![16384, 1024]⟩
abbrev S1x1024 : Shape := ⟨2, ![1, 1024]⟩
abbrev S1024 : Shape := ⟨1, ![1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 16
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S16384x4096, .f32⟩
  | .hbm, ⟨2, _⟩ => ⟨S1x2048x1024, .f32⟩
  | .hbm, ⟨3, _⟩ => ⟨S8x2048x1024, .f32⟩
  | .hbm, ⟨4, _⟩ => ⟨S2x1024, .f32⟩
  | .hbm, ⟨5, _⟩ => ⟨S2x1024, .f32⟩
  | .hbm, ⟨6, _⟩ => ⟨S2048x1024, .f32⟩
  | .hbm, ⟨7, _⟩ => ⟨S2048x1024, .bf16⟩
  | .hbm, ⟨8, _⟩ => ⟨S16384x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S16384x1024, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S2048x1024, .bf16⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutRefIdeal.lean ====
abbrev S16384x2048 : Shape := ⟨2, ![16384, 2048]⟩
abbrev S16384x4096 : Shape := ⟨2, ![16384, 4096]⟩
abbrev S1x2048x1024 : Shape := ⟨3, ![1, 2048, 1024]⟩
abbrev S8x2048x1024 : Shape := ⟨3, ![8, 2048, 1024]⟩
abbrev S2x1024 : Shape := ⟨2, ![2, 1024]⟩
abbrev S_ : Shape := ⟨0, ![]⟩
abbrev S2048x1024 : Shape := ⟨2, ![2048, 1024]⟩
abbrev S16384x1024 : Shape := ⟨2, ![16384, 1024]⟩
abbrev S8x2048 : Shape := ⟨2, ![8, 2048]⟩
abbrev S8x2048x1 : Shape := ⟨3, ![8, 2048, 1]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x4096, .f32⟩
  | .hbm, ⟨2, _⟩ => ⟨S1x2048x1024, .f32⟩
  | .hbm, ⟨3, _⟩ => ⟨S8x2048x1024, .f32⟩
  | .hbm, ⟨4, _⟩ => ⟨S2x1024, .f32⟩
  | .hbm, ⟨5, _⟩ => ⟨S2x1024, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S_, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S2048x1024, .f32⟩
  | .hbm, ⟨17, _⟩ => ⟨S16384x1024, .f32⟩
  | .hbm, ⟨18, _⟩ => ⟨S8x2048x1024, .f32⟩
  | .hbm, ⟨19, _⟩ => ⟨S_, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S_, .f32⟩
  | .hbm, ⟨24, _⟩ => ⟨S8x2048, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S_, .f32⟩
  | .hbm, ⟨36, _⟩ => ⟨S8x2048x1, .f32⟩
  | .hbm, ⟨37, _⟩ => ⟨S8x2048x1, .f32⟩
  | .hbm, ⟨38, _⟩ => ⟨S8x2048x1024, .f32⟩
  | .hbm, ⟨39, _⟩ => ⟨S8x2048x1024, .f32⟩
  | .hbm, ⟨40, _⟩ => ⟨S_, .f32⟩
  | .hbm, ⟨41, _⟩ => ⟨S8x2048x1, .f32⟩
  | .hbm, ⟨42, _⟩ => ⟨S8x2048x1, .f32⟩
  | .hbm, ⟨43, _⟩ => ⟨S8x2048x1, .f32⟩
  | .hbm, ⟨44, _⟩ => ⟨S8x2048x1024, .f32⟩
  | .hbm, ⟨45, _⟩ => ⟨S8x2048x1024, .f32⟩
  | .hbm, ⟨46, _⟩ => ⟨S1x1024, .f32⟩
  | .hbm, ⟨47, _⟩ => ⟨S1024, .f32⟩
  | .hbm, ⟨48, _⟩ => ⟨S1x1x1024, .f32⟩
  | .hbm, ⟨49, _⟩ => ⟨S8x2048x1024, .f32⟩
  | .hbm, ⟨50, _⟩ => ⟨S8x2048x1024, .f32⟩
  | .hbm, ⟨51, _⟩ => ⟨S1x1024, .f32⟩
  | .hbm, ⟨52, _⟩ => ⟨S1024, .f32⟩
  | .hbm, ⟨53, _⟩ => ⟨S1x1x1024, .f32⟩
  | .hbm, ⟨54, _⟩ => ⟨S8x2048x1024, .f32⟩
  | .hbm, ⟨55, _⟩ => ⟨S8x2048x1024, .f32⟩
  | .hbm, ⟨56, _⟩ => ⟨S16384x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Qkv.lean ====
abbrev S16384x1024 : Shape := ⟨2, ![16384, 1024]⟩
abbrev S1x1024x1024 : Shape := ⟨3, ![1, 1024, 1024]⟩
abbrev S1024x512 : Shape := ⟨2, ![1024, 512]⟩
abbrev S1024x1024 : Shape := ⟨2, ![1024, 1024]⟩
abbrev S1024x1536 : Shape := ⟨2, ![1024, 1536]⟩
abbrev S_ : Shape := ⟨0, ![]⟩
abbrev S1x1536 : Shape := ⟨2, ![1, 1536]⟩
abbrev S16384x1536 : Shape := ⟨2, ![16384, 1536]⟩
abbrev S512x1024 : Shape := ⟨2, ![512, 1024]⟩
abbrev S1x512 : Shape := ⟨2, ![1, 512]⟩
abbrev S512x512 : Shape := ⟨2, ![512, 512]⟩

abbrev nBuf : Space → Nat
  | .hbm => 9
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1x1024x1024, .f32⟩
  | .hbm, ⟨2, _⟩ => ⟨S1024x512, .f32⟩
  | .hbm, ⟨3, _⟩ => ⟨S1024x1024, .f32⟩
  | .hbm, ⟨4, _⟩ => ⟨S1024x1536, .f32⟩
  | .hbm, ⟨5, _⟩ => ⟨S1024x1536, .bf16⟩
  | .hbm, ⟨6, _⟩ => ⟨S_, .f32⟩
  | .hbm, ⟨7, _⟩ => ⟨S1x1536, .f32⟩
  | .hbm, ⟨8, _⟩ => ⟨S16384x1536, .f32⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S1024x512, .bf16⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QkvRefIdeal.lean ====
abbrev S16384x1024 : Shape := ⟨2, ![16384, 1024]⟩
abbrev S1x1024x1024 : Shape := ⟨3, ![1, 1024, 1024]⟩
abbrev S1024x512 : Shape := ⟨2, ![1024, 512]⟩
abbrev S1024x1024 : Shape := ⟨2, ![1024, 1024]⟩
abbrev S16384x512 : Shape := ⟨2, ![16384, 512]⟩
abbrev S16384x1536 : Shape := ⟨2, ![16384, 1536]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024x1024, .f32⟩
  | .hbm, ⟨2, _⟩ => ⟨S1024x512, .f32⟩
  | .hbm, ⟨3, _⟩ => ⟨S1024x1024, .f32⟩
  | .hbm, ⟨4, _⟩ => ⟨S16384x1024, .f32⟩
  | .hbm, ⟨5, _⟩ => ⟨S16384x512, .f32⟩
  | .hbm, ⟨6, _⟩ => ⟨S16384x1536, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Plain.lean ====
abbrev S16384x1024 : Shape := ⟨2, ![16384, 1024]⟩
abbrev S1x1024x1024 : Shape := ⟨3, ![1, 1024, 1024]⟩
abbrev S2x1024 : Shape := ⟨2, ![2, 1024]⟩
abbrev S1024x1024 : Shape := ⟨2, ![1024, 1024]⟩
abbrev S1x1024 : Shape := ⟨2, ![1, 1024]⟩
abbrev S1024 : Shape := ⟨1, ![1024]⟩
abbrev S256x1024 : Shape := ⟨2, ![256, 1024]⟩
abbrev S256 : Shape := ⟨1, ![256]⟩
abbrev S256x1 : Shape := ⟨2, ![256, 1]⟩

abbrev nBuf : Space → Nat
  | .hbm => 14
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1x1024x1024, .f32⟩
  | .hbm, ⟨2, _⟩ => ⟨S16384x1024, .f32⟩
  | .hbm, ⟨3, _⟩ => ⟨S2x1024, .f32⟩
  | .hbm, ⟨4, _⟩ => ⟨S2x1024, .f32⟩
  | .hbm, ⟨5, _⟩ => ⟨S1024x1024, .f32⟩
  | .hbm, ⟨6, _⟩ => ⟨S1024x1024, .bf16⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PlainRefIdeal.lean ====
abbrev S16384x1024 : Shape := ⟨2, ![16384, 1024]⟩
abbrev S1x1024x1024 : Shape := ⟨3, ![1, 1024, 1024]⟩
abbrev S2x1024 : Shape := ⟨2, ![2, 1024]⟩
abbrev S_ : Shape := ⟨0, ![]⟩
abbrev S1024x1024 : Shape := ⟨2, ![1024, 1024]⟩
abbrev S16384 : Shape := ⟨1, ![16384]⟩
abbrev S16384x1 : Shape := ⟨2, ![16384, 1]⟩
abbrev S1x1024 : Shape := ⟨2, ![1, 1024]⟩
abbrev S1024 : Shape := ⟨1, ![1024]⟩

abbrev nBuf : Space → Nat
  | .hbm => 44
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024x1024, .f32⟩
  | .hbm, ⟨2, _⟩ => ⟨S16384x1024, .f32⟩
  | .hbm, ⟨3, _⟩ => ⟨S2x1024, .f32⟩
  | .hbm, ⟨4, _⟩ => ⟨S2x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S1024x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S1x1024, .f32⟩
  | .hbm, ⟨40, _⟩ => ⟨S1024, .f32⟩
  | .hbm, ⟨41, _⟩ => ⟨S1x1024, .f32⟩
  | .hbm, ⟨42, _⟩ => ⟨S16384x1024, .f32⟩
  | .hbm, ⟨43, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== LinS.lean ====
abbrev S128x1x1024 : Shape := ⟨3, ![128, 1, 1024]⟩
abbrev S1x1024x4104 : Shape := ⟨3, ![1, 1024, 4104]⟩
abbrev S1x4104 : Shape := ⟨2, ![1, 4104]⟩
abbrev S128x1024 : Shape := ⟨2, ![128, 1024]⟩
abbrev S1024x4104 : Shape := ⟨2, ![1024, 4104]⟩
abbrev S4104 : Shape := ⟨1, ![4104]⟩
abbrev S1024x4096 : Shape := ⟨2, ![1024, 4096]⟩
abbrev S4096 : Shape := ⟨1, ![4096]⟩
abbrev S1x4096 : Shape := ⟨2, ![1, 4096]⟩
abbrev S128x4096 : Shape := ⟨2, ![128, 4096]⟩
abbrev S1024x512 : Shape := ⟨2, ![1024, 512]⟩
abbrev S1x512 : Shape := ⟨2, ![1, 512]⟩
abbrev S128x512 : Shape := ⟨2, ![128, 512]⟩

abbrev nBuf : Space → Nat
  | .hbm => 11
  | .vmem => 7
  | .smem => 0
  | _ => 0

abbrev bufTy : (tb : Table) → Fin (tcTables nBuf tb) → BufTy
  | .hbm, ⟨0, _⟩ => ⟨S128x1x1024, .f32⟩
  | .hbm, ⟨1, _⟩ => ⟨S1x1024x4104, .f32⟩
  | .hbm, ⟨2, _⟩ => ⟨S1x4104, .f32⟩
  | .hbm, ⟨3, _⟩ => ⟨S128x1024, .f32⟩
  | .hbm, ⟨4, _⟩ => ⟨S1024x4104, .f32⟩
  | .hbm, ⟨5, _⟩ => ⟨S4104, .f32⟩
  | .hbm, ⟨6, _⟩ => ⟨S1024x4096, .f32⟩
  | .hbm, ⟨7, _⟩ => ⟨S1024x4096, .bf16⟩
  | .hbm, ⟨8, _⟩ => ⟨S4096, .f32⟩
  | .hbm, ⟨9, _⟩ => ⟨S1x4096, .f32⟩
  | .hbm, ⟨10, _⟩ => ⟨S128x4096, .f32⟩
  | .local _ .vmem, ⟨0, _⟩ => ⟨S128x1024, .f32⟩
  | .local _ .vmem, ⟨1, _⟩ => ⟨S1024x512, .bf16⟩
  | .local _ .vmem, ⟨2, _⟩ => ⟨S1024x512, .bf16⟩
  | .local _ .vmem, ⟨3, _⟩ => ⟨S1x512, .f32⟩
  | .local _ .vmem, ⟨4, _⟩ => ⟨S1x512, .f32⟩
  | .local _ .vmem, ⟨5, _⟩ => ⟨S128x512, .f32⟩
  | .local _ .vmem, ⟨6, _⟩ => ⟨S128x512, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LinSRefIdeal.lean ====
abbrev S128x1x1024 : Shape := ⟨3, ![128, 1, 1024]⟩
abbrev S1x1024x4104 : Shape := ⟨3, ![1, 1024, 4104]⟩
abbrev S1x4104 : Shape := ⟨2, ![1, 4104]⟩
abbrev S1024x4104 : Shape := ⟨2, ![1024, 4104]⟩
abbrev S128x1x4104 : Shape := ⟨3, ![128, 1, 4104]⟩
abbrev S4104 : Shape := ⟨1, ![4104]⟩
abbrev S1x1x4104 : Shape := ⟨3, ![1, 1, 4104]⟩
abbrev S128x1x4096 : Shape := ⟨3, ![128, 1, 4096]⟩
abbrev S128x4096 : Shape := ⟨2, ![128, 4096]⟩

abbrev nBuf : Space → Nat
  | .hbm => 11
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1x1024x4104, .f32⟩
  | .hbm, ⟨2, _⟩ => ⟨S1x4104, .f32⟩
  | .hbm, ⟨3, _⟩ => ⟨S1024x4104, .f32⟩
  | .hbm, ⟨4, _⟩ => ⟨S128x1x4104, .f32⟩
  | .hbm, ⟨5, _⟩ => ⟨S4104, .f32⟩
  | .hbm, ⟨6, _⟩ => ⟨S1x1x4104, .f32⟩
  | .hbm, ⟨7, _⟩ => ⟨S128x1x4104, .f32⟩
  | .hbm, ⟨8, _⟩ => ⟨S128x1x4104, .f32⟩
  | .hbm, ⟨9, _⟩ => ⟨S128x1x4096, .f32⟩
  | .hbm, ⟨10, _⟩ => ⟨S128x4096, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== QkvS.lean ====
abbrev S128x1024 : Shape := ⟨2, ![128, 1024]⟩
abbrev S1x1024x1024 : Shape := ⟨3, ![1, 1024, 1024]⟩
abbrev S1024x512 : Shape := ⟨2, ![1024, 512]⟩
abbrev S1024x1024 : Shape := ⟨2, ![1024, 1024]⟩
abbrev S1024x1536 : Shape := ⟨2, ![1024, 1536]⟩
abbrev S_ : Shape := ⟨0, ![]⟩
abbrev S1x1536 : Shape := ⟨2, ![1, 1536]⟩
abbrev S128x1536 : Shape := ⟨2, ![128, 1536]⟩
abbrev S1x512 : Shape := ⟨2, ![1, 512]⟩
abbrev S128x512 : Shape := ⟨2, ![128, 512]⟩

abbrev nBuf : Space → Nat
  | .hbm => 9
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S1x1024x1024, .f32⟩
  | .hbm, ⟨2, _⟩ => ⟨S1024x512, .f32⟩
  | .hbm, ⟨3, _⟩ => ⟨S1024x1024, .f32⟩
  | .hbm, ⟨4, _⟩ => ⟨S1024x1536, .f32⟩
  | .hbm, ⟨5, _⟩ => ⟨S1024x1536, .bf16⟩
  | .hbm, ⟨6, _⟩ => ⟨S_, .f32⟩
  | .hbm, ⟨7, _⟩ => ⟨S1x1536, .f32⟩
  | .hbm, ⟨8, _⟩ => ⟨S128x1536, .f32⟩
  | .local _ .vmem, ⟨0, _⟩ => ⟨S128x1024, .f32⟩
  | .local _ .vmem, ⟨1, _⟩ => ⟨S1024x512, .bf16⟩
  | .local _ .vmem, ⟨2, _⟩ => ⟨S1024x512, .bf16⟩
  | .local _ .vmem, ⟨3, _⟩ => ⟨S1x512, .f32⟩
  | .local _ .vmem, ⟨4, _⟩ => ⟨S1x512, .f32⟩
  | .local _ .vmem, ⟨5, _⟩ => ⟨S128x512, .f32⟩
  | .local _ .vmem, ⟨6, _⟩ => ⟨S128x512, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QkvSRefIdeal.lean ====
abbrev S128x1024 : Shape := ⟨2, ![128, 1024]⟩
abbrev S1x1024x1024 : Shape := ⟨3, ![1, 1024, 1024]⟩
abbrev S1024x512 : Shape := ⟨2, ![1024, 512]⟩
abbrev S1024x1024 : Shape := ⟨2, ![1024, 1024]⟩
abbrev S128x512 : Shape := ⟨2, ![128, 512]⟩
abbrev S128x1536 : Shape := ⟨2, ![128, 1536]⟩

abbrev nBuf : Space → Nat
  | .hbm => 7
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1x1024x1024, .f32⟩
  | .hbm, ⟨2, _⟩ => ⟨S1024x512, .f32⟩
  | .hbm, ⟨3, _⟩ => ⟨S1024x1024, .f32⟩
  | .hbm, ⟨4, _⟩ => ⟨S128x1024, .f32⟩
  | .hbm, ⟨5, _⟩ => ⟨S128x512, .f32⟩
  | .hbm, ⟨6, _⟩ => ⟨S128x1536, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Step.lean ====
abbrev S128x2048 : Shape := ⟨2, ![128, 2048]⟩
abbrev S128x128 : Shape := ⟨2, ![128, 128]⟩
abbrev S128x4 : Shape := ⟨2, ![128, 4]⟩
abbrev S128x4x512 : Shape := ⟨3, ![128, 4, 512]⟩
abbrev S128x4x512x512 : Shape := ⟨4, ![128, 4, 512, 512]⟩
abbrev S2048x128 : Shape := ⟨2, ![2048, 128]⟩
abbrev S128x1x2048 : Shape := ⟨3, ![128, 1, 2048]⟩
abbrev S128x1x128 : Shape := ⟨3, ![128, 1, 128]⟩
abbrev S128x1x4 : Shape := ⟨3, ![128, 1, 4]⟩
abbrev S128x4x1x512 : Shape := ⟨4, ![128, 4, 1, 512]⟩
abbrev S128x4x1x128 : Shape := ⟨4, ![128, 4, 1, 128]⟩
abbrev S1x1x512 : Shape := ⟨3, ![1, 1, 512]⟩
abbrev S512x128 : Shape := ⟨2, ![512, 128]⟩
abbrev S1x1x128 : Shape := ⟨3, ![1, 1, 128]⟩
abbrev S1x1x4 : Shape := ⟨3, ![1, 1, 4]⟩
abbrev S1x1x1x512 : Shape := ⟨4, ![1, 1, 1, 512]⟩
abbrev S1x1x512x512 : Shape := ⟨4, ![1, 1, 512, 512]⟩
abbrev S1x1x1x128 : Shape := ⟨4, ![1, 1, 1, 128]⟩
abbrev S512x512 : Shape := ⟨2, ![512, 512]⟩
abbrev S1x512 : Shape := ⟨2, ![1, 512]⟩
abbrev S1x128 : Shape := ⟨2, ![1, 128]⟩
abbrev S1 : Shape := ⟨1, ![1]⟩
abbrev S1x1 : Shape := ⟨2, ![1, 1]⟩
abbrev S1x4 : Shape := ⟨2, ![1, 4]⟩
abbrev S512 : Shape := ⟨1, ![512]⟩

abbrev nBuf : Space → Nat
  | .hbm => 19
  | .vmem => 26
  | .smem => 0
  | _ => 0

abbrev bufTy : (tb : Table) → Fin (tcTables nBuf tb) → BufTy
  | .hbm, ⟨0, _⟩ => ⟨S128x2048, .f32⟩
  | .hbm, ⟨1, _⟩ => ⟨S128x2048, .f32⟩
  | .hbm, ⟨2, _⟩ => ⟨S128x2048, .f32⟩
  | .hbm, ⟨3, _⟩ => ⟨S128x128, .f32⟩
  | .hbm, ⟨4, _⟩ => ⟨S128x4, .f32⟩
  | .hbm, ⟨5, _⟩ => ⟨S128x4x512, .f32⟩
  | .hbm, ⟨6, _⟩ => ⟨S128x4x512x512, .f32⟩
  | .hbm, ⟨7, _⟩ => ⟨S2048x128, .f32⟩
  | .hbm, ⟨8, _⟩ => ⟨S2048x128, .f32⟩
  | .hbm, ⟨9, _⟩ => ⟨S128x1x2048, .f32⟩
  | .hbm, ⟨10, _⟩ => ⟨S128x1x2048, .f32⟩
  | .hbm, ⟨11, _⟩ => ⟨S128x1x2048, .f32⟩
  | .hbm, ⟨12, _⟩ => ⟨S128x1x128, .f32⟩
  | .hbm, ⟨13, _⟩ => ⟨S128x1x4, .f32⟩
  | .hbm, ⟨14, _⟩ => ⟨S128x4x1x512, .f32⟩
  | .hbm, ⟨15, _⟩ => ⟨S128x1x2048, .f32⟩
  | .hbm, ⟨16, _⟩ => ⟨S128x4x512x512, .f32⟩
  | .hbm, ⟨17, _⟩ => ⟨S128x4x1x512, .f32⟩
  | .hbm, ⟨18, _⟩ => ⟨S128x4x1x128, .f32⟩
  | .local _ .vmem, ⟨0, _⟩ => ⟨S1x1x512, .f32⟩
  | .local _ .vmem, ⟨1, _⟩ => ⟨S1x1x512, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x1x128, .f32⟩
  | .local _ .vmem, ⟨11, _⟩ => ⟨S1x1x128, .f32⟩
  | .local _ .vmem, ⟨12, _⟩ => ⟨S1x1x4, .f32⟩
  | .local _ .vmem, ⟨13, _⟩ => ⟨S1x1x4, .f32⟩
  | .local _ .vmem, ⟨14, _⟩ => ⟨S1x1x1x512, .f32⟩
  | .local _ .vmem, ⟨15, _⟩ => ⟨S1x1x1x512, .f32⟩
  | .local _ .vmem, ⟨16, _⟩ => ⟨S1x1x512x512, .f32⟩
  | .local _ .vmem, ⟨17, _⟩ => ⟨S1x1x512x512, .f32⟩
  | .local _ .vmem, ⟨18, _⟩ => ⟨S1x1x512, .f32⟩
  | .local _ .vmem, ⟨19, _⟩ => ⟨S1x1x512, .f32⟩
  | .local _ .vmem, ⟨20, _⟩ => ⟨S1x1x512x512, .f32⟩
  | .local _ .vmem, ⟨21, _⟩ => ⟨S1x1x512x512, .f32⟩
  | .local _ .vmem, ⟨22, _⟩ => ⟨S1x1x1x512, .f32⟩
  | .local _ .vmem, ⟨23, _⟩ => ⟨S1x1x1x512, .f32⟩
  | .local _ .vmem, ⟨24, _⟩ => ⟨S1x1x1x128, .f32⟩
  | .local _ .vmem, ⟨25, _⟩ => ⟨S1x1x1x128, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![128, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== StepRefIdeal.lean ====
abbrev S128x2048 : Shape := ⟨2, ![128, 2048]⟩
abbrev S128x128 : Shape := ⟨2, ![128, 128]⟩
abbrev S128x4 : Shape := ⟨2, ![128, 4]⟩
abbrev S128x4x512 : Shape := ⟨3, ![128, 4, 512]⟩
abbrev S128x4x512x512 : Shape := ⟨4, ![128, 4, 512, 512]⟩
abbrev S_ : Shape := ⟨0, ![]⟩
abbrev S128x4x1 : Shape := ⟨3, ![128, 4, 1]⟩
abbrev S128x4x1x1 : Shape := ⟨4, ![128, 4, 1, 1]⟩
abbrev S128x4x512x1 : Shape := ⟨4, ![128, 4, 512, 1]⟩
abbrev S128x4x1x512 : Shape := ⟨4, ![128, 4, 1, 512]⟩
abbrev S128x1x2048 : Shape := ⟨3, ![128, 1, 2048]⟩
abbrev S128x4x1x128 : Shape := ⟨4, ![128, 4, 1, 128]⟩

abbrev nBuf : Space → Nat
  | .hbm => 80
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S128x2048, .f32⟩
  | .hbm, ⟨2, _⟩ => ⟨S128x2048, .f32⟩
  | .hbm, ⟨3, _⟩ => ⟨S128x128, .f32⟩
  | .hbm, ⟨4, _⟩ => ⟨S128x4, .f32⟩
  | .hbm, ⟨5, _⟩ => ⟨S128x4x512, .f32⟩
  | .hbm, ⟨6, _⟩ => ⟨S128x4x512x512, .f32⟩
  | .hbm, ⟨7, _⟩ => ⟨S128x4x512, .f32⟩
  | .hbm, ⟨8, _⟩ => ⟨S128x4x512, .f32⟩
  | .hbm, ⟨9, _⟩ => ⟨S128x4x512, .f32⟩
  | .hbm, ⟨10, _⟩ => ⟨S128x4, .f32⟩
  | .hbm, ⟨11, _⟩ => ⟨S128x4, .f32⟩
  | .hbm, ⟨12, _⟩ => ⟨S128x4, .f32⟩
  | .hbm, ⟨13, _⟩ => ⟨S_, .f32⟩
  | .hbm, ⟨14, _⟩ => ⟨S128x4, .f32⟩
  | .hbm, ⟨15, _⟩ => ⟨S128x4, .f32⟩
  | .hbm, ⟨16, _⟩ => ⟨S128x4, .f32⟩
  | .hbm, ⟨17, _⟩ => ⟨S128x4, .f32⟩
  | .hbm, ⟨18, _⟩ => ⟨S128x4, .i1⟩
  | .hbm, ⟨19, _⟩ => ⟨S128x4, .f32⟩
  | .hbm, ⟨20, _⟩ => ⟨S128x4, .f32⟩
  | .hbm, ⟨21, _⟩ => ⟨S128x4, .f32⟩
  | .hbm, ⟨22, _⟩ => ⟨S128x4, .f32⟩
  | .hbm, ⟨23, _⟩ => ⟨S128x4, .f32⟩
  | .hbm, ⟨24, _⟩ => ⟨S128x4, .f32⟩
  | .hbm, ⟨25, _⟩ => ⟨S128x4, .f32⟩
  | .hbm, ⟨26, _⟩ => ⟨S128x4, .f32⟩
  | .hbm, ⟨27, _⟩ => ⟨S128x4, .f32⟩
  | .hbm, ⟨28, _⟩ => ⟨S128x4, .f32⟩
  | .hbm, ⟨29, _⟩ => ⟨S128x4, .f32⟩
  | .hbm, ⟨30, _⟩ => ⟨S128x4x512, .f32⟩
  | .hbm, ⟨31, _⟩ => ⟨S_, .f32⟩
  | .hbm, ⟨32, _⟩ => ⟨S128x4, .f32⟩
  | .hbm, ⟨33, _⟩ => ⟨S128x4, .f32⟩
  | .hbm, ⟨34, _⟩ => ⟨S128x4, .f32⟩
  | .hbm, ⟨35, _⟩ => ⟨S128x4, .f32⟩
  | .hbm, ⟨36, _⟩ => ⟨S128x4, .f32⟩
  | .hbm, ⟨37, _⟩ => ⟨S128x4, .f32⟩
  | .hbm, ⟨38, _⟩ => ⟨S128x4x1, .f32⟩
  | .hbm, ⟨39, _⟩ => ⟨S128x4x512, .f32⟩
  | .hbm, ⟨40, _⟩ => ⟨S128x4x512, .f32⟩
  | .hbm, ⟨41, _⟩ => ⟨S128x4x1, .f32⟩
  | .hbm, ⟨42, _⟩ => ⟨S128x4x512, .f32⟩
  | .hbm, ⟨43, _⟩ => ⟨S128x4x512, .f32⟩
  | .hbm, ⟨44, _⟩ => ⟨S128x4x512, .f32⟩
  | .hbm, ⟨45, _⟩ => ⟨S128x4x512, .f32⟩
  | .hbm, ⟨46, _⟩ => ⟨S128x4x512, .f32⟩
  | .hbm, ⟨47, _⟩ => ⟨S_, .f32⟩
  | .hbm, ⟨48, _⟩ => ⟨S128x4, .f32⟩
  | .hbm, ⟨49, _⟩ => ⟨S128x4, .f32⟩
  | .hbm, ⟨50, _⟩ => ⟨S128x4, .f32⟩
  | .hbm, ⟨51, _⟩ => ⟨S128x4, .f32⟩
  | .hbm, ⟨52, _⟩ => ⟨S128x4, .f32⟩
  | .hbm, ⟨53, _⟩ => ⟨S128x4, .f32⟩
  | .hbm, ⟨54, _⟩ => ⟨S128x4, .f32⟩
  | .hbm, ⟨55, _⟩ => ⟨S128x4x1, .f32⟩
  | .hbm, ⟨56, _⟩ => ⟨S128x4x512, .f32⟩
  | .hbm, ⟨57, _⟩ => ⟨S128x4x512, .f32⟩
  | .hbm, ⟨58, _⟩ => ⟨S128x4, .f32⟩
  | .hbm, ⟨59, _⟩ => ⟨S128x4, .f32⟩
  | .hbm, ⟨60, _⟩ => ⟨S128x4x1, .f32⟩
  | .hbm, ⟨61, _⟩ => ⟨S128x4x512, .f32⟩
  | .hbm, ⟨62, _⟩ => ⟨S128x4x512, .f32⟩
  | .hbm, ⟨63, _⟩ => ⟨S128x4x1x1, .f32⟩
  | .hbm, ⟨64, _⟩ => ⟨S128x4x512x512, .f32⟩
  | .hbm, ⟨65, _⟩ => ⟨S128x4x512x512, .f32⟩
  | .hbm, ⟨66, _⟩ => ⟨S128x4x512x1, .f32⟩
  | .hbm, ⟨67, _⟩ => ⟨S128x4x1x512, .f32⟩
  | .hbm, ⟨68, _⟩ => ⟨S128x4x512x512, .f32⟩
  | .hbm, ⟨69, _⟩ => ⟨S128x4x512x512, .f32⟩
  | .hbm, ⟨70, _⟩ => ⟨S128x4x512x512, .f32⟩
  | .hbm, ⟨71, _⟩ => ⟨S128x4x512x512, .f32⟩
  | .hbm, ⟨72, _⟩ => ⟨S128x4x1, .f32⟩
  | .hbm, ⟨73, _⟩ => ⟨S128x4x512, .f32⟩
  | .hbm, ⟨74, _⟩ => ⟨S128x4x512, .f32⟩
  | .hbm, ⟨75, _⟩ => ⟨S128x4x512, .f32⟩
  | .hbm, ⟨76, _⟩ => ⟨S128x1x2048, .f32⟩
  | .hbm, ⟨77, _⟩ => ⟨S128x4x1x512, .f32⟩
  | .hbm, ⟨78, _⟩ => ⟨S128x4x1x1, .f32⟩
  | .hbm, ⟨79, _⟩ => ⟨S128x4x1x128, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_v1 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_0 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩

abbrev nD : Nat := 1
abbrev τ : Topo := Topo.v7x

variable {F : FTy → Type} [FloatOps F]
-- ==== Gates.lean ====
abbrev S16384x128 : Shape := ⟨2, ![16384, 128]⟩
abbrev S8x8x2048 : Shape := ⟨3, ![8, 8, 2048]⟩
abbrev S2048x128 : Shape := ⟨2, ![2048, 128]⟩
abbrev S1x8x2048 : Shape := ⟨3, ![1, 8, 2048]⟩
abbrev S128x2048 : Shape := ⟨2, ![128, 2048]⟩
abbrev S8x2048 : Shape := ⟨2, ![8, 2048]⟩
abbrev S120x2048 : Shape := ⟨2, ![120, 2048]⟩

abbrev nBuf : Space → Nat
  | .hbm => 3
  | .vmem => 6
  | .smem => 0
  | _ => 0

abbrev bufTy : (tb : Table) → Fin (tcTables nBuf tb) → BufTy
  | .hbm, ⟨0, _⟩ => ⟨S16384x128, .f32⟩
  | .hbm, ⟨1, _⟩ => ⟨S8x8x2048, .f32⟩
  | .hbm, ⟨2, _⟩ => ⟨S16384x128, .f32⟩
  | .local _ .vmem, ⟨0, _⟩ => ⟨S2048x128, .f32⟩
  | .local _ .vmem, ⟨1, _⟩ => ⟨S2048x128, .f32⟩
  | .local _ .vmem, ⟨2, _⟩ => ⟨S1x8x2048, .f32⟩
  | .local _ .vmem, ⟨3, _⟩ => ⟨S1x8x2048, .f32⟩
  | .local _ .vmem, ⟨4, _⟩ => ⟨S2048x128, .f32⟩
  | .local _ .vmem, ⟨5, _⟩ => ⟨S2048x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GatesRefIdeal.lean ====
abbrev S16384x128 : Shape := ⟨2, ![16384, 128]⟩
abbrev S16384x4 : Shape := ⟨2, ![16384, 4]⟩
abbrev S8x2048x4 : Shape := ⟨3, ![8, 2048, 4]⟩
abbrev S_ : Shape := ⟨0, ![]⟩
abbrev S8x8x256x4 : Shape := ⟨4, ![8, 8, 256, 4]⟩
abbrev S256x256 : Shape := ⟨2, ![256, 256]⟩
abbrev S256x256x1 : Shape := ⟨3, ![256, 256, 1]⟩
abbrev S8x8x1x256x4 : Shape := ⟨5, ![8, 8, 1, 256, 4]⟩
abbrev S8x8x256x256x4 : Shape := ⟨5, ![8, 8, 256, 256, 4]⟩
abbrev S8x2048x8 : Shape := ⟨3, ![8, 2048, 8]⟩
abbrev S16384x120 : Shape := ⟨2, ![16384, 120]⟩
abbrev S8x8x2048 : Shape := ⟨3, ![8, 8, 2048]⟩
abbrev S16384x8 : Shape := ⟨2, ![16384, 8]⟩

abbrev nBuf : Space → Nat
  | .hbm => 41
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x4, .f32⟩
  | .hbm, ⟨2, _⟩ => ⟨S8x2048x4, .f32⟩
  | .hbm, ⟨3, _⟩ => ⟨S16384x4, .f32⟩
  | .hbm, ⟨4, _⟩ => ⟨S16384x4, .f32⟩
  | .hbm, ⟨5, _⟩ => ⟨S_, .f32⟩
  | .hbm, ⟨6, _⟩ => ⟨S16384x4, .f32⟩
  | .hbm, ⟨7, _⟩ => ⟨S16384x4, .f32⟩
  | .hbm, ⟨8, _⟩ => ⟨S16384x4, .f32⟩
  | .hbm, ⟨9, _⟩ => ⟨S16384x4, .f32⟩
  | .hbm, ⟨10, _⟩ => ⟨S16384x4, .i1⟩
  | .hbm, ⟨11, _⟩ => ⟨S16384x4, .f32⟩
  | .hbm, ⟨12, _⟩ => ⟨S16384x4, .f32⟩
  | .hbm, ⟨13, _⟩ => ⟨S16384x4, .f32⟩
  | .hbm, ⟨14, _⟩ => ⟨S16384x4, .f32⟩
  | .hbm, ⟨15, _⟩ => ⟨S16384x4, .f32⟩
  | .hbm, ⟨16, _⟩ => ⟨S16384x4, .f32⟩
  | .hbm, ⟨17, _⟩ => ⟨S16384x4, .f32⟩
  | .hbm, ⟨18, _⟩ => ⟨S16384x4, .f32⟩
  | .hbm, ⟨19, _⟩ => ⟨S16384x4, .f32⟩
  | .hbm, ⟨20, _⟩ => ⟨S8x8x256x4, .f32⟩
  | .hbm, ⟨21, _⟩ => ⟨S256x256, .i32⟩
  | .hbm, ⟨22, _⟩ => ⟨S256x256, .i32⟩
  | .hbm, ⟨23, _⟩ => ⟨S256x256, .i1⟩
  | .hbm, ⟨24, _⟩ => ⟨S256x256x1, .i1⟩
  | .hbm, ⟨25, _⟩ => ⟨S8x8x1x256x4, .f32⟩
  | .hbm, ⟨26, _⟩ => ⟨S_, .f32⟩
  | .hbm, ⟨27, _⟩ => ⟨S_, .f32⟩
  | .hbm, ⟨28, _⟩ => ⟨S8x8x256x256x4, .i1⟩
  | .hbm, ⟨29, _⟩ => ⟨S8x8x256x256x4, .f32⟩
  | .hbm, ⟨30, _⟩ => ⟨S8x8x256x256x4, .f32⟩
  | .hbm, ⟨31, _⟩ => ⟨S8x8x256x256x4, .f32⟩
  | .hbm, ⟨32, _⟩ => ⟨S_, .f32⟩
  | .hbm, ⟨33, _⟩ => ⟨S8x8x256x4, .f32⟩
  | .hbm, ⟨34, _⟩ => ⟨S8x2048x4, .f32⟩
  | .hbm, ⟨35, _⟩ => ⟨S8x2048x8, .f32⟩
  | .hbm, ⟨36, _⟩ => ⟨S_, .f32⟩
  | .hbm, ⟨37, _⟩ => ⟨S16384x120, .f32⟩
  | .hbm, ⟨38, _⟩ => ⟨S8x8x2048, .f32⟩
  | .hbm, ⟨39, _⟩ => ⟨S16384x8, .f32⟩
  | .hbm, ⟨40, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_v5 : Ref sig .tc := ⟨.hbm, 11, rfl⟩
abbrev main_call0_call0_v6 : Ref sig .tc := ⟨.hbm, 12, rfl⟩
abbrev main_call0_call0_v7 : Ref sig .tc := ⟨.hbm, 13, rfl⟩
abbrev main_call0_call0_v8 : Ref sig .tc := ⟨.hbm, 14, rfl⟩
abbrev main_call0_call0_v9 : Ref sig .tc := ⟨.hbm, 15, rfl⟩
abbrev main_call0_call0_v10 : Ref sig .tc := ⟨.hbm, 16, rfl⟩
abbrev main_call0_call0_v11 : Ref sig .tc := ⟨.hbm, 17, rfl⟩
abbrev main_call0_v1 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_v10 : Ref sig .tc := ⟨.hbm, 31, rfl⟩
abbrev main_cst_0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩

abbrev nD : Nat := 1
abbrev τ : Topo := Topo.v7x

variable {F : FTy → Type} [FloatOps F]
-- ==== Mlstm.lean ====
abbrev S16384x2048 : Shape := ⟨2, ![16384, 2048]⟩
abbrev S16384x128 : Shape := ⟨2, ![16384, 128]⟩
abbrev S16384x4 : Shape := ⟨2, ![16384, 4]⟩
abbrev S8x2048x4 : Shape := ⟨3, ![8, 2048, 4]⟩
abbrev S_ : Shape := ⟨0, ![]⟩
abbrev S8x8x256x4 : Shape := ⟨4, ![8, 8, 256, 4]⟩
abbrev S256x256 : Shape := ⟨2, ![256, 256]⟩
abbrev S256x256x1 : Shape := ⟨3, ![256, 256, 1]⟩
abbrev S8x8x1x256x4 : Shape := ⟨5, ![8, 8, 1, 256, 4]⟩
abbrev S8x8x256x256x4 : Shape := ⟨5, ![8, 8, 256, 256, 4]⟩
abbrev S8x2048x8 : Shape := ⟨3, ![8, 2048, 8]⟩
abbrev S16384x120 : Shape := ⟨2, ![16384, 120]⟩
abbrev S8x8x2048 : Shape := ⟨3, ![8, 8, 2048]⟩
abbrev S16384x8 : Shape := ⟨2, ![16384, 8]⟩
abbrev S8x4x512x512 : Shape := ⟨4, ![8, 4, 512, 512]⟩
abbrev S8x4x1x512 : Shape := ⟨4, ![8, 4, 1, 512]⟩
abbrev S8x4x1x128 : Shape := ⟨4, ![8, 4, 1, 128]⟩
abbrev S256x2048 : Shape := ⟨2, ![256, 2048]⟩
abbrev S1x8x256 : Shape := ⟨3, ![1, 8, 256]⟩
abbrev S256x128 : Shape := ⟨2, ![256, 128]⟩
abbrev S1x4x512x512 : Shape := ⟨4, ![1, 4, 512, 512]⟩
abbrev S1x4x1x512 : Shape := ⟨4, ![1, 4, 1, 512]⟩
abbrev S1x4x1x128 : Shape := ⟨4, ![1, 4, 1, 128]⟩
abbrev S4x512x512 : Shape := ⟨3, ![4, 512, 512]⟩
abbrev S4x1x512 : Shape := ⟨3, ![4, 1, 512]⟩
abbrev S4x1x128 : Shape := ⟨3, ![4, 1, 128]⟩
abbrev S256x512 : Shape := ⟨2, ![256, 512]⟩
abbrev S256x1 : Shape := ⟨2, ![256, 1]⟩
abbrev S1x1x256 : Shape := ⟨3, ![1, 1, 256]⟩
abbrev S1x256 : Shape := ⟨2, ![1, 256]⟩
abbrev S1x1x128 : Shape := ⟨3, ![1, 1, 128]⟩
abbrev S1x128 : Shape := ⟨2, ![1, 128]⟩
abbrev S1x1 : Shape := ⟨2, ![1, 1]⟩
abbrev S256 : Shape := ⟨1, ![256]⟩
abbrev S1x512x512 : Shape := ⟨3, ![1, 512, 512]⟩
abbrev S512x512 : Shape := ⟨2, ![512, 512]⟩
abbrev S1x1x512 : Shape := ⟨3, ![1, 1, 512]⟩
abbrev S1x512 : Shape := ⟨2, ![1, 512]⟩
abbrev S1 : Shape := ⟨1, ![1]⟩
abbrev S512 : Shape := ⟨1, ![512]⟩

abbrev nBuf : Space → Nat
  | .hbm => 48
  | .vmem => 21
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .bf16⟩
  | .hbm, ⟨3, _⟩ => ⟨S16384x128, .f32⟩
  | .hbm, ⟨4, _⟩ => ⟨S16384x4, .f32⟩
  | .hbm, ⟨5, _⟩ => ⟨S8x2048x4, .f32⟩
  | .hbm, ⟨6, _⟩ => ⟨S16384x4, .f32⟩
  | .hbm, ⟨7, _⟩ => ⟨S16384x4, .f32⟩
  | .hbm, ⟨8, _⟩ => ⟨S_, .f32⟩
  | .hbm, ⟨9, _⟩ => ⟨S16384x4, .f32⟩
  | .hbm, ⟨10, _⟩ => ⟨S16384x4, .f32⟩
  | .hbm, ⟨11, _⟩ => ⟨S16384x4, .f32⟩
  | .hbm, ⟨12, _⟩ => ⟨S16384x4, .f32⟩
  | .hbm, ⟨13, _⟩ => ⟨S16384x4, .i1⟩
  | .hbm, ⟨14, _⟩ => ⟨S16384x4, .f32⟩
  | .hbm, ⟨15, _⟩ => ⟨S16384x4, .f32⟩
  | .hbm, ⟨16, _⟩ => ⟨S16384x4, .f32⟩
  | .hbm, ⟨17, _⟩ => ⟨S16384x4, .f32⟩
  | .hbm, ⟨18, _⟩ => ⟨S16384x4, .f32⟩
  | .hbm, ⟨19, _⟩ => ⟨S16384x4, .f32⟩
  | .hbm, ⟨20, _⟩ => ⟨S16384x4, .f32⟩
  | .hbm, ⟨21, _⟩ => ⟨S16384x4, .f32⟩
  | .hbm, ⟨22, _⟩ => ⟨S16384x4, .f32⟩
  | .hbm, ⟨23, _⟩ => ⟨S8x8x256x4, .f32⟩
  | .hbm, ⟨24, _⟩ => ⟨S256x256, .i32⟩
  | .hbm, ⟨25, _⟩ => ⟨S256x256, .i32⟩
  | .hbm, ⟨26, _⟩ => ⟨S256x256, .i1⟩
  | .hbm, ⟨27, _⟩ => ⟨S256x256x1, .i1⟩
  | .hbm, ⟨28, _⟩ => ⟨S8x8x1x256x4, .f32⟩
  | .hbm, ⟨29, _⟩ => ⟨S_, .f32⟩
  | .hbm, ⟨30, _⟩ => ⟨S_, .f32⟩
  | .hbm, ⟨31, _⟩ => ⟨S8x8x256x256x4, .i1⟩
  | .hbm, ⟨32, _⟩ => ⟨S8x8x256x256x4, .f32⟩
  | .hbm, ⟨33, _⟩ => ⟨S8x8x256x256x4, .f32⟩
  | .hbm, ⟨34, _⟩ => ⟨S8x8x256x256x4, .f32⟩
  | .hbm, ⟨35, _⟩ => ⟨S_, .f32⟩
  | .hbm, ⟨36, _⟩ => ⟨S8x8x256x4, .f32⟩
  | .hbm, ⟨37, _⟩ => ⟨S8x2048x4, .f32⟩
  | .hbm, ⟨38, _⟩ => ⟨S8x2048x8, .f32⟩
  | .hbm, ⟨39, _⟩ => ⟨S_, .f32⟩
  | .hbm, ⟨40, _⟩ => ⟨S16384x120, .f32⟩
  | .hbm, ⟨41, _⟩ => ⟨S8x8x2048, .f32⟩
  | .hbm, ⟨42, _⟩ => ⟨S16384x8, .f32⟩
  | .hbm, ⟨43, _⟩ => ⟨S16384x128, .f32⟩
  | .hbm, ⟨44, _⟩ => ⟨S16384x2048, .f32⟩
  | .hbm, ⟨45, _⟩ => ⟨S8x4x512x512, .f32⟩
  | .hbm, ⟨46, _⟩ => ⟨S8x4x1x512, .f32⟩
  | .hbm, ⟨47, _⟩ => ⟨S8x4x1x128, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S1x8x256, .f32⟩
  | .local _ .vmem, ⟨7, _⟩ => ⟨S1x8x256, .f32⟩
  | .local _ .vmem, ⟨8, _⟩ => ⟨S256x128, .f32⟩
  | .local _ .vmem, ⟨9, _⟩ => ⟨S256x128, .f32⟩
  | .local _ .vmem, ⟨10, _⟩ => ⟨S256x2048, .f32⟩
  | .local _ .vmem, ⟨11, _⟩ => ⟨S256x2048, .f32⟩
  | .local _ .vmem, ⟨12, _⟩ => ⟨S1x4x512x512, .f32⟩
  | .local _ .vmem, ⟨13, _⟩ => ⟨S1x4x512x512, .f32⟩
  | .local _ .vmem, ⟨14, _⟩ => ⟨S1x4x1x512, .f32⟩
  | .local _ .vmem, ⟨15, _⟩ => ⟨S1x4x1x512, .f32⟩
  | .local _ .vmem, ⟨16, _⟩ => ⟨S1x4x1x128, .f32⟩
  | .local _ .vmem, ⟨17, _⟩ => ⟨S1x4x1x128, .f32⟩
  | .local _ .vmem, ⟨18, _⟩ => ⟨S4x512x512, .f32⟩
  | .local _ .vmem, ⟨19, _⟩ => ⟨S4x1x512, .f32⟩
  | .local _ .vmem, ⟨20, _⟩ => ⟨S4x1x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_v10 : Ref sig .tc := ⟨.hbm, 34, rfl⟩
abbrev main_cst_0 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_1 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18_0 : Ref sig .tc := ⟨.hbm, 44, rfl⟩
abbrev main_v18_1 : Ref sig .tc := ⟨.hbm, 45, rfl⟩
abbrev main_v18_2 : Ref sig .tc := ⟨.hbm, 46, rfl⟩
abbrev main_v18_3 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v418 : BitVec 1 := Scalar.cmpi .eq arg1 c7_i32
  let v419 : BitVec 32 := Scalar.extui v418
  let c0_i32_201 : BitVec 32 := 0#32
  let v420 : BitVec 1 := Scalar.cmpi .ne v419 c0_i32_201
  v420

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x4x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x4x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== MlstmIdeal.lean ====
variable {F : FTy → Type} [FloatOps F] [Named F]
def κ : String → Option EReal := fun
  | "mask" => some ⊥
  | _ => none
-- ==== MlstmRefIdeal.lean ====
abbrev S16384x2048 : Shape := ⟨2, ![16384, 2048]⟩
abbrev S16384x128 : Shape := ⟨2, ![16384, 128]⟩
abbrev S8x2048x4x512 : Shape := ⟨4, ![8, 2048, 4, 512]⟩
abbrev S16384x4 : Shape := ⟨2, ![16384, 4]⟩
abbrev S8x2048x4 : Shape := ⟨3, ![8, 2048, 4]⟩
abbrev S8x4x2048 : Shape := ⟨3, ![8, 4, 2048]⟩
abbrev S_ : Shape := ⟨0, ![]⟩
abbrev S2048x2048 : Shape := ⟨2, ![2048, 2048]⟩
abbrev S8x4x1x2048 : Shape := ⟨4, ![8, 4, 1, 2048]⟩
abbrev S8x4x2048x2048 : Shape := ⟨4, ![8, 4, 2048, 2048]⟩
abbrev S8x4x2048x1 : Shape := ⟨4, ![8, 4, 2048, 1]⟩
abbrev S8x4x2048x512 : Shape := ⟨4, ![8, 4, 2048, 512]⟩
abbrev S8x4 : Shape := ⟨2, ![8, 4]⟩
abbrev S8x4x1 : Shape := ⟨3, ![8, 4, 1]⟩
abbrev S8x2048x4x1 : Shape := ⟨4, ![8, 2048, 4, 1]⟩
abbrev S8x4x512x512 : Shape := ⟨4, ![8, 4, 512, 512]⟩
abbrev S8x4x512 : Shape := ⟨3, ![8, 4, 512]⟩
abbrev S8x4x1x512 : Shape := ⟨4, ![8, 4, 1, 512]⟩
abbrev S8x4x1x1 : Shape := ⟨4, ![8, 4, 1, 1]⟩
abbrev S8x4x1x128 : Shape := ⟨4, ![8, 4, 1, 128]⟩

abbrev nBuf : Space → Nat
  | .hbm => 101
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .bf16⟩
  | .hbm, ⟨3, _⟩ => ⟨S16384x128, .f32⟩
  | .hbm, ⟨4, _⟩ => ⟨S16384x2048, .f32⟩
  | .hbm, ⟨5, _⟩ => ⟨S8x2048x4x512, .f32⟩
  | .hbm, ⟨6, _⟩ => ⟨S16384x2048, .f32⟩
  | .hbm, ⟨7, _⟩ => ⟨S8x2048x4x512, .f32⟩
  | .hbm, ⟨8, _⟩ => ⟨S16384x2048, .f32⟩
  | .hbm, ⟨9, _⟩ => ⟨S8x2048x4x512, .f32⟩
  | .hbm, ⟨10, _⟩ => ⟨S16384x4, .f32⟩
  | .hbm, ⟨11, _⟩ => ⟨S8x2048x4, .f32⟩
  | .hbm, ⟨12, _⟩ => ⟨S8x4x2048, .f32⟩
  | .hbm, ⟨13, _⟩ => ⟨S16384x4, .f32⟩
  | .hbm, ⟨14, _⟩ => ⟨S16384x4, .f32⟩
  | .hbm, ⟨15, _⟩ => ⟨S_, .f32⟩
  | .hbm, ⟨16, _⟩ => ⟨S16384x4, .f32⟩
  | .hbm, ⟨17, _⟩ => ⟨S16384x4, .f32⟩
  | .hbm, ⟨18, _⟩ => ⟨S16384x4, .f32⟩
  | .hbm, ⟨19, _⟩ => ⟨S16384x4, .f32⟩
  | .hbm, ⟨20, _⟩ => ⟨S16384x4, .i1⟩
  | .hbm, ⟨21, _⟩ => ⟨S16384x4, .f32⟩
  | .hbm, ⟨22, _⟩ => ⟨S16384x4, .f32⟩
  | .hbm, ⟨23, _⟩ => ⟨S16384x4, .f32⟩
  | .hbm, ⟨24, _⟩ => ⟨S16384x4, .f32⟩
  | .hbm, ⟨25, _⟩ => ⟨S16384x4, .f32⟩
  | .hbm, ⟨26, _⟩ => ⟨S16384x4, .f32⟩
  | .hbm, ⟨27, _⟩ => ⟨S16384x4, .f32⟩
  | .hbm, ⟨28, _⟩ => ⟨S16384x4, .f32⟩
  | .hbm, ⟨29, _⟩ => ⟨S16384x4, .f32⟩
  | .hbm, ⟨30, _⟩ => ⟨S8x2048x4, .f32⟩
  | .hbm, ⟨31, _⟩ => ⟨S8x4x2048, .f32⟩
  | .hbm, ⟨32, _⟩ => ⟨S2048x2048, .i32⟩
  | .hbm, ⟨33, _⟩ => ⟨S2048x2048, .i32⟩
  | .hbm, ⟨34, _⟩ => ⟨S2048x2048, .i1⟩
  | .hbm, ⟨35, _⟩ => ⟨S8x4x1x2048, .f32⟩
  | .hbm, ⟨36, _⟩ => ⟨S_, .f32⟩
  | .hbm, ⟨37, _⟩ => ⟨S_, .f32⟩
  | .hbm, ⟨38, _⟩ => ⟨S8x4x2048x2048, .i1⟩
  | .hbm, ⟨39, _⟩ => ⟨S8x4x2048x2048, .f32⟩
  | .hbm, ⟨40, _⟩ => ⟨S8x4x2048x2048, .f32⟩
  | .hbm, ⟨41, _⟩ => ⟨S8x4x2048x2048, .f32⟩
  | .hbm, ⟨42, _⟩ => ⟨S_, .f32⟩
  | .hbm, ⟨43, _⟩ => ⟨S8x4x2048, .f32⟩
  | .hbm, ⟨44, _⟩ => ⟨S8x4x2048x1, .f32⟩
  | .hbm, ⟨45, _⟩ => ⟨S8x4x1x2048, .f32⟩
  | .hbm, ⟨46, _⟩ => ⟨S8x4x2048x2048, .f32⟩
  | .hbm, ⟨47, _⟩ => ⟨S8x4x2048x2048, .f32⟩
  | .hbm, ⟨48, _⟩ => ⟨S8x4x2048x2048, .f32⟩
  | .hbm, ⟨49, _⟩ => ⟨S8x4x1x2048, .f32⟩
  | .hbm, ⟨50, _⟩ => ⟨S8x4x2048x2048, .f32⟩
  | .hbm, ⟨51, _⟩ => ⟨S8x4x2048x2048, .f32⟩
  | .hbm, ⟨52, _⟩ => ⟨S_, .f32⟩
  | .hbm, ⟨53, _⟩ => ⟨S_, .f32⟩
  | .hbm, ⟨54, _⟩ => ⟨S8x4x2048x2048, .i1⟩
  | .hbm, ⟨55, _⟩ => ⟨S8x4x2048x2048, .f32⟩
  | .hbm, ⟨56, _⟩ => ⟨S8x4x2048x2048, .f32⟩
  | .hbm, ⟨57, _⟩ => ⟨S_, .f32⟩
  | .hbm, ⟨58, _⟩ => ⟨S8x4x2048, .f32⟩
  | .hbm, ⟨59, _⟩ => ⟨S8x4x2048, .f32⟩
  | .hbm, ⟨60, _⟩ => ⟨S8x4x2048x2048, .f32⟩
  | .hbm, ⟨61, _⟩ => ⟨S8x4x2048x1, .f32⟩
  | .hbm, ⟨62, _⟩ => ⟨S8x4x2048x2048, .f32⟩
  | .hbm, ⟨63, _⟩ => ⟨S8x4x2048x2048, .f32⟩
  | .hbm, ⟨64, _⟩ => ⟨S8x4x2048x2048, .f32⟩
  | .hbm, ⟨65, _⟩ => ⟨S8x4x2048x2048, .f32⟩
  | .hbm, ⟨66, _⟩ => ⟨S8x4x2048x512, .f32⟩
  | .hbm, ⟨67, _⟩ => ⟨S_, .f32⟩
  | .hbm, ⟨68, _⟩ => ⟨S8x4x2048, .f32⟩
  | .hbm, ⟨69, _⟩ => ⟨S8x4x2048, .f32⟩
  | .hbm, ⟨70, _⟩ => ⟨S8x4x2048, .f32⟩
  | .hbm, ⟨71, _⟩ => ⟨S8x4x2048, .f32⟩
  | .hbm, ⟨72, _⟩ => ⟨S8x4x2048, .f32⟩
  | .hbm, ⟨73, _⟩ => ⟨S8x4x2048x1, .f32⟩
  | .hbm, ⟨74, _⟩ => ⟨S8x4x2048x512, .f32⟩
  | .hbm, ⟨75, _⟩ => ⟨S8x4x2048x512, .f32⟩
  | .hbm, ⟨76, _⟩ => ⟨S_, .f32⟩
  | .hbm, ⟨77, _⟩ => ⟨S8x4, .f32⟩
  | .hbm, ⟨78, _⟩ => ⟨S8x4x1, .f32⟩
  | .hbm, ⟨79, _⟩ => ⟨S8x4x2048, .f32⟩
  | .hbm, ⟨80, _⟩ => ⟨S8x4x2048, .f32⟩
  | .hbm, ⟨81, _⟩ => ⟨S8x4x2048, .f32⟩
  | .hbm, ⟨82, _⟩ => ⟨S_, .f32⟩
  | .hbm, ⟨83, _⟩ => ⟨S8x4, .f32⟩
  | .hbm, ⟨84, _⟩ => ⟨S8x4, .f32⟩
  | .hbm, ⟨85, _⟩ => ⟨S8x4x1, .f32⟩
  | .hbm, ⟨86, _⟩ => ⟨S8x4x2048, .f32⟩
  | .hbm, ⟨87, _⟩ => ⟨S8x4x2048, .f32⟩
  | .hbm, ⟨88, _⟩ => ⟨S8x4x2048, .f32⟩
  | .hbm, ⟨89, _⟩ => ⟨S8x2048x4, .f32⟩
  | .hbm, ⟨90, _⟩ => ⟨S8x2048x4x1, .f32⟩
  | .hbm, ⟨91, _⟩ => ⟨S8x2048x4x512, .f32⟩
  | .hbm, ⟨92, _⟩ => ⟨S8x2048x4x512, .f32⟩
  | .hbm, ⟨93, _⟩ => ⟨S8x4x512x512, .f32⟩
  | .hbm, ⟨94, _⟩ => ⟨S8x2048x4x512, .f32⟩
  | .hbm, ⟨95, _⟩ => ⟨S16384x2048, .f32⟩
  | .hbm, ⟨96, _⟩ => ⟨S_, .f32⟩
  | .hbm, ⟨97, _⟩ => ⟨S8x4x512, .f32⟩
  | .hbm, ⟨98, _⟩ => ⟨S8x4x1x512, .f32⟩
  | .hbm, ⟨99, _⟩ => ⟨S8x4x1x1, .f32⟩
  | .hbm, ⟨100, _⟩ => ⟨S8x4x1x128, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_v17 : Ref sig .tc := ⟨.hbm, 41, rfl⟩
abbrev main_cst_0 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_1 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v27 : Ref sig .tc := ⟨.hbm, 56, rfl⟩
abbrev main_cst_2 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_3 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_4 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_5 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_6 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩

abbrev nD : Nat := 1
abbrev τ : Topo := Topo.v7x

variable {F : FTy → Type} [FloatOps F]
-- ==== Swa.lean ====
abbrev S16384x1536 : Shape := ⟨2, ![16384, 1536]⟩
abbrev S16x128x256 : Shape := ⟨3, ![16, 128, 256]⟩
abbrev S1x16 : Shape := ⟨2, ![1, 16]⟩
abbrev S16384x1024 : Shape := ⟨2, ![16384, 1024]⟩
abbrev S128x1024 : Shape := ⟨2, ![128, 1024]⟩
abbrev S128x256 : Shape := ⟨2, ![128, 256]⟩
abbrev S256x256 : Shape := ⟨2, ![256, 256]⟩
abbrev S128x64 : Shape := ⟨2, ![128, 64]⟩
abbrev S256x64 : Shape := ⟨2, ![256, 64]⟩
abbrev S1x128x256 : Shape := ⟨3, ![1, 128, 256]⟩
abbrev S1x1 : Shape := ⟨2, ![1, 1]⟩
abbrev S128 : Shape := ⟨1, ![128]⟩
abbrev S128x1 : Shape := ⟨2, ![128, 1]⟩

abbrev nBuf : Space → Nat
  | .hbm => 4
  | .vmem => 13
  | .smem => 1
  | _ => 0

abbrev bufTy : (tb : Table) → Fin (tcTables nBuf tb) → BufTy
  | .hbm, ⟨0, _⟩ => ⟨S16384x1536, .f32⟩
  | .hbm, ⟨1, _⟩ => ⟨S16x128x256, .f32⟩
  | .hbm, ⟨2, _⟩ => ⟨S1x16, .f32⟩
  | .hbm, ⟨3, _⟩ => ⟨S16384x1024, .f32⟩
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S16x128x256, .f32⟩
  | .local _ .vmem, ⟨11, _⟩ => ⟨S128x1024, .f32⟩
  | .local _ .vmem, ⟨12, _⟩ => ⟨S128x1024, .f32⟩
  | .local _ .smem, ⟨0, _⟩ => ⟨S1x16, .f32⟩
  | _, _ => ⟨S16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c4_i32 : BitVec 32 := 4#32
  let c0_i32_0 : BitVec 32 := 0#32
  ![v3.toNat, c4_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let c0_i32 : BitVec 32 := 0#32
  ![v1.toNat, c4_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c5_i32 : BitVec 32 := 5#32
  let c0_i32_0 : BitVec 32 := 0#32
  ![v3.toNat, c5_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c5_i32 : BitVec 32 := 5#32
  let c0_i32 : BitVec 32 := 0#32
  ![v1.toNat, c5_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S16x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .smem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== SwaIdeal.lean ====
variable {F : FTy → Type} [FloatOps F] [Named F]
def κ : String → Option EReal := fun
  | "mask" => some ⊥
  | _ => none
-- ==== SwaRefIdeal.lean ====
abbrev S16384x1536 : Shape := ⟨2, ![16384, 1536]⟩
abbrev S16x128x256 : Shape := ⟨3, ![16, 128, 256]⟩
abbrev S1x16 : Shape := ⟨2, ![1, 16]⟩
abbrev S8x2048x1536 : Shape := ⟨3, ![8, 2048, 1536]⟩
abbrev S8x2048x1024 : Shape := ⟨3, ![8, 2048, 1024]⟩
abbrev S8x2048x4x4x64 : Shape := ⟨5, ![8, 2048, 4, 4, 64]⟩
abbrev S8x2048x256 : Shape := ⟨3, ![8, 2048, 256]⟩
abbrev S8x2048x4x64 : Shape := ⟨4, ![8, 2048, 4, 64]⟩
abbrev S128x128x4x4x64 : Shape := ⟨5, ![128, 128, 4, 4, 64]⟩
abbrev S_ : Shape := ⟨0, ![]⟩
abbrev S8x128x4x64 : Shape := ⟨4, ![8, 128, 4, 64]⟩
abbrev S8x2176x4x64 : Shape := ⟨4, ![8, 2176, 4, 64]⟩
abbrev S8x17x128x4x64 : Shape := ⟨5, ![8, 17, 128, 4, 64]⟩
abbrev S8x16x128x4x64 : Shape := ⟨5, ![8, 16, 128, 4, 64]⟩
abbrev S8x16x256x4x64 : Shape := ⟨5, ![8, 16, 256, 4, 64]⟩
abbrev S128x256x4x64 : Shape := ⟨4, ![128, 256, 4, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S8x16 : Shape := ⟨2, ![8, 16]⟩
abbrev S128x1x1 : Shape := ⟨3, ![128, 1, 1]⟩
abbrev S1x1x256 : Shape := ⟨3, ![1, 1, 256]⟩
abbrev S128x1x256 : Shape := ⟨3, ![128, 1, 256]⟩
abbrev S1x128x256 : Shape := ⟨3, ![1, 128, 256]⟩
abbrev S128x128x256 : Shape := ⟨3, ![128, 128, 256]⟩
abbrev S4x4x128x256 : Shape := ⟨4, ![4, 4, 128, 256]⟩
abbrev S128x4x256x128x4 : Shape := ⟨5, ![128, 4, 256, 128, 4]⟩
abbrev S128x4x4x128x256 : Shape := ⟨5, ![128, 4, 4, 128, 256]⟩
abbrev S1x4x4x128x256 : Shape := ⟨5, ![1, 4, 4, 128, 256]⟩
abbrev S128x1x1x128x256 : Shape := ⟨5, ![128, 1, 1, 128, 256]⟩
abbrev S4x4 : Shape := ⟨2, ![4, 4]⟩
abbrev S4x4x1 : Shape := ⟨3, ![4, 4, 1]⟩
abbrev S128x4x4x128 : Shape := ⟨4, ![128, 4, 4, 128]⟩
abbrev S1x4x4x1 : Shape := ⟨4, ![1, 4, 4, 1]⟩
abbrev S128x4x4x128x1 : Shape := ⟨5, ![128, 4, 4, 128, 1]⟩
abbrev S128x4x64x4x128 : Shape := ⟨5, ![128, 4, 64, 4, 128]⟩
abbrev S16384x1024 : Shape := ⟨2, ![16384, 1024]⟩

abbrev nBuf : Space → Nat
  | .hbm => 103
  | .vmem => 0
  | .smem => 0
  | _ => 0

abbrev bufTy : (tb : Table) → Fin (tcTables nBuf tb) → BufTy
  | .hbm, ⟨0, _⟩ => ⟨S16384x1536, .f32⟩
  | .hbm, ⟨1, _⟩ => ⟨S16x128x256, .f32⟩
  | .hbm, ⟨2, _⟩ => ⟨S1x16, .f32⟩
  | .hbm, ⟨3, _⟩ => ⟨S8x2048x1536, .f32⟩
  | .hbm, ⟨4, _⟩ => ⟨S8x2048x1024, .f32⟩
  | .hbm, ⟨5, _⟩ => ⟨S8x2048x4x4x64, .f32⟩
  | .hbm, ⟨6, _⟩ => ⟨S8x2048x256, .f32⟩
  | .hbm, ⟨7, _⟩ => ⟨S8x2048x4x64, .f32⟩
  | .hbm, ⟨8, _⟩ => ⟨S8x2048x256, .f32⟩
  | .hbm, ⟨9, _⟩ => ⟨S8x2048x4x64, .f32⟩
  | .hbm, ⟨10, _⟩ => ⟨S128x128x4x4x64, .f32⟩
  | .hbm, ⟨11, _⟩ => ⟨S_, .f32⟩
  | .hbm, ⟨12, _⟩ => ⟨S8x128x4x64, .f32⟩
  | .hbm, ⟨13, _⟩ => ⟨S8x2176x4x64, .f32⟩
  | .hbm, ⟨14, _⟩ => ⟨S8x17x128x4x64, .f32⟩
  | .hbm, ⟨15, _⟩ => ⟨S8x16x128x4x64, .f32⟩
  | .hbm, ⟨16, _⟩ => ⟨S8x16x128x4x64, .f32⟩
  | .hbm, ⟨17, _⟩ => ⟨S8x16x256x4x64, .f32⟩
  | .hbm, ⟨18, _⟩ => ⟨S128x256x4x64, .f32⟩
  | .hbm, ⟨19, _⟩ => ⟨S8x2176x4x64, .f32⟩
  | .hbm, ⟨20, _⟩ => ⟨S8x17x128x4x64, .f32⟩
  | .hbm, ⟨21, _⟩ => ⟨S8x16x128x4x64, .f32⟩
  | .hbm, ⟨22, _⟩ => ⟨S8x16x128x4x64, .f32⟩
  | .hbm, ⟨23, _⟩ => ⟨S8x16x256x4x64, .f32⟩
  | .hbm, ⟨24, _⟩ => ⟨S128x256x4x64, .f32⟩
  | .hbm, ⟨25, _⟩ => ⟨S128, .i32⟩
  | .hbm, ⟨26, _⟩ => ⟨S128x1, .i32⟩
  | .hbm, ⟨27, _⟩ => ⟨S256, .i32⟩
  | .hbm, ⟨28, _⟩ => ⟨S1x256, .i32⟩
  | .hbm, ⟨29, _⟩ => ⟨S_, .i32⟩
  | .hbm, ⟨30, _⟩ => ⟨S128x1, .i32⟩
  | .hbm, ⟨31, _⟩ => ⟨S128x1, .i32⟩
  | .hbm, ⟨32, _⟩ => ⟨S128x256, .i32⟩
  | .hbm, ⟨33, _⟩ => ⟨S128x256, .i32⟩
  | .hbm, ⟨34, _⟩ => ⟨S128x256, .i32⟩
  | .hbm, ⟨35, _⟩ => ⟨S16, .i32⟩
  | .hbm, ⟨36, _⟩ => ⟨S1x16, .i32⟩
  | .hbm, ⟨37, _⟩ => ⟨S8x16, .i32⟩
  | .hbm, ⟨38, _⟩ => ⟨S128, .i32⟩
  | .hbm, ⟨39, _⟩ => ⟨S128x1x1, .i32⟩
  | .hbm, ⟨40, _⟩ => ⟨S_, .i32⟩
  | .hbm, ⟨41, _⟩ => ⟨S128x256, .i32⟩
  | .hbm, ⟨42, _⟩ => ⟨S128x256, .i1⟩
  | .hbm, ⟨43, _⟩ => ⟨S_, .i32⟩
  | .hbm, ⟨44, _⟩ => ⟨S128x256, .i32⟩
  | .hbm, ⟨45, _⟩ => ⟨S128x256, .i1⟩
  | .hbm, ⟨46, _⟩ => ⟨S128x256, .i1⟩
  | .hbm, ⟨47, _⟩ => ⟨S_, .i32⟩
  | .hbm, ⟨48, _⟩ => ⟨S128x1x1, .i32⟩
  | .hbm, ⟨49, _⟩ => ⟨S128x1x1, .i32⟩
  | .hbm, ⟨50, _⟩ => ⟨S_, .i32⟩
  | .hbm, ⟨51, _⟩ => ⟨S128x1x1, .i32⟩
  | .hbm, ⟨52, _⟩ => ⟨S128x1x1, .i32⟩
  | .hbm, ⟨53, _⟩ => ⟨S1x1x256, .i32⟩
  | .hbm, ⟨54, _⟩ => ⟨S128x1x256, .i32⟩
  | .hbm, ⟨55, _⟩ => ⟨S128x1x256, .i32⟩
  | .hbm, ⟨56, _⟩ => ⟨S128x1x256, .i32⟩
  | .hbm, ⟨57, _⟩ => ⟨S_, .i32⟩
  | .hbm, ⟨58, _⟩ => ⟨S128x1x256, .i32⟩
  | .hbm, ⟨59, _⟩ => ⟨S128x1x256, .i1⟩
  | .hbm, ⟨60, _⟩ => ⟨S1x128x256, .i1⟩
  | .hbm, ⟨61, _⟩ => ⟨S128x128x256, .i1⟩
  | .hbm, ⟨62, _⟩ => ⟨S128x128x256, .i1⟩
  | .hbm, ⟨63, _⟩ => ⟨S128x128x256, .i1⟩
  | .hbm, ⟨64, _⟩ => ⟨S4x4x128x256, .f32⟩
  | .hbm, ⟨65, _⟩ => ⟨S128x4x256x128x4, .f32⟩
  | .hbm, ⟨66, _⟩ => ⟨S128x4x4x128x256, .f32⟩
  | .hbm, ⟨67, _⟩ => ⟨S_, .f32⟩
  | .hbm, ⟨68, _⟩ => ⟨S128x4x4x128x256, .f32⟩
  | .hbm, ⟨69, _⟩ => ⟨S128x4x4x128x256, .f32⟩
  | .hbm, ⟨70, _⟩ => ⟨S1x4x4x128x256, .f32⟩
  | .hbm, ⟨71, _⟩ => ⟨S128x4x4x128x256, .f32⟩
  | .hbm, ⟨72, _⟩ => ⟨S128x4x4x128x256, .f32⟩
  | .hbm, ⟨73, _⟩ => ⟨S128x1x1x128x256, .i1⟩
  | .hbm, ⟨74, _⟩ => ⟨S_, .f32⟩
  | .hbm, ⟨75, _⟩ => ⟨S_, .f32⟩
  | .hbm, ⟨76, _⟩ => ⟨S128x4x4x128x256, .i1⟩
  | .hbm, ⟨77, _⟩ => ⟨S128x4x4x128x256, .f32⟩
  | .hbm, ⟨78, _⟩ => ⟨S128x4x4x128x256, .f32⟩
  | .hbm, ⟨79, _⟩ => ⟨S4x4, .f32⟩
  | .hbm, ⟨80, _⟩ => ⟨S4x4x1, .f32⟩
  | .hbm, ⟨81, _⟩ => ⟨S_, .f32⟩
  | .hbm, ⟨82, _⟩ => ⟨S128x4x4x128, .f32⟩
  | .hbm, ⟨83, _⟩ => ⟨S1x4x4x1, .f32⟩
  | .hbm, ⟨84, _⟩ => ⟨S128x4x4x128, .f32⟩
  | .hbm, ⟨85, _⟩ => ⟨S128x4x4x128, .f32⟩
  | .hbm, ⟨86, _⟩ => ⟨S128x4x4x128x1, .f32⟩
  | .hbm, ⟨87, _⟩ => ⟨S128x4x4x128x256, .f32⟩
  | .hbm, ⟨88, _⟩ => ⟨S128x4x4x128x256, .f32⟩
  | .hbm, ⟨89, _⟩ => ⟨S128x4x4x128x256, .f32⟩
  | .hbm, ⟨90, _⟩ => ⟨S_, .f32⟩
  | .hbm, ⟨91, _⟩ => ⟨S128x4x4x128, .f32⟩
  | .hbm, ⟨92, _⟩ => ⟨S1x4x4x1, .f32⟩
  | .hbm, ⟨93, _⟩ => ⟨S128x4x4x128, .f32⟩
  | .hbm, ⟨94, _⟩ => ⟨S128x4x4x128, .f32⟩
  | .hbm, ⟨95, _⟩ => ⟨S128x4x4x128, .f32⟩
  | .hbm, ⟨96, _⟩ => ⟨S128x4x4x128, .f32⟩
  | .hbm, ⟨97, _⟩ => ⟨S128x4x4x128x1, .f32⟩
  | .hbm, ⟨98, _⟩ => ⟨S128x4x4x128x256, .f32⟩
  | .hbm, ⟨99, _⟩ => ⟨S128x4x4x128x256, .f32⟩
  | .hbm, ⟨100, _⟩ => ⟨S128x4x64x4x128, .f32⟩
  | .hbm, ⟨101, _⟩ => ⟨S128x128x4x4x64, .f32⟩
  | .hbm, ⟨102, _⟩ => ⟨S16384x1024, .f32⟩
  | _, _ => ⟨S16384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_c : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_c_0 : Ref sig .tc := ⟨.hbm, 40, rfl⟩
abbrev main_v35 : Ref sig .tc := ⟨.hbm, 41, rfl⟩
abbrev main_v36 : Ref sig .tc := ⟨.hbm, 42, rfl⟩
abbrev main_c_1 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_c_2 : Ref sig .tc := ⟨.hbm, 47, rfl⟩
abbrev main_v40 : Ref sig .tc := ⟨.hbm, 48, rfl⟩
abbrev main_v41 : Ref sig .tc := ⟨.hbm, 49, rfl⟩
abbrev main_c_3 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_c_4 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_cst_5 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_cst_6 : Ref sig .tc := ⟨.hbm, 74, rfl⟩
abbrev main_call0_v0 : Ref sig .tc := ⟨.hbm, 75, rfl⟩
abbrev main_call0_v1 : Ref sig .tc := ⟨.hbm, 76, rfl⟩
abbrev main_call0_v2 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_7 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_8 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩

abbrev nD : Nat := 1
abbrev τ : Topo := Topo.v7x

variable {F : FTy → Type} [FloatOps F]
-- ==== Proof.LinValue.lean ====
/- The first input projection: after the run the kernel's result array is the reference's term, entry by entry. -/
module

public import proofs.«01_k».proof.Proof.Gen.LinIdeal.Value
public import proofs.«01_k».proof.Proof.Gen.LinRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.LinIdeal.Value

open Cert.LinIdeal Cert.LinIdeal.Gen Idealize.ShloMosaic Idealize.ShloMosaic.TcCoe Idealize.SL.Sem
open Idealize.ShloMosaic.Pipeline (Dat)

variable (m : (ℓ : Loc nD τ sig) → Buf (Elt Ideal) ℓ)

/-- Which block each window reads or writes at grid point `t`. -/
theorem idx : ∀ t : Fin cfg0.N, win0_0.index t = ![t.val / 8, 0] ∧ win0_1.index t = ![0, t.val % 8]
    ∧ win0_2.index t = ![0, t.val % 8] ∧ win0_3.index t = ![t.val / 8, t.val % 8] ∧ t.val / 8 < 32 :=
  (by decide +kernel : ∀ t : Fin grid0.N, _)

/-- Flattening the two token axes of the prompt. -/
theorem flat_at (X : FVec Ideal S8x2048x1024 .f32) (r : Fin 16384) (k : Fin 1024) :
    shapeCast S16384x1024 X shapeCasts_S8x2048x1024_S16384x1024 (ix2 r k)
      = X (ix3 ⟨r.val / 2048, by omega⟩ ⟨r.val % 2048, by omega⟩ k) := by
  pointwise

/-- The first 4096 columns of the projection's weights. -/
theorem cols_at (W : FVec Ideal S1x1024x4104 .f32) (k : Fin 1024) (n : Fin 4096) :
    truncf (F := Ideal) .bf16 (extractStridedSlice S1024x4096 ![0, 0] (shapeCast S1024x4104 W
      shapeCasts_S1x1024x4104_S1024x4104) slices_S1024x4104_S1024x4096_0_0) bitsLt_bf16_f32 (ix2 k n)
      = W (ix3 0 k ⟨n.val, by omega⟩) := by
  pointwise

/-- The first 4096 entries of the projection's bias, as a row. -/
theorem row_at (B : FVec Ideal S1x4104 .f32) (n : Fin 4096) :
    shapeCast S1x4096 (extractStridedSlice S4096 ![0] (shapeCast S4104 B shapeCasts_S1x4104_S4104) slices_S4104_S4096_0)
      shapeCasts_S4096_S1x4096 (ix2 0 n) = B (ix2 0 ⟨n.val, by omega⟩) := by
  pointwise

/-- What the prompt's window is cut from: the prompt with its two token axes flattened. -/
theorem entry0 (c : Dev nD) (r : Fin 16384) (k : Fin 1024) : V m c main_v0 (ix2 r k)
    = m ((c : Thread nD τ).loc main_arg0) (ix3 ⟨r.val / 2048, by omega⟩ ⟨r.val % 2048, by omega⟩ k) := by
  have h : V m c main_v0 = shapeCast S16384x1024 (m ((c : Thread nD τ).loc main_arg0)) shapeCasts_S8x2048x1024_S16384x1024 := by
    unfold V; after_results <;> rfl
  rw [h]
  exact flat_at _ r k

/-- What the weights' window is cut from: the first 4096 columns of the projection's weights. -/
theorem entry1 (c : Dev nD) (k : Fin 1024) (n : Fin 4096) : V m c main_v4 (ix2 k n)
    = m ((c : Thread nD τ).loc main_arg1) (ix3 0 k ⟨n.val, by omega⟩) := by
  have h : V m c main_v4 = truncf (F := Ideal) .bf16 (extractStridedSlice S1024x4096 ![0, 0] (shapeCast S1024x4104 (m ((c : Thread nD τ).loc main_arg1))
      shapeCasts_S1x1024x4104_S1024x4104) slices_S1024x4104_S1024x4096_0_0) bitsLt_bf16_f32 := by
    unfold V; after_results <;> rfl
  rw [h]
  exact cols_at _ k n

/-- What the bias' window is cut from: the first 4096 entries of the projection's bias. -/
theorem entry2 (c : Dev nD) (n : Fin 4096) : V m c main_v6 (ix2 0 n)
    = m ((c : Thread nD τ).loc main_arg2) (ix2 0 ⟨n.val, by omega⟩) := by
  have h : V m c main_v6 = shapeCast S1x4096 (extractStridedSlice S4096 ![0] (shapeCast S4104 (m ((c : Thread nD τ).loc main_arg2))
      shapeCasts_S1x4104_S4104) slices_S4104_S4096_0) shapeCasts_S4096_S1x4096 := by
    unfold V; after_results <;> rfl
  rw [h]
  exact row_at _ n

/-- The prompt's block at a grid point, from the kernel's own argument. -/
theorem blk0 (c : Dev nD) (t : Fin cfg0.N) (i : Fin 512) (k : Fin 1024) : iblk m c 0 t (ix2 i k)
    = m ((c : Thread nD τ).loc main_arg0)
        (ix3 ⟨(t.val / 8 * 512 + i.val) / 2048, by have := (idx t).2.2.2.2; omega⟩ ⟨(t.val / 8 * 512 + i.val) % 2048, by omega⟩ k) := by
  refine Eq.trans ?_ (entry0 m c ⟨t.val / 8 * 512 + i.val, by have := (idx t).2.2.2.2; omega⟩ k)
  blk_ext [iblk, idx t]

/-- The weights' block at a grid point. -/
theorem blk1 (c : Dev nD) (t : Fin cfg0.N) (k : Fin 1024) (j : Fin 512) : iblk m c 1 t (ix2 k j)
    = m ((c : Thread nD τ).loc main_arg1) (ix3 0 k ⟨t.val % 8 * 512 + j.val, by omega⟩) := by
  refine Eq.trans ?_ (entry1 m c k ⟨t.val % 8 * 512 + j.val, by omega⟩)
  blk_ext [iblk, idx t]

/-- The bias' block at a grid point. -/
theorem blk2 (c : Dev nD) (t : Fin cfg0.N) (j : Fin 512) : iblk m c 2 t (ix2 0 j)
    = m ((c : Thread nD τ).loc main_arg2) (ix2 0 ⟨t.val % 8 * 512 + j.val, by omega⟩) := by
  refine Eq.trans ?_ (entry2 m c ⟨t.val % 8 * 512 + j.val, by omega⟩)
  blk_ext [iblk, idx t]

/-- At every grid point the body's entry is the reference's at the place it is written to. -/
theorem point (c : Dev nD) (t : Fin cfg0.N) (y : S512x512.Idx) :
    k0_pay1 (F := Ideal) (iblk m c 0 t) (iblk m c 1 t) (iblk m c 2 t) y
      = Cert.LinRefIdeal.Read.val_main_v7 (F := Ideal) (m ((c : Thread nD τ).loc main_arg0)) (m ((c : Thread nD τ).loc main_arg1))
          (m ((c : Thread nD τ).loc main_arg2)) (((cfg0.win 3).blk t).view.emb y) := by
  pointwise [k0_pay1, Cert.LinRefIdeal.Read.val_main_v7, Cert.LinRefIdeal.Read.val_main_v6, Cert.LinRefIdeal.Read.val_main_v5,
    Cert.LinRefIdeal.Read.val_main_v4, Cert.LinRefIdeal.Read.val_main_v3, Cert.LinRefIdeal.Read.val_main_v2,
    Cert.LinRefIdeal.Read.val_main_v1, Cert.LinRefIdeal.Read.val_main_v0]
  refine congrArg₂ (· + ·) (Finset.sum_congr rfl fun k _ => congrArg₂ (· * ·) ((blk0 m c t (y 0) k).trans ?_) ((blk1 m c t k (y 1)).trans ?_))
    ((blk2 m c t (y 1)).trans ?_)
  all_goals blk_ext [idx t]

/-- The result array after the run. -/
theorem final (c : Dev nD) : (dats m 0 c).arrAt 3 cfg0.N
      = Cert.LinRefIdeal.Read.val_main_v7 (F := Ideal) (m ((c : Thread nD τ).loc main_arg0)) (m ((c : Thread nD τ).loc main_arg1))
          (m ((c : Thread nD τ).loc main_arg2)) := by
  refine (dats m 0 c).arrAt_eq_of_covers 3 _ (by decide +kernel) fun t _ y => ?_
  blk_simp
  rw [after0_3]; frame_out
  exact point m c t y

end Cert.LinIdeal.Value

end
-- ==== Proof.ConvValue.lean ====
/- The causal convolution with the per-head projections. -/
module

public import proofs.«01_k».proof.Proof.Gen.ConvIdeal.Value
public import proofs.«01_k».proof.Proof.Gen.ConvRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.ConvIdeal.Value

open Cert.ConvIdeal Cert.ConvIdeal.Gen Idealize.ShloMosaic Idealize.ShloMosaic.TcCoe Idealize.SL.Sem
open Idealize.ShloMosaic.Pipeline (Dat)

variable (m : (ℓ : Loc nD τ sig) → Buf (Elt Ideal) ℓ)

/-- Which block each window reads or writes at grid point `t`. -/
theorem idx : ∀ t : Fin cfg0.N, win0_0.index t = ![t.val / 4, t.val % 4] ∧ win0_1.index t = ![0, t.val % 4]
    ∧ win0_2.index t = ![0, t.val % 4] ∧ win0_3.index t = ![t.val % 4, 0, 0] ∧ win0_4.index t = ![t.val % 4, 0, 0]
    ∧ win0_5.index t = ![t.val % 4, 0, 0] ∧ win0_6.index t = ![t.val / 4, t.val % 4]
    ∧ win0_7.index t = ![t.val / 4, t.val % 4] ∧ win0_8.index t = ![t.val / 4, t.val % 4] ∧ t.val < 32 :=
  (by decide +kernel : ∀ t : Fin grid0.N, _)

/-- Row `r` of the padded block: eight rows of zeros come before the block's own rows. -/
def pad (X : FVec Ideal S2048x512 .f32) (r : ℕ) (j : Fin 512) : EReal :=
  if h : 8 ≤ r ∧ r < 2056 then X (ix2 ⟨r - 8, by omega⟩ j) else 0

/-- A load of 512 rows of the scratch from row `o` on reads the padded block. -/
theorem tap (X : FVec Ideal S2048x512 .f32) (o : ℕ) (inb : ∀ a, (![o, 0] : Fin S2056x512.rank → ℕ) a + (![512, 512] : Fin S2056x512.rank → ℕ) a ≤ S2056x512.size a) (i j : Fin 512) :
    ((View.whole cc0_scratch0).readCov (Val := Elt Ideal)
        [⟨Rect.unit ![8, 0] ![2048, 512] inb_S2056x512_S2048x512_8_0, k0_pay4 (F := Ideal) X⟩,
          ⟨Rect.unit ![0, 0] ![8, 512] inb_S2056x512_S8x512_0_0, k0_pay3 (F := Ideal)⟩]
        (Rect.unit (s := S2056x512) ![o, 0] ![512, 512] inb).toLoadRect) (ix2 i j) = pad X (o + i.val) j := by
  rw [View.readCov_eq_canon']
  have hb : o + 512 ≤ 2056 := inb 0
  have hi := i.isLt
  show View.canon _ _ = _
  have hcover : ∃ p ∈ ([⟨Rect.unit ![8, 0] ![2048, 512] inb_S2056x512_S2048x512_8_0, k0_pay4 (F := Ideal) X⟩,
          ⟨Rect.unit ![0, 0] ![8, 512] inb_S2056x512_S8x512_0_0, k0_pay3 (F := Ideal)⟩] : List (View.Piece (Elt Ideal) S2056x512 .f32)),
      (Rect.unit (s := S2056x512) ![o, 0] ![512, 512] inb).idx (ix2 i j) ∈ p.fst.set := by
    by_cases h : 8 ≤ o + i.val
    · refine ⟨_, List.mem_cons_self, (Rect.mem_set_unit (inb := inb_S2056x512_S2048x512_8_0)).2 ?_⟩
      simp [Fin.forall_fin_two]; omega
    · refine ⟨_, List.mem_cons_of_mem _ List.mem_cons_self, (Rect.mem_set_unit (inb := inb_S2056x512_S8x512_0_0)).2 ?_⟩
      simp [Fin.forall_fin_two]; omega
  canon_tiles x h using hcover
  · have e0 : o + i.val = 8 + (x 0).val := by simpa using h0
    have e1 : j.val = (x 1).val := by simpa using h1
    pointwise [k0_pay4, pad]
    rw [dif_pos (by omega)]
    blk_ext
  · have e0 : o + i.val = (x 0).val := by simpa using h0
    pointwise [k0_pay3, pad]
    rw [dif_neg (by omega)]

/-- 512 rows of the padded block, from row `o` on. -/
def rows (X : FVec Ideal S2048x512 .f32) (o : ℕ) : FVec Ideal S512x512 .f32 := fun x => pad X (o + (x 0).val) (x 1)

/-- … so that load is these rows. -/
theorem tap_rows (X : FVec Ideal S2048x512 .f32) (o : ℕ) (inb : ∀ a, (![o, 0] : Fin S2056x512.rank → ℕ) a + (![512, 512] : Fin S2056x512.rank → ℕ) a ≤ S2056x512.size a) :
    ((View.whole cc0_scratch0).readCov (Val := Elt Ideal)
        [⟨Rect.unit ![8, 0] ![2048, 512] inb_S2056x512_S2048x512_8_0, k0_pay4 (F := Ideal) X⟩,
          ⟨Rect.unit ![0, 0] ![8, 512] inb_S2056x512_S8x512_0_0, k0_pay3 (F := Ideal)⟩]
        (Rect.unit (s := S2056x512) ![o, 0] ![512, 512] inb).toLoadRect) = rows X o :=
  funext fun x => (congrArg _ (eq_ix2 x)).trans (tap X o inb (x 0) (x 1))

/-- The convolution at row `r` and column `j` of a block, before the activation, and after it. -/
def taps (X : FVec Ideal S2048x512 .f32) (W : FVec Ideal S4x512 .f32) (B : FVec Ideal S1x512 .f32) (r : ℕ) (j : Fin 512) : EReal :=
  B (ix2 0 j) + pad X (5 + r) j * W (ix2 0 j) + pad X (6 + r) j * W (ix2 1 j) + pad X (7 + r) j * W (ix2 2 j)
    + pad X (8 + r) j * W (ix2 3 j)

/-- … after the activation. -/
def act (X : FVec Ideal S2048x512 .f32) (W : FVec Ideal S4x512 .f32) (B : FVec Ideal S1x512 .f32) (r : ℕ) (j : Fin 512) : EReal :=
  taps X W B r j * Ideal.logistic (taps X W B r j)

section
open Cert.ConvRefIdeal.Read

variable (Xb : FVec Ideal S2048x512 .f32) (Wb : FVec Ideal S4x512 .f32) (Bb : FVec Ideal S1x512 .f32) (Qb : FVec Ideal S1x512x512 .bf16)
  (X : FVec Ideal S16384x4096 .f32) (W : FVec Ideal S1x4x2048 .f32) (B : FVec Ideal S1x2048 .f32) (Q : FVec Ideal S1x4x512x512 .f32)
  (b : Fin 8) (h : Fin 4)
  (hX : ∀ (i : Fin 2048) (j : Fin 512), Xb (ix2 i j) = X (ix2 ⟨b.val * 2048 + i.val, by omega⟩ ⟨h.val * 512 + j.val, by omega⟩))
  (hW : ∀ (w : Fin 4) (j : Fin 512), Wb (ix2 w j) = W (ix3 0 w ⟨h.val * 512 + j.val, by omega⟩))
  (hB : ∀ j : Fin 512, Bb (ix2 0 j) = B (ix2 0 ⟨h.val * 512 + j.val, by omega⟩))
  (hQ : ∀ k n : Fin 512, Qb (ix3 0 k n) = Q (ix4 0 h k n))

include hX in
/-- The reference's padded rows are the block's. -/
theorem ref_pad (r : Fin 2051) (j : Fin 512) : val_main_v8 (F := Ideal) X (ix3 b r ⟨h.val * 512 + j.val, by omega⟩)
    = pad Xb (5 + r.val) j := by
  pointwise [val_main_v8, val_main_v7, val_main_v6, val_main_v5, val_main_cst, pad, hX]
  by_cases h3 : r.val < 3
  · rw [dif_pos h3, dif_neg (by omega)]
  · rw [dif_neg h3, dif_pos (by omega)]
    blk_ext

include hX hW hB in
/-- The reference's convolution. -/
theorem ref_taps (l : Fin 2048) (j : Fin 512) : val_main_v40 (F := Ideal) X W B (ix3 b l ⟨h.val * 512 + j.val, by omega⟩)
    = taps Xb Wb Bb l.val j := by
  pointwise [val_main_v0, val_main_v1, val_main_v9, val_main_v10, val_main_v11, val_main_v12, val_main_v13, val_main_v14, val_main_cst_0,
    val_main_v15, val_main_v16, val_main_v17, val_main_v18, val_main_v19, val_main_v20, val_main_v21, val_main_v22, val_main_v23,
    val_main_v24, val_main_v25, val_main_v26, val_main_v27, val_main_v28, val_main_v29, val_main_v30, val_main_v31, val_main_v32,
    val_main_v33, val_main_v34, val_main_v35, val_main_v36, val_main_v37, val_main_v38, val_main_v39, val_main_v40, taps]
  have e := fun r => ref_pad Xb X b h hX r j
  simp only [e, hW, hB]
  simp only [← Nat.add_assoc, Nat.reduceAdd]
  rw [add_comm]
  simp only [add_assoc]

include hX hW hB in
/-- … after the activation. -/
theorem ref_act (l : Fin 2048) (j : Fin 512) : val_main_v41 (F := Ideal) X W B (ix3 b l ⟨h.val * 512 + j.val, by omega⟩)
    = act Xb Wb Bb l.val j := by
  rw [act, ← ref_taps Xb Wb Bb X W B b h hX hW hB l j]
  pointwise [val_main_v41, val_main_call0_v0, val_main_call0_v1, val_main_call0_v2, val_main_call0_v3, val_main_call0_v4,
    val_main_call0_v5, val_main_call0_cst, val_main_call0_cst_0, Ideal.logistic]

include hX hW hB hQ in
/-- The reference's queries. -/
theorem ref_q (l : Fin 2048) (n : Fin 512) (i : S16384x2048.Idx) (h0 : (i 0).val = b.val * 2048 + l.val) (h1 : (i 1).val = h.val * 512 + n.val) :
    ∑ k : Fin 512, act Xb Wb Bb l.val k * Qb (ix3 0 k n) = val_main_v53 (F := Ideal) X W B Q i := by
  pointwise [val_main_v53, val_main_v52, val_main_v45, val_main_v44, val_main_v42, val_main_v2]
  refine Finset.sum_congr rfl fun k _ => ?_
  rw [mul_comm, ← ref_act Xb Wb Bb X W B b h hX hW hB, hQ]
  refine congrArg₂ (· * ·) ?_ ?_ <;> blk_ext

include hX hW hB hQ in
/-- The reference's keys. -/
theorem ref_k (l : Fin 2048) (n : Fin 512) (i : S16384x2048.Idx) (h0 : (i 0).val = b.val * 2048 + l.val) (h1 : (i 1).val = h.val * 512 + n.val) :
    (∑ k : Fin 512, act Xb Wb Bb l.val k * Qb (ix3 0 k n)) * Ideal.ofBits .f32 0x3D3504F3#32 = val_main_v55 (F := Ideal) X W B Q i := by
  pointwise [val_main_v55, val_main_v54, val_main_v49, val_main_v48, val_main_cst_1, val_main_v47, val_main_v46, val_main_v42, val_main_v3]
  refine congrArg (· * _) (Finset.sum_congr rfl fun k _ => ?_)
  rw [mul_comm, ← ref_act Xb Wb Bb X W B b h hX hW hB, hQ]
  refine congrArg₂ (· * ·) ?_ ?_ <;> blk_ext

include hX hQ in
/-- The reference's values. -/
theorem ref_v (l : Fin 2048) (n : Fin 512) (i : S16384x2048.Idx) (h0 : (i 0).val = b.val * 2048 + l.val) (h1 : (i 1).val = h.val * 512 + n.val) :
    ∑ k : Fin 512, Xb (ix2 l k) * Qb (ix3 0 k n) = val_main_v57 (F := Ideal) X Q i := by
  pointwise [val_main_v57, val_main_v56, val_main_v51, val_main_v50, val_main_v43, val_main_v6, val_main_v5, val_main_v4]
  refine Finset.sum_congr rfl fun k _ => ?_
  rw [mul_comm, hX, hQ]
  refine congrArg₂ (· * ·) ?_ ?_ <;> blk_ext

end

/-! ## The host's part and the blocks -/

theorem cw_at (W : FVec Ideal S1x4x2048 .f32) (w : Fin 4) (j : Fin 2048) :
    shapeCast S4x2048 W shapeCasts_S1x4x2048_S4x2048 (ix2 w j) = W (ix3 0 w j) := by
  pointwise

theorem cb_at (B : FVec Ideal S1x2048 .f32) (j : Fin 2048) :
    shapeCast S1x2048 (shapeCast S2048 B shapeCasts_S1x2048_S2048) shapeCasts_S2048_S1x2048 (ix2 0 j) = B (ix2 0 j) := by
  pointwise

theorem wq_at (W : FVec Ideal S1x4x512x512 .f32) (h : Fin 4) (k n : Fin 512) :
    truncf (F := Ideal) .bf16 (shapeCast S4x512x512 W shapeCasts_S1x4x512x512_S4x512x512) bitsLt_bf16_f32 (ix3 h k n) = W (ix4 0 h k n) := by
  pointwise

/-- The convolution's weights as the call finds them. -/
theorem entry_cw (c : Dev nD) (w : Fin 4) (j : Fin 2048) : V m c main_v0 (ix2 w j)
    = m ((c : Thread nD τ).loc main_arg1) (ix3 0 w j) := by
  have h : V m c main_v0 = shapeCast S4x2048 (m ((c : Thread nD τ).loc main_arg1)) shapeCasts_S1x4x2048_S4x2048 := by
    unfold V; after_results <;> rfl
  rw [h]
  exact cw_at _ w j

/-- The convolution's bias as the call finds it. -/
theorem entry_cb (c : Dev nD) (j : Fin 2048) : V m c main_v2 (ix2 0 j) = m ((c : Thread nD τ).loc main_arg2) (ix2 0 j) := by
  have h : V m c main_v2 = shapeCast S1x2048 (shapeCast S2048 (m ((c : Thread nD τ).loc main_arg2)) shapeCasts_S1x2048_S2048)
      shapeCasts_S2048_S1x2048 := by
    unfold V; after_results <;> rfl
  rw [h]
  exact cb_at _ j

/-- The query projection's weights as the call finds them. -/
theorem entry_wq (c : Dev nD) (h : Fin 4) (k n : Fin 512) : V m c main_v4 (ix3 h k n)
    = m ((c : Thread nD τ).loc main_arg3) (ix4 0 h k n) := by
  have e : V m c main_v4 = truncf (F := Ideal) .bf16 (shapeCast S4x512x512 (m ((c : Thread nD τ).loc main_arg3))
      shapeCasts_S1x4x512x512_S4x512x512) bitsLt_bf16_f32 := by
    unfold V; after_results <;> rfl
  rw [e]
  exact wq_at _ h k n

/-- The key projection's weights as the call finds them. -/
theorem entry_wk (c : Dev nD) (h : Fin 4) (k n : Fin 512) : V m c main_v6 (ix3 h k n)
    = m ((c : Thread nD τ).loc main_arg4) (ix4 0 h k n) := by
  have e : V m c main_v6 = truncf (F := Ideal) .bf16 (shapeCast S4x512x512 (m ((c : Thread nD τ).loc main_arg4))
      shapeCasts_S1x4x512x512_S4x512x512) bitsLt_bf16_f32 := by
    unfold V; after_results <;> rfl
  rw [e]
  exact wq_at _ h k n

/-- The value projection's weights as the call finds them. -/
theorem entry_wv (c : Dev nD) (h : Fin 4) (k n : Fin 512) : V m c main_v8 (ix3 h k n)
    = m ((c : Thread nD τ).loc main_arg5) (ix4 0 h k n) := by
  have e : V m c main_v8 = truncf (F := Ideal) .bf16 (shapeCast S4x512x512 (m ((c : Thread nD τ).loc main_arg5))
      shapeCasts_S1x4x512x512_S4x512x512) bitsLt_bf16_f32 := by
    unfold V; after_results <;> rfl
  rw [e]
  exact wq_at _ h k n

/-- The batch a grid point works on. -/
def batch (t : Fin cfg0.N) : Fin 8 := ⟨t.val / 4, by have := (idx t).2.2.2.2.2.2.2.2.2; omega⟩

/-- The head a grid point works on. -/
def head (t : Fin cfg0.N) : Fin 4 := ⟨t.val % 4, by omega⟩

/-- The block of the tokens. -/
theorem blk_x (c : Dev nD) (t : Fin cfg0.N) (i : Fin 2048) (j : Fin 512) : iblk m c 0 t (ix2 i j)
    = m ((c : Thread nD τ).loc main_arg0) (ix2 ⟨(batch t).val * 2048 + i.val, by omega⟩ ⟨(head t).val * 512 + j.val, by omega⟩) := by
  refine Eq.trans ?_ (congrFun (V_main_arg0 m c) _); blk_ext [iblk, idx t, batch, head]

/-- The block of the convolution's weights. -/
theorem blk_cw (c : Dev nD) (t : Fin cfg0.N) (w : Fin 4) (j : Fin 512) : iblk m c 1 t (ix2 w j)
    = m ((c : Thread nD τ).loc main_arg1) (ix3 0 w ⟨(head t).val * 512 + j.val, by omega⟩) := by
  refine Eq.trans ?_ (entry_cw m c w _); blk_ext [iblk, idx t, head]

/-- The block of the convolution's bias. -/
theorem blk_cb (c : Dev nD) (t : Fin cfg0.N) (j : Fin 512) : iblk m c 2 t (ix2 0 j)
    = m ((c : Thread nD τ).loc main_arg2) (ix2 0 ⟨(head t).val * 512 + j.val, by omega⟩) := by
  refine Eq.trans ?_ (entry_cb m c _); blk_ext [iblk, idx t, head]

/-- The block of the query projection's weights. -/
theorem blk_wq (c : Dev nD) (t : Fin cfg0.N) (k n : Fin 512) : iblk m c 3 t (ix3 0 k n)
    = m ((c : Thread nD τ).loc main_arg3) (ix4 0 (head t) k n) := by
  refine Eq.trans ?_ (entry_wq m c (head t) k n); blk_ext [iblk, idx t, head]

/-- The block of the key projection's weights. -/
theorem blk_wk (c : Dev nD) (t : Fin cfg0.N) (k n : Fin 512) : iblk m c 4 t (ix3 0 k n)
    = m ((c : Thread nD τ).loc main_arg4) (ix4 0 (head t) k n) := by
  refine Eq.trans ?_ (entry_wk m c (head t) k n); blk_ext [iblk, idx t, head]

/-- The block of the value projection's weights. -/
theorem blk_wv (c : Dev nD) (t : Fin cfg0.N) (k n : Fin 512) : iblk m c 5 t (ix3 0 k n)
    = m ((c : Thread nD τ).loc main_arg5) (ix4 0 (head t) k n) := by
  refine Eq.trans ?_ (entry_wv m c (head t) k n); blk_ext [iblk, idx t, head]

/-! ## The three results -/

/-- The queries after the run. -/
theorem final_q (c : Dev nD) : (dats m 0 c).arrAt 6 cfg0.N
      = Cert.ConvRefIdeal.Read.val_main_v53 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 6 _ (by decide +kernel) fun t _ y => ?_
  blk_simp
  rw [after0_6]; unfold outsAt0; frame_out
  refine Eq.trans (b := ∑ k : Fin 512, act (iblk m c 0 t) (iblk m c 1 t) (iblk m c 2 t) (y 0).val k
    * (show FVec Ideal S1x512x512 .bf16 from iblk m c 3 t) (ix3 0 k ⟨(y 1).val, (y 1).isLt⟩)) ?_ ?_
  · canon_tiles x h
    all_goals
      rw [tap_rows, tap_rows, tap_rows, tap_rows, show (⟨(y 1).val, (y 1).isLt⟩ : Fin 512) = x 1 from Fin.ext h1, h0]
      open_payloads
      pointwise [rows, act, taps] <;> simp only [← Nat.add_assoc, Nat.reduceAdd]
  · refine ref_q _ _ _ _ _ _ _ _ (batch t) (head t) (blk_x m c t) (blk_cw m c t) (blk_cb m c t) (blk_wq m c t) ⟨(y 0).val, (y 0).isLt⟩ _ _ ?_ ?_
    all_goals (blk_simp [idx t, batch, head] <;> try omega)

/-- The keys after the run. -/
theorem final_k (c : Dev nD) : (dats m 0 c).arrAt 7 cfg0.N
      = Cert.ConvRefIdeal.Read.val_main_v55 (F := Ideal) (m ((c : Thread nD τ).loc main_arg0)) (m ((c : Thread nD τ).loc main_arg1))
          (m ((c : Thread nD τ).loc main_arg2)) (m ((c : Thread nD τ).loc main_arg4)) := by
  refine (dats m 0 c).arrAt_eq_of_covers 7 _ (by decide +kernel) fun t _ y => ?_
  blk_simp
  rw [after0_7]; unfold outsAt0; frame_out
  refine Eq.trans (b := (∑ k : Fin 512, act (iblk m c 0 t) (iblk m c 1 t) (iblk m c 2 t) (y 0).val k
    * (show FVec Ideal S1x512x512 .bf16 from iblk m c 4 t) (ix3 0 k ⟨(y 1).val, (y 1).isLt⟩)) * Ideal.ofBits .f32 0x3D3504F3#32) ?_ ?_
  · canon_tiles x h
    all_goals
      rw [tap_rows, tap_rows, tap_rows, tap_rows, show (⟨(y 1).val, (y 1).isLt⟩ : Fin 512) = x 1 from Fin.ext h1, h0]
      open_payloads
      pointwise [rows, act, taps] <;> simp only [← Nat.add_assoc, Nat.reduceAdd]
  · refine ref_k _ _ _ _ _ _ _ _ (batch t) (head t) (blk_x m c t) (blk_cw m c t) (blk_cb m c t) (blk_wk m c t) ⟨(y 0).val, (y 0).isLt⟩ _ _ ?_ ?_
    all_goals (blk_simp [idx t, batch, head] <;> try omega)

/-- The values after the run. -/
theorem final_v (c : Dev nD) : (dats m 0 c).arrAt 8 cfg0.N
      = Cert.ConvRefIdeal.Read.val_main_v57 (F := Ideal) (m ((c : Thread nD τ).loc main_arg0)) (m ((c : Thread nD τ).loc main_arg5)) := by
  refine (dats m 0 c).arrAt_eq_of_covers 8 _ (by decide +kernel) fun t _ y => ?_
  blk_simp
  rw [after0_8]; unfold outsAt0; frame_out
  refine Eq.trans (b := ∑ k : Fin 512, (show FVec Ideal S2048x512 .f32 from iblk m c 0 t) (ix2 ⟨(y 0).val, (y 0).isLt⟩ k)
    * (show FVec Ideal S1x512x512 .bf16 from iblk m c 5 t) (ix3 0 k ⟨(y 1).val, (y 1).isLt⟩)) ?_ ?_
  · canon_tiles x h
    all_goals
      rw [show (⟨(y 1).val, (y 1).isLt⟩ : Fin 512) = x 1 from Fin.ext h1]
      open_payloads
      pointwise
      refine Fin.sum_fin_congr fun k => congrArg (· * _) (congrArg _ ?_)
      exact congrArg (ix2 · k) (Fin.ext h0.symm)
  · refine ref_v _ _ _ _ (batch t) (head t) (blk_x m c t) (blk_wv m c t) ⟨(y 0).val, (y 0).isLt⟩ _ _ ?_ ?_
    all_goals (blk_simp [idx t, batch, head] <;> try omega)

end Cert.ConvIdeal.Value
-- ==== Proof.OutValue.lean ====
/- The gated output projection with the residual and the norm: after the run the kernel's result array is the
   reference's term, entry by entry. -/
module

public import proofs.«01_k».proof.Proof.Gen.OutIdeal.Value
public import proofs.«01_k».proof.Proof.Gen.OutRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.OutIdeal.Value

open Cert.OutIdeal Cert.OutIdeal.Gen Idealize.ShloMosaic Idealize.ShloMosaic.TcCoe Idealize.SL.Sem
open Idealize.ShloMosaic.Pipeline (Dat)

variable (m : (ℓ : Loc nD τ sig) → Buf (Elt Ideal) ℓ)

/-- Which block each window reads or writes at grid point `t`. -/
theorem idx : ∀ t : Fin cfg0.N, win0_0.index t = ![t.val, 0] ∧ win0_1.index t = ![t.val, 1] ∧ win0_2.index t = ![0, 0]
    ∧ win0_3.index t = ![t.val, 0] ∧ win0_4.index t = ![0, 0] ∧ win0_5.index t = ![0, 0] ∧ win0_6.index t = ![t.val, 0]
    ∧ t.val < 64 :=
  (by decide +kernel : ∀ t : Fin grid0.N, _)

/-- Flattening the two token axes. -/
theorem flat_at (X : FVec Ideal S8x2048x1024 .f32) (r : Fin 16384) (k : Fin 1024) :
    shapeCast S16384x1024 X shapeCasts_S8x2048x1024_S16384x1024 (ix2 r k)
      = X (ix3 ⟨r.val / 2048, by omega⟩ ⟨r.val % 2048, by omega⟩ k) := by
  pointwise

/-- The output projection's weights without their layer axis. -/
theorem weight_at (W : FVec Ideal S1x2048x1024 .f32) (k : Fin 2048) (n : Fin 1024) :
    truncf (F := Ideal) .bf16 (shapeCast S2048x1024 W shapeCasts_S1x2048x1024_S2048x1024) bitsLt_bf16_f32 (ix2 k n)
      = W (ix3 0 k n) := by
  pointwise

/-- The first layer's row of a table of two. -/
theorem first_at (G : FVec Ideal S2x1024 .f32) (n : Fin 1024) :
    shapeCast S1x1024 (shapeCast S1024 (extractStridedSlice S1x1024 ![0, 0] G slices_S2x1024_S1x1024_0_0) shapeCasts_S1x1024_S1024)
      shapeCasts_S1024_S1x1024 (ix2 0 n) = G (ix2 0 n) := by
  pointwise

/-- The weights as the call finds them. -/
theorem entry_w (c : Dev nD) (k : Fin 2048) (n : Fin 1024) : V m c main_v1 (ix2 k n)
    = m ((c : Thread nD τ).loc main_arg2) (ix3 0 k n) := by
  have h : V m c main_v1 = truncf (F := Ideal) .bf16 (shapeCast S2048x1024 (m ((c : Thread nD τ).loc main_arg2))
      shapeCasts_S1x2048x1024_S2048x1024) bitsLt_bf16_f32 := by
    unfold V; after_results <;> rfl
  rw [h]
  exact weight_at _ k n

/-- The residual as the call finds it. -/
theorem entry_x (c : Dev nD) (r : Fin 16384) (k : Fin 1024) : V m c main_v2 (ix2 r k)
    = m ((c : Thread nD τ).loc main_arg3) (ix3 ⟨r.val / 2048, by omega⟩ ⟨r.val % 2048, by omega⟩ k) := by
  have h : V m c main_v2 = shapeCast S16384x1024 (m ((c : Thread nD τ).loc main_arg3)) shapeCasts_S8x2048x1024_S16384x1024 := by
    unfold V; after_results <;> rfl
  rw [h]
  exact flat_at _ r k

/-- The norm's scale as the call finds it. -/
theorem entry_g (c : Dev nD) (n : Fin 1024) : V m c main_v5 (ix2 0 n) = m ((c : Thread nD τ).loc main_arg4) (ix2 0 n) := by
  have h : V m c main_v5 = shapeCast S1x1024 (shapeCast S1024 (extractStridedSlice S1x1024 ![0, 0] (m ((c : Thread nD τ).loc main_arg4))
      slices_S2x1024_S1x1024_0_0) shapeCasts_S1x1024_S1024) shapeCasts_S1024_S1x1024 := by
    unfold V; after_results <;> rfl
  rw [h]
  exact first_at _ n

/-- The norm's offset as the call finds it. -/
theorem entry_b (c : Dev nD) (n : Fin 1024) : V m c main_v8 (ix2 0 n) = m ((c : Thread nD τ).loc main_arg5) (ix2 0 n) := by
  have h : V m c main_v8 = shapeCast S1x1024 (shapeCast S1024 (extractStridedSlice S1x1024 ![0, 0] (m ((c : Thread nD τ).loc main_arg5))
      slices_S2x1024_S1x1024_0_0) shapeCasts_S1x1024_S1024) shapeCasts_S1024_S1x1024 := by
    unfold V; after_results <;> rfl
  rw [h]
  exact first_at _ n

/-- The kernel's row of a block is the reference's row, when the blocks hold the reference's arguments at that row. -/
theorem core (o h : FVec Ideal S256x2048 .f32) (w : FVec Ideal S2048x1024 .bf16) (x : FVec Ideal S256x1024 .f32)
    (g b : FVec Ideal S1x1024 .f32) (H : FVec Ideal S16384x2048 .f32) (P : FVec Ideal S16384x4096 .f32)
    (W : FVec Ideal S1x2048x1024 .f32) (X : FVec Ideal S8x2048x1024 .f32) (G B : FVec Ideal S2x1024 .f32)
    (i : Fin 256) (r : Fin 16384) (n : Fin 1024)
    (ho : ∀ k : Fin 2048, o (ix2 i k) = P (ix2 r ⟨2048 + k.val, by omega⟩))
    (hh : ∀ k : Fin 2048, h (ix2 i k) = H (ix2 r k))
    (hw : ∀ (k : Fin 2048) (n : Fin 1024), w (ix2 k n) = W (ix3 0 k n))
    (hx : ∀ n : Fin 1024, x (ix2 i n) = X (ix3 ⟨r.val / 2048, by omega⟩ ⟨r.val % 2048, by omega⟩ n))
    (hg : ∀ n : Fin 1024, g (ix2 0 n) = G (ix2 0 n)) (hb : ∀ n : Fin 1024, b (ix2 0 n) = B (ix2 0 n)) :
    k0_pay1 (F := Ideal) o h w x g b (ix2 i n) = Cert.OutRefIdeal.Read.val_main_v42 (F := Ideal) H P W X G B (ix2 r n) := by
  pointwise [k0_pay1, Cert.OutRefIdeal.Read.val_main_v0, Cert.OutRefIdeal.Read.val_main_v1, Cert.OutRefIdeal.Read.val_main_v2, Cert.OutRefIdeal.Read.val_main_v3, Cert.OutRefIdeal.Read.val_main_v4, Cert.OutRefIdeal.Read.val_main_v5, Cert.OutRefIdeal.Read.val_main_v6, Cert.OutRefIdeal.Read.val_main_v7, Cert.OutRefIdeal.Read.val_main_v8, Cert.OutRefIdeal.Read.val_main_v9, Cert.OutRefIdeal.Read.val_main_v10, Cert.OutRefIdeal.Read.val_main_v11, Cert.OutRefIdeal.Read.val_main_v12, Cert.OutRefIdeal.Read.val_main_v13, Cert.OutRefIdeal.Read.val_main_v14, Cert.OutRefIdeal.Read.val_main_v15, Cert.OutRefIdeal.Read.val_main_v16, Cert.OutRefIdeal.Read.val_main_v17, Cert.OutRefIdeal.Read.val_main_v18, Cert.OutRefIdeal.Read.val_main_v19, Cert.OutRefIdeal.Read.val_main_v20, Cert.OutRefIdeal.Read.val_main_v21, Cert.OutRefIdeal.Read.val_main_v22, Cert.OutRefIdeal.Read.val_main_v23, Cert.OutRefIdeal.Read.val_main_v24, Cert.OutRefIdeal.Read.val_main_v25, Cert.OutRefIdeal.Read.val_main_v26, Cert.OutRefIdeal.Read.val_main_v27, Cert.OutRefIdeal.Read.val_main_v28, Cert.OutRefIdeal.Read.val_main_v29, Cert.OutRefIdeal.Read.val_main_v30, Cert.OutRefIdeal.Read.val_main_v31, Cert.OutRefIdeal.Read.val_main_v32, Cert.OutRefIdeal.Read.val_main_v33, Cert.OutRefIdeal.Read.val_main_v34, Cert.OutRefIdeal.Read.val_main_v35, Cert.OutRefIdeal.Read.val_main_v36, Cert.OutRefIdeal.Read.val_main_v37, Cert.OutRefIdeal.Read.val_main_v38, Cert.OutRefIdeal.Read.val_main_v39, Cert.OutRefIdeal.Read.val_main_v40, Cert.OutRefIdeal.Read.val_main_v41, Cert.OutRefIdeal.Read.val_main_v42, Cert.OutRefIdeal.Read.val_main_cst, Cert.OutRefIdeal.Read.val_main_cst_0, Cert.OutRefIdeal.Read.val_main_cst_1, Cert.OutRefIdeal.Read.val_main_cst_2, Cert.OutRefIdeal.Read.val_main_cst_3, Cert.OutRefIdeal.Read.val_main_cst_4, Cert.OutRefIdeal.Read.val_main_cst_5, Cert.OutRefIdeal.Read.val_main_cst_6]
  simp only [ho, hh, hw, hx, hg, hb, Ideal.logistic]

/-- At every grid point the body's entry is the reference's at the place it is written to. -/
theorem point (c : Dev nD) (t : Fin cfg0.N) (i : Fin 256) (n : Fin 1024) (r : Fin 16384) (hr : r.val = t.val * 256 + i.val) :
    k0_pay1 (F := Ideal) (iblk m c 1 t) (iblk m c 0 t) (iblk m c 2 t) (iblk m c 3 t) (iblk m c 4 t) (iblk m c 5 t) (ix2 i n)
      = Cert.OutRefIdeal.Read.val_main_v42 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (ix2 r n) := by
  refine core _ _ _ _ _ _ _ _ _ _ _ _ i r n (fun k => ?_) (fun k => ?_) (fun k n => ?_) (fun n => ?_) (fun n => ?_) (fun n => ?_)
  · refine Eq.trans ?_ (congrFun (V_main_arg1 m c) _); blk_ext [iblk, idx t]
  · refine Eq.trans ?_ (congrFun (V_main_arg0 m c) _); blk_ext [iblk, idx t]
  · refine Eq.trans ?_ (entry_w m c k n); blk_ext [iblk, idx t]
  · refine Eq.trans ?_ (entry_x m c r n); blk_ext [iblk, idx t]
  · refine Eq.trans ?_ (entry_g m c n); blk_ext [iblk, idx t]
  · refine Eq.trans ?_ (entry_b m c n); blk_ext [iblk, idx t]

/-- The result array after the run. -/
theorem final (c : Dev nD) : (dats m 0 c).arrAt 6 cfg0.N
      = Cert.OutRefIdeal.Read.val_main_v42 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  refine (dats m 0 c).arrAt_eq_of_covers 6 _ (by decide +kernel) fun t _ y => ?_
  blk_simp
  rw [after0_6]; frame_out
  have h1 := (idx t).2.2.2.2.2.2.2
  have hy : (y 0 : ℕ) < 256 := (y 0).isLt
  refine Eq.trans (congrArg _ (eq_ix2 y)) ((point m c t (y 0) (y 1) ⟨t.val * 256 + (y 0).val, by omega⟩ rfl).trans (congrArg _ ?_))
  blk_ext [idx t]

end Cert.OutIdeal.Value

end
-- ==== Proof.Attend.lean ====
/- One row of an attention with a sink: the scores of 256 keys behind a mask, the largest of them and the sink, the
   sum of the exponentials, and the weighted values. -/
module

public import Idealize.ShloMosaic.Lib.Pointwise

@[expose] public section

set_option maxRecDepth 16384

noncomputable section

namespace Cert.Attend

open Idealize.ShloMosaic

/-- A score behind its mask: the scaled product of a query and a key plus the bias where the mask lets it through, minus
    infinity elsewhere. -/
def score (q : Fin 64 → EReal) (kk : Fin 256 → Fin 64 → EReal) (b : Fin 256 → EReal) (w : Fin 256 → BitVec 1)
    (s : Fin 256) : EReal :=
  Scalar.select (w s) ((∑ x, q x * kk s x) * Ideal.ofBits .f32 0x3E000000#32 + b s) (Ideal.ofBits .f32 0xFF800000#32)

/-- The largest of the scores and the sink. -/
def top (S : Fin 256 → EReal) (k : EReal) : EReal :=
  max (Finset.fold max (Ideal.ofBits .f32 0xFF800000#32) S Finset.univ) k

/-- The sum of the scores' exponentials and the sink's. -/
def den (S : Fin 256 → EReal) (k : EReal) : EReal :=
  ∑ s, Ideal.exp (S s - top S k) + Ideal.exp (k - top S k)

/-- The constant written as minus infinity is minus infinity. -/
theorem bits_bot : Ideal.ofBits .f32 0xFF800000#32 = ⊥ := by
  simp [Ideal.ofBits, Ideal.ieee]

/-- The scale is a real number. -/
theorem bits_scale : ∃ r : ℝ, Ideal.ofBits .f32 0x3E000000#32 = r := by
  simp [Ideal.ofBits, Ideal.ieee, -EReal.coe_mul]

/-- An exponential is not negative. -/
theorem exp_nonneg (x : EReal) : 0 ≤ Ideal.exp x := by
  induction x with
  | bot => exact le_refl (0 : EReal)
  | top => exact (le_top : (0 : EReal) ≤ ⊤)
  | coe r => exact EReal.coe_nonneg.2 (Real.exp_nonneg r)

/-- The largest is a real number when the sink is and no score is plus infinity. -/
theorem top_real (S : Fin 256 → EReal) (k : ℝ) (hS : ∀ s, S s ≠ ⊤) : ∃ r : ℝ, top S k = r := by
  have h1 : top S k ≠ ⊥ := by
    intro h
    have : (k : EReal) ≤ top S k := le_max_right _ _
    rw [h] at this
    exact EReal.coe_ne_bot k (le_bot_iff.1 this)
  have h2 : top S k < ⊤ := by
    unfold top
    refine max_lt ?_ (EReal.coe_lt_top k)
    rw [Finset.fold_max_lt]
    exact ⟨by rw [bits_bot]; exact bot_lt_top, fun s _ => lt_top_iff_ne_top.2 (hS s)⟩
  exact ⟨(top S k).toReal, (EReal.coe_toReal h2.ne h1).symm⟩

/-- The sum of the exponentials is not zero. -/
theorem den_ne (S : Fin 256 → EReal) (k : ℝ) (hS : ∀ s, S s ≠ ⊤) : den S k ≠ 0 := by
  obtain ⟨r, hr⟩ := top_real S k hS
  have h1 : 0 < Ideal.exp ((k : EReal) - top S k) := by
    rw [hr, ← EReal.coe_sub]
    exact EReal.coe_pos.2 (Real.exp_pos _)
  have h2 : 0 ≤ ∑ s, Ideal.exp (S s - top S k) := Finset.sum_nonneg fun s _ => exp_nonneg _
  exact (lt_of_lt_of_le h1 (le_add_of_nonneg_left h2)).ne'

/-- A finite sum of real numbers, read in the extended reals. -/
theorem coe_sum {ι : Type} (t : Finset ι) (f : ι → ℝ) : ∑ x ∈ t, (f x : EReal) = ((∑ x ∈ t, f x : ℝ) : EReal) := by
  classical
  induction t using Finset.induction_on with
  | empty => simp
  | insert a s ha ih => rw [Finset.sum_insert ha, Finset.sum_insert ha, ih, EReal.coe_add]

/-- A sum of products of real numbers is one. -/
theorem sum_real (q k : Fin 64 → EReal) (hq : ∀ x, ∃ r : ℝ, q x = r) (hk : ∀ x, ∃ r : ℝ, k x = r) :
    ∃ r : ℝ, ∑ x, q x * k x = r := by
  choose a ha using hq
  choose b hb using hk
  refine ⟨∑ x, a x * b x, ?_⟩
  rw [← coe_sum]
  exact Finset.sum_congr rfl fun x _ => by rw [ha, hb, EReal.coe_mul]

/-- A score is never plus infinity over real numbers. -/
theorem score_ne (q : Fin 64 → EReal) (kk : Fin 256 → Fin 64 → EReal) (b : Fin 256 → EReal) (w : Fin 256 → BitVec 1)
    (hq : ∀ x, ∃ r : ℝ, q x = r) (hk : ∀ s x, ∃ r : ℝ, kk s x = r) (hb : ∀ s, ∃ r : ℝ, b s = r) (s : Fin 256) :
    score q kk b w s ≠ ⊤ := by
  obtain ⟨a, ha⟩ := sum_real q (kk s) hq (hk s)
  obtain ⟨c, hc⟩ := bits_scale
  obtain ⟨d, hd⟩ := hb s
  unfold score
  rw [ha, hc, hd, bits_bot, ← EReal.coe_mul, ← EReal.coe_add]
  unfold Scalar.select
  split
  · exact EReal.coe_ne_top _
  · exact bot_ne_top

/-- The weighted values do not depend on the keys and values behind the mask. -/
theorem attend_eq (q : Fin 64 → EReal) (kk kk' : Fin 256 → Fin 64 → EReal) (b : Fin 256 → EReal) (w : Fin 256 → BitVec 1)
    (k : EReal) (v v' : Fin 256 → EReal)
    (hq : ∀ x, ∃ r : ℝ, q x = r) (hk : ∀ s x, ∃ r : ℝ, kk s x = r) (hb : ∀ s, ∃ r : ℝ, b s = r) (hs : ∃ r : ℝ, k = r)
    (hkk : ∀ s, w s = 1#1 → kk s = kk' s) (hv : ∀ s, w s = 1#1 → v s = v' s) :
    ∑ x, Ideal.div (Ideal.exp (score q kk b w x - top (score q kk b w) k)) (den (score q kk b w) k) * v x
      = ∑ x, v' x * Ideal.div (Ideal.exp (score q kk' b w x - top (score q kk' b w) k)) (den (score q kk' b w) k) := by
  have hS : score q kk' b w = score q kk b w := by
    funext s
    unfold score Scalar.select
    split
    · rename_i h; rw [hkk s h]
    · rfl
  rw [hS]
  obtain ⟨r, rfl⟩ := hs
  refine Finset.sum_congr rfl fun x _ => ?_
  rw [mul_comm]
  by_cases h : w x = 1#1
  · rw [hv x h]
  · have hx : score q kk b w x = ⊥ := by
      unfold score Scalar.select
      rw [bits_bot]; exact if_neg h
    have hz : Ideal.exp (⊥ - top (score q kk b w) r) = 0 := by
      rw [EReal.bot_sub]; rfl
    have hd : Ideal.div 0 (den (score q kk b w) r) = 0 := by
      unfold Ideal.div
      rw [if_neg (den_ne _ r (score_ne q kk b w hq hk hb)), zero_mul]
    rw [hx, hz, hd, mul_zero, mul_zero]

end Cert.Attend

end
-- ==== Proof.SwaRef.lean ====
/- The reference of the windowed attention, read entry by entry. -/
module

public import proofs.«01_k».proof.Proof.Gen.SwaRefIdeal.Read
public import proofs.«01_k».proof.Proof.Attend
public import Idealize.ShloMosaic.Lib.Pipeline.ValueKit
public import Idealize.ShloMosaic.Lib.Pointwise
public import Idealize.ShloMosaic.Lib.Claim

@[expose] public section

set_option maxRecDepth 16384

noncomputable section

namespace Cert.SwaRefIdeal.Read

open Cert.SwaRefIdeal Cert.SwaRefIdeal.Gen Idealize.ShloMosaic Idealize.ShloMosaic.TcCoe Idealize.SL.Sem

/-- Which keys a query sees: those of the window before it which the sequence has. -/
theorem ref_valid (n : Fin 128) (q : Fin 128) (s : Fin 256) :
    val_main_v53 (F := Ideal) (ix3 n q s) = IntOp.andi
      (IntOp.andi
        (IntOp.cmpi CmpIPredicate.sge (IntOp.subi (IntOp.addi (BitVec.ofNat 32 q.val) 128#32) (BitVec.ofNat 32 s.val)) 0#32)
        (IntOp.cmpi CmpIPredicate.slt (IntOp.subi (IntOp.addi (BitVec.ofNat 32 q.val) 128#32) (BitVec.ofNat 32 s.val))
          128#32))
      (IntOp.cmpi CmpIPredicate.sge
        (IntOp.addi (IntOp.subi (IntOp.muli (BitVec.ofNat 32 (n.val % 16)) 128#32) 128#32) (BitVec.ofNat 32 s.val)) 0#32) := by
  pointwise [val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_c, val_main_c_0, val_main_c_1, val_main_c_2, val_main_c_3, val_main_c_4]

/-- The scores of a query. -/
theorem ref_score (n : Fin 128) (kv g : Fin 4) (q : Fin 128) (s : Fin 256) (x0 : FVec Ideal S16384x1536 .f32)
    (x1 : FVec Ideal S16x128x256 .f32) :
    val_main_v63 (F := Ideal) x0 x1 (ix5 n kv g q s) = Attend.score (fun x => val_main_v7 (F := Ideal) x0 (ix5 n q kv g x))
      (fun s x => val_main_v14 (F := Ideal) x0 (ix4 n s kv x)) (fun s => x1 (ix3 ⟨kv.val * 4 + g.val, by omega⟩ q s))
      (fun s => val_main_v53 (F := Ideal) (ix3 n q s)) s := by
  pointwise [val_main_v54, val_main_v55, val_main_v56, val_main_v57, val_main_v58, val_main_v59, val_main_v60, val_main_v61, val_main_v62, val_main_v63, val_main_call0_v0, val_main_call0_v1, val_main_call0_v2, val_main_cst_5, val_main_cst_6]
  unfold Attend.score
  simp only [mul_comm (val_main_v14 (F := Ideal) x0 _)]
  rfl

/-- The maximum over the last of five axes. -/
theorem max_at (X : FVec Ideal S128x4x4x128x256 .f32) (C : FVec Ideal S_ .f32) (n : Fin 128) (kv g : Fin 4) (q : Fin 128) :
    Host.reduce (FloatOps.maximumf (F := Ideal) (φ := .f32)) X C reducesTo_S128x4x4x128x256_S128x4x4x128_d4 h_S_ (ix4 n kv g q)
      = Finset.fold max (C ix0) (fun x => X (ix5 n kv g q x)) Finset.univ := by
  rw [Ideal.maximumf_eq_max, Host.reduce_eq_fold_single max X C reducesTo_S128x4x4x128x256_S128x4x4x128_d4 (by decide) h_S_]
  have h1 : (Shape.Idx.first h_S_ : S_.Idx) = ix0 := by funext a; exact a.elim0
  rw [h1]
  refine congrArg (fun f => Finset.fold max (C ix0) f Finset.univ) (funext fun k => congrArg X (funext fun a => Fin.ext ?_))
  match a with
  | ⟨0, _⟩ => rfl
  | ⟨1, _⟩ => rfl
  | ⟨2, _⟩ => rfl
  | ⟨3, _⟩ => rfl
  | ⟨4, _⟩ => rfl

/-- The largest score or sink. -/
theorem ref_max (n : Fin 128) (kv g : Fin 4) (q : Fin 128) (x0 : FVec Ideal S16384x1536 .f32)
    (x1 : FVec Ideal S16x128x256 .f32) (x2 : FVec Ideal S1x16 .f32) :
    val_main_v69 (F := Ideal) x0 x1 x2 (ix4 n kv g q) = Attend.top (fun s => val_main_v63 (F := Ideal) x0 x1 (ix5 n kv g q s))
      (x2 (ix2 0 ⟨kv.val * 4 + g.val, by omega⟩)) := by
  have h : val_main_v66 (F := Ideal) x0 x1 (ix4 n kv g q)
      = Finset.fold max (Ideal.ofBits .f32 0xFF800000#32) (fun s => val_main_v63 (F := Ideal) x0 x1 (ix5 n kv g q s)) Finset.univ := by
    unfold val_main_v66
    generalize val_main_v63 (F := Ideal) x0 x1 = Y
    have hc : val_main_cst_7 (F := Ideal) ix0 = Ideal.ofBits .f32 0xFF800000#32 := rfl
    rw [← hc]
    generalize val_main_cst_7 (F := Ideal) = C
    exact max_at Y C n kv g q
  have h2 : val_main_v68 (F := Ideal) x2 (ix4 n kv g q) = x2 (ix2 0 ⟨kv.val * 4 + g.val, by omega⟩) := by
    pointwise [val_main_v68, val_main_v67, val_main_v65, val_main_v64]
  have h3 : val_main_v69 (F := Ideal) x0 x1 x2 (ix4 n kv g q)
      = max (val_main_v66 (F := Ideal) x0 x1 (ix4 n kv g q)) (val_main_v68 (F := Ideal) x2 (ix4 n kv g q)) := by
    rw [val_main_v69_apply, Ideal.maximumf_eq_max]
  rw [h3, h, h2, Attend.top]

/-- The sum of the exponentials. -/
theorem ref_den (n : Fin 128) (kv g : Fin 4) (q : Fin 128) (x0 : FVec Ideal S16384x1536 .f32)
    (x1 : FVec Ideal S16x128x256 .f32) (x2 : FVec Ideal S1x16 .f32) :
    val_main_v79 (F := Ideal) x0 x1 x2 (ix4 n kv g q) = Attend.den (fun s => val_main_v63 (F := Ideal) x0 x1 (ix5 n kv g q s))
      (x2 (ix2 0 ⟨kv.val * 4 + g.val, by omega⟩)) := by
  pointwise [val_main_v70, val_main_v71, val_main_v72, val_main_v73, val_main_v74, val_main_v75, val_main_v76, val_main_v77, val_main_v78, val_main_v79, val_main_v64, val_main_v65, val_main_cst_8]
  unfold Attend.den
  rw [ref_max]

/-- The reference's result: the values weighted by the scores' exponentials over their sum. -/
theorem ref_out (R : Fin 16384) (C : Fin 1024) (x0 : FVec Ideal S16384x1536 .f32)
    (x1 : FVec Ideal S16x128x256 .f32) (x2 : FVec Ideal S1x16 .f32)
    (n q : Fin 128) (kv g : Fin 4) (d : Fin 64) (hR : R.val = n.val * 128 + q.val) (hC : C.val = (kv.val * 4 + g.val) * 64 + d.val) :
    val_main_v85 (F := Ideal) x0 x1 x2 (ix2 R C) = ∑ x, val_main_v20 (F := Ideal) x0 (ix4 n x kv d) *
      Ideal.div (Ideal.exp (val_main_v63 (F := Ideal) x0 x1 (ix5 n kv g q x)
        - Attend.top (fun s => val_main_v63 (F := Ideal) x0 x1 (ix5 n kv g q s)) (x2 (ix2 0 ⟨kv.val * 4 + g.val, by omega⟩))))
        (Attend.den (fun s => val_main_v63 (F := Ideal) x0 x1 (ix5 n kv g q s)) (x2 (ix2 0 ⟨kv.val * 4 + g.val, by omega⟩))) := by
  have e (x : Fin 256) : val_main_v82 (F := Ideal) x0 x1 x2 (ix5 n kv g q x)
      = Ideal.div (Ideal.exp (val_main_v63 (F := Ideal) x0 x1 (ix5 n kv g q x) - val_main_v69 (F := Ideal) x0 x1 x2 (ix4 n kv g q)))
        (val_main_v79 (F := Ideal) x0 x1 x2 (ix4 n kv g q)) := by
    unfold val_main_v82 val_main_v81 val_main_v80 val_main_v73 val_main_v72 val_main_v71 val_main_v70
    generalize val_main_v63 (F := Ideal) x0 x1 = A
    generalize val_main_v69 (F := Ideal) x0 x1 x2 = B
    generalize val_main_v79 (F := Ideal) x0 x1 x2 = D
    pointwise []
  have e2 : val_main_v85 (F := Ideal) x0 x1 x2 (ix2 R C)
      = ∑ x, val_main_v20 (F := Ideal) x0 (ix4 n x kv d) * val_main_v82 (F := Ideal) x0 x1 x2 (ix5 n kv g q x) := by
    unfold val_main_v85 val_main_v84 val_main_v83
    generalize val_main_v20 (F := Ideal) x0 = A
    generalize val_main_v82 (F := Ideal) x0 x1 x2 = B
    pointwise []
    have h1 : (⟨R.val / 128, by omega⟩ : Fin 128) = n := Fin.ext (by show R.val / 128 = n.val; omega)
    have h2 : (⟨R.val % 128, by omega⟩ : Fin 128) = q := Fin.ext (by show R.val % 128 = q.val; omega)
    have h3 : (⟨C.val / 256, by omega⟩ : Fin 4) = kv := Fin.ext (by show C.val / 256 = kv.val; omega)
    have h4 : (⟨C.val / 64 % 4, by omega⟩ : Fin 4) = g := Fin.ext (by show C.val / 64 % 4 = g.val; omega)
    have h5 : (⟨C.val % 64, by omega⟩ : Fin 64) = d := Fin.ext (by show C.val % 64 = d.val; omega)
    rw [h1, h2, h3, h4, h5]
  rw [e2]
  refine Finset.sum_congr rfl fun x _ => ?_
  rw [e, ref_max, ref_den]

/-- The columns of the window's array. -/
theorem k_e4 (b : Fin 8) (kv : Fin 4) (d : Fin 64) (x0 : FVec Ideal S16384x1536 .f32) (p : Fin 2048) : val_main_v4 (F := Ideal) x0 (ix4 b p kv d)
    = x0 (ix2 ⟨b.val * 2048 + p.val, by omega⟩ ⟨1024 + (kv.val * 64 + d.val), by omega⟩) := by
  pointwise [val_main_v4, val_main_v3, val_main_v0]

/-- Behind the padding come the rows. -/
theorem k_e9 (b : Fin 8) (kv : Fin 4) (d : Fin 64) (x0 : FVec Ideal S16384x1536 .f32) (p : Fin 2176) (h : 128 ≤ p.val) : val_main_v9 (F := Ideal) x0 (ix4 b p kv d)
    = x0 (ix2 ⟨b.val * 2048 + (p.val - 128), by omega⟩ ⟨1024 + (kv.val * 64 + d.val), by omega⟩) := by
  rw [← k_e4 b kv d x0 ⟨p.val - 128, by omega⟩]
  unfold val_main_v9
  generalize val_main_v4 (F := Ideal) x0 = A
  generalize val_main_v8 (F := Ideal) = B
  pointwise []
  rw [dif_neg (by omega)]

/-- The padded rows in blocks of 128. -/
theorem k_e10 (b : Fin 8) (kv : Fin 4) (d : Fin 64) (x0 : FVec Ideal S16384x1536 .f32) (t : Fin 17) (p : Fin 128) (h : 1 ≤ t.val) :
    val_main_v10 (F := Ideal) x0 (ix5 b t p kv d)
      = x0 (ix2 ⟨b.val * 2048 + (t.val * 128 + p.val - 128), by omega⟩ ⟨1024 + (kv.val * 64 + d.val), by omega⟩) := by
  rw [← k_e9 b kv d x0 ⟨t.val * 128 + p.val, by omega⟩ (by show 128 ≤ t.val * 128 + p.val; omega)]
  unfold val_main_v10
  generalize val_main_v9 (F := Ideal) x0 = A
  pointwise []

/-- Two blocks side by side. -/
theorem k_e13 (b : Fin 8) (kv : Fin 4) (d : Fin 64) (x0 : FVec Ideal S16384x1536 .f32) (t : Fin 16) (s : Fin 256) :
    val_main_v13 (F := Ideal) x0 (ix5 b t s kv d)
      = if h : s.val < 128 then val_main_v11 (F := Ideal) x0 (ix5 b t ⟨s.val, h⟩ kv d)
        else val_main_v12 (F := Ideal) x0 (ix5 b t ⟨s.val - 128, by omega⟩ kv d) := by
  unfold val_main_v13
  generalize val_main_v11 (F := Ideal) x0 = A
  generalize val_main_v12 (F := Ideal) x0 = B
  pointwise []

/-- The block before. -/
theorem k_e11 (b : Fin 8) (kv : Fin 4) (d : Fin 64) (x0 : FVec Ideal S16384x1536 .f32) (t : Fin 16) (s : Fin 128) :
    val_main_v11 (F := Ideal) x0 (ix5 b t s kv d) = val_main_v10 (F := Ideal) x0 (ix5 b ⟨t.val, by omega⟩ s kv d) := by
  rw [val_main_v11_apply]
  refine congrArg _ (funext fun a => Fin.ext ?_)
  match a with
  | ⟨0, _⟩ => rfl
  | ⟨1, _⟩ => rfl
  | ⟨2, _⟩ => rfl
  | ⟨3, _⟩ => rfl
  | ⟨4, _⟩ => rfl

/-- The block itself. -/
theorem k_e12 (b : Fin 8) (kv : Fin 4) (d : Fin 64) (x0 : FVec Ideal S16384x1536 .f32) (t : Fin 16) (s : Fin 128) :
    val_main_v12 (F := Ideal) x0 (ix5 b t s kv d) = val_main_v10 (F := Ideal) x0 (ix5 b ⟨1 + t.val, by omega⟩ s kv d) := by
  rw [val_main_v12_apply]
  refine congrArg _ (funext fun a => Fin.ext ?_)
  match a with
  | ⟨0, _⟩ => rfl
  | ⟨1, _⟩ => rfl
  | ⟨2, _⟩ => rfl
  | ⟨3, _⟩ => rfl
  | ⟨4, _⟩ => rfl

/-- The blocks of both sequences in one row. -/
theorem k_e14 (n : Fin 128) (kv : Fin 4) (d : Fin 64) (x0 : FVec Ideal S16384x1536 .f32) (s : Fin 256) :
    val_main_v14 (F := Ideal) x0 (ix4 n s kv d)
      = val_main_v13 (F := Ideal) x0 (ix5 ⟨n.val / 16, by omega⟩ ⟨n.val % 16, by omega⟩ s kv d) := by
  unfold val_main_v14
  generalize val_main_v13 (F := Ideal) x0 = A
  pointwise []

/-- An entry of the window: of the row 128 before it and on, where the sequence has it. -/
theorem ref_k (n : Fin 128) (kv : Fin 4) (s : Fin 256) (d : Fin 64) (x0 : FVec Ideal S16384x1536 .f32)
    (r : Fin 16384) (hr : r.val + 128 = n.val * 128 + s.val) (hs : n.val % 16 = 0 → 128 ≤ s.val) :
    val_main_v14 (F := Ideal) x0 (ix4 n s kv d) = x0 (ix2 r ⟨1024 + kv.val * 64 + d.val, by omega⟩) := by
  rw [k_e14, k_e13]
  by_cases h : s.val < 128
  · rw [dif_pos h, k_e11, k_e10 _ _ _ _ _ _ (by show 1 ≤ n.val % 16; omega)]
    refine congrArg x0 ((ix2_inj ..).2 ⟨Fin.ext ?_, Fin.ext ?_⟩)
    · show n.val / 16 * 2048 + (n.val % 16 * 128 + s.val - 128) = r.val; omega
    · show 1024 + (kv.val * 64 + d.val) = 1024 + kv.val * 64 + d.val; omega
  · rw [dif_neg h, k_e12, k_e10 _ _ _ _ _ _ (by show 1 ≤ 1 + n.val % 16; omega)]
    refine congrArg x0 ((ix2_inj ..).2 ⟨Fin.ext ?_, Fin.ext ?_⟩)
    · show n.val / 16 * 2048 + ((1 + n.val % 16) * 128 + (s.val - 128) - 128) = r.val; omega
    · show 1024 + (kv.val * 64 + d.val) = 1024 + kv.val * 64 + d.val; omega

/-- The columns of the window's array. -/
theorem v_e4 (b : Fin 8) (kv : Fin 4) (d : Fin 64) (x0 : FVec Ideal S16384x1536 .f32) (p : Fin 2048) : val_main_v6 (F := Ideal) x0 (ix4 b p kv d)
    = x0 (ix2 ⟨b.val * 2048 + p.val, by omega⟩ ⟨1280 + (kv.val * 64 + d.val), by omega⟩) := by
  pointwise [val_main_v6, val_main_v5, val_main_v0]

/-- Behind the padding come the rows. -/
theorem v_e9 (b : Fin 8) (kv : Fin 4) (d : Fin 64) (x0 : FVec Ideal S16384x1536 .f32) (p : Fin 2176) (h : 128 ≤ p.val) : val_main_v15 (F := Ideal) x0 (ix4 b p kv d)
    = x0 (ix2 ⟨b.val * 2048 + (p.val - 128), by omega⟩ ⟨1280 + (kv.val * 64 + d.val), by omega⟩) := by
  rw [← v_e4 b kv d x0 ⟨p.val - 128, by omega⟩]
  unfold val_main_v15
  generalize val_main_v6 (F := Ideal) x0 = A
  generalize val_main_v8 (F := Ideal) = B
  pointwise []
  rw [dif_neg (by omega)]

/-- The padded rows in blocks of 128. -/
theorem v_e10 (b : Fin 8) (kv : Fin 4) (d : Fin 64) (x0 : FVec Ideal S16384x1536 .f32) (t : Fin 17) (p : Fin 128) (h : 1 ≤ t.val) :
    val_main_v16 (F := Ideal) x0 (ix5 b t p kv d)
      = x0 (ix2 ⟨b.val * 2048 + (t.val * 128 + p.val - 128), by omega⟩ ⟨1280 + (kv.val * 64 + d.val), by omega⟩) := by
  rw [← v_e9 b kv d x0 ⟨t.val * 128 + p.val, by omega⟩ (by show 128 ≤ t.val * 128 + p.val; omega)]
  unfold val_main_v16
  generalize val_main_v15 (F := Ideal) x0 = A
  pointwise []

/-- Two blocks side by side. -/
theorem v_e13 (b : Fin 8) (kv : Fin 4) (d : Fin 64) (x0 : FVec Ideal S16384x1536 .f32) (t : Fin 16) (s : Fin 256) :
    val_main_v19 (F := Ideal) x0 (ix5 b t s kv d)
      = if h : s.val < 128 then val_main_v17 (F := Ideal) x0 (ix5 b t ⟨s.val, h⟩ kv d)
        else val_main_v18 (F := Ideal) x0 (ix5 b t ⟨s.val - 128, by omega⟩ kv d) := by
  unfold val_main_v19
  generalize val_main_v17 (F := Ideal) x0 = A
  generalize val_main_v18 (F := Ideal) x0 = B
  pointwise []

/-- The block before. -/
theorem v_e11 (b : Fin 8) (kv : Fin 4) (d : Fin 64) (x0 : FVec Ideal S16384x1536 .f32) (t : Fin 16) (s : Fin 128) :
    val_main_v17 (F := Ideal) x0 (ix5 b t s kv d) = val_main_v16 (F := Ideal) x0 (ix5 b ⟨t.val, by omega⟩ s kv d) := by
  rw [val_main_v17_apply]
  refine congrArg _ (funext fun a => Fin.ext ?_)
  match a with
  | ⟨0, _⟩ => rfl
  | ⟨1, _⟩ => rfl
  | ⟨2, _⟩ => rfl
  | ⟨3, _⟩ => rfl
  | ⟨4, _⟩ => rfl

/-- The block itself. -/
theorem v_e12 (b : Fin 8) (kv : Fin 4) (d : Fin 64) (x0 : FVec Ideal S16384x1536 .f32) (t : Fin 16) (s : Fin 128) :
    val_main_v18 (F := Ideal) x0 (ix5 b t s kv d) = val_main_v16 (F := Ideal) x0 (ix5 b ⟨1 + t.val, by omega⟩ s kv d) := by
  rw [val_main_v18_apply]
  refine congrArg _ (funext fun a => Fin.ext ?_)
  match a with
  | ⟨0, _⟩ => rfl
  | ⟨1, _⟩ => rfl
  | ⟨2, _⟩ => rfl
  | ⟨3, _⟩ => rfl
  | ⟨4, _⟩ => rfl

/-- The blocks of both sequences in one row. -/
theorem v_e14 (n : Fin 128) (kv : Fin 4) (d : Fin 64) (x0 : FVec Ideal S16384x1536 .f32) (s : Fin 256) :
    val_main_v20 (F := Ideal) x0 (ix4 n s kv d)
      = val_main_v19 (F := Ideal) x0 (ix5 ⟨n.val / 16, by omega⟩ ⟨n.val % 16, by omega⟩ s kv d) := by
  unfold val_main_v20
  generalize val_main_v19 (F := Ideal) x0 = A
  pointwise []

/-- An entry of the window: of the row 128 before it and on, where the sequence has it. -/
theorem ref_v (n : Fin 128) (kv : Fin 4) (s : Fin 256) (d : Fin 64) (x0 : FVec Ideal S16384x1536 .f32)
    (r : Fin 16384) (hr : r.val + 128 = n.val * 128 + s.val) (hs : n.val % 16 = 0 → 128 ≤ s.val) :
    val_main_v20 (F := Ideal) x0 (ix4 n s kv d) = x0 (ix2 r ⟨1280 + kv.val * 64 + d.val, by omega⟩) := by
  rw [v_e14, v_e13]
  by_cases h : s.val < 128
  · rw [dif_pos h, v_e11, v_e10 _ _ _ _ _ _ (by show 1 ≤ n.val % 16; omega)]
    refine congrArg x0 ((ix2_inj ..).2 ⟨Fin.ext ?_, Fin.ext ?_⟩)
    · show n.val / 16 * 2048 + (n.val % 16 * 128 + s.val - 128) = r.val; omega
    · show 1280 + (kv.val * 64 + d.val) = 1280 + kv.val * 64 + d.val; omega
  · rw [dif_neg h, v_e12, v_e10 _ _ _ _ _ _ (by show 1 ≤ 1 + n.val % 16; omega)]
    refine congrArg x0 ((ix2_inj ..).2 ⟨Fin.ext ?_, Fin.ext ?_⟩)
    · show n.val / 16 * 2048 + ((1 + n.val % 16) * 128 + (s.val - 128) - 128) = r.val; omega
    · show 1280 + (kv.val * 64 + d.val) = 1280 + kv.val * 64 + d.val; omega

/-- A query. -/
theorem ref_q (n : Fin 128) (kv g : Fin 4) (q : Fin 128) (d : Fin 64) (x0 : FVec Ideal S16384x1536 .f32)
    (r : Fin 16384) (hr : r.val = n.val * 128 + q.val) :
    val_main_v7 (F := Ideal) x0 (ix5 n q kv g d) = x0 (ix2 r ⟨(kv.val * 4 + g.val) * 64 + d.val, by omega⟩) := by
  pointwise [val_main_v7,val_main_v2,val_main_v1,val_main_v0]
  refine congrArg x0 ((ix2_inj ..).2 ⟨Fin.ext ?_, Fin.ext ?_⟩)
  · show n.val / 16 * 2048 + (n.val % 16 * 128 + q.val) = r.val; omega
  · show kv.val * 256 + g.val * 64 + d.val = (kv.val * 4 + g.val) * 64 + d.val; omega

end Cert.SwaRefIdeal.Read

end
-- ==== Proof.SwaHead.lean ====
/- One head of the windowed attention: the kernel's block entry is the reference's entry of that head. -/
module

public import proofs.«01_k».proof.Proof.Gen.SwaIdeal.Value
public import Idealize.ShloMosaic.Lib.Pipeline.ValueKit
public import Idealize.ShloMosaic.Lib.Pointwise
public import Idealize.ShloMosaic.Lib.Claim
public import proofs.«01_k».proof.Proof.SwaRef
public import proofs.«01_k».proof.Pre_finite_inputs

@[expose] public section

set_option maxRecDepth 16384

noncomputable section

namespace Cert.SwaIdeal.Value

open Cert.SwaIdeal Cert.SwaIdeal.Gen Idealize.ShloMosaic Idealize.ShloMosaic.TcCoe Idealize.SL.Sem

/-- The scores of a block of queries. -/
def sc (Q : FVec Ideal S128x64 .bf16) (K : FVec Ideal S256x64 .bf16) (W : IVec S128x256 1) (B : FVec Ideal S1x128x256 .f32) :
    FVec Ideal S128x256 .f32 :=
  select W (addf (mulf (matmul dot_S128x64_S256x64_S128x256_1_1_0_0_n_n none Q K (constant S128x256 .f32 0x00000000#32))
    (broadcast S128x256 (Scalar.ofBits .f32 0x3E000000#32))) (shapeCast S128x256 B shapeCasts_S1x128x256_S128x256))
    (broadcast S128x256 (Named.named κ "mask" 0xF149F2CA#32))

/-- A score of the kernel. -/
theorem sc_at (Q : FVec Ideal S128x64 .bf16) (K : FVec Ideal S256x64 .bf16) (W : IVec S128x256 1) (B : FVec Ideal S1x128x256 .f32)
    (r : Fin 128) (s : Fin 256) : sc Q K W B (ix2 r s) = Attend.score (fun x => Q (ix2 r x)) (fun s x => K (ix2 s x))
      (fun s => B (ix3 0 r s)) (fun s => W (ix2 r s)) s := by
  have hm : (Named.named (F := Ideal) κ "mask" (φ := .f32) 0xF149F2CA#32 : EReal) = Ideal.ofBits .f32 0xFF800000#32 := by
    rw [Attend.bits_bot]; rfl
  pointwise [sc, hm]
  unfold Attend.score
  rfl

/-- The kernel's weighted values. -/
theorem wt_at (V : FVec Ideal S256x64 .bf16) (X : FVec Ideal S128x256 .f32) (k : EReal) (r : Fin 128) (d : Fin 64) :
    k0_pay1 (F := Ideal) V X k (ix2 r d) = ∑ x, Ideal.div (Ideal.exp (X (ix2 r x) - Attend.top (fun s => X (ix2 r s)) k))
      (Attend.den (fun s => X (ix2 r s)) k) * V (ix2 x d) := by
  pointwise [k0_pay1]
  rfl

/-- The kernel sees the keys the reference sees. -/
theorem valid_at (i : grid0.Coords) (n : Fin 128) (hn : (i 1).val = n.val % 16) (r : Fin 128) (s : Fin 256) :
    k0_pay5 i (ix2 r s) = SwaRefIdeal.Read.val_main_v53 (F := Ideal) (ix3 n r s) := by
  rw [SwaRefIdeal.Read.ref_valid]
  have h (a : Fin 16) (s : Fin 256) : IntOp.ori (IntOp.cmpi CmpIPredicate.sge (BitVec.ofNat 32 s.val) 128#32)
      (Scalar.cmpi CmpIPredicate.sgt (BitVec.ofNat 32 a.val) 0#32) = IntOp.cmpi CmpIPredicate.sge
        (IntOp.addi (IntOp.subi (IntOp.muli (BitVec.ofNat 32 a.val) 128#32) 128#32) (BitVec.ofNat 32 s.val)) 0#32 := by
    revert a s; decide +kernel
  pointwise [k0_pay5]
  rw [hn]
  exact congrArg _ (h ⟨n.val % 16, by omega⟩ s)

/-- A key the reference sees lies in the sequence. -/
theorem seen (n : Fin 128) (r : Fin 128) (s : Fin 256) (h : SwaRefIdeal.Read.val_main_v53 (F := Ideal) (ix3 n r s) = 1#1)
    (h0 : n.val % 16 = 0) : 128 ≤ s.val := by
  rw [SwaRefIdeal.Read.ref_valid, h0] at h
  have g (a : BitVec 1) (s : Fin 256) : IntOp.andi a (IntOp.cmpi CmpIPredicate.sge
        (IntOp.addi (IntOp.subi (IntOp.muli (BitVec.ofNat 32 0) 128#32) 128#32) (BitVec.ofNat 32 s.val)) 0#32) = 1#1 → 128 ≤ s.val := by
    revert a s; decide +kernel
  exact g _ s h

/-- An extended real whose magnitude is below infinity is a real number. -/
theorem real_of (x : EReal) (h : Ideal.cmp .olt (max x (-x)) (Ideal.ofBits .f32 0x7F800000#32) = 1#1) : ∃ r : ℝ, x = r := by
  have hi : Ideal.ofBits .f32 0x7F800000#32 = ⊤ := by simp [Ideal.ofBits, Ideal.ieee]
  rw [hi] at h
  induction x with
  | bot => simp [Ideal.cmp] at h
  | top => simp [Ideal.cmp] at h
  | coe r => exact ⟨r, rfl⟩

/-- The precondition says that every entry of the arguments is a real number. -/
theorem pre_real [Cert.Pre_finite_inputs.Facts] (x0 : FVec Ideal S16384x1536 .f32) (x1 : FVec Ideal S16x128x256 .f32) (x2 : FVec Ideal S1x16 .f32)
    (h : (Cert.Pre_finite_inputs.fn (F := Ideal) x0 x1 x2).1 = (fun _ => 1#1)
      ∧ (Cert.Pre_finite_inputs.fn (F := Ideal) x0 x1 x2).2.1 = (fun _ => 1#1)
      ∧ (Cert.Pre_finite_inputs.fn (F := Ideal) x0 x1 x2).2.2 = (fun _ => 1#1)) :
    (∀ i, ∃ r : ℝ, x0 i = r) ∧ (∀ i, ∃ r : ℝ, x1 i = r) ∧ (∀ i, ∃ r : ℝ, x2 i = r) :=
  ⟨fun i => real_of _ (congrFun h.1 i), fun i => real_of _ (congrFun h.2.1 i), fun i => real_of _ (congrFun h.2.2 i)⟩

/-- The kernel's entry of a head is the reference's. -/
theorem head_eq (x0 : FVec Ideal S16384x1536 .f32) (x1 : FVec Ideal S16x128x256 .f32) (x2 : FVec Ideal S1x16 .f32)
    (f0 : ∀ i, ∃ r : ℝ, x0 i = r) (f1 : ∀ i, ∃ r : ℝ, x1 i = r) (f2 : ∀ i, ∃ r : ℝ, x2 i = r)
    (i : grid0.Coords) (n : Fin 128) (hn : (i 1).val = n.val % 16) (kv g : Fin 4) (r : Fin 128) (d : Fin 64)
    (Q : FVec Ideal S128x64 .bf16) (K V : FVec Ideal S256x64 .bf16) (B : FVec Ideal S1x128x256 .f32) (k : EReal)
    (R : Fin 16384) (C : Fin 1024) (hR : R.val = n.val * 128 + r.val) (hC : C.val = (kv.val * 4 + g.val) * 64 + d.val)
    (hQ : ∀ x : Fin 64, Q (ix2 r x) = x0 (ix2 R ⟨(kv.val * 4 + g.val) * 64 + x.val, by omega⟩))
    (hK : ∀ (s : Fin 256) (x : Fin 64), ∃ p : Fin 16384, K (ix2 s x) = x0 (ix2 p ⟨1024 + kv.val * 64 + x.val, by omega⟩)
      ∧ ((n.val % 16 = 0 → 128 ≤ s.val) → p.val + 128 = n.val * 128 + s.val))
    (hV : ∀ (s : Fin 256) (x : Fin 64), ∃ p : Fin 16384, V (ix2 s x) = x0 (ix2 p ⟨1280 + kv.val * 64 + x.val, by omega⟩)
      ∧ ((n.val % 16 = 0 → 128 ≤ s.val) → p.val + 128 = n.val * 128 + s.val))
    (hB : ∀ s : Fin 256, B (ix3 0 r s) = x1 (ix3 ⟨kv.val * 4 + g.val, by omega⟩ r s))
    (hk : k = x2 (ix2 0 ⟨kv.val * 4 + g.val, by omega⟩)) :
    k0_pay1 (F := Ideal) V (sc Q K (k0_pay5 i) B) k (ix2 r d) = SwaRefIdeal.Read.val_main_v85 (F := Ideal) x0 x1 x2 (ix2 R C) := by
  rw [wt_at, SwaRefIdeal.Read.ref_out R C x0 x1 x2 n r kv g d hR hC]
  simp only [sc_at, SwaRefIdeal.Read.ref_score, ← hk]
  have hw : (fun s => k0_pay5 i (ix2 r s)) = fun s => SwaRefIdeal.Read.val_main_v53 (F := Ideal) (ix3 n r s) :=
    funext fun s => valid_at i n hn r s
  have hb : (fun s => B (ix3 0 r s)) = fun s => x1 (ix3 ⟨kv.val * 4 + g.val, by omega⟩ r s) := funext hB
  have hq : (fun x => Q (ix2 r x)) = fun x => SwaRefIdeal.Read.val_main_v7 (F := Ideal) x0 (ix5 n r kv g x) :=
    funext fun x => (hQ x).trans (SwaRefIdeal.Read.ref_q n kv g r x x0 R hR).symm
  rw [hw, hb, hq]
  refine Attend.attend_eq _ (fun s x => K (ix2 s x)) (fun s x => SwaRefIdeal.Read.val_main_v14 (F := Ideal) x0 (ix4 n s kv x)) _ _ _
    (fun x => V (ix2 x d)) (fun x => SwaRefIdeal.Read.val_main_v20 (F := Ideal) x0 (ix4 n x kv d)) ?_ ?_ ?_ ?_ ?_ ?_
  · intro x; rw [SwaRefIdeal.Read.ref_q n kv g r x x0 R hR]; exact f0 _
  · intro s x; obtain ⟨p, hp, _⟩ := hK s x; rw [hp]; exact f0 _
  · intro s; exact f1 _
  · rw [hk]; exact f2 _
  · intro s hs
    funext x
    obtain ⟨p, hp, hp'⟩ := hK s x
    have h := seen n r s hs
    exact hp.trans (SwaRefIdeal.Read.ref_k n kv s x x0 p (hp' h) h).symm
  · intro s hs
    obtain ⟨p, hp, hp'⟩ := hV s d
    have h := seen n r s hs
    exact hp.trans (SwaRefIdeal.Read.ref_v n kv s d x0 p (hp' h) h).symm

end Cert.SwaIdeal.Value

end
-- ==== Proof.SwaValue.lean ====
/- The windowed attention of the prompt: after the run the kernel's result array is the reference's term, entry by entry. -/
module

public import proofs.«01_k».proof.Proof.SwaHead

@[expose] public section

set_option maxRecDepth 16384

noncomputable section

namespace Cert.SwaIdeal.Value

open Cert.SwaIdeal Cert.SwaIdeal.Gen Idealize.ShloMosaic Idealize.ShloMosaic.TcCoe Idealize.SL.Sem
open Idealize.ShloMosaic.Pipeline (Dat)

/-- Which block each window reads or writes at grid point `t`. -/
theorem idx : ∀ t : Fin cfg0.N, win0_0.index t = ![t.val, 0] ∧ win0_1.index t = ![t.val / 16 * 16 + (t.val % 16 - 1), 4]
    ∧ win0_2.index t = ![t.val, 4] ∧ win0_3.index t = ![t.val / 16 * 16 + (t.val % 16 - 1), 5] ∧ win0_4.index t = ![t.val, 5]
    ∧ win0_5.index t = ![0, 0, 0] ∧ win0_6.index t = ![0, 0] ∧ win0_7.index t = ![t.val, 0]
    ∧ (grid0.coords t 1).val = t.val % 16 ∧ t.val < 128 :=
  (by decide +kernel : ∀ t : Fin grid0.N, _)

/-- A head's columns of the queries. -/
theorem q_slice (X : FVec Ideal S128x1024 .f32) (o : ℕ) (h : S128x1024.Slices ![0, o] S128x64) (ho : o + 64 ≤ 1024) (r : Fin 128) (d : Fin 64) :
    extractStridedSlice S128x64 ![0, o] (k0_pay2 (F := Ideal) X) h (ix2 r d) = X (ix2 r ⟨o + d.val, by omega⟩) := by
  rw [extractStridedSlice_apply _ _ h (ix2 r d) (ix2 r ⟨o + d.val, by omega⟩) (fun a => by
    match a with
    | ⟨0, _⟩ => show r.val = 0 + r.val; omega
    | ⟨1, _⟩ => rfl)]
  rfl

/-- A head's columns of the two blocks stacked. -/
theorem k_slice (X Y : FVec Ideal S128x256 .f32) (o : ℕ) (h : S256x256.Slices ![0, o] S256x64) (ho : o + 64 ≤ 256) (s : Fin 256) (d : Fin 64) :
    extractStridedSlice S256x64 ![0, o] (k0_pay3 (F := Ideal) X Y) h (ix2 s d) = if h : s.val < 128 then X (ix2 ⟨s.val, h⟩ ⟨o + d.val, by omega⟩)
      else Y (ix2 ⟨s.val - 128, by omega⟩ ⟨o + d.val, by omega⟩) := by
  rw [extractStridedSlice_apply _ _ h (ix2 s d) (ix2 s ⟨o + d.val, by omega⟩) (fun a => by
    match a with
    | ⟨0, _⟩ => show s.val = 0 + s.val; omega
    | ⟨1, _⟩ => rfl)]
  pointwise [k0_pay3]

/-- A head's columns of the two blocks stacked. -/
theorem v_slice (X Y : FVec Ideal S128x256 .f32) (o : ℕ) (h : S256x256.Slices ![0, o] S256x64) (ho : o + 64 ≤ 256) (s : Fin 256) (d : Fin 64) :
    extractStridedSlice S256x64 ![0, o] (k0_pay4 (F := Ideal) X Y) h (ix2 s d) = if h : s.val < 128 then X (ix2 ⟨s.val, h⟩ ⟨o + d.val, by omega⟩)
      else Y (ix2 ⟨s.val - 128, by omega⟩ ⟨o + d.val, by omega⟩) := by
  rw [extractStridedSlice_apply _ _ h (ix2 s d) (ix2 s ⟨o + d.val, by omega⟩) (fun a => by
    match a with
    | ⟨0, _⟩ => show s.val = 0 + s.val; omega
    | ⟨1, _⟩ => rfl)]
  pointwise [k0_pay4]

variable (m : (ℓ : Loc nD τ sig) → Buf (Elt Ideal) ℓ)

/-- The queries' block. -/
theorem blk_q (c : Dev nD) (t : Fin cfg0.N) (r : Fin 128) (d : Fin 1024) (R : Fin 16384) (hR : R.val = t.val * 128 + r.val) :
    (show FVec Ideal S128x1024 .f32 from X0_0 m c t) (ix2 r d) = m ((c : Thread nD τ).loc main_arg0) (ix2 R ⟨d.val, by omega⟩) := by
  show X0_0 m c t (ix2 r d) = _
  unfold X0_0 Pipeline.Window.fill
  rw [dif_pos (moved0_0 t _)]
  refine Eq.trans ?_ (congrFun (V_main_arg0 m c) _)
  blk_ext [iblk, idx t]

/-- A block of keys: the one before. -/
theorem blk_1 (c : Dev nD) (t : Fin cfg0.N) (r : Fin 128) (d : Fin 256) (R : Fin 16384)
    (hR : R.val = (t.val / 16 * 16 + (t.val % 16 - 1)) * 128 + r.val) :
    iblk m c 1 t (ix2 r d) = m ((c : Thread nD τ).loc main_arg0) (ix2 R ⟨1024 + d.val, by omega⟩) := by
  refine Eq.trans ?_ (congrFun (V_main_arg0 m c) _)
  blk_ext [iblk, idx t]

/-- A block of keys: the one of the queries. -/
theorem blk_2 (c : Dev nD) (t : Fin cfg0.N) (r : Fin 128) (d : Fin 256) (R : Fin 16384)
    (hR : R.val = t.val * 128 + r.val) :
    iblk m c 2 t (ix2 r d) = m ((c : Thread nD τ).loc main_arg0) (ix2 R ⟨1024 + d.val, by omega⟩) := by
  refine Eq.trans ?_ (congrFun (V_main_arg0 m c) _)
  blk_ext [iblk, idx t]

/-- A block of values: the one before. -/
theorem blk_3 (c : Dev nD) (t : Fin cfg0.N) (r : Fin 128) (d : Fin 256) (R : Fin 16384)
    (hR : R.val = (t.val / 16 * 16 + (t.val % 16 - 1)) * 128 + r.val) :
    iblk m c 3 t (ix2 r d) = m ((c : Thread nD τ).loc main_arg0) (ix2 R ⟨1280 + d.val, by omega⟩) := by
  refine Eq.trans ?_ (congrFun (V_main_arg0 m c) _)
  blk_ext [iblk, idx t]

/-- A block of values: the one of the queries. -/
theorem blk_4 (c : Dev nD) (t : Fin cfg0.N) (r : Fin 128) (d : Fin 256) (R : Fin 16384)
    (hR : R.val = t.val * 128 + r.val) :
    iblk m c 4 t (ix2 r d) = m ((c : Thread nD τ).loc main_arg0) (ix2 R ⟨1280 + d.val, by omega⟩) := by
  refine Eq.trans ?_ (congrFun (V_main_arg0 m c) _)
  blk_ext [iblk, idx t]

/-- A head's bias. -/
theorem bias (c : Dev nD) (t : Fin cfg0.N) (o : Fin 16) (inb : ∀ a, (![o.val, 0, 0] : Fin S16x128x256.rank → ℕ) a + (![1, 128, 256] : Fin S16x128x256.rank → ℕ) a ≤ S16x128x256.size a)
    (r : Fin 128) (s : Fin 256) :
    (show FVec Ideal S1x128x256 .f32 from View.ld (iblk m c 5 t) (Rect.unit (s := S16x128x256) ![o.val, 0, 0] ![1, 128, 256] inb)) (ix3 0 r s)
      = m ((c : Thread nD τ).loc main_arg1) (ix3 o r s) := by
  have e : (Rect.unit (s := S16x128x256) ![o.val, 0, 0] ![1, 128, 256] inb).idx (ix3 0 r s) = ix3 o r s := by
    funext a
    match a with
    | ⟨0, _⟩ => exact Fin.ext (by simp)
    | ⟨1, _⟩ => exact Fin.ext (by simp)
    | ⟨2, _⟩ => exact Fin.ext (by simp)
  refine Eq.trans (congrArg (iblk m c 5 t) e) (Eq.trans ?_ (congrFun (V_main_arg1 m c) _))
  blk_ext [iblk, idx t]

/-- A head's sink. -/
theorem sink (c : Dev nD) (t : Fin cfg0.N) (o : Fin 16) (inb : ∀ a, (![0, o.val] : Fin S1x16.rank → ℕ) a + (![1, 1] : Fin S1x16.rank → ℕ) a ≤ S1x16.size a)
    (x : S1x1.Idx) :
    (show FVec Ideal S1x1 .f32 from View.ld (iblk m c 6 t) (Rect.unit (s := S1x16) ![0, o.val] ![1, 1] inb)) x
      = m ((c : Thread nD τ).loc main_arg2) (ix2 0 o) := by
  have h0 : (x 0).val < 1 := (x 0).isLt
  have h1 : (x 1).val < 1 := (x 1).isLt
  have e : (Rect.unit (s := S1x16) ![0, o.val] ![1, 1] inb).idx x = ix2 0 o := by
    funext a
    match a with
    | ⟨0, _⟩ => exact Fin.ext (by simp)
    | ⟨1, _⟩ => exact Fin.ext (by simp)
  refine Eq.trans (congrArg (iblk m c 6 t) e) (Eq.trans ?_ (congrFun (V_main_arg2 m c) _))
  blk_ext [iblk, idx t]

/-- Every head's block of the result holds the reference's entries. -/
theorem piece (c : Dev nD) (t : Fin cfg0.N)
    (f0 : ∀ i, ∃ r : ℝ, (show FVec Ideal S16384x1536 .f32 from m ((c : Thread nD τ).loc main_arg0)) i = r)
    (f1 : ∀ i, ∃ r : ℝ, (show FVec Ideal S16x128x256 .f32 from m ((c : Thread nD τ).loc main_arg1)) i = r)
    (f2 : ∀ i, ∃ r : ℝ, (show FVec Ideal S1x16 .f32 from m ((c : Thread nD τ).loc main_arg2)) i = r)
    (kv g : Fin 4) (hd : Fin 16) (oq ok : ℕ) (hhd : hd.val = kv.val * 4 + g.val) (hoq : oq = (kv.val * 4 + g.val) * 64) (hok : ok = kv.val * 64)
    (sq : S128x1024.Slices ![0, oq] S128x64) (sk : S256x256.Slices ![0, ok] S256x64)
    (ib : ∀ a, (![hd.val, 0, 0] : Fin S16x128x256.rank → ℕ) a + (![1, 128, 256] : Fin S16x128x256.rank → ℕ) a ≤ S16x128x256.size a)
    (is : ∀ a, (![0, hd.val] : Fin S1x16.rank → ℕ) a + (![1, 1] : Fin S1x16.rank → ℕ) a ≤ S1x16.size a)
    (z : S1x1.Idx) (x : S128x64.Idx) (y : S16384x1024.Idx) (h0 : (y 0).val = t.val * 128 + (x 0).val) (h1 : (y 1).val = oq + (x 1).val) :
    k0_pay1 (F := Ideal) (extractStridedSlice S256x64 ![0, ok] (k0_pay4 (F := Ideal) (iblk m c 3 t) (iblk m c 4 t)) sk)
      (sc (extractStridedSlice S128x64 ![0, oq] (k0_pay2 (F := Ideal) (X0_0 m c t)) sq)
        (extractStridedSlice S256x64 ![0, ok] (k0_pay3 (F := Ideal) (iblk m c 1 t) (iblk m c 2 t)) sk) (k0_pay5 (grid0.coords t))
        (View.ld (iblk m c 5 t) (Rect.unit (s := S16x128x256) ![hd.val, 0, 0] ![1, 128, 256] ib)))
      (View.ld (iblk m c 6 t) (Rect.unit (s := S1x16) ![0, hd.val] ![1, 1] is) z) x
    = SwaRefIdeal.Read.val_main_v85 (F := Ideal) (m ((c : Thread nD τ).loc main_arg0)) (m ((c : Thread nD τ).loc main_arg1)) (m ((c : Thread nD τ).loc main_arg2)) y := by
  obtain ⟨_, _, _, _, _, _, _, _, h8, h9⟩ := idx t
  subst hoq hok
  have hp : hd = ⟨kv.val * 4 + g.val, by omega⟩ := Fin.ext hhd
  refine Eq.trans (congrArg _ (eq_ix2 x)) (Eq.trans ?_ (congrArg _ (eq_ix2 y)).symm)
  refine head_eq _ _ _ f0 f1 f2 (grid0.coords t) ⟨t.val, h9⟩ h8 kv g (x 0) (x 1) _ _ _ _ _ (y 0) (y 1) h0 h1 (fun d => ?_) (fun s d => ?_) (fun s d => ?_)
    (fun s => ?_) ?_
  · exact (q_slice _ _ sq (by omega) (x 0) d).trans (blk_q m c t (x 0) _ (y 0) h0)
  · rw [k_slice _ _ _ sk (by omega) s d]
    by_cases h : s.val < 128
    · rw [dif_pos h]
      refine ⟨⟨(t.val / 16 * 16 + (t.val % 16 - 1)) * 128 + s.val, by omega⟩, (blk_1 m c t ⟨s.val, h⟩ _ ⟨(t.val / 16 * 16 + (t.val % 16 - 1)) * 128 + s.val, by omega⟩ rfl).trans ?_, fun h' => ?_⟩
      · exact congrArg _ ((ix2_inj ..).2 ⟨rfl, Fin.ext (by show 1024 + (kv.val * 64 + d.val) = 1024 + kv.val * 64 + d.val; omega)⟩)
      · have : t.val % 16 ≠ 0 := fun e => absurd (h' e) (by omega)
        show (t.val / 16 * 16 + (t.val % 16 - 1)) * 128 + s.val + 128 = t.val * 128 + s.val
        omega
    · rw [dif_neg h]
      refine ⟨⟨t.val * 128 + (s.val - 128), by omega⟩, (blk_2 m c t ⟨s.val - 128, by omega⟩ _ ⟨t.val * 128 + (s.val - 128), by omega⟩ rfl).trans ?_, fun h' => ?_⟩
      · exact congrArg _ ((ix2_inj ..).2 ⟨rfl, Fin.ext (by show 1024 + (kv.val * 64 + d.val) = 1024 + kv.val * 64 + d.val; omega)⟩)
      · show t.val * 128 + (s.val - 128) + 128 = t.val * 128 + s.val
        omega
  · rw [v_slice _ _ _ sk (by omega) s d]
    by_cases h : s.val < 128
    · rw [dif_pos h]
      refine ⟨⟨(t.val / 16 * 16 + (t.val % 16 - 1)) * 128 + s.val, by omega⟩, (blk_3 m c t ⟨s.val, h⟩ _ ⟨(t.val / 16 * 16 + (t.val % 16 - 1)) * 128 + s.val, by omega⟩ rfl).trans ?_, fun h' => ?_⟩
      · exact congrArg _ ((ix2_inj ..).2 ⟨rfl, Fin.ext (by show 1280 + (kv.val * 64 + d.val) = 1280 + kv.val * 64 + d.val; omega)⟩)
      · have : t.val % 16 ≠ 0 := fun e => absurd (h' e) (by omega)
        show (t.val / 16 * 16 + (t.val % 16 - 1)) * 128 + s.val + 128 = t.val * 128 + s.val
        omega
    · rw [dif_neg h]
      refine ⟨⟨t.val * 128 + (s.val - 128), by omega⟩, (blk_4 m c t ⟨s.val - 128, by omega⟩ _ ⟨t.val * 128 + (s.val - 128), by omega⟩ rfl).trans ?_, fun h' => ?_⟩
      · exact congrArg _ ((ix2_inj ..).2 ⟨rfl, Fin.ext (by show 1280 + (kv.val * 64 + d.val) = 1280 + kv.val * 64 + d.val; omega)⟩)
      · show t.val * 128 + (s.val - 128) + 128 = t.val * 128 + s.val
        omega
  · exact (bias m c t hd ib (x 0) s).trans (congrArg _ (by rw [hp]))
  · exact (sink m c t hd is z).trans (congrArg _ (by rw [hp]))

/-- The result array after the run. -/
theorem final [Cert.Pre_finite_inputs.Facts] (c : Dev nD)
    (h : (Cert.Pre_finite_inputs.fn (F := Ideal) (m ((c : Thread nD τ).loc main_arg0)) (m ((c : Thread nD τ).loc main_arg1)) (m ((c : Thread nD τ).loc main_arg2))).1 = (fun _ => 1#1)
      ∧ (Cert.Pre_finite_inputs.fn (F := Ideal) (m ((c : Thread nD τ).loc main_arg0)) (m ((c : Thread nD τ).loc main_arg1)) (m ((c : Thread nD τ).loc main_arg2))).2.1 = (fun _ => 1#1)
      ∧ (Cert.Pre_finite_inputs.fn (F := Ideal) (m ((c : Thread nD τ).loc main_arg0)) (m ((c : Thread nD τ).loc main_arg1)) (m ((c : Thread nD τ).loc main_arg2))).2.2 = (fun _ => 1#1)) :
    (dats m 0 c).arrAt 7 cfg0.N = SwaRefIdeal.Read.val_main_v85 (F := Ideal) (m ((c : Thread nD τ).loc main_arg0)) (m ((c : Thread nD τ).loc main_arg1)) (m ((c : Thread nD τ).loc main_arg2)) := by
  obtain ⟨f0, f1, f2⟩ := pre_real _ _ _ h
  refine (dats m 0 c).arrAt_eq_of_covers 7 _ (by decide +kernel) fun t _ y => ?_
  blk_simp
  rw [after0_7]
  unfold outsAt0
  frame_out
  canon_tiles x h
  · refine piece m c t f0 f1 f2 3 3 15 960 192 rfl rfl rfl slices_S128x1024_o0_960_S128x64 slices_S256x256_o0_192_S256x64 inb_S16x128x256_S1x128x256_15_0_0 inb_S1x16_S1x1_0_15 _ x _ ?_ ?_
    · blk_simp; rw [(idx t).2.2.2.2.2.2.2.1]; show t.val * 128 + (y 0).val = t.val * 128 + (x 0).val; omega
    · blk_simp; rw [(idx t).2.2.2.2.2.2.2.1]; show 0 * 1024 + (y 1).val = 960 + (x 1).val; omega
  · refine piece m c t f0 f1 f2 3 2 14 896 192 rfl rfl rfl slices_S128x1024_o0_896_S128x64 slices_S256x256_o0_192_S256x64 inb_S16x128x256_S1x128x256_14_0_0 inb_S1x16_S1x1_0_14 _ x _ ?_ ?_
    · blk_simp; rw [(idx t).2.2.2.2.2.2.2.1]; show t.val * 128 + (y 0).val = t.val * 128 + (x 0).val; omega
    · blk_simp; rw [(idx t).2.2.2.2.2.2.2.1]; show 0 * 1024 + (y 1).val = 896 + (x 1).val; omega
  · refine piece m c t f0 f1 f2 3 1 13 832 192 rfl rfl rfl slices_S128x1024_o0_832_S128x64 slices_S256x256_o0_192_S256x64 inb_S16x128x256_S1x128x256_13_0_0 inb_S1x16_S1x1_0_13 _ x _ ?_ ?_
    · blk_simp; rw [(idx t).2.2.2.2.2.2.2.1]; show t.val * 128 + (y 0).val = t.val * 128 + (x 0).val; omega
    · blk_simp; rw [(idx t).2.2.2.2.2.2.2.1]; show 0 * 1024 + (y 1).val = 832 + (x 1).val; omega
  · refine piece m c t f0 f1 f2 3 0 12 768 192 rfl rfl rfl slices_S128x1024_o0_768_S128x64 slices_S256x256_o0_192_S256x64 inb_S16x128x256_S1x128x256_12_0_0 inb_S1x16_S1x1_0_12 _ x _ ?_ ?_
    · blk_simp; rw [(idx t).2.2.2.2.2.2.2.1]; show t.val * 128 + (y 0).val = t.val * 128 + (x 0).val; omega
    · blk_simp; rw [(idx t).2.2.2.2.2.2.2.1]; show 0 * 1024 + (y 1).val = 768 + (x 1).val; omega
  · refine piece m c t f0 f1 f2 2 3 11 704 128 rfl rfl rfl slices_S128x1024_o0_704_S128x64 slices_S256x256_o0_128_S256x64 inb_S16x128x256_S1x128x256_11_0_0 inb_S1x16_S1x1_0_11 _ x _ ?_ ?_
    · blk_simp; rw [(idx t).2.2.2.2.2.2.2.1]; show t.val * 128 + (y 0).val = t.val * 128 + (x 0).val; omega
    · blk_simp; rw [(idx t).2.2.2.2.2.2.2.1]; show 0 * 1024 + (y 1).val = 704 + (x 1).val; omega
  · refine piece m c t f0 f1 f2 2 2 10 640 128 rfl rfl rfl slices_S128x1024_o0_640_S128x64 slices_S256x256_o0_128_S256x64 inb_S16x128x256_S1x128x256_10_0_0 inb_S1x16_S1x1_0_10 _ x _ ?_ ?_
    · blk_simp; rw [(idx t).2.2.2.2.2.2.2.1]; show t.val * 128 + (y 0).val = t.val * 128 + (x 0).val; omega
    · blk_simp; rw [(idx t).2.2.2.2.2.2.2.1]; show 0 * 1024 + (y 1).val = 640 + (x 1).val; omega
  · refine piece m c t f0 f1 f2 2 1 9 576 128 rfl rfl rfl slices_S128x1024_o0_576_S128x64 slices_S256x256_o0_128_S256x64 inb_S16x128x256_S1x128x256_9_0_0 inb_S1x16_S1x1_0_9 _ x _ ?_ ?_
    · blk_simp; rw [(idx t).2.2.2.2.2.2.2.1]; show t.val * 128 + (y 0).val = t.val * 128 + (x 0).val; omega
    · blk_simp; rw [(idx t).2.2.2.2.2.2.2.1]; show 0 * 1024 + (y 1).val = 576 + (x 1).val; omega
  · refine piece m c t f0 f1 f2 2 0 8 512 128 rfl rfl rfl slices_S128x1024_o0_512_S128x64 slices_S256x256_o0_128_S256x64 inb_S16x128x256_S1x128x256_8_0_0 inb_S1x16_S1x1_0_8 _ x _ ?_ ?_
    · blk_simp; rw [(idx t).2.2.2.2.2.2.2.1]; show t.val * 128 + (y 0).val = t.val * 128 + (x 0).val; omega
    · blk_simp; rw [(idx t).2.2.2.2.2.2.2.1]; show 0 * 1024 + (y 1).val = 512 + (x 1).val; omega
  · refine piece m c t f0 f1 f2 1 3 7 448 64 rfl rfl rfl slices_S128x1024_o0_448_S128x64 slices_S256x256_o0_64_S256x64 inb_S16x128x256_S1x128x256_7_0_0 inb_S1x16_S1x1_0_7 _ x _ ?_ ?_
    · blk_simp; rw [(idx t).2.2.2.2.2.2.2.1]; show t.val * 128 + (y 0).val = t.val * 128 + (x 0).val; omega
    · blk_simp; rw [(idx t).2.2.2.2.2.2.2.1]; show 0 * 1024 + (y 1).val = 448 + (x 1).val; omega
  · refine piece m c t f0 f1 f2 1 2 6 384 64 rfl rfl rfl slices_S128x1024_o0_384_S128x64 slices_S256x256_o0_64_S256x64 inb_S16x128x256_S1x128x256_6_0_0 inb_S1x16_S1x1_0_6 _ x _ ?_ ?_
    · blk_simp; rw [(idx t).2.2.2.2.2.2.2.1]; show t.val * 128 + (y 0).val = t.val * 128 + (x 0).val; omega
    · blk_simp; rw [(idx t).2.2.2.2.2.2.2.1]; show 0 * 1024 + (y 1).val = 384 + (x 1).val; omega
  · refine piece m c t f0 f1 f2 1 1 5 320 64 rfl rfl rfl slices_S128x1024_o0_320_S128x64 slices_S256x256_o0_64_S256x64 inb_S16x128x256_S1x128x256_5_0_0 inb_S1x16_S1x1_0_5 _ x _ ?_ ?_
    · blk_simp; rw [(idx t).2.2.2.2.2.2.2.1]; show t.val * 128 + (y 0).val = t.val * 128 + (x 0).val; omega
    · blk_simp; rw [(idx t).2.2.2.2.2.2.2.1]; show 0 * 1024 + (y 1).val = 320 + (x 1).val; omega
  · refine piece m c t f0 f1 f2 1 0 4 256 64 rfl rfl rfl slices_S128x1024_o0_256_S128x64 slices_S256x256_o0_64_S256x64 inb_S16x128x256_S1x128x256_4_0_0 inb_S1x16_S1x1_0_4 _ x _ ?_ ?_
    · blk_simp; rw [(idx t).2.2.2.2.2.2.2.1]; show t.val * 128 + (y 0).val = t.val * 128 + (x 0).val; omega
    · blk_simp; rw [(idx t).2.2.2.2.2.2.2.1]; show 0 * 1024 + (y 1).val = 256 + (x 1).val; omega
  · refine piece m c t f0 f1 f2 0 3 3 192 0 rfl rfl rfl slices_S128x1024_o0_192_S128x64 slices_S256x256_o0_0_S256x64 inb_S16x128x256_S1x128x256_3_0_0 inb_S1x16_S1x1_0_3 _ x _ ?_ ?_
    · blk_simp; rw [(idx t).2.2.2.2.2.2.2.1]; show t.val * 128 + (y 0).val = t.val * 128 + (x 0).val; omega
    · blk_simp; rw [(idx t).2.2.2.2.2.2.2.1]; show 0 * 1024 + (y 1).val = 192 + (x 1).val; omega
  · refine piece m c t f0 f1 f2 0 2 2 128 0 rfl rfl rfl slices_S128x1024_o0_128_S128x64 slices_S256x256_o0_0_S256x64 inb_S16x128x256_S1x128x256_2_0_0 inb_S1x16_S1x1_0_2 _ x _ ?_ ?_
    · blk_simp; rw [(idx t).2.2.2.2.2.2.2.1]; show t.val * 128 + (y 0).val = t.val * 128 + (x 0).val; omega
    · blk_simp; rw [(idx t).2.2.2.2.2.2.2.1]; show 0 * 1024 + (y 1).val = 128 + (x 1).val; omega
  · refine piece m c t f0 f1 f2 0 1 1 64 0 rfl rfl rfl slices_S128x1024_o0_64_S128x64 slices_S256x256_o0_0_S256x64 inb_S16x128x256_S1x128x256_1_0_0 inb_S1x16_S1x1_0_1 _ x _ ?_ ?_
    · blk_simp; rw [(idx t).2.2.2.2.2.2.2.1]; show t.val * 128 + (y 0).val = t.val * 128 + (x 0).val; omega
    · blk_simp; rw [(idx t).2.2.2.2.2.2.2.1]; show 0 * 1024 + (y 1).val = 64 + (x 1).val; omega
  · refine piece m c t f0 f1 f2 0 0 0 0 0 rfl rfl rfl slices_S128x1024_o0_0_S128x64 slices_S256x256_o0_0_S256x64 inb_S16x128x256_S1x128x256_0_0_0 inb_S1x16_S1x1_0_0 _ x _ ?_ ?_
    · blk_simp; rw [(idx t).2.2.2.2.2.2.2.1]; show t.val * 128 + (y 0).val = t.val * 128 + (x 0).val; omega
    · blk_simp; rw [(idx t).2.2.2.2.2.2.2.1]; show 0 * 1024 + (y 1).val = (x 1).val; omega

end Cert.SwaIdeal.Value

end
-- ==== Proof.QkvValue.lean ====
/- The second layer's projection: after the run the kernel's result array is the reference's term, entry by entry. -/
module

public import proofs.«01_k».proof.Proof.Gen.QkvIdeal.Value
public import proofs.«01_k».proof.Proof.Gen.QkvRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.QkvIdeal.Value

open Cert.QkvIdeal Cert.QkvIdeal.Gen Idealize.ShloMosaic Idealize.ShloMosaic.TcCoe Idealize.SL.Sem
open Idealize.ShloMosaic.Pipeline (Dat)

variable (m : (ℓ : Loc nD τ sig) → Buf (Elt Ideal) ℓ)

/-- Which block each window reads or writes at grid point `t`. -/
theorem idx : ∀ t : Fin cfg0.N, win0_0.index t = ![t.val / 3, 0] ∧ win0_1.index t = ![0, t.val % 3]
    ∧ win0_2.index t = ![0, t.val % 3] ∧ win0_3.index t = ![t.val / 3, t.val % 3] ∧ t.val / 3 < 32 :=
  (by decide +kernel : ∀ t : Fin grid0.N, _)

/-- Column `n` of the joined weights: a query column below 1024, a key or value column from there on. -/
def joined (W : FVec Ideal S1x1024x1024 .f32) (K : FVec Ideal S1024x512 .f32) (k : Fin 1024) (n : Fin 1536) : EReal :=
  if h : n.val < 1024 then W (ix3 0 k ⟨n.val, h⟩) else K (ix2 k ⟨n.val - 1024, by omega⟩)

/-- Two arrays joined along their columns, at an index. -/
theorem pair_at (R : Nat) (A : (⟨_, ![R, 1024]⟩ : Shape).Idx → EReal) (B : (⟨_, ![R, 512]⟩ : Shape).Idx → EReal)
    (hc : Shape.Concatenates [⟨_, ![R, 1024]⟩, ⟨_, ![R, 512]⟩] ⟨_, ![R, 1536]⟩ 1) (r : Fin R) (n : Fin 1536) :
    concatenate ⟨_, ![R, 1536]⟩ 1 [⟨_, A⟩, ⟨_, B⟩] hc (ix2 r n)
      = if h : n.val < 1024 then A (ix2 r ⟨n.val, h⟩) else B (ix2 r ⟨n.val - 1024, by omega⟩) := by
  by_cases h : n.val < 1024
  · rw [dif_pos h]
    exact concatenate_pair_apply_left 1 A B hc (ix2 r n) rfl (ix2 r ⟨n.val, h⟩) fun b => by
      match b with
      | ⟨0, _⟩ => rfl
      | ⟨1, _⟩ => rfl
  · rw [dif_neg h]
    refine concatenate_pair_apply_right 1 A B hc (ix2 r n) rfl rfl (ix2 r ⟨n.val - 1024, by omega⟩) (fun b hb => ?_) ?_
    · match b with
      | ⟨0, _⟩ => rfl
      | ⟨1, _⟩ => exact absurd rfl hb
    · show n.val - 1024 + 1024 = n.val
      omega

/-- The joined weights as the host lays them out. -/
theorem cols_at (W : FVec Ideal S1x1024x1024 .f32) (K : FVec Ideal S1024x512 .f32) (k : Fin 1024) (n : Fin 1536) :
    truncf (F := Ideal) .bf16 (concatenate S1024x1536 1 [⟨S1024x1024, shapeCast S1024x1024 W shapeCasts_S1x1024x1024_S1024x1024⟩, ⟨S1024x512, K⟩]
      concatenates_S1024x1024_S1024x512_S1024x1536_d1) bitsLt_bf16_f32 (ix2 k n) = joined W K k n := by
  unfold joined
  refine (pair_at 1024 _ K concatenates_S1024x1024_S1024x512_S1024x1536_d1 k n).trans ?_
  refine dite_congr rfl (fun h => ?_) (fun h => rfl)
  pointwise

/-- The reference's queries at an index. -/
theorem q_at (X : FVec Ideal S16384x1024 .f32) (W : FVec Ideal S1x1024x1024 .f32) (r : Fin 16384) (n : Fin 1024) :
    Cert.QkvRefIdeal.Read.val_main_v1 (F := Ideal) X W (ix2 r n) = ∑ k : Fin 1024, X (ix2 r k) * W (ix3 0 k n) := by
  pointwise [Cert.QkvRefIdeal.Read.val_main_v1, Cert.QkvRefIdeal.Read.val_main_v0]

/-- The reference's keys and values at an index. -/
theorem kv_at (X : FVec Ideal S16384x1024 .f32) (K : FVec Ideal S1024x512 .f32) (r : Fin 16384) (n : Fin 512) :
    Cert.QkvRefIdeal.Read.val_main_v2 (F := Ideal) X K (ix2 r n) = ∑ k : Fin 1024, X (ix2 r k) * K (ix2 k n) := by
  pointwise [Cert.QkvRefIdeal.Read.val_main_v2]

/-- The reference's entry is a row of the input against a column of the joined weights. -/
theorem ref_at (X : FVec Ideal S16384x1024 .f32) (W : FVec Ideal S1x1024x1024 .f32) (K : FVec Ideal S1024x512 .f32)
    (r : Fin 16384) (n : Fin 1536) : Cert.QkvRefIdeal.Read.val_main_v3 (F := Ideal) X W K (ix2 r n)
      = ∑ k : Fin 1024, X (ix2 r k) * joined W K k n := by
  refine (pair_at 16384 _ _ _ r n).trans ?_
  unfold joined
  by_cases h : n.val < 1024
  · simp only [dif_pos h]; exact q_at X W r _
  · simp only [dif_neg h]; exact kv_at X K r _

/-- The kernel's entry, without its bias of zeros. -/
theorem body_at (x : FVec Ideal S512x1024 .f32) (w : FVec Ideal S1024x512 .bf16) (b : FVec Ideal S1x512 .f32)
    (i : Fin 512) (j : Fin 512) (hb : b (ix2 0 j) = 0) :
    k0_pay1 (F := Ideal) x w b (ix2 i j) = ∑ k : Fin 1024, x (ix2 i k) * w (ix2 k j) := by
  pointwise [k0_pay1]
  rw [hb, add_zero]

/-- The weights as the call finds them. -/
theorem entry_w (c : Dev nD) (k : Fin 1024) (n : Fin 1536) : V m c main_v2 (ix2 k n) = joined (m ((c : Thread nD τ).loc main_arg1)) (m ((c : Thread nD τ).loc main_arg2)) k n := by
  have h : V m c main_v2 = truncf (F := Ideal) .bf16 (concatenate S1024x1536 1 [⟨S1024x1024, shapeCast S1024x1024 (m ((c : Thread nD τ).loc main_arg1)) shapeCasts_S1x1024x1024_S1024x1024⟩, ⟨S1024x512, (m ((c : Thread nD τ).loc main_arg2))⟩]
      concatenates_S1024x1024_S1024x512_S1024x1536_d1) bitsLt_bf16_f32 := by
    unfold V; after_results <;> rfl
  rw [h]
  exact cols_at _ _ k n

/-- The bias of zeros at an index. -/
theorem zeros_at (n : Fin 1536) : (broadcastInDim S1x1536 ![] bcast_S_S1x1536 (constant (F := Ideal) S_ .f32 0x00000000#32)) (ix2 0 n) = (0 : EReal) := by
  pointwise

/-- The bias as the call finds it. -/
theorem entry_b (c : Dev nD) (n : Fin 1536) : V m c main_v3 (ix2 0 n) = (0 : EReal) := by
  have h : V m c main_v3 = broadcastInDim S1x1536 ![] bcast_S_S1x1536 (constant (F := Ideal) S_ .f32 0x00000000#32) := by
    unfold V; after_results <;> rfl
  rw [h]
  exact zeros_at n

/-- At every grid point the body's entry is the reference's at the place it is written to. -/
theorem point (c : Dev nD) (t : Fin cfg0.N) (i : Fin 512) (j : Fin 512) (r : Fin 16384) (n : Fin 1536)
    (hr : r.val = t.val / 3 * 512 + i.val) (hn : n.val = t.val % 3 * 512 + j.val) :
    k0_pay1 (F := Ideal) (iblk m c 0 t) (iblk m c 1 t) (iblk m c 2 t) (ix2 i j)
      = Cert.QkvRefIdeal.Read.val_main_v3 (F := Ideal) (m ((c : Thread nD τ).loc main_arg0)) (m ((c : Thread nD τ).loc main_arg1)) (m ((c : Thread nD τ).loc main_arg2)) (ix2 r n) := by
  refine (body_at _ _ _ i j ?_).trans (Eq.trans (Finset.sum_congr rfl fun k _ => congrArg₂ (· * ·) ?_ ?_) (ref_at _ _ _ r n).symm)
  · refine Eq.trans ?_ (entry_b m c n); blk_ext [iblk, idx t]
  · refine Eq.trans ?_ (congrFun (V_main_arg0 m c) _); blk_ext [iblk, idx t]
  · refine Eq.trans ?_ (entry_w m c k n); blk_ext [iblk, idx t]

/-- The result array after the run. -/
theorem final (c : Dev nD) : (dats m 0 c).arrAt 3 cfg0.N = Cert.QkvRefIdeal.Read.val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  have h1 := (idx t).2.2.2.2
  have hy : (y 0 : ℕ) < 512 := (y 0).isLt
  have hz : (y 1 : ℕ) < 512 := (y 1).isLt
  refine Eq.trans (congrArg _ (eq_ix2 y)) ((point m c t (y 0) (y 1) ⟨t.val / 3 * 512 + (y 0).val, by omega⟩ ⟨t.val % 3 * 512 + (y 1).val, by omega⟩ rfl rfl).trans (congrArg _ ?_))
  blk_ext [idx t]

end Cert.QkvIdeal.Value

end
-- ==== Proof.QkvSValue.lean ====
/- The second layer's projection of the new tokens: after the run the kernel's result array is the reference's term, entry by entry. -/
module

public import proofs.«01_k».proof.Proof.Gen.QkvSIdeal.Value
public import proofs.«01_k».proof.Proof.Gen.QkvSRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.QkvSIdeal.Value

open Cert.QkvSIdeal Cert.QkvSIdeal.Gen Idealize.ShloMosaic Idealize.ShloMosaic.TcCoe Idealize.SL.Sem
open Idealize.ShloMosaic.Pipeline (Dat)

variable (m : (ℓ : Loc nD τ sig) → Buf (Elt Ideal) ℓ)

/-- Which block each window reads or writes at grid point `t`. -/
theorem idx : ∀ t : Fin cfg0.N, win0_0.index t = ![t.val / 3, 0] ∧ win0_1.index t = ![0, t.val % 3]
    ∧ win0_2.index t = ![0, t.val % 3] ∧ win0_3.index t = ![t.val / 3, t.val % 3] ∧ t.val / 3 < 1 :=
  (by decide +kernel : ∀ t : Fin grid0.N, _)

/-- Column `n` of the joined weights: a query column below 1024, a key or value column from there on. -/
def joined (W : FVec Ideal S1x1024x1024 .f32) (K : FVec Ideal S1024x512 .f32) (k : Fin 1024) (n : Fin 1536) : EReal :=
  if h : n.val < 1024 then W (ix3 0 k ⟨n.val, h⟩) else K (ix2 k ⟨n.val - 1024, by omega⟩)

/-- Two arrays joined along their columns, at an index. -/
theorem pair_at (R : Nat) (A : (⟨_, ![R, 1024]⟩ : Shape).Idx → EReal) (B : (⟨_, ![R, 512]⟩ : Shape).Idx → EReal)
    (hc : Shape.Concatenates [⟨_, ![R, 1024]⟩, ⟨_, ![R, 512]⟩] ⟨_, ![R, 1536]⟩ 1) (r : Fin R) (n : Fin 1536) :
    concatenate ⟨_, ![R, 1536]⟩ 1 [⟨_, A⟩, ⟨_, B⟩] hc (ix2 r n)
      = if h : n.val < 1024 then A (ix2 r ⟨n.val, h⟩) else B (ix2 r ⟨n.val - 1024, by omega⟩) := by
  by_cases h : n.val < 1024
  · rw [dif_pos h]
    exact concatenate_pair_apply_left 1 A B hc (ix2 r n) rfl (ix2 r ⟨n.val, h⟩) fun b => by
      match b with
      | ⟨0, _⟩ => rfl
      | ⟨1, _⟩ => rfl
  · rw [dif_neg h]
    refine concatenate_pair_apply_right 1 A B hc (ix2 r n) rfl rfl (ix2 r ⟨n.val - 1024, by omega⟩) (fun b hb => ?_) ?_
    · match b with
      | ⟨0, _⟩ => rfl
      | ⟨1, _⟩ => exact absurd rfl hb
    · show n.val - 1024 + 1024 = n.val
      omega

/-- The joined weights as the host lays them out. -/
theorem cols_at (W : FVec Ideal S1x1024x1024 .f32) (K : FVec Ideal S1024x512 .f32) (k : Fin 1024) (n : Fin 1536) :
    truncf (F := Ideal) .bf16 (concatenate S1024x1536 1 [⟨S1024x1024, shapeCast S1024x1024 W shapeCasts_S1x1024x1024_S1024x1024⟩, ⟨S1024x512, K⟩]
      concatenates_S1024x1024_S1024x512_S1024x1536_d1) bitsLt_bf16_f32 (ix2 k n) = joined W K k n := by
  unfold joined
  refine (pair_at 1024 _ K concatenates_S1024x1024_S1024x512_S1024x1536_d1 k n).trans ?_
  refine dite_congr rfl (fun h => ?_) (fun h => rfl)
  pointwise

/-- The reference's queries at an index. -/
theorem q_at (X : FVec Ideal S128x1024 .f32) (W : FVec Ideal S1x1024x1024 .f32) (r : Fin 128) (n : Fin 1024) :
    Cert.QkvSRefIdeal.Read.val_main_v1 (F := Ideal) X W (ix2 r n) = ∑ k : Fin 1024, X (ix2 r k) * W (ix3 0 k n) := by
  pointwise [Cert.QkvSRefIdeal.Read.val_main_v1, Cert.QkvSRefIdeal.Read.val_main_v0]

/-- The reference's keys and values at an index. -/
theorem kv_at (X : FVec Ideal S128x1024 .f32) (K : FVec Ideal S1024x512 .f32) (r : Fin 128) (n : Fin 512) :
    Cert.QkvSRefIdeal.Read.val_main_v2 (F := Ideal) X K (ix2 r n) = ∑ k : Fin 1024, X (ix2 r k) * K (ix2 k n) := by
  pointwise [Cert.QkvSRefIdeal.Read.val_main_v2]

/-- The reference's entry is a row of the input against a column of the joined weights. -/
theorem ref_at (X : FVec Ideal S128x1024 .f32) (W : FVec Ideal S1x1024x1024 .f32) (K : FVec Ideal S1024x512 .f32)
    (r : Fin 128) (n : Fin 1536) : Cert.QkvSRefIdeal.Read.val_main_v3 (F := Ideal) X W K (ix2 r n)
      = ∑ k : Fin 1024, X (ix2 r k) * joined W K k n := by
  refine (pair_at 128 _ _ _ r n).trans ?_
  unfold joined
  by_cases h : n.val < 1024
  · simp only [dif_pos h]; exact q_at X W r _
  · simp only [dif_neg h]; exact kv_at X K r _

/-- The kernel's entry, without its bias of zeros. -/
theorem body_at (x : FVec Ideal S128x1024 .f32) (w : FVec Ideal S1024x512 .bf16) (b : FVec Ideal S1x512 .f32)
    (i : Fin 128) (j : Fin 512) (hb : b (ix2 0 j) = 0) :
    k0_pay1 (F := Ideal) x w b (ix2 i j) = ∑ k : Fin 1024, x (ix2 i k) * w (ix2 k j) := by
  pointwise [k0_pay1]
  rw [hb, add_zero]

/-- The weights as the call finds them. -/
theorem entry_w (c : Dev nD) (k : Fin 1024) (n : Fin 1536) : V m c main_v2 (ix2 k n) = joined (m ((c : Thread nD τ).loc main_arg1)) (m ((c : Thread nD τ).loc main_arg2)) k n := by
  have h : V m c main_v2 = truncf (F := Ideal) .bf16 (concatenate S1024x1536 1 [⟨S1024x1024, shapeCast S1024x1024 (m ((c : Thread nD τ).loc main_arg1)) shapeCasts_S1x1024x1024_S1024x1024⟩, ⟨S1024x512, (m ((c : Thread nD τ).loc main_arg2))⟩]
      concatenates_S1024x1024_S1024x512_S1024x1536_d1) bitsLt_bf16_f32 := by
    unfold V; after_results <;> rfl
  rw [h]
  exact cols_at _ _ k n

/-- The bias of zeros at an index. -/
theorem zeros_at (n : Fin 1536) : (broadcastInDim S1x1536 ![] bcast_S_S1x1536 (constant (F := Ideal) S_ .f32 0x00000000#32)) (ix2 0 n) = (0 : EReal) := by
  pointwise

/-- The bias as the call finds it. -/
theorem entry_b (c : Dev nD) (n : Fin 1536) : V m c main_v3 (ix2 0 n) = (0 : EReal) := by
  have h : V m c main_v3 = broadcastInDim S1x1536 ![] bcast_S_S1x1536 (constant (F := Ideal) S_ .f32 0x00000000#32) := by
    unfold V; after_results <;> rfl
  rw [h]
  exact zeros_at n

/-- At every grid point the body's entry is the reference's at the place it is written to. -/
theorem point (c : Dev nD) (t : Fin cfg0.N) (i : Fin 128) (j : Fin 512) (r : Fin 128) (n : Fin 1536)
    (hr : r.val = t.val / 3 * 128 + i.val) (hn : n.val = t.val % 3 * 512 + j.val) :
    k0_pay1 (F := Ideal) (iblk m c 0 t) (iblk m c 1 t) (iblk m c 2 t) (ix2 i j)
      = Cert.QkvSRefIdeal.Read.val_main_v3 (F := Ideal) (m ((c : Thread nD τ).loc main_arg0)) (m ((c : Thread nD τ).loc main_arg1)) (m ((c : Thread nD τ).loc main_arg2)) (ix2 r n) := by
  refine (body_at _ _ _ i j ?_).trans (Eq.trans (Finset.sum_congr rfl fun k _ => congrArg₂ (· * ·) ?_ ?_) (ref_at _ _ _ r n).symm)
  · refine Eq.trans ?_ (entry_b m c n); blk_ext [iblk, idx t]
  · refine Eq.trans ?_ (congrFun (V_main_arg0 m c) _); blk_ext [iblk, idx t]
  · refine Eq.trans ?_ (entry_w m c k n); blk_ext [iblk, idx t]

/-- The result array after the run. -/
theorem final (c : Dev nD) : (dats m 0 c).arrAt 3 cfg0.N = Cert.QkvSRefIdeal.Read.val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  have h1 := (idx t).2.2.2.2
  have hy : (y 0 : ℕ) < 128 := (y 0).isLt
  have hz : (y 1 : ℕ) < 512 := (y 1).isLt
  refine Eq.trans (congrArg _ (eq_ix2 y)) ((point m c t (y 0) (y 1) ⟨t.val / 3 * 128 + (y 0).val, by omega⟩ ⟨t.val % 3 * 512 + (y 1).val, by omega⟩ rfl rfl).trans (congrArg _ ?_))
  blk_ext [idx t]

end Cert.QkvSIdeal.Value

end
-- ==== Proof.LinSValue.lean ====
/- The first input projection of the new tokens: after the run the kernel's result array is the reference's term, entry by entry. -/
module

public import proofs.«01_k».proof.Proof.Gen.LinSIdeal.Value
public import proofs.«01_k».proof.Proof.Gen.LinSRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.LinSIdeal.Value

open Cert.LinSIdeal Cert.LinSIdeal.Gen Idealize.ShloMosaic Idealize.ShloMosaic.TcCoe Idealize.SL.Sem
open Idealize.ShloMosaic.Pipeline (Dat)

variable (m : (ℓ : Loc nD τ sig) → Buf (Elt Ideal) ℓ)

/-- Which block each window reads or writes at grid point `t`. -/
theorem idx : ∀ t : Fin cfg0.N, win0_0.index t = ![t.val / 8, 0] ∧ win0_1.index t = ![0, t.val % 8]
    ∧ win0_2.index t = ![0, t.val % 8] ∧ win0_3.index t = ![t.val / 8, t.val % 8] ∧ t.val / 8 < 1 :=
  (by decide +kernel : ∀ t : Fin grid0.N, _)

/-- Flattening the two token axes of the new tokens. -/
theorem flat_at (X : FVec Ideal S128x1x1024 .f32) (r : Fin 128) (k : Fin 1024) :
    shapeCast S128x1024 X shapeCasts_S128x1x1024_S128x1024 (ix2 r k)
      = X (ix3 r 0 k) := by
  pointwise

/-- The first 4096 columns of the projection's weights. -/
theorem cols_at (W : FVec Ideal S1x1024x4104 .f32) (k : Fin 1024) (n : Fin 4096) :
    truncf (F := Ideal) .bf16 (extractStridedSlice S1024x4096 ![0, 0] (shapeCast S1024x4104 W
      shapeCasts_S1x1024x4104_S1024x4104) slices_S1024x4104_S1024x4096_0_0) bitsLt_bf16_f32 (ix2 k n)
      = W (ix3 0 k ⟨n.val, by omega⟩) := by
  pointwise

/-- The first 4096 entries of the projection's bias, as a row. -/
theorem row_at (B : FVec Ideal S1x4104 .f32) (n : Fin 4096) :
    shapeCast S1x4096 (extractStridedSlice S4096 ![0] (shapeCast S4104 B shapeCasts_S1x4104_S4104) slices_S4104_S4096_0)
      shapeCasts_S4096_S1x4096 (ix2 0 n) = B (ix2 0 ⟨n.val, by omega⟩) := by
  pointwise

/-- What the new tokens's window is cut from: the new tokens with its two token axes flattened. -/
theorem entry0 (c : Dev nD) (r : Fin 128) (k : Fin 1024) : V m c main_v0 (ix2 r k)
    = m ((c : Thread nD τ).loc main_arg0) (ix3 r 0 k) := by
  have h : V m c main_v0 = shapeCast S128x1024 (m ((c : Thread nD τ).loc main_arg0)) shapeCasts_S128x1x1024_S128x1024 := by
    unfold V; after_results <;> rfl
  rw [h]
  exact flat_at _ r k

/-- What the weights' window is cut from: the first 4096 columns of the projection's weights. -/
theorem entry1 (c : Dev nD) (k : Fin 1024) (n : Fin 4096) : V m c main_v4 (ix2 k n)
    = m ((c : Thread nD τ).loc main_arg1) (ix3 0 k ⟨n.val, by omega⟩) := by
  have h : V m c main_v4 = truncf (F := Ideal) .bf16 (extractStridedSlice S1024x4096 ![0, 0] (shapeCast S1024x4104 (m ((c : Thread nD τ).loc main_arg1))
      shapeCasts_S1x1024x4104_S1024x4104) slices_S1024x4104_S1024x4096_0_0) bitsLt_bf16_f32 := by
    unfold V; after_results <;> rfl
  rw [h]
  exact cols_at _ k n

/-- What the bias' window is cut from: the first 4096 entries of the projection's bias. -/
theorem entry2 (c : Dev nD) (n : Fin 4096) : V m c main_v6 (ix2 0 n)
    = m ((c : Thread nD τ).loc main_arg2) (ix2 0 ⟨n.val, by omega⟩) := by
  have h : V m c main_v6 = shapeCast S1x4096 (extractStridedSlice S4096 ![0] (shapeCast S4104 (m ((c : Thread nD τ).loc main_arg2))
      shapeCasts_S1x4104_S4104) slices_S4104_S4096_0) shapeCasts_S4096_S1x4096 := by
    unfold V; after_results <;> rfl
  rw [h]
  exact row_at _ n

/-- The new tokens's block at a grid point, from the kernel's own argument. -/
theorem blk0 (c : Dev nD) (t : Fin cfg0.N) (i : Fin 128) (k : Fin 1024) : iblk m c 0 t (ix2 i k)
    = m ((c : Thread nD τ).loc main_arg0)
        (ix3 ⟨t.val / 8 * 128 + i.val, by have := (idx t).2.2.2.2; omega⟩ 0 k) := by
  refine Eq.trans ?_ (entry0 m c ⟨t.val / 8 * 128 + i.val, by have := (idx t).2.2.2.2; omega⟩ k)
  blk_ext [iblk, idx t]

/-- The weights' block at a grid point. -/
theorem blk1 (c : Dev nD) (t : Fin cfg0.N) (k : Fin 1024) (j : Fin 512) : iblk m c 1 t (ix2 k j)
    = m ((c : Thread nD τ).loc main_arg1) (ix3 0 k ⟨t.val % 8 * 512 + j.val, by omega⟩) := by
  refine Eq.trans ?_ (entry1 m c k ⟨t.val % 8 * 512 + j.val, by omega⟩)
  blk_ext [iblk, idx t]

/-- The bias' block at a grid point. -/
theorem blk2 (c : Dev nD) (t : Fin cfg0.N) (j : Fin 512) : iblk m c 2 t (ix2 0 j)
    = m ((c : Thread nD τ).loc main_arg2) (ix2 0 ⟨t.val % 8 * 512 + j.val, by omega⟩) := by
  refine Eq.trans ?_ (entry2 m c ⟨t.val % 8 * 512 + j.val, by omega⟩)
  blk_ext [iblk, idx t]

/-- At every grid point the body's entry is the reference's at the place it is written to. -/
theorem point (c : Dev nD) (t : Fin cfg0.N) (y : S128x512.Idx) :
    k0_pay1 (F := Ideal) (iblk m c 0 t) (iblk m c 1 t) (iblk m c 2 t) y
      = Cert.LinSRefIdeal.Read.val_main_v7 (F := Ideal) (m ((c : Thread nD τ).loc main_arg0)) (m ((c : Thread nD τ).loc main_arg1))
          (m ((c : Thread nD τ).loc main_arg2)) (((cfg0.win 3).blk t).view.emb y) := by
  pointwise [k0_pay1, Cert.LinSRefIdeal.Read.val_main_v7, Cert.LinSRefIdeal.Read.val_main_v6, Cert.LinSRefIdeal.Read.val_main_v5,
    Cert.LinSRefIdeal.Read.val_main_v4, Cert.LinSRefIdeal.Read.val_main_v3, Cert.LinSRefIdeal.Read.val_main_v2,
    Cert.LinSRefIdeal.Read.val_main_v1, Cert.LinSRefIdeal.Read.val_main_v0]
  refine congrArg₂ (· + ·) (Finset.sum_congr rfl fun k _ => congrArg₂ (· * ·) ((blk0 m c t (y 0) k).trans ?_) ((blk1 m c t k (y 1)).trans ?_))
    ((blk2 m c t (y 1)).trans ?_)
  all_goals blk_ext [idx t]

/-- The result array after the run. -/
theorem final (c : Dev nD) : (dats m 0 c).arrAt 3 cfg0.N
      = Cert.LinSRefIdeal.Read.val_main_v7 (F := Ideal) (m ((c : Thread nD τ).loc main_arg0)) (m ((c : Thread nD τ).loc main_arg1))
          (m ((c : Thread nD τ).loc main_arg2)) := by
  refine (dats m 0 c).arrAt_eq_of_covers 3 _ (by decide +kernel) fun t _ y => ?_
  blk_simp
  rw [after0_3]; frame_out
  exact point m c t y

end Cert.LinSIdeal.Value

end
-- ==== Proof.PlainValue.lean ====
/- The attention's output projection with the residual and the norm: after the run the kernel's result array is the
   reference's term, entry by entry. -/
module

public import proofs.«01_k».proof.Proof.Gen.PlainIdeal.Value
public import proofs.«01_k».proof.Proof.Gen.PlainRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.PlainIdeal.Value

open Cert.PlainIdeal Cert.PlainIdeal.Gen Idealize.ShloMosaic Idealize.ShloMosaic.TcCoe Idealize.SL.Sem
open Idealize.ShloMosaic.Pipeline (Dat)

variable (m : (ℓ : Loc nD τ sig) → Buf (Elt Ideal) ℓ)

/-- Which block each window reads or writes at grid point `t`. -/
theorem idx : ∀ t : Fin cfg0.N, win0_0.index t = ![t.val, 0] ∧ win0_1.index t = ![0, 0]
    ∧ win0_2.index t = ![t.val, 0] ∧ win0_3.index t = ![0, 0] ∧ win0_4.index t = ![0, 0] ∧ win0_5.index t = ![t.val, 0]
    ∧ t.val < 64 :=
  (by decide +kernel : ∀ t : Fin grid0.N, _)

/-- The output projection's weights without their layer axis. -/
theorem weight_at (W : FVec Ideal S1x1024x1024 .f32) (k n : Fin 1024) :
    truncf (F := Ideal) .bf16 (shapeCast S1024x1024 W shapeCasts_S1x1024x1024_S1024x1024) bitsLt_bf16_f32 (ix2 k n)
      = W (ix3 0 k n) := by
  pointwise

/-- The second layer's row of a table of two. -/
theorem second_at (G : FVec Ideal S2x1024 .f32) (n : Fin 1024) :
    shapeCast S1x1024 (shapeCast S1024 (extractStridedSlice S1x1024 ![1, 0] G slices_S2x1024_S1x1024_1_0) shapeCasts_S1x1024_S1024)
      shapeCasts_S1024_S1x1024 (ix2 0 n) = G (ix2 1 n) := by
  pointwise

/-- The weights as the call finds them. -/
theorem entry_w (c : Dev nD) (k n : Fin 1024) : V m c main_v1 (ix2 k n) = m ((c : Thread nD τ).loc main_arg1) (ix3 0 k n) := by
  have h : V m c main_v1 = truncf (F := Ideal) .bf16 (shapeCast S1024x1024 (m ((c : Thread nD τ).loc main_arg1))
      shapeCasts_S1x1024x1024_S1024x1024) bitsLt_bf16_f32 := by
    unfold V; after_results <;> rfl
  rw [h]
  exact weight_at _ k n

/-- The norm's scale as the call finds it. -/
theorem entry_g (c : Dev nD) (n : Fin 1024) : V m c main_v4 (ix2 0 n) = m ((c : Thread nD τ).loc main_arg3) (ix2 1 n) := by
  have h : V m c main_v4 = shapeCast S1x1024 (shapeCast S1024 (extractStridedSlice S1x1024 ![1, 0] (m ((c : Thread nD τ).loc main_arg3))
      slices_S2x1024_S1x1024_1_0) shapeCasts_S1x1024_S1024) shapeCasts_S1024_S1x1024 := by
    unfold V; after_results <;> rfl
  rw [h]
  exact second_at _ n

/-- The norm's offset as the call finds it. -/
theorem entry_b (c : Dev nD) (n : Fin 1024) : V m c main_v7 (ix2 0 n) = m ((c : Thread nD τ).loc main_arg4) (ix2 1 n) := by
  have h : V m c main_v7 = shapeCast S1x1024 (shapeCast S1024 (extractStridedSlice S1x1024 ![1, 0] (m ((c : Thread nD τ).loc main_arg4))
      slices_S2x1024_S1x1024_1_0) shapeCasts_S1x1024_S1024) shapeCasts_S1024_S1x1024 := by
    unfold V; after_results <;> rfl
  rw [h]
  exact second_at _ n

/-- The kernel's row of a block is the reference's row, when the blocks hold the reference's arguments at that row. -/
theorem core (o : FVec Ideal S256x1024 .f32) (w : FVec Ideal S1024x1024 .bf16) (x : FVec Ideal S256x1024 .f32)
    (g b : FVec Ideal S1x1024 .f32) (O : FVec Ideal S16384x1024 .f32)
    (W : FVec Ideal S1x1024x1024 .f32) (X : FVec Ideal S16384x1024 .f32) (G B : FVec Ideal S2x1024 .f32)
    (i : Fin 256) (r : Fin 16384) (n : Fin 1024)
    (ho : ∀ k : Fin 1024, o (ix2 i k) = O (ix2 r k))
    (hw : ∀ (k n : Fin 1024), w (ix2 k n) = W (ix3 0 k n))
    (hx : ∀ n : Fin 1024, x (ix2 i n) = X (ix2 r n))
    (hg : ∀ n : Fin 1024, g (ix2 0 n) = G (ix2 1 n)) (hb : ∀ n : Fin 1024, b (ix2 0 n) = B (ix2 1 n)) :
    k0_pay1 (F := Ideal) o w x g b (ix2 i n) = Cert.PlainRefIdeal.Read.val_main_v32 (F := Ideal) O W X G B (ix2 r n) := by
  pointwise [k0_pay1, Cert.PlainRefIdeal.Read.val_main_v0, Cert.PlainRefIdeal.Read.val_main_v1, Cert.PlainRefIdeal.Read.val_main_v2, Cert.PlainRefIdeal.Read.val_main_v3, Cert.PlainRefIdeal.Read.val_main_v4, Cert.PlainRefIdeal.Read.val_main_v5, Cert.PlainRefIdeal.Read.val_main_v6, Cert.PlainRefIdeal.Read.val_main_v7, Cert.PlainRefIdeal.Read.val_main_v8, Cert.PlainRefIdeal.Read.val_main_v9, Cert.PlainRefIdeal.Read.val_main_v10, Cert.PlainRefIdeal.Read.val_main_v11, Cert.PlainRefIdeal.Read.val_main_v12, Cert.PlainRefIdeal.Read.val_main_v13, Cert.PlainRefIdeal.Read.val_main_v14, Cert.PlainRefIdeal.Read.val_main_v15, Cert.PlainRefIdeal.Read.val_main_v16, Cert.PlainRefIdeal.Read.val_main_v17, Cert.PlainRefIdeal.Read.val_main_v18, Cert.PlainRefIdeal.Read.val_main_v19, Cert.PlainRefIdeal.Read.val_main_v20, Cert.PlainRefIdeal.Read.val_main_v21, Cert.PlainRefIdeal.Read.val_main_v22, Cert.PlainRefIdeal.Read.val_main_v23, Cert.PlainRefIdeal.Read.val_main_v24, Cert.PlainRefIdeal.Read.val_main_v25, Cert.PlainRefIdeal.Read.val_main_v26, Cert.PlainRefIdeal.Read.val_main_v27, Cert.PlainRefIdeal.Read.val_main_v28, Cert.PlainRefIdeal.Read.val_main_v29, Cert.PlainRefIdeal.Read.val_main_v30, Cert.PlainRefIdeal.Read.val_main_v31, Cert.PlainRefIdeal.Read.val_main_v32, Cert.PlainRefIdeal.Read.val_main_cst, Cert.PlainRefIdeal.Read.val_main_cst_0, Cert.PlainRefIdeal.Read.val_main_cst_1, Cert.PlainRefIdeal.Read.val_main_cst_2, Cert.PlainRefIdeal.Read.val_main_cst_3, Cert.PlainRefIdeal.Read.val_main_cst_4]
  simp only [ho, hw, hx, hg, hb]

/-- At every grid point the body's entry is the reference's at the place it is written to. -/
theorem point (c : Dev nD) (t : Fin cfg0.N) (i : Fin 256) (n : Fin 1024) (r : Fin 16384) (hr : r.val = t.val * 256 + i.val) :
    k0_pay1 (F := Ideal) (iblk m c 0 t) (iblk m c 1 t) (iblk m c 2 t) (iblk m c 3 t) (iblk m c 4 t) (ix2 i n)
      = Cert.PlainRefIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r n) := by
  refine core _ _ _ _ _ _ _ _ _ _ i r n (fun k => ?_) (fun k n => ?_) (fun n => ?_) (fun n => ?_) (fun n => ?_)
  · refine Eq.trans ?_ (congrFun (V_main_arg0 m c) _); blk_ext [iblk, idx t]
  · refine Eq.trans ?_ (entry_w m c k n); blk_ext [iblk, idx t]
  · refine Eq.trans ?_ (congrFun (V_main_arg2 m c) _); blk_ext [iblk, idx t]
  · refine Eq.trans ?_ (entry_g m c n); blk_ext [iblk, idx t]
  · refine Eq.trans ?_ (entry_b m c n); blk_ext [iblk, idx t]

/-- The result array after the run. -/
theorem final (c : Dev nD) : (dats m 0 c).arrAt 5 cfg0.N = Cert.PlainRefIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; frame_out
  have h1 := (idx t).2.2.2.2.2.2
  have hy : (y 0 : ℕ) < 256 := (y 0).isLt
  refine Eq.trans (congrArg _ (eq_ix2 y)) ((point m c t (y 0) (y 1) ⟨t.val * 256 + (y 0).val, by omega⟩ rfl).trans (congrArg _ ?_))
  blk_ext [idx t]

end Cert.PlainIdeal.Value

end
-- ==== Proof.StepValue.lean ====
/- The decode step of the matrix recurrence: after the run the kernel's four result arrays are the reference's terms, entry by entry. -/
module

public import proofs.«01_k».proof.Proof.Gen.StepIdeal.Value
public import proofs.«01_k».proof.Proof.Gen.StepRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.StepIdeal.Value

open Cert.StepIdeal Cert.StepIdeal.Gen Idealize.ShloMosaic Idealize.ShloMosaic.TcCoe Idealize.SL.Sem
open Idealize.ShloMosaic.Pipeline (Dat)

variable (m : (ℓ : Loc nD τ sig) → Buf (Elt Ideal) ℓ)

/-- A sum over the lanes that keeps only the lane numbered `h` is that lane. -/
theorem pick (h N : ℕ) (hh : h < 4294967296) (hN : N ≤ 128) (f : Fin N → EReal) (j : Fin N) (hj : j.val = h) :
    ∑ k : Fin N, Scalar.select (IntOp.cmpi CmpIPredicate.eq (BitVec.ofNat 32 k.val) (BitVec.ofNat 32 h)) (f k) (0 : EReal) = f j := by
  have e : ∀ k : Fin N, Scalar.select (IntOp.cmpi CmpIPredicate.eq (BitVec.ofNat 32 k.val) (BitVec.ofNat 32 h)) (f k) (0 : EReal) = if k = j then f k else 0 := fun k => by
    have hk : (BitVec.ofNat 32 k.val = BitVec.ofNat 32 h) ↔ k = j := by
      constructor
      · intro h1
        have h2 := congrArg BitVec.toNat h1
        simp only [BitVec.toNat_ofNat] at h2
        exact Fin.ext (by omega)
      · rintro rfl; rw [hj]
    by_cases h3 : k = j
    · rw [if_pos h3]
      have h4 := hk.mpr h3
      simp only [Scalar.select, IntOp.cmpi, h4]
      simp
    · rw [if_neg h3]
      have h4 : (BitVec.ofNat 32 k.val == BitVec.ofNat 32 h) = false := by
        rw [beq_eq_false_iff_ne]; exact fun h5 => h3 (hk.mp h5)
      simp only [Scalar.select, IntOp.cmpi, h4]
      simp
  rw [Finset.sum_congr rfl fun k _ => e k]
  simp

/-- The one-hot matrix of the grid point's token. -/
theorem sel (i : grid0.Coords) (j b : Fin 128) : k0_pay5 (F := Ideal) i (ix2 j b) = if j.val = (i 0).val then (1 : EReal) else 0 := by
  have h0 : (i 0).val < 128 := (i 0).isLt
  pointwise [k0_pay5]
  generalize (i 0).val = n at *
  by_cases h : j.val = n
  · rw [if_pos h, h]; simp [IntOp.cmpi]
    show ((((1#32 : BitVec 32).toInt : ℤ) : ℝ) : EReal) = 1
    simp
  · have h4 : (BitVec.ofNat 32 j.val == BitVec.ofNat 32 n) = false := by
      rw [beq_eq_false_iff_ne]; intro h5
      have h2 := congrArg BitVec.toNat h5
      simp only [BitVec.toNat_ofNat] at h2
      omega
    rw [if_neg h]; simp [IntOp.cmpi, h4]
    show ((((0#32 : BitVec 32).toInt : ℤ) : ℝ) : EReal) = 0
    simp

/-- The keys' column of the grid point's token, repeated along the lanes. -/
theorem kmat (i : grid0.Coords) (x : FVec Ideal S512x128 .f32) (k e : Fin 512) :
    k0_pay7 (F := Ideal) i x (ix2 k e) = x (ix2 k ⟨(i 0).val, (i 0).isLt⟩) := by
  have h : k0_pay7 (F := Ideal) i x (ix2 k e) = ∑ j : Fin 128, x (ix2 k j) * k0_pay5 (F := Ideal) i (ix2 j ⟨e.val % 128, by omega⟩) := by
    unfold k0_pay7
    generalize k0_pay5 (F := Ideal) i = P
    pointwise []
    have he := e.isLt
    split_ifs <;> exact Finset.sum_congr rfl fun j _ => congrArg (fun z => x (ix2 k j) * P (ix2 j z)) (Fin.ext (by show _ = e.val % 128; dsimp only; omega))
  rw [h, Finset.sum_eq_single (⟨(i 0).val, (i 0).isLt⟩ : Fin 128)]
  · rw [sel, if_pos rfl, mul_one]
  · intro j _ hj
    rw [sel, if_neg (fun hh => hj (Fin.ext hh)), mul_zero]
  · intro hh; exact absurd (Finset.mem_univ _) hh

/-- The queries' column of the grid point's token, repeated along the lanes. -/
theorem qmat (i : grid0.Coords) (x : FVec Ideal S512x128 .f32) (k e : Fin 512) :
    k0_pay6 (F := Ideal) i x (ix2 k e) = x (ix2 k ⟨(i 0).val, (i 0).isLt⟩) := kmat i x k e

/-- The logarithm of the sigmoid, as the kernel writes it. -/
def LS (x : EReal) : EReal := min x 0 - Ideal.log1p (Ideal.exp (0 - FloatOps.absf (F := Ideal) (φ := .f32) x))

/-- The logarithm of the sigmoid as the reference writes it is the kernel's. -/
theorem lsig_eq (x : EReal) : -(if -x ≠ -x then -x else max (-x) 0 + Ideal.log1p (Ideal.exp (-FloatOps.absf (F := Ideal) (φ := .f32) (-x))))
   = LS x := by
  unfold LS
  rw [if_neg (fun h => h rfl), zero_sub]
  have ha : (FloatOps.absf (F := Ideal) (φ := .f32) (-x) : EReal) = FloatOps.absf (F := Ideal) (φ := .f32) x := by
    simp [FloatOps.absf]
    exact max_comm _ _
  rw [ha]
  have hm : -(max (-x) 0) = min x 0 := by
    rcases le_total x 0 with h | h
    · rw [max_eq_left (EReal.neg_nonneg.mpr h), min_eq_left h, neg_neg]
    · rw [max_eq_right (by simpa using EReal.neg_le_neg_iff.mpr h), min_eq_right h, neg_zero]
  have hl : ∀ y : EReal, Ideal.log1p (Ideal.exp y) ≠ ⊥ := fun y => by
    induction y using EReal.rec with
    | bot =>
      show Ideal.log (1 + 0) ≠ ⊥
      rw [add_zero]
      show (if (1 : ℝ) ≤ 0 then (⊥ : EReal) else ((Real.log 1 : ℝ) : EReal)) ≠ ⊥
      rw [if_neg (by norm_num)]
      exact EReal.coe_ne_bot _
    | top =>
      show Ideal.log (1 + ⊤) ≠ ⊥
      rw [EReal.add_top_of_ne_bot (by exact EReal.coe_ne_bot 1)]
      exact top_ne_bot
    | coe r =>
      have h : (1 : EReal) + ((Real.exp r : ℝ) : EReal) = ((1 + Real.exp r : ℝ) : EReal) := by norm_cast
      have hp : ¬ (1 + Real.exp r) ≤ 0 := by have := Real.exp_pos r; linarith
      show Ideal.log (1 + ((Real.exp r : ℝ) : EReal)) ≠ ⊥
      rw [h]
      show (if (1 + Real.exp r) ≤ 0 then (⊥ : EReal) else ((Real.log (1 + Real.exp r) : ℝ) : EReal)) ≠ ⊥
      rw [if_neg hp]
      exact EReal.coe_ne_bot _
  rw [EReal.neg_add (Or.inl (ne_of_gt (lt_of_lt_of_le (by simp) (le_max_right (-x) 0)))) (Or.inr (hl _)), hm]

/-- The reference's forget gate. -/
theorem r5 (x3 : FVec Ideal S128x128 .f32) (b : Fin 128) (h : Fin 4) : Cert.StepRefIdeal.Read.val_main_v5 (F := Ideal) x3 (ix2 b h) = LS (x3 (ix2 b ⟨4 + h.val, by omega⟩)) := by
  refine Eq.trans ?_ (lsig_eq _)
  have hz : Cert.StepRefIdeal.Read.val_main_call0_call0_v3 (F := Ideal) x3 (ix2 b h) = -(x3 (ix2 b ⟨4 + h.val, by omega⟩)) := by
    pointwise [Cert.StepRefIdeal.Read.val_main_call0_call0_v3, Cert.StepRefIdeal.Read.val_main_call0_v0, Cert.StepRefIdeal.Read.val_main_v4,Cert.StepRefIdeal.Read.val_main_call0_call0_v2,Cert.StepRefIdeal.Read.val_main_call0_call0_cst]
  have h0 : Cert.StepRefIdeal.Read.val_main_call0_call0_v0 (F := Ideal) (ix2 b h) = (0 : EReal) := by
    pointwise [Cert.StepRefIdeal.Read.val_main_call0_call0_v0, Cert.StepRefIdeal.Read.val_main_call0_call0_cst]
  have h5 : Cert.StepRefIdeal.Read.val_main_call0_call0_v5 (F := Ideal) (ix2 b h) = (0 : EReal) := by
    pointwise [Cert.StepRefIdeal.Read.val_main_call0_call0_v5, Cert.StepRefIdeal.Read.val_main_call0_call0_cst]
  pointwise [Cert.StepRefIdeal.Read.val_main_v5, Cert.StepRefIdeal.Read.val_main_call0_v1,Cert.StepRefIdeal.Read.val_main_call0_call0_v4,Cert.StepRefIdeal.Read.val_main_call0_call0_v6,Cert.StepRefIdeal.Read.val_main_call0_call0_v11,Cert.StepRefIdeal.Read.val_main_call0_call0_v10,Cert.StepRefIdeal.Read.val_main_call0_call0_v9,Cert.StepRefIdeal.Read.val_main_call0_call0_v8,Cert.StepRefIdeal.Read.val_main_call0_call0_v7,Cert.StepRefIdeal.Read.val_main_call0_call0_v1,Cert.StepRefIdeal.Read.val_main_call0_v0,Cert.StepRefIdeal.Read.val_main_v4]
  rw [hz, h0, h5, add_zero]

/-- The reference's new maximum. -/
theorem r7 (x3 : FVec Ideal S128x128 .f32) (x4 : FVec Ideal S128x4 .f32) (b : Fin 128) (h : Fin 4) : Cert.StepRefIdeal.Read.val_main_v7 (F := Ideal) x3 x4 (ix2 b h) = max (Cert.StepRefIdeal.Read.val_main_v5 (F := Ideal) x3 (ix2 b h) + x4 (ix2 b h)) (x3 (ix2 b ⟨h.val, by omega⟩)) := by
  pointwise [Cert.StepRefIdeal.Read.val_main_v7, Cert.StepRefIdeal.Read.val_main_v6, Cert.StepRefIdeal.Read.val_main_v3]

/-- The reference's weight of the old state. -/
theorem r14 (x3 : FVec Ideal S128x128 .f32) (x4 : FVec Ideal S128x4 .f32) (b : Fin 128) (h : Fin 4) : Cert.StepRefIdeal.Read.val_main_v14 (F := Ideal) x3 x4 (ix2 b h) = Ideal.exp (Cert.StepRefIdeal.Read.val_main_v5 (F := Ideal) x3 (ix2 b h) + x4 (ix2 b h) - Cert.StepRefIdeal.Read.val_main_v7 (F := Ideal) x3 x4 (ix2 b h)) := by
  pointwise [Cert.StepRefIdeal.Read.val_main_v14, Cert.StepRefIdeal.Read.val_main_v13, Cert.StepRefIdeal.Read.val_main_v6]

/-- The reference's weight of the new token. -/
theorem r11 (x3 : FVec Ideal S128x128 .f32) (x4 : FVec Ideal S128x4 .f32) (b : Fin 128) (h : Fin 4) : Cert.StepRefIdeal.Read.val_main_v11 (F := Ideal) x3 x4 (ix2 b h) = Ideal.exp (x3 (ix2 b ⟨h.val, by omega⟩) - Cert.StepRefIdeal.Read.val_main_v7 (F := Ideal) x3 x4 (ix2 b h)) := by
  pointwise [Cert.StepRefIdeal.Read.val_main_v11, Cert.StepRefIdeal.Read.val_main_v10, Cert.StepRefIdeal.Read.val_main_v3]

/-- The weight of the new token, written twice. -/
theorem r35 (x3 : FVec Ideal S128x128 .f32) (x4 : FVec Ideal S128x4 .f32) : Cert.StepRefIdeal.Read.val_main_v35 (F := Ideal) x3 x4 = Cert.StepRefIdeal.Read.val_main_v11 (F := Ideal) x3 x4 := rfl

/-- A head's row of a flat array. -/
theorem r0 (x : FVec Ideal S128x2048 .f32) (b : Fin 128) (h : Fin 4) (d : Fin 512) : Cert.StepRefIdeal.Read.val_main_v0 (F := Ideal) x (ix3 b h d) = x (ix2 b ⟨h.val * 512 + d.val, by omega⟩) := by
  pointwise [Cert.StepRefIdeal.Read.val_main_v0]

/-- The reference's fourth result. -/
theorem r55 (x3 : FVec Ideal S128x128 .f32) (x4 : FVec Ideal S128x4 .f32) (b : Fin 128) (h : Fin 4) (l : Fin 128) : Cert.StepRefIdeal.Read.val_main_v55 (F := Ideal) x3 x4 (ix4 b h 0 l) = Cert.StepRefIdeal.Read.val_main_v7 (F := Ideal) x3 x4 (ix2 b h) := by
  pointwise [Cert.StepRefIdeal.Read.val_main_v55, Cert.StepRefIdeal.Read.val_main_v54]

/-- The reference's second result. -/
theorem r47 (x1 x2 : FVec Ideal S128x2048 .f32) (x3 : FVec Ideal S128x128 .f32) (x4 : FVec Ideal S128x4 .f32) (x6 : FVec Ideal S128x4x512x512 .f32) (b : Fin 128) (h : Fin 4) (k e : Fin 512) :
    Cert.StepRefIdeal.Read.val_main_v47 (F := Ideal) x1 x2 x3 x4 x6 (ix4 b h k e) = Cert.StepRefIdeal.Read.val_main_v14 (F := Ideal) x3 x4 (ix2 b h) * x6 (ix4 b h k e)
      + Cert.StepRefIdeal.Read.val_main_v11 (F := Ideal) x3 x4 (ix2 b h) * Cert.StepRefIdeal.Read.val_main_v0 (F := Ideal) x1 (ix3 b h k) * Cert.StepRefIdeal.Read.val_main_v0 (F := Ideal) x2 (ix3 b h e) := by
  pointwise [Cert.StepRefIdeal.Read.val_main_v47, Cert.StepRefIdeal.Read.val_main_v46, Cert.StepRefIdeal.Read.val_main_v45, Cert.StepRefIdeal.Read.val_main_v44, Cert.StepRefIdeal.Read.val_main_v43, Cert.StepRefIdeal.Read.val_main_v42, Cert.StepRefIdeal.Read.val_main_v41, Cert.StepRefIdeal.Read.val_main_v40, Cert.StepRefIdeal.Read.val_main_v39, Cert.StepRefIdeal.Read.val_main_v38, Cert.StepRefIdeal.Read.val_main_v37, Cert.StepRefIdeal.Read.val_main_v36]
  rfl

/-- The reference's third result. -/
theorem r53 (x1 : FVec Ideal S128x2048 .f32) (x3 : FVec Ideal S128x128 .f32) (x4 : FVec Ideal S128x4 .f32) (x5 : FVec Ideal S128x4x512 .f32) (b : Fin 128) (h : Fin 4) (e : Fin 512) :
    Cert.StepRefIdeal.Read.val_main_v53 (F := Ideal) x1 x3 x4 x5 (ix4 b h 0 e) = Cert.StepRefIdeal.Read.val_main_v14 (F := Ideal) x3 x4 (ix2 b h) * x5 (ix3 b h e)
      + Cert.StepRefIdeal.Read.val_main_v11 (F := Ideal) x3 x4 (ix2 b h) * Cert.StepRefIdeal.Read.val_main_v0 (F := Ideal) x1 (ix3 b h e) := by
  pointwise [Cert.StepRefIdeal.Read.val_main_v53, Cert.StepRefIdeal.Read.val_main_v51, Cert.StepRefIdeal.Read.val_main_v50, Cert.StepRefIdeal.Read.val_main_v49, Cert.StepRefIdeal.Read.val_main_v48, Cert.StepRefIdeal.Read.val_main_v38, Cert.StepRefIdeal.Read.val_main_v37, Cert.StepRefIdeal.Read.val_main_v36]
  rfl

/-- The reference's first result, a head at a time. -/
theorem r33 (x0 x1 x2 : FVec Ideal S128x2048 .f32) (x3 : FVec Ideal S128x128 .f32) (x4 : FVec Ideal S128x4 .f32) (x5 : FVec Ideal S128x4x512 .f32) (x6 : FVec Ideal S128x4x512x512 .f32) (b : Fin 128) (h : Fin 4) (e : Fin 512) :
    Cert.StepRefIdeal.Read.val_main_v33 (F := Ideal) x0 x1 x2 x3 x4 x5 x6 (ix3 b h e) = Ideal.div
      (Cert.StepRefIdeal.Read.val_main_v12 (F := Ideal) x0 x1 x3 x4 (ix2 b h) * Cert.StepRefIdeal.Read.val_main_v0 (F := Ideal) x2 (ix3 b h e) + Cert.StepRefIdeal.Read.val_main_v14 (F := Ideal) x3 x4 (ix2 b h) * (∑ d : Fin 512, Cert.StepRefIdeal.Read.val_main_v0 (F := Ideal) x0 (ix3 b h d) * x6 (ix4 b h d e)))
      (max (FloatOps.absf (F := Ideal) (φ := .f32) (Cert.StepRefIdeal.Read.val_main_v12 (F := Ideal) x0 x1 x3 x4 (ix2 b h) + Cert.StepRefIdeal.Read.val_main_v14 (F := Ideal) x3 x4 (ix2 b h) * (∑ d : Fin 512, Cert.StepRefIdeal.Read.val_main_v0 (F := Ideal) x0 (ix3 b h d) * x5 (ix3 b h d)))) (Ideal.exp (-(Cert.StepRefIdeal.Read.val_main_v7 (F := Ideal) x3 x4 (ix2 b h))))) := by
  pointwise [Cert.StepRefIdeal.Read.val_main_v33, Cert.StepRefIdeal.Read.val_main_v32, Cert.StepRefIdeal.Read.val_main_v31, Cert.StepRefIdeal.Read.val_main_v30, Cert.StepRefIdeal.Read.val_main_v29, Cert.StepRefIdeal.Read.val_main_v28, Cert.StepRefIdeal.Read.val_main_v27, Cert.StepRefIdeal.Read.val_main_v26, Cert.StepRefIdeal.Read.val_main_v25, Cert.StepRefIdeal.Read.val_main_v24, Cert.StepRefIdeal.Read.val_main_v23, Cert.StepRefIdeal.Read.val_main_v22, Cert.StepRefIdeal.Read.val_main_v21, Cert.StepRefIdeal.Read.val_main_v20, Cert.StepRefIdeal.Read.val_main_v19, Cert.StepRefIdeal.Read.val_main_v18, Cert.StepRefIdeal.Read.val_main_v17, Cert.StepRefIdeal.Read.val_main_v16, Cert.StepRefIdeal.Read.val_main_v15]
  rw [show Cert.StepRefIdeal.Read.val_main_cst_0 (F := Ideal) (Shape.Idx.first Cert.StepRefIdeal.Gen.h_S_) = (0 : EReal) by pointwise [Cert.StepRefIdeal.Read.val_main_cst_0], zero_add]
  rfl

/-- The reference's weight of the new value. -/
theorem r12 (x0 x1 : FVec Ideal S128x2048 .f32) (x3 : FVec Ideal S128x128 .f32) (x4 : FVec Ideal S128x4 .f32) (b : Fin 128) (h : Fin 4) :
    Cert.StepRefIdeal.Read.val_main_v12 (F := Ideal) x0 x1 x3 x4 (ix2 b h) = (∑ d : Fin 512, Cert.StepRefIdeal.Read.val_main_v0 (F := Ideal) x0 (ix3 b h d) * Cert.StepRefIdeal.Read.val_main_v0 (F := Ideal) x1 (ix3 b h d)) * Cert.StepRefIdeal.Read.val_main_v11 (F := Ideal) x3 x4 (ix2 b h) := by
  pointwise [Cert.StepRefIdeal.Read.val_main_v12, Cert.StepRefIdeal.Read.val_main_v9, Cert.StepRefIdeal.Read.val_main_v8]
  rw [show Cert.StepRefIdeal.Read.val_main_cst (F := Ideal) (Shape.Idx.first Cert.StepRefIdeal.Gen.h_S_) = (0 : EReal) by pointwise [Cert.StepRefIdeal.Read.val_main_cst], zero_add]
  rfl

/-- The reference's first result, its heads side by side. -/
theorem r52 (x0 x1 x2 : FVec Ideal S128x2048 .f32) (x3 : FVec Ideal S128x128 .f32) (x4 : FVec Ideal S128x4 .f32) (x5 : FVec Ideal S128x4x512 .f32) (x6 : FVec Ideal S128x4x512x512 .f32) (b : Fin 128) (h : Fin 4) (e : Fin 512) :
    Cert.StepRefIdeal.Read.val_main_v52 (F := Ideal) x0 x1 x2 x3 x4 x5 x6 (ix3 b 0 ⟨h.val * 512 + e.val, by omega⟩) = Cert.StepRefIdeal.Read.val_main_v33 (F := Ideal) x0 x1 x2 x3 x4 x5 x6 (ix3 b h e) := by
  unfold Cert.StepRefIdeal.Read.val_main_v52
  generalize Cert.StepRefIdeal.Read.val_main_v33 (F := Ideal) x0 x1 x2 x3 x4 x5 x6 = Y
  pointwise []

/-- The input gate of the grid point's head. -/
theorem p12 (i : grid0.Coords) (g : FVec Ideal S1x1x128 .f32) : k0_pay12 (F := Ideal) i g (ix2 0 0) = g (ix3 0 0 ⟨(i 1).val, lt_trans (i 1).isLt (by decide)⟩) := by
  have h0 : (i 1).val < 4 := (i 1).isLt
  pointwise [k0_pay12, k0_pay11]
  exact pick (i 1).val 128 (by omega) le_rfl (fun k => g (ix3 0 0 k)) _ rfl

/-- The old maximum of the grid point's head. -/
theorem p15 (n : ℕ) (hn : n < 4) (g : FVec Ideal S1x1x4 .f32) : k0_pay15 (F := Ideal) (BitVec.ofNat 32 n) g (ix2 0 0) = g (ix3 0 0 ⟨n, hn⟩) := by
  pointwise [k0_pay15]
  exact pick n 4 (by omega) (by omega) (fun k => g (ix3 0 0 k)) _ rfl

/-- The forget gate's argument of the grid point's head. -/
theorem p13 (i : grid0.Coords) (g : FVec Ideal S1x1x128 .f32) : k0_pay13 (F := Ideal) i g (ix2 0 0) = g (ix3 0 0 ⟨4 + (i 1).val, by have : (i 1).val < 4 := (i 1).isLt; omega⟩) := by
  have h0 : (i 1).val < 4 := (i 1).isLt
  have e : Scalar.addi (BitVec.ofNat 32 (i 1).val) 4#32 = BitVec.ofNat 32 (4 + (i 1).val) := by
    generalize (i 1).val = n at *
    interval_cases n <;> rfl
  unfold k0_pay13
  rw [e]
  pointwise [k0_pay11]
  exact pick (4 + (i 1).val) 128 (by omega) le_rfl (fun k => g (ix3 0 0 k)) _ rfl

/-- The kernel's forget gate. -/
theorem p14 (v : FVec Ideal S1x1 .f32) : k0_pay14 (F := Ideal) v (ix2 0 0) = LS (v (ix2 0 0)) := by
  unfold LS
  pointwise [k0_pay14]

/-- The kernel's new maximum. -/
theorem p16 (a : BitVec 32) (v27 v34 : FVec Ideal S1x1 .f32) (v46 : FVec Ideal S1x1x4 .f32) : k0_pay16 (F := Ideal) a v27 v34 v46 (ix2 0 0) = max (k0_pay14 (F := Ideal) v34 (ix2 0 0) + k0_pay15 (F := Ideal) a v46 (ix2 0 0)) (v27 (ix2 0 0)) := by
  pointwise [k0_pay16]

/-- The kernel's weight of the old state. -/
theorem p17 (a : BitVec 32) (v27 v34 : FVec Ideal S1x1 .f32) (v46 : FVec Ideal S1x1x4 .f32) : k0_pay17 (F := Ideal) a v27 v34 v46 (ix2 0 0) = Ideal.exp ((k0_pay14 (F := Ideal) v34 (ix2 0 0) + k0_pay15 (F := Ideal) a v46 (ix2 0 0)) - k0_pay16 (F := Ideal) a v27 v34 v46 (ix2 0 0)) := by
  pointwise [k0_pay17]

/-- The kernel's weight of the new token. -/
theorem p18 (a : BitVec 32) (v27 v34 : FVec Ideal S1x1 .f32) (v46 : FVec Ideal S1x1x4 .f32) : k0_pay18 (F := Ideal) a v27 v34 v46 (ix2 0 0) = Ideal.exp (v27 (ix2 0 0) - k0_pay16 (F := Ideal) a v27 v34 v46 (ix2 0 0)) := by
  pointwise [k0_pay18]

/-- The kernel's weight of the new value. -/
theorem p21 (a : BitVec 32) (v14 v16 : FVec Ideal S1x512 .f32) (v27 v34 : FVec Ideal S1x1 .f32) (v46 : FVec Ideal S1x1x4 .f32) : k0_pay21 (F := Ideal) a v14 v16 v27 v34 v46 (ix2 0 0) = (∑ d : Fin 512, v14 (ix2 0 d) * v16 (ix2 0 d)) * k0_pay18 (F := Ideal) a v27 v34 v46 (ix2 0 0) := by
  pointwise [k0_pay21]

/-- The new value's part of the kernel's numerator. -/
theorem p23 (a : BitVec 32) (v14 v16 v18 : FVec Ideal S1x512 .f32) (v27 v34 : FVec Ideal S1x1 .f32) (v46 : FVec Ideal S1x1x4 .f32) (e : Fin 512) : k0_pay23 (F := Ideal) a v14 v16 v18 v27 v34 v46 (ix2 0 e) = k0_pay21 (F := Ideal) a v14 v16 v27 v34 v46 (ix2 0 0) * v18 (ix2 0 e) := by
  pointwise [k0_pay23]

/-- The old state's part of the kernel's numerator. -/
theorem p24 (a : BitVec 32) (v11 : FVec Ideal S512x512 .f32) (v27 v34 : FVec Ideal S1x1 .f32) (v46 : FVec Ideal S1x1x4 .f32) (c : FVec Ideal S1x1x512x512 .f32) (e : Fin 512) : k0_pay24 (F := Ideal) a v11 v27 v34 v46 c (ix2 0 e) = k0_pay17 (F := Ideal) a v27 v34 v46 (ix2 0 0) * (∑ d : Fin 512, v11 (ix2 d e) * c (ix4 0 0 d e)) := by
  pointwise [k0_pay24, k0_pay19]

/-- The query against the old normaliser. -/
theorem p22 (v14 : FVec Ideal S1x512 .f32) (v61 : FVec Ideal S1x1x1x512 .f32) : k0_pay22 (F := Ideal) v14 v61 (ix2 0 0) = ∑ d : Fin 512, v14 (ix2 0 d) * v61 (ix4 0 0 0 d) := by
  pointwise [k0_pay22, k0_pay20]

/-- A row of a block. -/
theorem p8 (x : FVec Ideal S1x1x512 .f32) (d : Fin 512) : k0_pay8 (F := Ideal) x (ix2 0 d) = x (ix3 0 0 d) := by
  pointwise [k0_pay8]

/-- The block of the old state. -/
theorem p19 (x : FVec Ideal S1x1x512x512 .f32) (k e : Fin 512) : k0_pay19 (F := Ideal) x (ix2 k e) = x (ix4 0 0 k e) := by
  pointwise [k0_pay19]

/-- The block of the old normaliser. -/
theorem p20 (x : FVec Ideal S1x1x1x512 .f32) (e : Fin 512) : k0_pay20 (F := Ideal) x (ix2 0 e) = x (ix4 0 0 0 e) := by
  pointwise [k0_pay20]

/-- The kernel's first result. -/
theorem p1 (v53 v56 v66 v72 : FVec Ideal S1x1 .f32) (v74 v76 : FVec Ideal S1x512 .f32) (e : Fin 512) : k0_pay1 (F := Ideal) v53 v56 v66 v72 v74 v76 (ix3 0 0 e)
    = Ideal.div (v74 (ix2 0 e) + v76 (ix2 0 e)) (max (FloatOps.absf (F := Ideal) (φ := .f32) (v66 (ix2 0 0) + v56 (ix2 0 0) * v72 (ix2 0 0))) (Ideal.exp (-(v53 (ix2 0 0))))) := by
  pointwise [k0_pay1]
  rw [zero_sub]

/-- The kernel's second result. -/
theorem p2 (v12 v60 : FVec Ideal S512x512 .f32) (v18 : FVec Ideal S1x512 .f32) (v56 v58 : FVec Ideal S1x1 .f32) (k e : Fin 512) : k0_pay2 (F := Ideal) v12 v18 v56 v58 v60 (ix4 0 0 k e)
    = v56 (ix2 0 0) * v60 (ix2 k e) + v58 (ix2 0 0) * v12 (ix2 k e) * v18 (ix2 0 e) := by
  pointwise [k0_pay2]

/-- The kernel's third result. -/
theorem p3 (v16 v62 : FVec Ideal S1x512 .f32) (v56 v58 : FVec Ideal S1x1 .f32) (e : Fin 512) : k0_pay3 (F := Ideal) v16 v56 v58 v62 (ix4 0 0 0 e)
    = v56 (ix2 0 0) * v62 (ix2 0 e) + v58 (ix2 0 0) * v16 (ix2 0 e) := by
  pointwise [k0_pay3]

/-- The kernel's fourth result. -/
theorem p4 (v53 : FVec Ideal S1x1 .f32) (l : Fin 128) : k0_pay4 (F := Ideal) v53 (ix4 0 0 0 l) = v53 (ix2 0 0) := by
  pointwise [k0_pay4]

/-- The transposed queries as the host lays them out. -/
theorem flat0 (X : FVec Ideal S128x2048 .f32) (k : Fin 2048) (b : Fin 128) : transpose S2048x128 [1, 0] X transposes_S128x2048_S2048x128_1_0 (ix2 k b) = X (ix2 b k) := by
  pointwise

/-- The transposed queries as the call finds them. -/
theorem entry0 (c : Dev nD) (k : Fin 2048) (b : Fin 128) : V m c main_v0 (ix2 k b) = m ((c : Thread nD τ).loc main_arg0) (ix2 b k) := by
  have h : V m c main_v0 = transpose S2048x128 [1, 0] (m ((c : Thread nD τ).loc main_arg0)) transposes_S128x2048_S2048x128_1_0 := by
    unfold V; after_results <;> rfl
  rw [h]
  exact flat0 _ k b

/-- The transposed keys as the host lays them out. -/
theorem flat1 (X : FVec Ideal S128x2048 .f32) (k : Fin 2048) (b : Fin 128) : transpose S2048x128 [1, 0] X transposes_S128x2048_S2048x128_1_0 (ix2 k b) = X (ix2 b k) := by
  pointwise

/-- The transposed keys as the call finds them. -/
theorem entry1 (c : Dev nD) (k : Fin 2048) (b : Fin 128) : V m c main_v1 (ix2 k b) = m ((c : Thread nD τ).loc main_arg1) (ix2 b k) := by
  have h : V m c main_v1 = transpose S2048x128 [1, 0] (m ((c : Thread nD τ).loc main_arg1)) transposes_S128x2048_S2048x128_1_0 := by
    unfold V; after_results <;> rfl
  rw [h]
  exact flat1 _ k b

/-- The queries as the host lays them out. -/
theorem flat2 (X : FVec Ideal S128x2048 .f32) (b : Fin 128) (k : Fin 2048) : shapeCast S128x1x2048 X shapeCasts_S128x2048_S128x1x2048 (ix3 b 0 k) = X (ix2 b k) := by
  pointwise

/-- The queries as the call finds them. -/
theorem entry2 (c : Dev nD) (b : Fin 128) (k : Fin 2048) : V m c main_v2 (ix3 b 0 k) = m ((c : Thread nD τ).loc main_arg0) (ix2 b k) := by
  have h : V m c main_v2 = shapeCast S128x1x2048 (m ((c : Thread nD τ).loc main_arg0)) shapeCasts_S128x2048_S128x1x2048 := by
    unfold V; after_results <;> rfl
  rw [h]
  exact flat2 _ b k

/-- The keys as the host lays them out. -/
theorem flat3 (X : FVec Ideal S128x2048 .f32) (b : Fin 128) (k : Fin 2048) : shapeCast S128x1x2048 X shapeCasts_S128x2048_S128x1x2048 (ix3 b 0 k) = X (ix2 b k) := by
  pointwise

/-- The keys as the call finds them. -/
theorem entry3 (c : Dev nD) (b : Fin 128) (k : Fin 2048) : V m c main_v3 (ix3 b 0 k) = m ((c : Thread nD τ).loc main_arg1) (ix2 b k) := by
  have h : V m c main_v3 = shapeCast S128x1x2048 (m ((c : Thread nD τ).loc main_arg1)) shapeCasts_S128x2048_S128x1x2048 := by
    unfold V; after_results <;> rfl
  rw [h]
  exact flat3 _ b k

/-- The values as the host lays them out. -/
theorem flat4 (X : FVec Ideal S128x2048 .f32) (b : Fin 128) (k : Fin 2048) : shapeCast S128x1x2048 X shapeCasts_S128x2048_S128x1x2048 (ix3 b 0 k) = X (ix2 b k) := by
  pointwise

/-- The values as the call finds them. -/
theorem entry4 (c : Dev nD) (b : Fin 128) (k : Fin 2048) : V m c main_v4 (ix3 b 0 k) = m ((c : Thread nD τ).loc main_arg2) (ix2 b k) := by
  have h : V m c main_v4 = shapeCast S128x1x2048 (m ((c : Thread nD τ).loc main_arg2)) shapeCasts_S128x2048_S128x1x2048 := by
    unfold V; after_results <;> rfl
  rw [h]
  exact flat4 _ b k

/-- The gates as the host lays them out. -/
theorem flat5 (X : FVec Ideal S128x128 .f32) (b : Fin 128) (k : Fin 128) : shapeCast S128x1x128 X shapeCasts_S128x128_S128x1x128 (ix3 b 0 k) = X (ix2 b k) := by
  pointwise

/-- The gates as the call finds them. -/
theorem entry5 (c : Dev nD) (b : Fin 128) (k : Fin 128) : V m c main_v5 (ix3 b 0 k) = m ((c : Thread nD τ).loc main_arg3) (ix2 b k) := by
  have h : V m c main_v5 = shapeCast S128x1x128 (m ((c : Thread nD τ).loc main_arg3)) shapeCasts_S128x128_S128x1x128 := by
    unfold V; after_results <;> rfl
  rw [h]
  exact flat5 _ b k

/-- The old maxima as the host lays them out. -/
theorem flat6 (X : FVec Ideal S128x4 .f32) (b : Fin 128) (k : Fin 4) : shapeCast S128x1x4 X shapeCasts_S128x4_S128x1x4 (ix3 b 0 k) = X (ix2 b k) := by
  pointwise

/-- The old maxima as the call finds them. -/
theorem entry6 (c : Dev nD) (b : Fin 128) (k : Fin 4) : V m c main_v6 (ix3 b 0 k) = m ((c : Thread nD τ).loc main_arg4) (ix2 b k) := by
  have h : V m c main_v6 = shapeCast S128x1x4 (m ((c : Thread nD τ).loc main_arg4)) shapeCasts_S128x4_S128x1x4 := by
    unfold V; after_results <;> rfl
  rw [h]
  exact flat6 _ b k

/-- The old normalisers as the host lays them out. -/
theorem flat7 (X : FVec Ideal S128x4x512 .f32) (b : Fin 128) (h : Fin 4) (k : Fin 512) : shapeCast S128x4x1x512 X shapeCasts_S128x4x512_S128x4x1x512 (ix4 b h 0 k) = X (ix3 b h k) := by
  pointwise

/-- The old normalisers as the call finds them. -/
theorem entry7 (c : Dev nD) (b : Fin 128) (h : Fin 4) (k : Fin 512) : V m c main_v7 (ix4 b h 0 k) = m ((c : Thread nD τ).loc main_arg5) (ix3 b h k) := by
  have h : V m c main_v7 = shapeCast S128x4x1x512 (m ((c : Thread nD τ).loc main_arg5)) shapeCasts_S128x4x512_S128x4x1x512 := by
    unfold V; after_results <;> rfl
  rw [h]
  exact flat7 _ b _ k

/-- Which block the input windows 0 to 6 read at grid point `t`. -/
theorem idx : ∀ t : Fin cfg0.N, win0_0.index t = ![t.val / 4, 0, t.val % 4] ∧ win0_1.index t = ![t.val / 4, 0, t.val % 4]
    ∧ win0_2.index t = ![t.val / 4, 0, t.val % 4] ∧ win0_3.index t = ![t.val % 4, 0] ∧ win0_4.index t = ![t.val % 4, 0]
    ∧ win0_5.index t = ![t.val / 4, 0, 0] ∧ win0_6.index t = ![t.val / 4, 0, 0] :=
  (by decide +kernel : ∀ t : Fin grid0.N, _)

/-- Which block the windows 7 to 12 read or write at grid point `t`. -/
theorem idx2 : ∀ t : Fin cfg0.N, win0_7.index t = ![t.val / 4, t.val % 4, 0, 0]
    ∧ win0_8.index t = ![t.val / 4, t.val % 4, 0, 0] ∧ win0_9.index t = ![t.val / 4, 0, t.val % 4]
    ∧ win0_10.index t = ![t.val / 4, t.val % 4, 0, 0] ∧ win0_11.index t = ![t.val / 4, t.val % 4, 0, 0]
    ∧ win0_12.index t = ![t.val / 4, t.val % 4, 0, 0] :=
  (by decide +kernel : ∀ t : Fin grid0.N, _)

/-- The two coordinates of grid point `t`: the token and the head. -/
theorem idx3 : ∀ t : Fin cfg0.N, (grid0.coords t 0).val = t.val / 4 ∧ (grid0.coords t 1).val = t.val % 4 ∧ t.val / 4 < 128 :=
  (by decide +kernel : ∀ t : Fin grid0.N, _)

/-- The block of the queries at a grid point. -/
theorem blk0 (c : Dev nD) (t : Fin cfg0.N) (b : Fin 128) (h : Fin 4) (hb : b.val = t.val / 4) (hh : h.val = t.val % 4) (d : Fin 512) :
    iblk m c 0 t (ix3 0 0 d) = m ((c : Thread nD τ).loc main_arg0) (ix2 b ⟨h.val * 512 + d.val, by omega⟩) := by
  refine Eq.trans ?_ (entry2 m c b ⟨h.val * 512 + d.val, by omega⟩)
  blk_ext [iblk, idx t, idx2 t, hb, hh]

/-- The block of the keys at a grid point. -/
theorem blk1 (c : Dev nD) (t : Fin cfg0.N) (b : Fin 128) (h : Fin 4) (hb : b.val = t.val / 4) (hh : h.val = t.val % 4) (d : Fin 512) :
    iblk m c 1 t (ix3 0 0 d) = m ((c : Thread nD τ).loc main_arg1) (ix2 b ⟨h.val * 512 + d.val, by omega⟩) := by
  refine Eq.trans ?_ (entry3 m c b ⟨h.val * 512 + d.val, by omega⟩)
  blk_ext [iblk, idx t, idx2 t, hb, hh]

/-- The block of the values at a grid point. -/
theorem blk2 (c : Dev nD) (t : Fin cfg0.N) (b : Fin 128) (h : Fin 4) (hb : b.val = t.val / 4) (hh : h.val = t.val % 4) (d : Fin 512) :
    iblk m c 2 t (ix3 0 0 d) = m ((c : Thread nD τ).loc main_arg2) (ix2 b ⟨h.val * 512 + d.val, by omega⟩) := by
  refine Eq.trans ?_ (entry4 m c b ⟨h.val * 512 + d.val, by omega⟩)
  blk_ext [iblk, idx t, idx2 t, hb, hh]

/-- The block of the transposed queries at a grid point. -/
theorem blk3 (c : Dev nD) (t : Fin cfg0.N) (h : Fin 4) (hh : h.val = t.val % 4) (d : Fin 512) (b' : Fin 128) :
    iblk m c 3 t (ix2 d b') = m ((c : Thread nD τ).loc main_arg0) (ix2 b' ⟨h.val * 512 + d.val, by omega⟩) := by
  refine Eq.trans ?_ (entry0 m c ⟨h.val * 512 + d.val, by omega⟩ b')
  blk_ext [iblk, idx t, idx2 t, hh]

/-- The block of the transposed keys at a grid point. -/
theorem blk4 (c : Dev nD) (t : Fin cfg0.N) (h : Fin 4) (hh : h.val = t.val % 4) (d : Fin 512) (b' : Fin 128) :
    iblk m c 4 t (ix2 d b') = m ((c : Thread nD τ).loc main_arg1) (ix2 b' ⟨h.val * 512 + d.val, by omega⟩) := by
  refine Eq.trans ?_ (entry1 m c ⟨h.val * 512 + d.val, by omega⟩ b')
  blk_ext [iblk, idx t, idx2 t, hh]

/-- The block of the gates at a grid point. -/
theorem blk5 (c : Dev nD) (t : Fin cfg0.N) (b : Fin 128) (h : Fin 4) (hb : b.val = t.val / 4) (hh : h.val = t.val % 4) (k : Fin 128) :
    iblk m c 5 t (ix3 0 0 k) = m ((c : Thread nD τ).loc main_arg3) (ix2 b k) := by
  refine Eq.trans ?_ (entry5 m c b k)
  blk_ext [iblk, idx t, idx2 t, hb, hh]

/-- The block of the old maxima at a grid point. -/
theorem blk6 (c : Dev nD) (t : Fin cfg0.N) (b : Fin 128) (h : Fin 4) (hb : b.val = t.val / 4) (hh : h.val = t.val % 4) (k : Fin 4) :
    iblk m c 6 t (ix3 0 0 k) = m ((c : Thread nD τ).loc main_arg4) (ix2 b k) := by
  refine Eq.trans ?_ (entry6 m c b k)
  blk_ext [iblk, idx t, idx2 t, hb, hh]

/-- The block of the old normalisers at a grid point. -/
theorem blk7 (c : Dev nD) (t : Fin cfg0.N) (b : Fin 128) (h : Fin 4) (hb : b.val = t.val / 4) (hh : h.val = t.val % 4) (d : Fin 512) :
    iblk m c 7 t (ix4 0 0 0 d) = m ((c : Thread nD τ).loc main_arg5) (ix3 b h d) := by
  refine Eq.trans ?_ (entry7 m c b h d)
  blk_ext [iblk, idx t, idx2 t, hb, hh]

/-- The block of the old state at a grid point. -/
theorem blk8 (c : Dev nD) (t : Fin cfg0.N) (b : Fin 128) (h : Fin 4) (hb : b.val = t.val / 4) (hh : h.val = t.val % 4) (d e : Fin 512) :
    iblk m c 8 t (ix4 0 0 d e) = m ((c : Thread nD τ).loc main_arg6) (ix4 b h d e) := by
  refine Eq.trans ?_ (congrFun (V_main_arg6 m c) _)
  blk_ext [iblk, idx t, idx2 t, hb, hh]

/-- The grid point's input gate. -/
theorem s27 (c : Dev nD) (t : Fin cfg0.N) (b : Fin 128) (h : Fin 4) (hb : b.val = t.val / 4) (hh : h.val = t.val % 4) : (k0_pay12 (F := Ideal) (grid0.coords t) (iblk m c 5 t)) (ix2 0 0) = (m ((c : Thread nD τ).loc main_arg3)) (ix2 b ⟨h.val, by omega⟩) :=
  (p12 _ _).trans ((blk5 m c t b h hb hh _).trans (congrArg _ (congrArg (ix2 b) (Fin.ext ((idx3 t).2.1.trans hh.symm)))))

/-- The grid point's forget gate and old maximum, added. -/
theorem s52 (c : Dev nD) (t : Fin cfg0.N) (b : Fin 128) (h : Fin 4) (hb : b.val = t.val / 4) (hh : h.val = t.val % 4) : k0_pay14 (F := Ideal) (k0_pay13 (F := Ideal) (grid0.coords t) (iblk m c 5 t)) (ix2 0 0) + k0_pay15 (F := Ideal) (BitVec.ofNat 32 (grid0.coords t 1).val) (iblk m c 6 t) (ix2 0 0)
    = Cert.StepRefIdeal.Read.val_main_v5 (F := Ideal) (m ((c : Thread nD τ).loc main_arg3)) (ix2 b h) + (m ((c : Thread nD τ).loc main_arg4)) (ix2 b h) := by
  have h1 : (grid0.coords t 1).val < 4 := (grid0.coords t 1).isLt
  refine congrArg₂ (· + ·) ?_ ?_
  · rw [p14, r5]
    exact congrArg LS ((p13 _ _).trans ((blk5 m c t b h hb hh _).trans (congrArg _ (congrArg (ix2 b) (Fin.ext (congrArg (4 + ·) ((idx3 t).2.1.trans hh.symm)))))))
  · exact (p15 _ h1 _).trans ((blk6 m c t b h hb hh _).trans (congrArg _ (congrArg (ix2 b) (Fin.ext ((idx3 t).2.1.trans hh.symm)))))

/-- The grid point's new maximum is the reference's. -/
theorem s53 (c : Dev nD) (t : Fin cfg0.N) (b : Fin 128) (h : Fin 4) (hb : b.val = t.val / 4) (hh : h.val = t.val % 4) : k0_pay16 (F := Ideal) (BitVec.ofNat 32 (grid0.coords t 1).val) (k0_pay12 (F := Ideal) (grid0.coords t) (iblk m c 5 t)) (k0_pay13 (F := Ideal) (grid0.coords t) (iblk m c 5 t)) (iblk m c 6 t) (ix2 0 0) = Cert.StepRefIdeal.Read.val_main_v7 (F := Ideal) (m ((c : Thread nD τ).loc main_arg3)) (m ((c : Thread nD τ).loc main_arg4)) (ix2 b h) := by
  rw [p16, r7, s52 m c t b h hb hh, s27 m c t b h hb hh]

/-- The grid point's weight of the old state is the reference's. -/
theorem s56 (c : Dev nD) (t : Fin cfg0.N) (b : Fin 128) (h : Fin 4) (hb : b.val = t.val / 4) (hh : h.val = t.val % 4) : k0_pay17 (F := Ideal) (BitVec.ofNat 32 (grid0.coords t 1).val) (k0_pay12 (F := Ideal) (grid0.coords t) (iblk m c 5 t)) (k0_pay13 (F := Ideal) (grid0.coords t) (iblk m c 5 t)) (iblk m c 6 t) (ix2 0 0) = Cert.StepRefIdeal.Read.val_main_v14 (F := Ideal) (m ((c : Thread nD τ).loc main_arg3)) (m ((c : Thread nD τ).loc main_arg4)) (ix2 b h) := by
  rw [p17, r14, s52 m c t b h hb hh, s53 m c t b h hb hh]

/-- The grid point's weight of the new token is the reference's. -/
theorem s58 (c : Dev nD) (t : Fin cfg0.N) (b : Fin 128) (h : Fin 4) (hb : b.val = t.val / 4) (hh : h.val = t.val % 4) : k0_pay18 (F := Ideal) (BitVec.ofNat 32 (grid0.coords t 1).val) (k0_pay12 (F := Ideal) (grid0.coords t) (iblk m c 5 t)) (k0_pay13 (F := Ideal) (grid0.coords t) (iblk m c 5 t)) (iblk m c 6 t) (ix2 0 0) = Cert.StepRefIdeal.Read.val_main_v11 (F := Ideal) (m ((c : Thread nD τ).loc main_arg3)) (m ((c : Thread nD τ).loc main_arg4)) (ix2 b h) := by
  rw [p18, r11, s27 m c t b h hb hh, s53 m c t b h hb hh]

/-- The grid point's row of the queries. -/
theorem sq (c : Dev nD) (t : Fin cfg0.N) (b : Fin 128) (h : Fin 4) (hb : b.val = t.val / 4) (hh : h.val = t.val % 4) (d : Fin 512) : k0_pay8 (F := Ideal) (iblk m c 0 t) (ix2 0 d) = Cert.StepRefIdeal.Read.val_main_v0 (F := Ideal) (m ((c : Thread nD τ).loc main_arg0)) (ix3 b h d) := by
  rw [p8, r0]; exact blk0 m c t b h hb hh d

/-- The grid point's row of the keys. -/
theorem sk (c : Dev nD) (t : Fin cfg0.N) (b : Fin 128) (h : Fin 4) (hb : b.val = t.val / 4) (hh : h.val = t.val % 4) (d : Fin 512) : k0_pay9 (F := Ideal) (iblk m c 1 t) (ix2 0 d) = Cert.StepRefIdeal.Read.val_main_v0 (F := Ideal) (m ((c : Thread nD τ).loc main_arg1)) (ix3 b h d) := by
  refine (p8 _ d).trans ?_
  rw [r0]; exact blk1 m c t b h hb hh d

/-- The grid point's row of the values. -/
theorem sv (c : Dev nD) (t : Fin cfg0.N) (b : Fin 128) (h : Fin 4) (hb : b.val = t.val / 4) (hh : h.val = t.val % 4) (d : Fin 512) : k0_pay10 (F := Ideal) (iblk m c 2 t) (ix2 0 d) = Cert.StepRefIdeal.Read.val_main_v0 (F := Ideal) (m ((c : Thread nD τ).loc main_arg2)) (ix3 b h d) := by
  refine (p8 _ d).trans ?_
  rw [r0]; exact blk2 m c t b h hb hh d

/-- The grid point's column of the queries. -/
theorem sqm (c : Dev nD) (t : Fin cfg0.N) (b : Fin 128) (h : Fin 4) (hb : b.val = t.val / 4) (hh : h.val = t.val % 4) (d e : Fin 512) : k0_pay6 (F := Ideal) (grid0.coords t) (iblk m c 3 t) (ix2 d e) = Cert.StepRefIdeal.Read.val_main_v0 (F := Ideal) (m ((c : Thread nD τ).loc main_arg0)) (ix3 b h d) := by
  rw [qmat, r0]
  exact (blk3 m c t h hh d _).trans (congrArg _ (congrArg (ix2 · _) (Fin.ext ((idx3 t).1.trans hb.symm))))

/-- The grid point's column of the keys. -/
theorem skm (c : Dev nD) (t : Fin cfg0.N) (b : Fin 128) (h : Fin 4) (hb : b.val = t.val / 4) (hh : h.val = t.val % 4) (d e : Fin 512) : k0_pay7 (F := Ideal) (grid0.coords t) (iblk m c 4 t) (ix2 d e) = Cert.StepRefIdeal.Read.val_main_v0 (F := Ideal) (m ((c : Thread nD τ).loc main_arg1)) (ix3 b h d) := by
  rw [kmat, r0]
  exact (blk4 m c t h hh d _).trans (congrArg _ (congrArg (ix2 · _) (Fin.ext ((idx3 t).1.trans hb.symm))))

/-- The grid point's weight of the new value is the reference's. -/
theorem s66 (c : Dev nD) (t : Fin cfg0.N) (b : Fin 128) (h : Fin 4) (hb : b.val = t.val / 4) (hh : h.val = t.val % 4) : k0_pay21 (F := Ideal) (BitVec.ofNat 32 (grid0.coords t 1).val) (k0_pay8 (iblk m c 0 t)) (k0_pay9 (iblk m c 1 t)) (k0_pay12 (F := Ideal) (grid0.coords t) (iblk m c 5 t)) (k0_pay13 (F := Ideal) (grid0.coords t) (iblk m c 5 t)) (iblk m c 6 t) (ix2 0 0)
    = Cert.StepRefIdeal.Read.val_main_v12 (F := Ideal) (m ((c : Thread nD τ).loc main_arg0)) (m ((c : Thread nD τ).loc main_arg1)) (m ((c : Thread nD τ).loc main_arg3)) (m ((c : Thread nD τ).loc main_arg4)) (ix2 b h) := by
  rw [p21, r12, s58 m c t b h hb hh]
  exact congrArg (· * _) (Finset.sum_congr rfl fun d _ => congrArg₂ (· * ·) (sq m c t b h hb hh d) (sk m c t b h hb hh d))

/-- Reading a whole block is the block. -/
theorem ld0 (X : Vec Ideal S512x128 .f32) : View.ld (Val := Elt Ideal) X r0_0 = X :=
  View.ld_unit_lit _ X (by decide)

/-- Reading a whole block is the block. -/
theorem ld1 (X : Vec Ideal S1x1x512 .f32) : View.ld (Val := Elt Ideal) X r0_1 = X :=
  View.ld_unit_lit _ X (by decide)

/-- Reading a whole block is the block. -/
theorem ld2 (X : Vec Ideal S1x1x128 .f32) : View.ld (Val := Elt Ideal) X r0_2 = X :=
  View.ld_unit_lit _ X (by decide)

/-- Reading a whole block is the block. -/
theorem ld3 (X : Vec Ideal S1x1x4 .f32) : View.ld (Val := Elt Ideal) X r0_3 = X :=
  View.ld_unit_lit _ X (by decide)

/-- Reading a whole block is the block. -/
theorem ld4 (X : Vec Ideal S1x1x512x512 .f32) : View.ld (Val := Elt Ideal) X r0_4 = X :=
  View.ld_unit_lit _ X (by decide)

/-- Reading a whole block is the block. -/
theorem ld5 (X : Vec Ideal S1x1x1x512 .f32) : View.ld (Val := Elt Ideal) X r0_5 = X :=
  View.ld_unit_lit _ X (by decide)

/-- At every grid point the new maximum is the reference's. -/
theorem point12 (c : Dev nD) (t : Fin cfg0.N) (b : Fin 128) (h : Fin 4) (hb : b.val = t.val / 4) (hh : h.val = t.val % 4) (l : Fin 128) : k0_pay4 (F := Ideal) (k0_pay30 (grid0.coords t) (iblk m c 0 t) (iblk m c 1 t) (iblk m c 2 t) (iblk m c 3 t) (iblk m c 4 t) (iblk m c 5 t) (iblk m c 6 t) (iblk m c 7 t) (iblk m c 8 t)) (ix4 0 0 0 l)
    = Cert.StepRefIdeal.Read.val_main_v55 (F := Ideal) (m ((c : Thread nD τ).loc main_arg3)) (m ((c : Thread nD τ).loc main_arg4)) (ix4 b h 0 l) := by
  rw [p4, r55]
  unfold k0_pay30 k0_pay28 k0_pay29
  rw [ld2, ld3]
  exact s53 m c t b h hb hh

/-- At every grid point the new normaliser is the reference's. -/
theorem point11 (c : Dev nD) (t : Fin cfg0.N) (b : Fin 128) (h : Fin 4) (hb : b.val = t.val / 4) (hh : h.val = t.val % 4) (e : Fin 512) : k0_pay3 (F := Ideal) (k0_pay26 (grid0.coords t) (iblk m c 0 t) (iblk m c 1 t) (iblk m c 2 t) (iblk m c 3 t) (iblk m c 4 t) (iblk m c 5 t) (iblk m c 6 t) (iblk m c 7 t) (iblk m c 8 t)) (k0_pay31 (grid0.coords t) (iblk m c 0 t) (iblk m c 1 t) (iblk m c 2 t) (iblk m c 3 t) (iblk m c 4 t) (iblk m c 5 t) (iblk m c 6 t) (iblk m c 7 t) (iblk m c 8 t)) (k0_pay32 (grid0.coords t) (iblk m c 0 t) (iblk m c 1 t) (iblk m c 2 t) (iblk m c 3 t) (iblk m c 4 t) (iblk m c 5 t) (iblk m c 6 t) (iblk m c 7 t) (iblk m c 8 t)) (k0_pay20 (iblk m c 7 t)) (ix4 0 0 0 e)
    = Cert.StepRefIdeal.Read.val_main_v53 (F := Ideal) (m ((c : Thread nD τ).loc main_arg1)) (m ((c : Thread nD τ).loc main_arg3)) (m ((c : Thread nD τ).loc main_arg4)) (m ((c : Thread nD τ).loc main_arg5)) (ix4 b h 0 e) := by
  rw [p3, r53]
  unfold k0_pay31 k0_pay32 k0_pay28 k0_pay29 k0_pay26
  simp only [ld0, ld1, ld2, ld3, ld4, ld5]
  rw [s56 m c t b h hb hh, s58 m c t b h hb hh, sk m c t b h hb hh, p20]
  exact congrArg (fun z => _ * z + _) (blk7 m c t b h hb hh e)

/-- At every grid point the new state is the reference's. -/
theorem point10 (c : Dev nD) (t : Fin cfg0.N) (b : Fin 128) (h : Fin 4) (hb : b.val = t.val / 4) (hh : h.val = t.val % 4) (k e : Fin 512) : k0_pay2 (F := Ideal) (k0_pay7 (grid0.coords t) (iblk m c 4 t)) (k0_pay27 (grid0.coords t) (iblk m c 0 t) (iblk m c 1 t) (iblk m c 2 t) (iblk m c 3 t) (iblk m c 4 t) (iblk m c 5 t) (iblk m c 6 t) (iblk m c 7 t) (iblk m c 8 t)) (k0_pay31 (grid0.coords t) (iblk m c 0 t) (iblk m c 1 t) (iblk m c 2 t) (iblk m c 3 t) (iblk m c 4 t) (iblk m c 5 t) (iblk m c 6 t) (iblk m c 7 t) (iblk m c 8 t)) (k0_pay32 (grid0.coords t) (iblk m c 0 t) (iblk m c 1 t) (iblk m c 2 t) (iblk m c 3 t) (iblk m c 4 t) (iblk m c 5 t) (iblk m c 6 t) (iblk m c 7 t) (iblk m c 8 t)) (k0_pay19 (iblk m c 8 t)) (ix4 0 0 k e)
    = Cert.StepRefIdeal.Read.val_main_v47 (F := Ideal) (m ((c : Thread nD τ).loc main_arg1)) (m ((c : Thread nD τ).loc main_arg2)) (m ((c : Thread nD τ).loc main_arg3)) (m ((c : Thread nD τ).loc main_arg4)) (m ((c : Thread nD τ).loc main_arg6)) (ix4 b h k e) := by
  rw [p2, r47]
  unfold k0_pay31 k0_pay32 k0_pay28 k0_pay29 k0_pay27
  simp only [ld0, ld1, ld2, ld3, ld4, ld5]
  rw [s56 m c t b h hb hh, s58 m c t b h hb hh, skm m c t b h hb hh, sv m c t b h hb hh, p19]
  exact congrArg (fun z => _ * z + _) (blk8 m c t b h hb hh k e)

/-- The old state's part of the numerator is the reference's. -/
theorem s76 (c : Dev nD) (t : Fin cfg0.N) (b : Fin 128) (h : Fin 4) (hb : b.val = t.val / 4) (hh : h.val = t.val % 4) (e : Fin 512) : k0_pay24 (F := Ideal) (BitVec.ofNat 32 (grid0.coords t 1).val) (k0_pay6 (grid0.coords t) (iblk m c 3 t)) (k0_pay12 (F := Ideal) (grid0.coords t) (iblk m c 5 t)) (k0_pay13 (F := Ideal) (grid0.coords t) (iblk m c 5 t)) (iblk m c 6 t) (iblk m c 8 t) (ix2 0 e)
    = Cert.StepRefIdeal.Read.val_main_v14 (F := Ideal) (m ((c : Thread nD τ).loc main_arg3)) (m ((c : Thread nD τ).loc main_arg4)) (ix2 b h) * ∑ d : Fin 512, Cert.StepRefIdeal.Read.val_main_v0 (F := Ideal) (m ((c : Thread nD τ).loc main_arg0)) (ix3 b h d) * (m ((c : Thread nD τ).loc main_arg6)) (ix4 b h d e) := by
  rw [p24, s56 m c t b h hb hh]
  exact congrArg (_ * ·) (Finset.sum_congr rfl fun d _ => congrArg₂ (· * ·) (sqm m c t b h hb hh d e) (blk8 m c t b h hb hh d e))

/-- The query against the old normaliser is the reference's. -/
theorem s72 (c : Dev nD) (t : Fin cfg0.N) (b : Fin 128) (h : Fin 4) (hb : b.val = t.val / 4) (hh : h.val = t.val % 4) : k0_pay22 (F := Ideal) (k0_pay8 (iblk m c 0 t)) (iblk m c 7 t) (ix2 0 0)
    = ∑ d : Fin 512, Cert.StepRefIdeal.Read.val_main_v0 (F := Ideal) (m ((c : Thread nD τ).loc main_arg0)) (ix3 b h d) * (m ((c : Thread nD τ).loc main_arg5)) (ix3 b h d) := by
  rw [p22]
  exact Finset.sum_congr rfl fun d _ => congrArg₂ (· * ·) (sq m c t b h hb hh d) (blk7 m c t b h hb hh d)

/-- At every grid point the new token's entry is the reference's. -/
theorem point9 (c : Dev nD) (t : Fin cfg0.N) (b : Fin 128) (h : Fin 4) (hb : b.val = t.val / 4) (hh : h.val = t.val % 4) (e : Fin 512) : k0_pay1 (F := Ideal) (k0_pay30 (grid0.coords t) (iblk m c 0 t) (iblk m c 1 t) (iblk m c 2 t) (iblk m c 3 t) (iblk m c 4 t) (iblk m c 5 t) (iblk m c 6 t) (iblk m c 7 t) (iblk m c 8 t)) (k0_pay31 (grid0.coords t) (iblk m c 0 t) (iblk m c 1 t) (iblk m c 2 t) (iblk m c 3 t) (iblk m c 4 t) (iblk m c 5 t) (iblk m c 6 t) (iblk m c 7 t) (iblk m c 8 t)) (k0_pay21 (BitVec.ofNat 32 (grid0.coords t 1).val) (k0_pay25 (grid0.coords t) (iblk m c 0 t) (iblk m c 1 t) (iblk m c 2 t) (iblk m c 3 t) (iblk m c 4 t) (iblk m c 5 t) (iblk m c 6 t) (iblk m c 7 t) (iblk m c 8 t)) (k0_pay26 (grid0.coords t) (iblk m c 0 t) (iblk m c 1 t) (iblk m c 2 t) (iblk m c 3 t) (iblk m c 4 t) (iblk m c 5 t) (iblk m c 6 t) (iblk m c 7 t) (iblk m c 8 t)) (k0_pay28 (grid0.coords t) (iblk m c 0 t) (iblk m c 1 t) (iblk m c 2 t) (iblk m c 3 t) (iblk m c 4 t) (iblk m c 5 t) (iblk m c 6 t) (iblk m c 7 t) (iblk m c 8 t)) (k0_pay29 (grid0.coords t) (iblk m c 0 t) (iblk m c 1 t) (iblk m c 2 t) (iblk m c 3 t) (iblk m c 4 t) (iblk m c 5 t) (iblk m c 6 t) (iblk m c 7 t) (iblk m c 8 t)) (iblk m c 6 t)) (k0_pay22 (k0_pay25 (grid0.coords t) (iblk m c 0 t) (iblk m c 1 t) (iblk m c 2 t) (iblk m c 3 t) (iblk m c 4 t) (iblk m c 5 t) (iblk m c 6 t) (iblk m c 7 t) (iblk m c 8 t)) (iblk m c 7 t)) (k0_pay23 (BitVec.ofNat 32 (grid0.coords t 1).val) (k0_pay25 (grid0.coords t) (iblk m c 0 t) (iblk m c 1 t) (iblk m c 2 t) (iblk m c 3 t) (iblk m c 4 t) (iblk m c 5 t) (iblk m c 6 t) (iblk m c 7 t) (iblk m c 8 t)) (k0_pay26 (grid0.coords t) (iblk m c 0 t) (iblk m c 1 t) (iblk m c 2 t) (iblk m c 3 t) (iblk m c 4 t) (iblk m c 5 t) (iblk m c 6 t) (iblk m c 7 t) (iblk m c 8 t)) (k0_pay27 (grid0.coords t) (iblk m c 0 t) (iblk m c 1 t) (iblk m c 2 t) (iblk m c 3 t) (iblk m c 4 t) (iblk m c 5 t) (iblk m c 6 t) (iblk m c 7 t) (iblk m c 8 t)) (k0_pay28 (grid0.coords t) (iblk m c 0 t) (iblk m c 1 t) (iblk m c 2 t) (iblk m c 3 t) (iblk m c 4 t) (iblk m c 5 t) (iblk m c 6 t) (iblk m c 7 t) (iblk m c 8 t)) (k0_pay29 (grid0.coords t) (iblk m c 0 t) (iblk m c 1 t) (iblk m c 2 t) (iblk m c 3 t) (iblk m c 4 t) (iblk m c 5 t) (iblk m c 6 t) (iblk m c 7 t) (iblk m c 8 t)) (iblk m c 6 t)) (k0_pay24 (BitVec.ofNat 32 (grid0.coords t 1).val) (k0_pay6 (grid0.coords t) (iblk m c 3 t)) (k0_pay28 (grid0.coords t) (iblk m c 0 t) (iblk m c 1 t) (iblk m c 2 t) (iblk m c 3 t) (iblk m c 4 t) (iblk m c 5 t) (iblk m c 6 t) (iblk m c 7 t) (iblk m c 8 t)) (k0_pay29 (grid0.coords t) (iblk m c 0 t) (iblk m c 1 t) (iblk m c 2 t) (iblk m c 3 t) (iblk m c 4 t) (iblk m c 5 t) (iblk m c 6 t) (iblk m c 7 t) (iblk m c 8 t)) (iblk m c 6 t) (iblk m c 8 t)) (ix3 0 0 e)
    = Cert.StepRefIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 b 0 ⟨h.val * 512 + e.val, by omega⟩) := by
  rw [r52, p1, r33]
  unfold k0_pay31 k0_pay30 k0_pay28 k0_pay29 k0_pay27 k0_pay26 k0_pay25
  simp only [ld0, ld1, ld2, ld3, ld4, ld5]
  rw [p23, s56 m c t b h hb hh, s53 m c t b h hb hh, s66 m c t b h hb hh, sv m c t b h hb hh]
  rw [s76 m c t b h hb hh, s72 m c t b h hb hh]

/-- What window 12 leaves in its array after the run. -/
theorem final12 (c : Dev nD) : (dats m 0 c).arrAt 12 cfg0.N = Cert.StepRefIdeal.Read.val_main_v55 (F := Ideal) (m ((c : Thread nD τ).loc main_arg3)) (m ((c : Thread nD τ).loc main_arg4)) := by
  refine (dats m 0 c).arrAt_eq_of_covers 12 _ (by decide +kernel) fun t _ y => ?_
  blk_simp
  rw [after0_12]; frame_out
  have h1 := (idx3 t).2.2
  have hy0 : (y 0 : ℕ) < 1 := (y 0).isLt
  have hy1 : (y 1 : ℕ) < 1 := (y 1).isLt
  have hy2 : (y 2 : ℕ) < 1 := (y 2).isLt
  have hy3 : (y 3 : ℕ) < 128 := (y 3).isLt
  obtain ⟨k, rfl⟩ : ∃ k : Fin 128, y = ix4 0 0 0 k := by
    refine ⟨y 3, ?_⟩
    funext a
    match a with
    | ⟨0, _⟩ => exact Fin.ext (Nat.lt_one_iff.mp hy0)
    | ⟨1, _⟩ => exact Fin.ext (Nat.lt_one_iff.mp hy1)
    | ⟨2, _⟩ => exact Fin.ext (Nat.lt_one_iff.mp hy2)
    | ⟨3, _⟩ => exact rfl
  refine (point12 m c t ⟨t.val / 4, by omega⟩ ⟨t.val % 4, by omega⟩ rfl rfl k).trans (congrArg _ ?_)
  blk_ext [idx2 t]

/-- What window 11 leaves in its array after the run. -/
theorem final11 (c : Dev nD) : (dats m 0 c).arrAt 11 cfg0.N = Cert.StepRefIdeal.Read.val_main_v53 (F := Ideal) (m ((c : Thread nD τ).loc main_arg1)) (m ((c : Thread nD τ).loc main_arg3)) (m ((c : Thread nD τ).loc main_arg4)) (m ((c : Thread nD τ).loc main_arg5)) := by
  refine (dats m 0 c).arrAt_eq_of_covers 11 _ (by decide +kernel) fun t _ y => ?_
  blk_simp
  rw [after0_11]; frame_out
  have h1 := (idx3 t).2.2
  have hy0 : (y 0 : ℕ) < 1 := (y 0).isLt
  have hy1 : (y 1 : ℕ) < 1 := (y 1).isLt
  have hy2 : (y 2 : ℕ) < 1 := (y 2).isLt
  have hy3 : (y 3 : ℕ) < 512 := (y 3).isLt
  obtain ⟨k, rfl⟩ : ∃ k : Fin 512, y = ix4 0 0 0 k := by
    refine ⟨y 3, ?_⟩
    funext a
    match a with
    | ⟨0, _⟩ => exact Fin.ext (Nat.lt_one_iff.mp hy0)
    | ⟨1, _⟩ => exact Fin.ext (Nat.lt_one_iff.mp hy1)
    | ⟨2, _⟩ => exact Fin.ext (Nat.lt_one_iff.mp hy2)
    | ⟨3, _⟩ => exact rfl
  refine (point11 m c t ⟨t.val / 4, by omega⟩ ⟨t.val % 4, by omega⟩ rfl rfl k).trans (congrArg _ ?_)
  blk_ext [idx2 t]

/-- What window 10 leaves in its array after the run. -/
theorem final10 (c : Dev nD) : (dats m 0 c).arrAt 10 cfg0.N = Cert.StepRefIdeal.Read.val_main_v47 (F := Ideal) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_covers 10 _ (by decide +kernel) fun t _ y => ?_
  blk_simp
  rw [after0_10]; frame_out
  have h1 := (idx3 t).2.2
  have hy0 : (y 0 : ℕ) < 1 := (y 0).isLt
  have hy1 : (y 1 : ℕ) < 1 := (y 1).isLt
  have hy2 : (y 2 : ℕ) < 512 := (y 2).isLt
  have hy3 : (y 3 : ℕ) < 512 := (y 3).isLt
  obtain ⟨k, l, rfl⟩ : ∃ k : Fin 512, ∃ l : Fin 512, y = ix4 0 0 k l := by
    refine ⟨y 2, y 3, ?_⟩
    funext a
    match a with
    | ⟨0, _⟩ => exact Fin.ext (Nat.lt_one_iff.mp hy0)
    | ⟨1, _⟩ => exact Fin.ext (Nat.lt_one_iff.mp hy1)
    | ⟨2, _⟩ => exact rfl
    | ⟨3, _⟩ => exact rfl
  refine (point10 m c t ⟨t.val / 4, by omega⟩ ⟨t.val % 4, by omega⟩ rfl rfl k l).trans (congrArg _ ?_)
  blk_ext [idx2 t]

/-- What window 9 leaves in its array after the run. -/
theorem final9 (c : Dev nD) : (dats m 0 c).arrAt 9 cfg0.N = Cert.StepRefIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9]; frame_out
  have h1 := (idx3 t).2.2
  have hy0 : (y 0 : ℕ) < 1 := (y 0).isLt
  have hy1 : (y 1 : ℕ) < 1 := (y 1).isLt
  have hy2 : (y 2 : ℕ) < 512 := (y 2).isLt
  obtain ⟨l, rfl⟩ : ∃ l : Fin 512, y = ix3 0 0 l := by
    refine ⟨y 2, ?_⟩
    funext a
    match a with
    | ⟨0, _⟩ => exact Fin.ext (Nat.lt_one_iff.mp hy0)
    | ⟨1, _⟩ => exact Fin.ext (Nat.lt_one_iff.mp hy1)
    | ⟨2, _⟩ => exact rfl
  refine (point9 m c t ⟨t.val / 4, by omega⟩ ⟨t.val % 4, by omega⟩ rfl rfl l).trans (congrArg _ ?_)
  blk_ext [idx2 t]

end Cert.StepIdeal.Value

end
-- ==== Proof.Recur.lean ====
/- The stabilised matrix recurrence over the real numbers: the weights of the tokens seen so far relative to the
   largest of them, and how a chunk of tokens carries them on. -/
module

public import proofs.«01_k».proof.Proof.Attend

@[expose] public section

set_option maxRecDepth 16384

noncomputable section

namespace Cert.Recur

open Idealize.ShloMosaic

variable (lf li : ℕ → ℝ)

/-- The sum of the first `n` forget gates' logarithms. -/
def cum (n : ℕ) : ℝ := ∑ s ∈ Finset.range n, lf s

/-- The largest log-weight of the first `n` tokens and of the empty state, relative to the running sum. -/
def peak : ℕ → ℝ
  | 0 => 0
  | n + 1 => max (peak n) (li n - cum lf (n + 1))

/-- The weight of token `s` after `n` tokens. -/
def wt (n s : ℕ) : ℝ := Real.exp (li s - cum lf (s + 1) - peak lf li n)

/-- The weighted sum of what the first `n` tokens hold. -/
def acc (n : ℕ) (y : ℕ → ℝ) : ℝ := ∑ s ∈ Finset.range n, wt lf li n s * y s

/-- The largest log-weight grows with the tokens. -/
theorem peak_mono {a b : ℕ} (h : a ≤ b) : peak lf li a ≤ peak lf li b := by
  induction b, h using Nat.le_induction with
  | base => exact le_rfl
  | succ n _ ih => exact ih.trans (le_max_left _ _)

/-- It is at least every token's log-weight. -/
theorem le_peak {n s : ℕ} (h : s < n) : li s - cum lf (s + 1) ≤ peak lf li n :=
  le_trans (le_max_right (peak lf li s) _) (peak_mono lf li (show s + 1 ≤ n from h))

/-- From token `a` to token `b` it stays or is reached by one of the tokens between. -/
theorem peak_step {a b : ℕ} (h : a ≤ b) : peak lf li b = peak lf li a ∨ ∃ s, a ≤ s ∧ s < b ∧ peak lf li b = li s - cum lf (s + 1) := by
  induction b, h using Nat.le_induction with
  | base => exact Or.inl rfl
  | succ n hn ih =>
    rcases max_choice (peak lf li n) (li n - cum lf (n + 1)) with e | e
    · rcases ih with g | ⟨s, h1, h2, h3⟩
      · exact Or.inl (e.trans g)
      · exact Or.inr ⟨s, h1, by omega, e.trans h3⟩
    · exact Or.inr ⟨n, hn, by omega, e⟩

/-- The largest of a number and finitely many others is the real number which bounds them and is one of them. -/
theorem top_eq {N : ℕ} (r : ℝ) (a : EReal) (f : Fin N → EReal) (ha : a ≤ r) (hf : ∀ i, f i ≤ r) (he : a = r ∨ ∃ i, f i = r) :
    max a (Finset.fold max (Ideal.ofBits .f32 0xFF800000#32) f Finset.univ) = r := by
  rw [Attend.bits_bot]
  refine le_antisymm (max_le ha ((Finset.fold_max_le _).2 ⟨bot_le, fun i _ => hf i⟩)) ?_
  rcases he with e | ⟨i, e⟩
  · exact e ▸ le_max_left _ _
  · refine le_trans ?_ (le_max_right _ _)
    exact (Finset.le_fold_max _).2 (Or.inr ⟨i, Finset.mem_univ _, e.ge⟩)

/-- The mask that lets a token see those up to itself. -/
theorem causal {N : ℕ} (hN : N ≤ 4096) (s t : Fin N) (a b : EReal) :
    Scalar.select (IntOp.cmpi CmpIPredicate.sle (BitVec.ofNat 32 s.val) (BitVec.ofNat 32 t.val)) a b = if s ≤ t then a else b := by
  have hs := s.isLt
  have ht := t.isLt
  have e : ∀ x : ℕ, x < 4096 → (BitVec.ofNat 32 x).toInt = x := fun x hx => by
    rw [BitVec.toInt_eq_toNat_of_lt (by rw [BitVec.toNat_ofNat]; omega), BitVec.toNat_ofNat]; omega
  have h : (BitVec.ofNat 32 s.val).sle (BitVec.ofNat 32 t.val) = decide (s ≤ t) := by
    unfold BitVec.sle
    rw [e _ (by omega), e _ (by omega)]
    exact decide_eq_decide.2 (Int.ofNat_le)
  unfold Scalar.select IntOp.cmpi
  by_cases c : s ≤ t
  · simp [h, c]
  · simp [h, c]

/-- A token's log-weight within the chunk which begins at token `n`. -/
def gain (n : ℕ) {N : ℕ} (t s : Fin N) : EReal :=
  ((cum lf (n + t.val + 1) - cum lf n : ℝ) : EReal) - ((cum lf (n + s.val + 1) - cum lf n : ℝ) : EReal) + ((li (n + s.val) : ℝ) : EReal)

/-- A log-weight within the chunk is a difference of running sums. -/
theorem gain_eq (n : ℕ) {N : ℕ} (t s : Fin N) :
    gain lf li n t s = ((cum lf (n + t.val + 1) + (li (n + s.val) - cum lf (n + s.val + 1)) : ℝ) : EReal) := by
  unfold gain
  rw [← EReal.coe_sub, ← EReal.coe_add]
  exact congrArg _ (by ring)

/-- The stabiliser of a token: the largest of the carried state's log-weight and those of the chunk's tokens up to it. -/
theorem top_row (n : ℕ) {N : ℕ} (t : Fin N) :
    max (((cum lf (n + t.val + 1) - cum lf n : ℝ) : EReal) + ((cum lf n + peak lf li n : ℝ) : EReal))
      (Finset.fold max (Ideal.ofBits .f32 0xFF800000#32) (fun s : Fin N => if s ≤ t then gain lf li n t s else ⊥) Finset.univ)
      = ((cum lf (n + t.val + 1) + peak lf li (n + t.val + 1) : ℝ) : EReal) := by
  have e : (((cum lf (n + t.val + 1) - cum lf n : ℝ) : EReal) + ((cum lf n + peak lf li n : ℝ) : EReal))
      = ((cum lf (n + t.val + 1) + peak lf li n : ℝ) : EReal) := by
    rw [← EReal.coe_add]; exact congrArg _ (by ring)
  rw [e]
  refine top_eq _ _ _ ?_ ?_ ?_
  · exact EReal.coe_le_coe_iff.2 (add_le_add le_rfl (peak_mono lf li (by omega)))
  · intro s
    split
    · rename_i h
      rw [gain_eq]
      exact EReal.coe_le_coe_iff.2 (add_le_add le_rfl (le_peak lf li (by have : s.val ≤ t.val := h; omega)))
    · exact bot_le
  · rcases peak_step lf li (show n ≤ n + t.val + 1 by omega) with g | ⟨s, h1, h2, h3⟩
    · exact Or.inl (by rw [g])
    · refine Or.inr ⟨⟨s - n, by have := t.isLt; omega⟩, ?_⟩
      have h4 : (⟨s - n, by have := t.isLt; omega⟩ : Fin N) ≤ t := by show s - n ≤ t.val; omega
      rw [if_pos h4, gain_eq, h3]
      have h5 : n + (s - n) = s := by omega
      show ((cum lf (n + t.val + 1) + (li (n + (s - n)) - cum lf (n + (s - n) + 1)) : ℝ) : EReal) = _
      rw [h5]

/-- The stabiliser at the end of a chunk. -/
theorem top_end (n : ℕ) {N : ℕ} (t : Fin N) (ht : t.val + 1 = N) :
    max (((cum lf (n + t.val + 1) - cum lf n : ℝ) : EReal) + ((cum lf n + peak lf li n : ℝ) : EReal))
      (Finset.fold max (Ideal.ofBits .f32 0xFF800000#32) (fun s : Fin N => gain lf li n t s) Finset.univ)
      = ((cum lf (n + N) + peak lf li (n + N) : ℝ) : EReal) := by
  have h : (fun s : Fin N => gain lf li n t s) = fun s : Fin N => if s ≤ t then gain lf li n t s else ⊥ := by
    funext s
    exact (if_pos (show s ≤ t from by show s.val ≤ t.val; have := s.isLt; omega)).symm
  have e : n + t.val + 1 = n + N := by omega
  rw [h, top_row, e]

/-- The exponential of a real number. -/
theorem exp_coe (r : ℝ) : Ideal.exp (r : EReal) = ((Real.exp r : ℝ) : EReal) := rfl

/-- The exponential of a log-weight below the stabiliser is the token's weight. -/
theorem exp_gain (n : ℕ) {N : ℕ} (t s : Fin N) :
    Ideal.exp (gain lf li n t s - ((cum lf (n + t.val + 1) + peak lf li (n + t.val + 1) : ℝ) : EReal))
      = ((wt lf li (n + t.val + 1) (n + s.val) : ℝ) : EReal) := by
  rw [gain_eq, ← EReal.coe_sub, exp_coe]
  unfold wt
  exact congrArg _ (congrArg _ (by ring))

/-- The same behind the mask. -/
theorem exp_masked (n : ℕ) {N : ℕ} (t s : Fin N) :
    Ideal.exp ((if s ≤ t then gain lf li n t s else ⊥) - ((cum lf (n + t.val + 1) + peak lf li (n + t.val + 1) : ℝ) : EReal))
      = (((if s ≤ t then wt lf li (n + t.val + 1) (n + s.val) else 0 : ℝ)) : EReal) := by
  split
  · exact exp_gain lf li n t s
  · rw [EReal.bot_sub]; rfl

/-- What is left of the carried state's weights. -/
theorem exp_carry (n T : ℕ) :
    Ideal.exp (((cum lf T - cum lf n : ℝ) : EReal) + ((cum lf n + peak lf li n : ℝ) : EReal)
        - ((cum lf T + peak lf li T : ℝ) : EReal))
      = ((Real.exp (peak lf li n - peak lf li T) : ℝ) : EReal) := by
  rw [← EReal.coe_add, ← EReal.coe_sub, exp_coe]
  exact congrArg _ (congrArg _ (by ring))

/-- Carrying the weighted sum on to a later stabiliser. -/
theorem acc_carry (n T : ℕ) (y : ℕ → ℝ) :
    Real.exp (peak lf li n - peak lf li T) * acc lf li n y = ∑ s ∈ Finset.range n, wt lf li T s * y s := by
  unfold acc
  rw [Finset.mul_sum]
  refine Finset.sum_congr rfl fun s _ => ?_
  unfold wt
  rw [← mul_assoc, ← Real.exp_add]
  exact congrArg (· * y s) (congrArg _ (by ring))

/-- The tokens of a chunk up to one of them, over the chunk's positions. -/
theorem sum_chunk (n : ℕ) {N : ℕ} (t : Fin N) (f : ℕ → ℝ) :
    ∑ s ∈ Finset.range (n + t.val + 1), f s
      = ∑ s ∈ Finset.range n, f s + ∑ s : Fin N, (if s ≤ t then f (n + s.val) else 0) := by
  rw [add_assoc, Finset.sum_range_add]
  refine congrArg _ ?_
  have h : ∀ s : Fin N, (if s ≤ t then f (n + s.val) else 0) = (fun i : ℕ => if i ≤ t.val then f (n + i) else 0) s.val := fun s => rfl
  rw [Finset.sum_congr rfl fun s _ => h s, Fin.sum_univ_eq_sum_range (fun i : ℕ => if i ≤ t.val then f (n + i) else 0) N, ← Finset.sum_filter]
  refine Finset.sum_congr ?_ fun _ _ => rfl
  ext i
  simp only [Finset.mem_range, Finset.mem_filter]
  have := t.isLt
  omega

/-- The weighted sum up to a token: the chunk's tokens and the carried sum. -/
theorem acc_row (n : ℕ) {N : ℕ} (t : Fin N) (y : ℕ → ℝ) :
    ∑ s : Fin N, (if s ≤ t then wt lf li (n + t.val + 1) (n + s.val) else 0) * y (n + s.val)
        + Real.exp (peak lf li n - peak lf li (n + t.val + 1)) * acc lf li n y
      = acc lf li (n + t.val + 1) y := by
  rw [acc_carry]
  unfold acc
  rw [sum_chunk n t, add_comm]
  refine congrArg _ (Finset.sum_congr rfl fun s _ => ?_)
  split
  · rfl
  · rw [zero_mul]

/-- The weighted sum at the end of a chunk. -/
theorem acc_end (n : ℕ) (N : ℕ) (y : ℕ → ℝ) :
    Real.exp (peak lf li n - peak lf li (n + N)) * acc lf li n y + ∑ s : Fin N, wt lf li (n + N) (n + s.val) * y (n + s.val)
      = acc lf li (n + N) y := by
  rw [acc_carry]
  unfold acc
  rw [Finset.sum_range_add]
  refine congrArg _ ?_
  rw [Fin.sum_univ_eq_sum_range (fun i : ℕ => wt lf li (n + N) (n + i) * y (n + i)) N]

/-- The weighted sum is linear in what the tokens hold. -/
theorem acc_dot (n : ℕ) {K : ℕ} (q : Fin K → ℝ) (y : Fin K → ℕ → ℝ) :
    ∑ d, q d * acc lf li n (y d) = acc lf li n (fun s => ∑ d, q d * y d s) := by
  unfold acc
  simp only [Finset.mul_sum]
  rw [Finset.sum_comm]
  exact Finset.sum_congr rfl fun s _ => Finset.sum_congr rfl fun d _ => by ring

/-- What a token reads: the weighted values over the weighted keys' product, which is kept away from zero. -/
def out (n : ℕ) (num den : ℕ → ℝ) : EReal :=
  Ideal.div ((acc lf li n num : ℝ) : EReal)
    (max (max ((acc lf li n den : ℝ) : EReal) (-((acc lf li n den : ℝ) : EReal)))
      (Ideal.exp (-((cum lf n + peak lf li n : ℝ) : EReal))))

end Cert.Recur

end
-- ==== Proof.MlstmHead.lean ====
/- One head of a chunk of the matrix recurrence: what the kernel computes from the gates, the carried state and the
   chunk's queries, keys and values. -/
module

public import proofs.«01_k».proof.Proof.Gen.MlstmIdeal.Value
public import Idealize.ShloMosaic.Lib.Pipeline.ValueKit
public import Idealize.ShloMosaic.Lib.Pointwise
public import Idealize.ShloMosaic.Lib.Claim
public import proofs.«01_k».proof.Proof.Recur

@[expose] public section

set_option maxRecDepth 16384

noncomputable section

namespace Cert.MlstmIdeal.Value

open Cert.MlstmIdeal Cert.MlstmIdeal.Gen Idealize.ShloMosaic Idealize.ShloMosaic.TcCoe Idealize.SL.Sem

/-- The log-weights behind the mask, entry by entry. -/
theorem pay11_at (fc : FVec Ideal S256x1 .f32) (ir fr : FVec Ideal S1x1x256 .f32) (t s : Fin 256) :
    k0_pay11 (F := Ideal) fc ir fr (ix2 t s) = if s ≤ t then fc (ix2 t 0) - fr (ix3 0 0 s) + ir (ix3 0 0 s) else ⊥ := by
  have hm : (Named.named (F := Ideal) κ "mask" (φ := .f32) 0xF149F2CA#32 : EReal) = ⊥ := rfl
  rw [← Recur.causal (by omega) s t]
  pointwise [k0_pay11, k0_pay7, k0_pay9, hm]

/-- The carried log-weight of a token. -/
theorem pay12_at (fc : FVec Ideal S256x1 .f32) (mp : FVec Ideal S1x1x128 .f32) (t : Fin 256) :
    k0_pay12 (F := Ideal) fc mp (ix2 t 0) = fc (ix2 t 0) + mp (ix3 0 0 0) := by
  pointwise [k0_pay12, k0_pay9, k0_pay10]

/-- A token's stabiliser. -/
theorem pay13_at (fc : FVec Ideal S256x1 .f32) (ir fr : FVec Ideal S1x1x256 .f32) (mp : FVec Ideal S1x1x128 .f32) (t : Fin 256) :
    k0_pay13 (F := Ideal) fc ir fr mp (ix2 t 0) = max (k0_pay12 (F := Ideal) fc mp (ix2 t 0))
      (Finset.fold max (Ideal.ofBits .f32 0xFF800000#32) (fun s => k0_pay11 (F := Ideal) fc ir fr (ix2 t s)) Finset.univ) := by
  unfold k0_pay13
  generalize k0_pay12 (F := Ideal) fc mp = A
  generalize k0_pay11 (F := Ideal) fc ir fr = B
  pointwise []

/-- A query's product with a key. -/
theorem pay14_at (q k : FVec Ideal S256x512 .bf16) (t s : Fin 256) :
    k0_pay14 (F := Ideal) q k (ix2 t s) = ∑ d, q (ix2 t d) * k (ix2 s d) := by
  pointwise [k0_pay14]

/-- What a token reads. -/
theorem pay15_at (q v : FVec Ideal S256x512 .bf16) (D S : FVec Ideal S256x256 .f32) (B M : FVec Ideal S256x1 .f32)
    (C : FVec Ideal S1x512x512 .f32) (N : FVec Ideal S1x1x512 .f32) (t : Fin 256) (e : Fin 512) :
    k0_pay15 (F := Ideal) q v D B M S C N (ix2 t e)
      = Ideal.div ((∑ s, S (ix2 t s) * Ideal.exp (D (ix2 t s) - M (ix2 t 0)) * v (ix2 s e))
          + Ideal.exp (B (ix2 t 0) - M (ix2 t 0)) * ∑ d, q (ix2 t d) * C (ix3 0 d e))
        (max (max ((∑ s, S (ix2 t s) * Ideal.exp (D (ix2 t s) - M (ix2 t 0)))
              + Ideal.exp (B (ix2 t 0) - M (ix2 t 0)) * ∑ d, q (ix2 t d) * N (ix3 0 0 d))
            (-((∑ s, S (ix2 t s) * Ideal.exp (D (ix2 t s) - M (ix2 t 0)))
              + Ideal.exp (B (ix2 t 0) - M (ix2 t 0)) * ∑ d, q (ix2 t d) * N (ix3 0 0 d))))
          (Ideal.exp (0 - M (ix2 t 0)))) := by
  pointwise [k0_pay15]
  rfl

/-- A token's log-weight at the chunk's end. -/
theorem pay17_at (ic fc : FVec Ideal S256x1 .f32) (t : Fin 256) :
    k0_pay17 (F := Ideal) (k0_pay8 ic) (k0_pay9 fc) (ix2 t 0) = fc (ix2 255 0) - fc (ix2 t 0) + ic (ix2 t 0) := by
  pointwise [k0_pay17, k0_pay16, k0_pay8, k0_pay9]

/-- The stabiliser at the chunk's end. -/
theorem pay18_at (ic fc : FVec Ideal S256x1 .f32) (mp : FVec Ideal S1x1x128 .f32) :
    k0_pay18 (F := Ideal) (k0_pay8 ic) (k0_pay9 fc) (k0_pay10 mp) (ix2 0 0) = max (fc (ix2 255 0) + mp (ix3 0 0 0))
      (Finset.fold max (Ideal.ofBits .f32 0xFF800000#32) (fun s => k0_pay17 (F := Ideal) (k0_pay8 ic) (k0_pay9 fc) (ix2 s 0)) Finset.univ) := by
  unfold k0_pay18
  generalize k0_pay17 (F := Ideal) (k0_pay8 ic) (k0_pay9 fc) = A
  pointwise [k0_pay16, k0_pay9, k0_pay10]

/-- What is left of the carried state at the chunk's end. -/
theorem pay19_at (ic fc : FVec Ideal S256x1 .f32) (mp : FVec Ideal S1x1x128 .f32) :
    k0_pay19 (F := Ideal) (k0_pay8 ic) (k0_pay9 fc) (k0_pay10 mp) (ix2 0 0) = Ideal.exp (fc (ix2 255 0) + mp (ix3 0 0 0)
      - k0_pay18 (F := Ideal) (k0_pay8 ic) (k0_pay9 fc) (k0_pay10 mp) (ix2 0 0)) := by
  unfold k0_pay19
  generalize k0_pay18 (F := Ideal) (k0_pay8 ic) (k0_pay9 fc) (k0_pay10 mp) = A
  pointwise [k0_pay16, k0_pay9, k0_pay10]

/-- A weighted key. -/
theorem pay20_at (k : FVec Ideal S256x512 .bf16) (G : FVec Ideal S256x1 .f32) (M : FVec Ideal S1x1 .f32) (t : Fin 256) (d : Fin 512) :
    k0_pay20 (F := Ideal) k G M (ix2 t d) = Ideal.exp (G (ix2 t 0) - M (ix2 0 0)) * k (ix2 t d) := by
  pointwise [k0_pay20]

/-- The matrix state after the chunk. -/
theorem pay21_at (k v : FVec Ideal S256x512 .bf16) (G : FVec Ideal S256x1 .f32) (M W : FVec Ideal S1x1 .f32)
    (C : FVec Ideal S1x512x512 .f32) (d e : Fin 512) :
    k0_pay21 (F := Ideal) k v G M W C (ix3 0 d e) = W (ix2 0 0) * C (ix3 0 d e) + ∑ s, k0_pay20 (F := Ideal) k G M (ix2 s d) * v (ix2 s e) := by
  unfold k0_pay21
  generalize k0_pay20 (F := Ideal) k G M = A
  pointwise []

/-- The key sum after the chunk. -/
theorem pay22_at (k : FVec Ideal S256x512 .bf16) (G : FVec Ideal S256x1 .f32) (M W : FVec Ideal S1x1 .f32)
    (N : FVec Ideal S1x1x512 .f32) (d : Fin 512) :
    k0_pay22 (F := Ideal) k G M W N (ix3 0 0 d) = W (ix2 0 0) * N (ix3 0 0 d) + ∑ s, k0_pay20 (F := Ideal) k G M (ix2 s d) := by
  unfold k0_pay22
  generalize k0_pay20 (F := Ideal) k G M = A
  pointwise []

/-- The stored stabiliser. -/
theorem pay23_at (M : FVec Ideal S1x1 .f32) (x : Fin 128) : k0_pay23 (F := Ideal) M (ix3 0 0 x) = M (ix2 0 0) := by
  pointwise [k0_pay23]

section head
variable {lf li : ℕ → ℝ} {n : ℕ} {q k v : ℕ → Fin 512 → ℝ}
  {ic fc : FVec Ideal S256x1 .f32} {ir fr : FVec Ideal S1x1x256 .f32} {mp : FVec Ideal S1x1x128 .f32}
  {Q K V : FVec Ideal S256x512 .bf16} {C : FVec Ideal S1x512x512 .f32} {N : FVec Ideal S1x1x512 .f32}
  (hic : ∀ t, ic (ix2 t 0) = ((li (n + t.val) : ℝ) : EReal))
  (hfc : ∀ t, fc (ix2 t 0) = ((Recur.cum lf (n + t.val + 1) - Recur.cum lf n : ℝ) : EReal))
  (hir : ∀ t, ir (ix3 0 0 t) = ((li (n + t.val) : ℝ) : EReal))
  (hfr : ∀ t, fr (ix3 0 0 t) = ((Recur.cum lf (n + t.val + 1) - Recur.cum lf n : ℝ) : EReal))
  (hmp : ∀ x, mp (ix3 0 0 x) = ((Recur.cum lf n + Recur.peak lf li n : ℝ) : EReal))
  (hQ : ∀ t d, Q (ix2 t d) = ((q (n + t.val) d : ℝ) : EReal))
  (hK : ∀ t d, K (ix2 t d) = ((k (n + t.val) d : ℝ) : EReal))
  (hV : ∀ t d, V (ix2 t d) = ((v (n + t.val) d : ℝ) : EReal))
  (hC : ∀ d e, C (ix3 0 d e) = ((Recur.acc lf li n (fun s => k s d * v s e) : ℝ) : EReal))
  (hN : ∀ d, N (ix3 0 0 d) = ((Recur.acc lf li n (fun s => k s d) : ℝ) : EReal))

include hfc hir hfr in
/-- The log-weights behind the mask. -/
theorem head_gain (t s : Fin 256) : k0_pay11 (F := Ideal) fc ir fr (ix2 t s) = if s ≤ t then Recur.gain lf li n t s else ⊥ := by
  rw [pay11_at, hfc, hfr, hir]; rfl

include hfc hir hfr hmp in
/-- The token's stabiliser. -/
theorem head_top (t : Fin 256) : k0_pay13 (F := Ideal) fc ir fr mp (ix2 t 0)
    = ((Recur.cum lf (n + t.val + 1) + Recur.peak lf li (n + t.val + 1) : ℝ) : EReal) := by
  rw [pay13_at, pay12_at, hfc, hmp, ← Recur.top_row lf li n t]
  simp only [head_gain hfc hir hfr]

include hfc hir hfr hmp hQ hK hV hC hN in
/-- What the token reads. -/
theorem head_out (t : Fin 256) (e : Fin 512) :
    k0_pay15 (F := Ideal) Q V (k0_pay11 fc ir fr) (k0_pay12 fc mp) (k0_pay13 fc ir fr mp) (k0_pay14 Q K) C N (ix2 t e)
      = Recur.out lf li (n + t.val + 1) (fun s => (∑ d, q (n + t.val) d * k s d) * v s e) (fun s => ∑ d, q (n + t.val) d * k s d) := by
  have hs : ∀ s, k0_pay14 (F := Ideal) Q K (ix2 t s) = ((∑ d, q (n + t.val) d * k (n + s.val) d : ℝ) : EReal) := fun s => by
    rw [pay14_at, ← Attend.coe_sum]
    exact Finset.sum_congr rfl fun d _ => by rw [hQ, hK, EReal.coe_mul]
  have hw : ∀ s, Ideal.exp (k0_pay11 (F := Ideal) fc ir fr (ix2 t s) - k0_pay13 (F := Ideal) fc ir fr mp (ix2 t 0))
      = ((if s ≤ t then Recur.wt lf li (n + t.val + 1) (n + s.val) else 0 : ℝ) : EReal) := fun s => by
    rw [head_gain hfc hir hfr, head_top hfc hir hfr hmp, Recur.exp_masked]
  have hc : Ideal.exp (k0_pay12 (F := Ideal) fc mp (ix2 t 0) - k0_pay13 (F := Ideal) fc ir fr mp (ix2 t 0))
      = ((Real.exp (Recur.peak lf li n - Recur.peak lf li (n + t.val + 1)) : ℝ) : EReal) := by
    rw [head_top hfc hir hfr hmp, pay12_at, hfc, hmp, Recur.exp_carry]
  have h1 : (∑ s, k0_pay14 (F := Ideal) Q K (ix2 t s) * Ideal.exp (k0_pay11 (F := Ideal) fc ir fr (ix2 t s) - k0_pay13 (F := Ideal) fc ir fr mp (ix2 t 0)) * V (ix2 s e))
        + Ideal.exp (k0_pay12 (F := Ideal) fc mp (ix2 t 0) - k0_pay13 (F := Ideal) fc ir fr mp (ix2 t 0)) * ∑ d, Q (ix2 t d) * C (ix3 0 d e)
      = ((Recur.acc lf li (n + t.val + 1) (fun s => (∑ d, q (n + t.val) d * k s d) * v s e) : ℝ) : EReal) := by
    have ha : ∑ d, Q (ix2 t d) * C (ix3 0 d e) = ((Recur.acc lf li n (fun s => (∑ d, q (n + t.val) d * k s d) * v s e) : ℝ) : EReal) := by
      have hb : (fun s => (∑ d, q (n + t.val) d * k s d) * v s e) = fun s => ∑ d, q (n + t.val) d * (k s d * v s e) := by
        funext s; rw [Finset.sum_mul]; exact Finset.sum_congr rfl fun d _ => mul_assoc _ _ _
      rw [hb, ← Recur.acc_dot, ← Attend.coe_sum]
      exact Finset.sum_congr rfl fun d _ => by rw [hQ, hC, EReal.coe_mul]
    rw [ha, hc, ← EReal.coe_mul, ← Recur.acc_row lf li n t, EReal.coe_add, ← Attend.coe_sum]
    refine congrArg (· + _) (Finset.sum_congr rfl fun s _ => ?_)
    rw [hs, hw, hV, ← EReal.coe_mul, ← EReal.coe_mul]
    exact congrArg _ (by ring)
  have h2 : (∑ s, k0_pay14 (F := Ideal) Q K (ix2 t s) * Ideal.exp (k0_pay11 (F := Ideal) fc ir fr (ix2 t s) - k0_pay13 (F := Ideal) fc ir fr mp (ix2 t 0)))
        + Ideal.exp (k0_pay12 (F := Ideal) fc mp (ix2 t 0) - k0_pay13 (F := Ideal) fc ir fr mp (ix2 t 0)) * ∑ d, Q (ix2 t d) * N (ix3 0 0 d)
      = ((Recur.acc lf li (n + t.val + 1) (fun s => ∑ d, q (n + t.val) d * k s d) : ℝ) : EReal) := by
    have ha : ∑ d, Q (ix2 t d) * N (ix3 0 0 d) = ((Recur.acc lf li n (fun s => ∑ d, q (n + t.val) d * k s d) : ℝ) : EReal) := by
      rw [← Recur.acc_dot, ← Attend.coe_sum]
      exact Finset.sum_congr rfl fun d _ => by rw [hQ, hN, EReal.coe_mul]
    rw [ha, hc, ← EReal.coe_mul, ← Recur.acc_row lf li n t, EReal.coe_add, ← Attend.coe_sum]
    refine congrArg (· + _) (Finset.sum_congr rfl fun s _ => ?_)
    rw [hs, hw, ← EReal.coe_mul]
    exact congrArg _ (by ring)
  rw [pay15_at, h1, h2, head_top hfc hir hfr hmp, zero_sub]
  rfl

include hic hfc in
/-- A token's log-weight at the chunk's end. -/
theorem head_end_gain (t : Fin 256) : k0_pay17 (F := Ideal) (k0_pay8 ic) (k0_pay9 fc) (ix2 t 0) = Recur.gain lf li n (255 : Fin 256) t := by
  rw [pay17_at, hfc, hfc, hic]; rfl

include hic hfc hmp in
/-- The stabiliser at the chunk's end. -/
theorem head_end (x : S1x1.Idx) : k0_pay18 (F := Ideal) (k0_pay8 ic) (k0_pay9 fc) (k0_pay10 mp) (ix2 0 0)
    = ((Recur.cum lf (n + 256) + Recur.peak lf li (n + 256) : ℝ) : EReal) := by
  rw [pay18_at, hfc, hmp, ← Recur.top_end lf li n (255 : Fin 256) rfl]
  simp only [head_end_gain hic hfc]

include hic hfc hmp in
/-- The stored stabiliser. -/
theorem head_M (x : Fin 128) : k0_pay23 (F := Ideal) (k0_pay18 (k0_pay8 ic) (k0_pay9 fc) (k0_pay10 mp)) (ix3 0 0 x)
    = ((Recur.cum lf (n + 256) + Recur.peak lf li (n + 256) : ℝ) : EReal) := by
  rw [pay23_at, head_end hic hfc hmp (ix2 0 0)]

include hic hfc hmp in
/-- What is left of the carried state. -/
theorem head_decay : k0_pay19 (F := Ideal) (k0_pay8 ic) (k0_pay9 fc) (k0_pay10 mp) (ix2 0 0)
    = ((Real.exp (Recur.peak lf li n - Recur.peak lf li (n + 256)) : ℝ) : EReal) := by
  rw [pay19_at, head_end hic hfc hmp (ix2 0 0), hfc, hmp]
  exact Recur.exp_carry lf li n (n + 256)

include hic hfc hmp hK in
/-- A weighted key. -/
theorem head_wk (t : Fin 256) (d : Fin 512) :
    k0_pay20 (F := Ideal) K (k0_pay17 (k0_pay8 ic) (k0_pay9 fc)) (k0_pay18 (k0_pay8 ic) (k0_pay9 fc) (k0_pay10 mp)) (ix2 t d)
      = ((Recur.wt lf li (n + 256) (n + t.val) * k (n + t.val) d : ℝ) : EReal) := by
  rw [pay20_at, head_end hic hfc hmp (ix2 0 0), head_end_gain hic hfc, hK, EReal.coe_mul]
  exact congrArg (· * _) (Recur.exp_gain lf li n (255 : Fin 256) t)

include hic hfc hmp hK hV hC in
/-- The matrix state after the chunk. -/
theorem head_C (d e : Fin 512) :
    k0_pay21 (F := Ideal) K V (k0_pay17 (k0_pay8 ic) (k0_pay9 fc)) (k0_pay18 (k0_pay8 ic) (k0_pay9 fc) (k0_pay10 mp))
        (k0_pay19 (k0_pay8 ic) (k0_pay9 fc) (k0_pay10 mp)) C (ix3 0 d e)
      = ((Recur.acc lf li (n + 256) (fun s => k s d * v s e) : ℝ) : EReal) := by
  rw [pay21_at, head_decay hic hfc hmp, hC, ← EReal.coe_mul, ← Recur.acc_end lf li n 256, EReal.coe_add, ← Attend.coe_sum]
  refine congrArg _ (Finset.sum_congr rfl fun s _ => ?_)
  rw [head_wk hic hfc hmp hK, hV, ← EReal.coe_mul, mul_assoc]

include hic hfc hmp hK hN in
/-- The key sum after the chunk. -/
theorem head_N (d : Fin 512) :
    k0_pay22 (F := Ideal) K (k0_pay17 (k0_pay8 ic) (k0_pay9 fc)) (k0_pay18 (k0_pay8 ic) (k0_pay9 fc) (k0_pay10 mp))
        (k0_pay19 (k0_pay8 ic) (k0_pay9 fc) (k0_pay10 mp)) N (ix3 0 0 d)
      = ((Recur.acc lf li (n + 256) (fun s => k s d) : ℝ) : EReal) := by
  rw [pay22_at, head_decay hic hfc hmp, hN, ← EReal.coe_mul, ← Recur.acc_end lf li n 256, EReal.coe_add, ← Attend.coe_sum]
  refine congrArg _ (Finset.sum_congr rfl fun s _ => ?_)
  rw [head_wk hic hfc hmp hK]

end head

end Cert.MlstmIdeal.Value

end
-- ==== Proof.MlstmRef.lean ====
/- The reference of the prompt's matrix recurrence, read entry by entry: every token's output and the final state are
   the weighted sums over the tokens before it. -/
module

public import proofs.«01_k».proof.Proof.Gen.MlstmRefIdeal.Read
public import proofs.«01_k».proof.Proof.Recur
public import Idealize.ShloMosaic.Lib.Pipeline.ValueKit
public import Idealize.ShloMosaic.Lib.Pointwise
public import Idealize.ShloMosaic.Lib.Claim

@[expose] public section

set_option maxRecDepth 16384

noncomputable section

namespace Cert.MlstmRefIdeal.Read

open Cert.MlstmRefIdeal Cert.MlstmRefIdeal.Gen Idealize.ShloMosaic Idealize.ShloMosaic.TcCoe Idealize.SL.Sem

/-- The logarithm of the sigmoid. -/
def LSig (x : EReal) : EReal := -(max (-x) 0 + Ideal.log1p (Ideal.exp (-(max (-x) (- -x)))))

/-- The logarithm of a real number's sigmoid is a real number. -/
theorem lsig_real (r : ℝ) : ∃ s : ℝ, LSig (r : EReal) = s := by
  have h : ∀ y : ℝ, Ideal.log1p (Ideal.exp (y : EReal)) = ((Real.log (1 + Real.exp y) : ℝ) : EReal) := fun y => by
    have h : (1 : EReal) + ((Real.exp y : ℝ) : EReal) = ((1 + Real.exp y : ℝ) : EReal) := by norm_cast
    have hp : ¬ (1 + Real.exp y) ≤ 0 := by have := Real.exp_pos y; linarith
    show Ideal.log (1 + ((Real.exp y : ℝ) : EReal)) = _
    rw [h]
    show (if (1 + Real.exp y) ≤ 0 then (⊥ : EReal) else ((Real.log (1 + Real.exp y) : ℝ) : EReal)) = _
    rw [if_neg hp]
  refine ⟨-(max (-r) 0 + Real.log (1 + Real.exp (-(max (-r) (- -r))))), ?_⟩
  have hx : ∀ a b : ℝ, max (a : EReal) (b : EReal) = ((max a b : ℝ) : EReal) := fun a b =>
    (EReal.coe_strictMono.monotone.map_max).symm
  unfold LSig
  rw [← EReal.coe_neg, ← EReal.coe_neg, ← EReal.coe_zero, hx, hx, ← EReal.coe_neg, h, ← EReal.coe_add, ← EReal.coe_neg]

/-- The sequence of a head's tokens. -/
def tok (x : FVec Ideal S16384x2048 .bf16) (b : Fin 8) (h : Fin 4) (s : ℕ) (d : Fin 512) : ℝ :=
  EReal.toReal (x (ix2 ⟨(b.val * 2048 + s) % 16384, Nat.mod_lt _ (by decide)⟩ ⟨h.val * 512 + d.val, by omega⟩))

/-- The sequence of a head's input gates. -/
def gi (x : FVec Ideal S16384x128 .f32) (b : Fin 8) (h : Fin 4) (s : ℕ) : ℝ :=
  EReal.toReal (x (ix2 ⟨(b.val * 2048 + s) % 16384, Nat.mod_lt _ (by decide)⟩ ⟨h.val, by omega⟩))

/-- The sequence of a head's forget gates' logarithms. -/
def gf (x : FVec Ideal S16384x128 .f32) (b : Fin 8) (h : Fin 4) (s : ℕ) : ℝ :=
  EReal.toReal (LSig (x (ix2 ⟨(b.val * 2048 + s) % 16384, Nat.mod_lt _ (by decide)⟩ ⟨4 + h.val, by omega⟩)))

/-- A token's entry is that of the sequence. -/
theorem tok_eq (x : FVec Ideal S16384x2048 .bf16) (f : ∀ i, ∃ r : ℝ, x i = r) (b : Fin 8) (h : Fin 4) (s : Fin 2048) (d : Fin 512) :
    x (ix2 ⟨b.val * 2048 + s.val, by omega⟩ ⟨h.val * 512 + d.val, by omega⟩) = ((tok x b h s.val d : ℝ) : EReal) := by
  unfold tok
  have e : (⟨(b.val * 2048 + s.val) % 16384, Nat.mod_lt _ (by decide)⟩ : Fin 16384) = ⟨b.val * 2048 + s.val, by omega⟩ :=
    Fin.ext (Nat.mod_eq_of_lt (by omega))
  rw [e]
  obtain ⟨r, hr⟩ := f (ix2 ⟨b.val * 2048 + s.val, by omega⟩ ⟨h.val * 512 + d.val, by omega⟩)
  rw [hr]; rfl

/-- A token's input gate is that of the sequence. -/
theorem gi_eq (x : FVec Ideal S16384x128 .f32) (f : ∀ i, ∃ r : ℝ, x i = r) (b : Fin 8) (h : Fin 4) (s : Fin 2048) :
    x (ix2 ⟨b.val * 2048 + s.val, by omega⟩ ⟨h.val, by omega⟩) = ((gi x b h s.val : ℝ) : EReal) := by
  unfold gi
  have e : (⟨(b.val * 2048 + s.val) % 16384, Nat.mod_lt _ (by decide)⟩ : Fin 16384) = ⟨b.val * 2048 + s.val, by omega⟩ :=
    Fin.ext (Nat.mod_eq_of_lt (by omega))
  rw [e]
  obtain ⟨r, hr⟩ := f (ix2 ⟨b.val * 2048 + s.val, by omega⟩ ⟨h.val, by omega⟩)
  rw [hr]; rfl

/-- A token's forget gate is that of the sequence. -/
theorem gf_eq (x : FVec Ideal S16384x128 .f32) (f : ∀ i, ∃ r : ℝ, x i = r) (b : Fin 8) (h : Fin 4) (s : Fin 2048) :
    LSig (x (ix2 ⟨b.val * 2048 + s.val, by omega⟩ ⟨4 + h.val, by omega⟩)) = ((gf x b h s.val : ℝ) : EReal) := by
  unfold gf
  have e : (⟨(b.val * 2048 + s.val) % 16384, Nat.mod_lt _ (by decide)⟩ : Fin 16384) = ⟨b.val * 2048 + s.val, by omega⟩ :=
    Fin.ext (Nat.mod_eq_of_lt (by omega))
  rw [e]
  obtain ⟨r, hr⟩ := f (ix2 ⟨b.val * 2048 + s.val, by omega⟩ ⟨4 + h.val, by omega⟩)
  obtain ⟨s, hs⟩ := lsig_real r
  rw [hr, hs]; rfl

/-- The queries. -/
theorem r1 (x0 : FVec Ideal S16384x2048 .bf16) (b : Fin 8) (t : Fin 2048) (h : Fin 4) (d : Fin 512) :
    val_main_v1 (F := Ideal) x0 (ix4 b t h d) = x0 (ix2 ⟨b.val * 2048 + t.val, by omega⟩ ⟨h.val * 512 + d.val, by omega⟩) := by
  pointwise [val_main_v1, val_main_v0]

/-- The keys. -/
theorem r3 (x1 : FVec Ideal S16384x2048 .bf16) (b : Fin 8) (t : Fin 2048) (h : Fin 4) (d : Fin 512) :
    val_main_v3 (F := Ideal) x1 (ix4 b t h d) = x1 (ix2 ⟨b.val * 2048 + t.val, by omega⟩ ⟨h.val * 512 + d.val, by omega⟩) := r1 x1 b t h d

/-- The values. -/
theorem r5 (x2 : FVec Ideal S16384x2048 .bf16) (b : Fin 8) (t : Fin 2048) (h : Fin 4) (d : Fin 512) :
    val_main_v5 (F := Ideal) x2 (ix4 b t h d) = x2 (ix2 ⟨b.val * 2048 + t.val, by omega⟩ ⟨h.val * 512 + d.val, by omega⟩) := r1 x2 b t h d

/-- The input gates. -/
theorem r8 (x3 : FVec Ideal S16384x128 .f32) (b : Fin 8) (h : Fin 4) (t : Fin 2048) :
    val_main_v8 (F := Ideal) x3 (ix3 b h t) = x3 (ix2 ⟨b.val * 2048 + t.val, by omega⟩ ⟨h.val, by omega⟩) := by
  pointwise [val_main_v8, val_main_v7, val_main_v6]

/-- The forget gates, before they are laid out. -/
theorem r10 (x3 : FVec Ideal S16384x128 .f32) (r : Fin 16384) (h : Fin 4) :
    val_main_v10 (F := Ideal) x3 (ix2 r h) = LSig (x3 (ix2 r ⟨4 + h.val, by omega⟩)) := by
  have hz : val_main_call0_call0_v3 (F := Ideal) x3 (ix2 r h) = -(x3 (ix2 r ⟨4 + h.val, by omega⟩)) := by
    pointwise [val_main_call0_call0_v3, val_main_call0_v0, val_main_v9, val_main_call0_call0_v2, val_main_call0_call0_cst]
  have h0 : val_main_call0_call0_v0 (F := Ideal) (ix2 r h) = (0 : EReal) := by
    pointwise [val_main_call0_call0_v0, val_main_call0_call0_cst]
  have e : val_main_v10 (F := Ideal) x3 (ix2 r h) = -(if -(x3 (ix2 r ⟨4 + h.val, by omega⟩)) ≠ -(x3 (ix2 r ⟨4 + h.val, by omega⟩)) then
      val_main_call0_call0_v6 (F := Ideal) x3 (ix2 r h) else max (-(x3 (ix2 r ⟨4 + h.val, by omega⟩))) 0
        + Ideal.log1p (Ideal.exp (-(max (-(x3 (ix2 r ⟨4 + h.val, by omega⟩))) (- -(x3 (ix2 r ⟨4 + h.val, by omega⟩))))))) := by
    pointwise [val_main_v10, val_main_call0_v1, val_main_call0_call0_v4, val_main_call0_call0_v11, val_main_call0_call0_v10, val_main_call0_call0_v9, val_main_call0_call0_v8, val_main_call0_call0_v7, val_main_call0_call0_v1, val_main_call0_v0, val_main_v9]
    rw [hz, h0]
    rfl
  rw [e, if_neg (fun h => h rfl)]
  rfl

/-- The forget gates. -/
theorem r12 (x3 : FVec Ideal S16384x128 .f32) (b : Fin 8) (h : Fin 4) (t : Fin 2048) :
    val_main_v12 (F := Ideal) x3 (ix3 b h t) = LSig (x3 (ix2 ⟨b.val * 2048 + t.val, by omega⟩ ⟨4 + h.val, by omega⟩)) := by
  rw [← r10]
  unfold val_main_v12 val_main_v11
  generalize val_main_v10 (F := Ideal) x3 = A
  pointwise []

/-- The maximum over the last of four axes. -/
theorem max4_at (X : FVec Ideal S8x4x2048x2048 .f32) (C : FVec Ideal S_ .f32) (b : Fin 8) (h : Fin 4) (t : Fin 2048) :
    Host.reduce (FloatOps.maximumf (F := Ideal) (φ := .f32)) X C reducesTo_S8x4x2048x2048_S8x4x2048_d3 h_S_ (ix3 b h t)
      = Finset.fold max (C ix0) (fun x => X (ix4 b h t x)) Finset.univ := by
  rw [Ideal.maximumf_eq_max, Host.reduce_eq_fold_single max X C reducesTo_S8x4x2048x2048_S8x4x2048_d3 (by decide) h_S_]
  have h1 : (Shape.Idx.first h_S_ : S_.Idx) = ix0 := by funext a; exact a.elim0
  rw [h1]
  refine congrArg (fun f => Finset.fold max (C ix0) f Finset.univ) (funext fun k => congrArg X (funext fun a => Fin.ext ?_))
  match a with
  | ⟨0, _⟩ => rfl
  | ⟨1, _⟩ => rfl
  | ⟨2, _⟩ => rfl
  | ⟨3, _⟩ => rfl

/-- The maximum over the last of three axes. -/
theorem max3_at (X : FVec Ideal S8x4x2048 .f32) (C : FVec Ideal S_ .f32) (b : Fin 8) (h : Fin 4) :
    Host.reduce (FloatOps.maximumf (F := Ideal) (φ := .f32)) X C reducesTo_S8x4x2048_S8x4_d2 h_S_ (ix2 b h)
      = Finset.fold max (C ix0) (fun x => X (ix3 b h x)) Finset.univ := by
  rw [Ideal.maximumf_eq_max, Host.reduce_eq_fold_single max X C reducesTo_S8x4x2048_S8x4_d2 (by decide) h_S_]
  have h1 : (Shape.Idx.first h_S_ : S_.Idx) = ix0 := by funext a; exact a.elim0
  rw [h1]
  refine congrArg (fun f => Finset.fold max (C ix0) f Finset.univ) (funext fun k => congrArg X (funext fun a => Fin.ext ?_))
  match a with
  | ⟨0, _⟩ => rfl
  | ⟨1, _⟩ => rfl
  | ⟨2, _⟩ => rfl

section entries
variable (x0 x1 x2 : FVec Ideal S16384x2048 .bf16) (x3 : FVec Ideal S16384x128 .f32)

/-- The running sum of the forget gates, with the mask. -/
theorem r18 (b : Fin 8) (h : Fin 4) (t : Fin 2048) :
    val_main_v18 (F := Ideal) x3 (ix3 b h t) = ∑ s : Fin 2048, if s ≤ t then val_main_v12 (F := Ideal) x3 (ix3 b h s) else 0 := by
  unfold val_main_v18 val_main_v17 val_main_call1_v2 val_main_v16
  generalize val_main_v12 (F := Ideal) x3 = A
  have hz : val_main_call1_v0 (F := Ideal) ix0 = (0 : EReal) := by
    show val_main_cst (F := Ideal) ix0 = (0 : EReal)
    pointwise [val_main_cst]
  simp only [← Recur.causal (N := 2048) (by omega)]
  pointwise [val_main_cst_0, val_main_call1_v1, val_main_call1_v3, hz, val_main_v15, val_main_v14, val_main_v13]

/-- The log-weights behind the mask. -/
theorem r27 (b : Fin 8) (h : Fin 4) (t s : Fin 2048) :
    val_main_v27 (F := Ideal) x3 (ix4 b h t s) = if s ≤ t then val_main_v18 (F := Ideal) x3 (ix3 b h t)
      - val_main_v18 (F := Ideal) x3 (ix3 b h s) + val_main_v8 (F := Ideal) x3 (ix3 b h s) else ⊥ := by
  unfold val_main_v27 val_main_v26 val_main_v25 val_main_v24 val_main_v23 val_main_v22 val_main_v21 val_main_v20 val_main_v19
  generalize val_main_v18 (F := Ideal) x3 = A
  generalize val_main_v8 (F := Ideal) x3 = B
  rw [← Recur.causal (N := 2048) (by omega), ← Attend.bits_bot]
  have hz : val_main_call2_v0 (F := Ideal) ix0 = Ideal.ofBits .f32 0xFF800000#32 := rfl
  pointwise [val_main_call2_v1, val_main_call2_v2, hz, val_main_v15, val_main_v14, val_main_v13]

/-- The stabiliser of a token. -/
theorem r29 (b : Fin 8) (h : Fin 4) (t : Fin 2048) :
    val_main_v29 (F := Ideal) x3 (ix3 b h t) = max (val_main_v18 (F := Ideal) x3 (ix3 b h t))
      (Finset.fold max (Ideal.ofBits .f32 0xFF800000#32) (fun s => val_main_v27 (F := Ideal) x3 (ix4 b h t s)) Finset.univ) := by
  rw [val_main_v29_apply, Ideal.maximumf_eq_max]
  refine congrArg _ ?_
  unfold val_main_v28
  generalize val_main_v27 (F := Ideal) x3 = Y
  have hc : val_main_cst_2 (F := Ideal) ix0 = Ideal.ofBits .f32 0xFF800000#32 := rfl
  rw [← hc]
  generalize val_main_cst_2 (F := Ideal) = C
  exact max4_at Y C b h t

/-- A query's product with a key. -/
theorem r30 (b : Fin 8) (h : Fin 4) (t s : Fin 2048) :
    val_main_v30 (F := Ideal) x0 x1 (ix4 b h t s) = ∑ d : Fin 512, val_main_v1 (F := Ideal) x0 (ix4 b t h d) * val_main_v3 (F := Ideal) x1 (ix4 b s h d) := by
  unfold val_main_v30
  generalize val_main_v1 (F := Ideal) x0 = A
  generalize val_main_v3 (F := Ideal) x1 = B
  pointwise []

/-- A weighted product. -/
theorem r35 (b : Fin 8) (h : Fin 4) (t s : Fin 2048) :
    val_main_v35 (F := Ideal) x0 x1 x3 (ix4 b h t s) = val_main_v30 (F := Ideal) x0 x1 (ix4 b h t s)
      * Ideal.exp (val_main_v27 (F := Ideal) x3 (ix4 b h t s) - val_main_v29 (F := Ideal) x3 (ix3 b h t)) := by
  unfold val_main_v35 val_main_v34 val_main_v33 val_main_v32 val_main_v31
  generalize val_main_v30 (F := Ideal) x0 x1 = A
  generalize val_main_v27 (F := Ideal) x3 = B
  generalize val_main_v29 (F := Ideal) x3 = C
  pointwise []

/-- What a token reads. -/
theorem r62 (b : Fin 8) (h : Fin 4) (t : Fin 2048) (e : Fin 512) (R : Fin 16384) (E : Fin 2048) (hR : R.val = b.val * 2048 + t.val) (hE : E.val = h.val * 512 + e.val) :
    val_main_v62 (F := Ideal) x0 x1 x2 x3 (ix2 R E) = Ideal.div
      (∑ s : Fin 2048, val_main_v35 (F := Ideal) x0 x1 x3 (ix4 b h t s) * val_main_v5 (F := Ideal) x2 (ix4 b s h e))
      (max (max (∑ s : Fin 2048, val_main_v35 (F := Ideal) x0 x1 x3 (ix4 b h t s)) (-∑ s : Fin 2048, val_main_v35 (F := Ideal) x0 x1 x3 (ix4 b h t s)))
        (Ideal.exp (-val_main_v29 (F := Ideal) x3 (ix3 b h t)))) := by
  have h1 : val_main_v62 (F := Ideal) x0 x1 x2 x3 (ix2 R E) = val_main_v44 (F := Ideal) x0 x1 x2 x3 (ix4 b h t e) := by
    unfold val_main_v62 val_main_v61
    generalize val_main_v44 (F := Ideal) x0 x1 x2 x3 = A
    pointwise []
    have h1 : (⟨R.val / 2048, by omega⟩ : Fin 8) = b := Fin.ext (by show R.val / 2048 = b.val; omega)
    have h2 : (⟨R.val % 2048, by omega⟩ : Fin 2048) = t := Fin.ext (by show R.val % 2048 = t.val; omega)
    have h3 : (⟨E.val / 512, by omega⟩ : Fin 4) = h := Fin.ext (by show E.val / 512 = h.val; omega)
    have h4 : (⟨E.val % 512, by omega⟩ : Fin 512) = e := Fin.ext (by show E.val % 512 = e.val; omega)
    rw [h1, h2, h3, h4]
  rw [h1]
  unfold val_main_v44 val_main_v43 val_main_v42 val_main_v41 val_main_v40 val_main_v39 val_main_v38 val_main_v37 val_main_v36
  generalize val_main_v35 (F := Ideal) x0 x1 x3 = A
  generalize val_main_v29 (F := Ideal) x3 = B
  generalize val_main_v5 (F := Ideal) x2 = C
  pointwise [val_main_cst_3]
  rfl

/-- The sum of all the forget gates. -/
theorem r45 (b : Fin 8) (h : Fin 4) : val_main_v45 (F := Ideal) x3 (ix2 b h) = ∑ s : Fin 2048, val_main_v12 (F := Ideal) x3 (ix3 b h s) := by
  unfold val_main_v45
  generalize val_main_v12 (F := Ideal) x3 = A
  pointwise [val_main_cst_4]

/-- A token's log-weight at the end. -/
theorem r49 (b : Fin 8) (h : Fin 4) (s : Fin 2048) : val_main_v49 (F := Ideal) x3 (ix3 b h s) = val_main_v45 (F := Ideal) x3 (ix2 b h)
    - val_main_v18 (F := Ideal) x3 (ix3 b h s) + val_main_v8 (F := Ideal) x3 (ix3 b h s) := by
  unfold val_main_v49 val_main_v48 val_main_v47 val_main_v46
  generalize val_main_v45 (F := Ideal) x3 = A
  generalize val_main_v18 (F := Ideal) x3 = B
  generalize val_main_v8 (F := Ideal) x3 = C
  pointwise []

/-- The stabiliser at the end. -/
theorem r51 (b : Fin 8) (h : Fin 4) : val_main_v51 (F := Ideal) x3 (ix2 b h) = max (val_main_v45 (F := Ideal) x3 (ix2 b h))
      (Finset.fold max (Ideal.ofBits .f32 0xFF800000#32) (fun s => val_main_v49 (F := Ideal) x3 (ix3 b h s)) Finset.univ) := by
  rw [val_main_v51_apply, Ideal.maximumf_eq_max]
  refine congrArg _ ?_
  unfold val_main_v50
  generalize val_main_v49 (F := Ideal) x3 = Y
  have hc : val_main_cst_5 (F := Ideal) ix0 = Ideal.ofBits .f32 0xFF800000#32 := rfl
  rw [← hc]
  generalize val_main_cst_5 (F := Ideal) = C
  exact max3_at Y C b h

/-- A weighted key. -/
theorem r59 (b : Fin 8) (h : Fin 4) (s : Fin 2048) (d : Fin 512) : val_main_v59 (F := Ideal) x1 x3 (ix4 b s h d)
    = Ideal.exp (val_main_v49 (F := Ideal) x3 (ix3 b h s) - val_main_v51 (F := Ideal) x3 (ix2 b h)) * val_main_v3 (F := Ideal) x1 (ix4 b s h d) := by
  unfold val_main_v59 val_main_v58 val_main_v57 val_main_v56 val_main_v55 val_main_v54 val_main_v53 val_main_v52
  generalize val_main_v49 (F := Ideal) x3 = A
  generalize val_main_v51 (F := Ideal) x3 = B
  generalize val_main_v3 (F := Ideal) x1 = C
  pointwise []

/-- The matrix state at the end. -/
theorem r60 (b : Fin 8) (h : Fin 4) (d e : Fin 512) : val_main_v60 (F := Ideal) x1 x2 x3 (ix4 b h d e)
    = ∑ s : Fin 2048, val_main_v59 (F := Ideal) x1 x3 (ix4 b s h d) * val_main_v5 (F := Ideal) x2 (ix4 b s h e) := by
  unfold val_main_v60
  generalize val_main_v59 (F := Ideal) x1 x3 = A
  generalize val_main_v5 (F := Ideal) x2 = B
  pointwise []

/-- The key sum at the end. -/
theorem r64 (b : Fin 8) (h : Fin 4) (d : Fin 512) : val_main_v64 (F := Ideal) x1 x3 (ix4 b h 0 d)
    = ∑ s : Fin 2048, val_main_v59 (F := Ideal) x1 x3 (ix4 b s h d) := by
  unfold val_main_v64 val_main_v63
  generalize val_main_v59 (F := Ideal) x1 x3 = A
  pointwise [val_main_cst_6]

/-- The stabiliser at the end, repeated along the lanes. -/
theorem r66 (b : Fin 8) (h : Fin 4) (x : Fin 128) : val_main_v66 (F := Ideal) x3 (ix4 b h 0 x) = val_main_v51 (F := Ideal) x3 (ix2 b h) := by
  unfold val_main_v66 val_main_v65
  generalize val_main_v51 (F := Ideal) x3 = A
  pointwise []

variable (f0 : ∀ i, ∃ r : ℝ, x0 i = r) (f1 : ∀ i, ∃ r : ℝ, x1 i = r) (f2 : ∀ i, ∃ r : ℝ, x2 i = r) (f3 : ∀ i, ∃ r : ℝ, x3 i = r)

/-- Nothing is carried into the first token. -/
theorem zero_add_cum (lf li : ℕ → ℝ) (c : ℝ) : ((c - Recur.cum lf 0 : ℝ) : EReal) + ((Recur.cum lf 0 + Recur.peak lf li 0 : ℝ) : EReal) = (c : EReal) := by
  have h : Recur.cum lf 0 = 0 := rfl
  have h2 : Recur.peak lf li 0 = 0 := rfl
  rw [h, h2, ← EReal.coe_add]
  exact congrArg _ (by ring)

include f3 in
/-- The running sum is that of the sequence. -/
theorem q18 (b : Fin 8) (h : Fin 4) (t : Fin 2048) : val_main_v18 (F := Ideal) x3 (ix3 b h t)
    = ((Recur.cum (gf x3 b h) (0 + t.val + 1) - Recur.cum (gf x3 b h) 0 : ℝ) : EReal) := by
  have h0 : Recur.cum (gf x3 b h) 0 = 0 := rfl
  have e : Recur.cum (gf x3 b h) (0 + t.val + 1) = ∑ s : Fin 2048, (if s ≤ t then gf x3 b h (0 + s.val) else 0) := by
    unfold Recur.cum
    rw [Recur.sum_chunk 0 t, Finset.sum_range_zero, zero_add]
  rw [r18, h0, sub_zero, e, ← Attend.coe_sum]
  refine Finset.sum_congr rfl fun s _ => ?_
  rw [zero_add, r12, gf_eq x3 f3]
  split <;> rfl

include f3 in
/-- The log-weights are those of the sequence. -/
theorem q27 (b : Fin 8) (h : Fin 4) (t s : Fin 2048) : val_main_v27 (F := Ideal) x3 (ix4 b h t s)
    = if s ≤ t then Recur.gain (gf x3 b h) (gi x3 b h) 0 t s else ⊥ := by
  rw [r27, q18 x3 f3, q18 x3 f3, r8, gi_eq x3 f3]
  unfold Recur.gain
  simp only [zero_add]

include f3 in
/-- The stabiliser is that of the sequence. -/
theorem q29 (b : Fin 8) (h : Fin 4) (t : Fin 2048) : val_main_v29 (F := Ideal) x3 (ix3 b h t)
    = ((Recur.cum (gf x3 b h) (0 + t.val + 1) + Recur.peak (gf x3 b h) (gi x3 b h) (0 + t.val + 1) : ℝ) : EReal) := by
  rw [r29, ← Recur.top_row _ _ 0 t, zero_add_cum, q18 x3 f3]
  have h0 : Recur.cum (gf x3 b h) 0 = 0 := rfl
  simp only [q27 x3 f3]
  rw [h0, sub_zero]

/-- The weighted sum over all the tokens up to one. -/
theorem acc_zero (lf li : ℕ → ℝ) (t : Fin 2048) (y : ℕ → ℝ) :
    ∑ s : Fin 2048, (if s ≤ t then Recur.wt lf li (0 + t.val + 1) (0 + s.val) else 0) * y (0 + s.val) = Recur.acc lf li (0 + t.val + 1) y := by
  rw [← Recur.acc_row lf li 0 t y]
  have h : Recur.acc lf li 0 y = 0 := Finset.sum_range_zero _
  rw [h, mul_zero, add_zero]

include f0 f1 f3 in
/-- A weighted product of the sequence. -/
theorem q35 (b : Fin 8) (h : Fin 4) (t s : Fin 2048) : val_main_v35 (F := Ideal) x0 x1 x3 (ix4 b h t s)
    = (((if s ≤ t then Recur.wt (gf x3 b h) (gi x3 b h) (0 + t.val + 1) (0 + s.val) else 0)
        * ∑ d, tok x0 b h t.val d * tok x1 b h (0 + s.val) d : ℝ) : EReal) := by
  rw [r35, q27 x3 f3, q29 x3 f3, Recur.exp_masked, r30, mul_comm, EReal.coe_mul, ← Attend.coe_sum]
  refine congrArg _ (Finset.sum_congr rfl fun d _ => ?_)
  rw [r1, r3, tok_eq x0 f0, tok_eq x1 f1, zero_add, EReal.coe_mul]

include f0 f1 f2 f3 in
/-- The reference's output. -/
theorem ref_out (b : Fin 8) (h : Fin 4) (t : Fin 2048) (e : Fin 512) (R : Fin 16384) (E : Fin 2048) (hR : R.val = b.val * 2048 + t.val) (hE : E.val = h.val * 512 + e.val) :
    val_main_v62 (F := Ideal) x0 x1 x2 x3 (ix2 R E) = Recur.out (gf x3 b h) (gi x3 b h) (t.val + 1)
      (fun s => (∑ d, tok x0 b h t.val d * tok x1 b h s d) * tok x2 b h s e) (fun s => ∑ d, tok x0 b h t.val d * tok x1 b h s d) := by
  have h1 : (∑ s : Fin 2048, val_main_v35 (F := Ideal) x0 x1 x3 (ix4 b h t s) * val_main_v5 (F := Ideal) x2 (ix4 b s h e))
      = ((Recur.acc (gf x3 b h) (gi x3 b h) (0 + t.val + 1) (fun s => (∑ d, tok x0 b h t.val d * tok x1 b h s d) * tok x2 b h s e) : ℝ) : EReal) := by
    rw [← acc_zero, ← Attend.coe_sum]
    refine Finset.sum_congr rfl fun s _ => ?_
    rw [q35 x0 x1 x3 f0 f1 f3, r5, tok_eq x2 f2, ← EReal.coe_mul, zero_add, zero_add, mul_assoc]
  have h2 : (∑ s : Fin 2048, val_main_v35 (F := Ideal) x0 x1 x3 (ix4 b h t s))
      = ((Recur.acc (gf x3 b h) (gi x3 b h) (0 + t.val + 1) (fun s => ∑ d, tok x0 b h t.val d * tok x1 b h s d) : ℝ) : EReal) := by
    rw [← acc_zero, ← Attend.coe_sum]
    exact Finset.sum_congr rfl fun s _ => q35 x0 x1 x3 f0 f1 f3 b h t s
  rw [r62 x0 x1 x2 x3 b h t e R E hR hE, h1, h2, q29 x3 f3, zero_add]
  rfl

include f3 in
/-- The log-weights at the end. -/
theorem q49 (b : Fin 8) (h : Fin 4) (s : Fin 2048) : val_main_v49 (F := Ideal) x3 (ix3 b h s)
    = Recur.gain (gf x3 b h) (gi x3 b h) 0 (2047 : Fin 2048) s := by
  have h0 : val_main_v45 (F := Ideal) x3 (ix2 b h) = val_main_v18 (F := Ideal) x3 (ix3 b h 2047) := by
    rw [r45, r18]
    exact Finset.sum_congr rfl fun s _ => (if_pos (show s ≤ (2047 : Fin 2048) from by show s.val ≤ 2047; omega)).symm
  rw [r49, h0, q18 x3 f3, q18 x3 f3, r8, gi_eq x3 f3]
  unfold Recur.gain
  simp only [zero_add]

include f3 in
/-- The stabiliser at the end. -/
theorem q51 (b : Fin 8) (h : Fin 4) : val_main_v51 (F := Ideal) x3 (ix2 b h)
    = ((Recur.cum (gf x3 b h) 2048 + Recur.peak (gf x3 b h) (gi x3 b h) 2048 : ℝ) : EReal) := by
  have h0 : val_main_v45 (F := Ideal) x3 (ix2 b h) = val_main_v18 (F := Ideal) x3 (ix3 b h 2047) := by
    rw [r45, r18]
    exact Finset.sum_congr rfl fun s _ => (if_pos (show s ≤ (2047 : Fin 2048) from by show s.val ≤ 2047; omega)).symm
  have ht := Recur.top_end (gf x3 b h) (gi x3 b h) 0 (2047 : Fin 2048) rfl
  rw [zero_add_cum] at ht
  have h1 : Recur.cum (gf x3 b h) 0 = 0 := rfl
  rw [r51, h0, q18 x3 f3, h1, sub_zero]
  simp only [q49 x3 f3]
  refine ht.trans ?_
  rw [zero_add]

include f1 f3 in
/-- A weighted key. -/
theorem q59 (b : Fin 8) (h : Fin 4) (s : Fin 2048) (d : Fin 512) : val_main_v59 (F := Ideal) x1 x3 (ix4 b s h d)
    = ((Recur.wt (gf x3 b h) (gi x3 b h) 2048 s.val * tok x1 b h s.val d : ℝ) : EReal) := by
  have hx := Recur.exp_gain (gf x3 b h) (gi x3 b h) 0 (2047 : Fin 2048) s
  rw [r59, q49 x3 f3, q51 x3 f3, r3, tok_eq x1 f1, EReal.coe_mul]
  refine congrArg (· * _) (hx.trans ?_)
  have e : 0 + (2047 : Fin 2048).val + 1 = 2048 := rfl
  rw [e, zero_add]

/-- The weighted sum over all the tokens. -/
theorem acc_all (lf li : ℕ → ℝ) (y : ℕ → ℝ) : ∑ s : Fin 2048, Recur.wt lf li 2048 s.val * y s.val = Recur.acc lf li 2048 y := by
  unfold Recur.acc
  exact Fin.sum_univ_eq_sum_range (fun i => Recur.wt lf li 2048 i * y i) 2048

include f1 f2 f3 in
/-- The reference's matrix state. -/
theorem ref_C (b : Fin 8) (h : Fin 4) (d e : Fin 512) : val_main_v60 (F := Ideal) x1 x2 x3 (ix4 b h d e)
    = ((Recur.acc (gf x3 b h) (gi x3 b h) 2048 (fun s => tok x1 b h s d * tok x2 b h s e) : ℝ) : EReal) := by
  rw [r60, ← acc_all, ← Attend.coe_sum]
  refine Finset.sum_congr rfl fun s _ => ?_
  rw [q59 x1 x3 f1 f3, r5, tok_eq x2 f2, ← EReal.coe_mul, mul_assoc]

include f1 f3 in
/-- The reference's key sum. -/
theorem ref_N (b : Fin 8) (h : Fin 4) (d : Fin 512) : val_main_v64 (F := Ideal) x1 x3 (ix4 b h 0 d)
    = ((Recur.acc (gf x3 b h) (gi x3 b h) 2048 (fun s => tok x1 b h s d) : ℝ) : EReal) := by
  rw [r64, ← acc_all, ← Attend.coe_sum]
  exact Finset.sum_congr rfl fun s _ => q59 x1 x3 f1 f3 b h s d

include f3 in
/-- The reference's stabiliser. -/
theorem ref_M (b : Fin 8) (h : Fin 4) (x : Fin 128) : val_main_v66 (F := Ideal) x3 (ix4 b h 0 x)
    = ((Recur.cum (gf x3 b h) 2048 + Recur.peak (gf x3 b h) (gi x3 b h) 2048 : ℝ) : EReal) := by
  rw [r66, q51 x3 f3]

end entries

end Cert.MlstmRefIdeal.Read

end
-- ==== Proof.GatesRef.lean ====
/- The gate tables: a token's input gates, and its forget gates' logarithms summed from its chunk's first token. -/
module

public import proofs.«01_k».proof.Proof.Gen.GatesRefIdeal.Read
public import proofs.«01_k».proof.Proof.MlstmRef

@[expose] public section

set_option maxRecDepth 16384

noncomputable section

namespace Cert.GatesRefIdeal.Read

open Cert.GatesRefIdeal Cert.GatesRefIdeal.Gen Idealize.ShloMosaic Idealize.ShloMosaic.TcCoe Idealize.SL.Sem
open Cert.MlstmRefIdeal.Read (LSig)

variable (x : FVec Ideal S16384x128 .f32)

/-- The input gates. -/
theorem g1 (b : Fin 8) (s : Fin 2048) (h : Fin 4) : val_main_v1 (F := Ideal) x (ix3 b s h) = x (ix2 ⟨b.val * 2048 + s.val, by omega⟩ ⟨h.val, by omega⟩) := by
  pointwise [val_main_v1, val_main_v0]

/-- The forget gates' logarithms. -/
theorem g3 (r : Fin 16384) (h : Fin 4) : val_main_v3 (F := Ideal) x (ix2 r h) = LSig (x (ix2 r ⟨4 + h.val, by omega⟩)) :=
  Cert.MlstmRefIdeal.Read.r10 x r h

/-- A chunk's running sum. -/
theorem g11 (b c : Fin 8) (t : Fin 256) (h : Fin 4) : val_main_v11 (F := Ideal) x (ix4 b c t h)
    = ∑ s : Fin 256, if s ≤ t then val_main_v3 (F := Ideal) x (ix2 ⟨b.val * 2048 + c.val * 256 + s.val, by omega⟩ h) else 0 := by
  unfold val_main_v11 val_main_v10 val_main_call1_v2 val_main_v9 val_main_v4
  generalize val_main_v3 (F := Ideal) x = A
  have hz : val_main_call1_v0 (F := Ideal) ix0 = (0 : EReal) := by
    show val_main_cst (F := Ideal) ix0 = (0 : EReal)
    pointwise [val_main_cst]
  simp only [← Recur.causal (N := 256) (by omega)]
  pointwise [val_main_cst_0, val_main_call1_v1, val_main_call1_v3, hz, val_main_v8, val_main_v7, val_main_v6, val_main_v5]

/-- The table's first four columns. -/
theorem g13_i (b : Fin 8) (s : Fin 2048) (h : Fin 4) : val_main_v13 (F := Ideal) x (ix3 b s ⟨h.val, by omega⟩)
    = val_main_v1 (F := Ideal) x (ix3 b s h) := by
  unfold val_main_v13
  generalize val_main_v1 (F := Ideal) x = A
  generalize val_main_v12 (F := Ideal) x = B
  pointwise []

/-- The table's last four columns. -/
theorem g13_f (b c : Fin 8) (t : Fin 256) (h : Fin 4) : val_main_v13 (F := Ideal) x (ix3 b ⟨c.val * 256 + t.val, by omega⟩ ⟨4 + h.val, by omega⟩)
    = val_main_v11 (F := Ideal) x (ix4 b c t h) := by
  unfold val_main_v13 val_main_v12
  generalize val_main_v1 (F := Ideal) x = A
  generalize val_main_v11 (F := Ideal) x = B
  pointwise []

/-- The row table. -/
theorem g15 (b : Fin 8) (s : Fin 2048) (h : Fin 8) : val_main_v15 (F := Ideal) x (ix3 b h s) = val_main_v13 (F := Ideal) x (ix3 b s h) := by
  unfold val_main_v15
  generalize val_main_v13 (F := Ideal) x = A
  pointwise []

/-- The column table. -/
theorem g17 (b : Fin 8) (s : Fin 2048) (h : Fin 8) (R : Fin 16384) (hR : R.val = b.val * 2048 + s.val) :
    val_main_v17 (F := Ideal) x (ix2 R ⟨h.val, by omega⟩) = val_main_v13 (F := Ideal) x (ix3 b s h) := by
  unfold val_main_v17 val_main_v16
  generalize val_main_v13 (F := Ideal) x = A
  generalize val_main_v14 (F := Ideal) = B
  pointwise []
  have h1 : (⟨R.val / 2048, by omega⟩ : Fin 8) = b := Fin.ext (by show R.val / 2048 = b.val; omega)
  have h2 : (⟨R.val % 2048, by omega⟩ : Fin 2048) = s := Fin.ext (by show R.val % 2048 = s.val; omega)
  rw [h1, h2]

section real
variable (f : ∀ i, ∃ r : ℝ, x i = r)
open Cert.MlstmRefIdeal.Read (gf gi gf_eq gi_eq)

include f in
/-- The table's input gate of a chunk's token. -/
theorem tab_i (b c : Fin 8) (t : Fin 256) (h : Fin 4) :
    val_main_v13 (F := Ideal) x (ix3 b ⟨c.val * 256 + t.val, by omega⟩ ⟨h.val, by omega⟩) = ((gi x b h (256 * c.val + t.val) : ℝ) : EReal) := by
  rw [g13_i, g1, gi_eq x f b h ⟨c.val * 256 + t.val, by omega⟩, Nat.mul_comm 256]

include f in
/-- The table's running sum of a chunk's token. -/
theorem tab_f (b c : Fin 8) (t : Fin 256) (h : Fin 4) :
    val_main_v13 (F := Ideal) x (ix3 b ⟨c.val * 256 + t.val, by omega⟩ ⟨4 + h.val, by omega⟩)
      = ((Recur.cum (gf x b h) (256 * c.val + t.val + 1) - Recur.cum (gf x b h) (256 * c.val) : ℝ) : EReal) := by
  have e : Recur.cum (gf x b h) (256 * c.val + t.val + 1) - Recur.cum (gf x b h) (256 * c.val)
      = ∑ s : Fin 256, (if s ≤ t then gf x b h (256 * c.val + s.val) else 0) := by
    unfold Recur.cum
    rw [Recur.sum_chunk (256 * c.val) t]
    ring
  rw [g13_f, g11, e, ← Attend.coe_sum]
  refine Finset.sum_congr rfl fun s _ => ?_
  have hr : (⟨b.val * 2048 + c.val * 256 + s.val, by omega⟩ : Fin 16384) = ⟨b.val * 2048 + (⟨256 * c.val + s.val, by omega⟩ : Fin 2048).val, by omega⟩ :=
    Fin.ext (by show b.val * 2048 + c.val * 256 + s.val = b.val * 2048 + (256 * c.val + s.val); omega)
  rw [g3, hr, gf_eq x f b h ⟨256 * c.val + s.val, by omega⟩]
  split <;> rfl

end real

end Cert.GatesRefIdeal.Read

end
-- ==== Proof.MlstmBlocks.lean ====
/- The blocks of the prompt's matrix recurrence: the chunk's queries, keys, values and gates. -/
module

public import proofs.«01_k».proof.Proof.MlstmHead
public import proofs.«01_k».proof.Proof.GatesRef
public import proofs.«01_k».proof.Pre_finite_tokens

@[expose] public section

set_option maxRecDepth 16384

noncomputable section

namespace Cert.MlstmIdeal.Value

open Cert.MlstmIdeal Cert.MlstmIdeal.Gen Idealize.ShloMosaic Idealize.ShloMosaic.TcCoe Idealize.SL.Sem
open Idealize.ShloMosaic.Pipeline (Dat)
open Cert.MlstmRefIdeal.Read (tok gf gi tok_eq)

/-- Which block each window reads or writes at grid point `t`. -/
theorem idx : ∀ t : Fin cfg0.N, win0_0.index t = ![t.val, 0] ∧ win0_1.index t = ![t.val, 0]
    ∧ win0_2.index t = ![t.val, 0] ∧ win0_3.index t = ![t.val / 8, 0, t.val % 8] ∧ win0_4.index t = ![t.val, 0] ∧ t.val < 64 :=
  (by decide +kernel : ∀ t : Fin grid0.N, _)

/-- Which block each result window writes at grid point `t`. -/
theorem idx_out : ∀ t : Fin cfg0.N, win0_5.index t = ![t.val, 0] ∧ win0_6.index t = ![t.val / 8, 0, 0, 0]
    ∧ win0_7.index t = ![t.val / 8, 0, 0, 0] ∧ win0_8.index t = ![t.val / 8, 0, 0, 0] :=
  (by decide +kernel : ∀ t : Fin grid0.N, _)

variable (m : (ℓ : Loc nD τ sig) → Buf (Elt Ideal) ℓ)

/-- The gates as the program finds them. -/
abbrev ga (c : Dev nD) : FVec Ideal S16384x128 .f32 := m ((c : Thread nD τ).loc main_arg3)

/-- The row table as the call finds it. -/
theorem entry_row (c : Dev nD) : V m c main_v15 = Cert.GatesRefIdeal.Read.val_main_v15 (F := Ideal) (ga m c) := by
  show StableHlo.after (hostOps0 ++ hostOps0_1 ++ hostOps0_2 ++ hostOps0_3 ++ hostOps0_4) (fun b => m (c, b)) _ = _
  simp only [hostOps0, hostOps0_1, hostOps0_2, hostOps0_3, hostOps0_4, List.cons_append, List.nil_append, StableHlo.TRef.binary, StableHlo.TRef.nullary,
    StableHlo.TRef.ternary, StableHlo.TRef.unary, StableHlo.TRef.toBuf, StableHlo.TRef.ofBuf, cast_eq]
  after_results <;> rfl

/-- The column table as the call finds it. -/
theorem entry_col (c : Dev nD) : V m c main_v17 = Cert.GatesRefIdeal.Read.val_main_v17 (F := Ideal) (ga m c) := by
  show StableHlo.after (hostOps0 ++ hostOps0_1 ++ hostOps0_2 ++ hostOps0_3 ++ hostOps0_4) (fun b => m (c, b)) _ = _
  simp only [hostOps0, hostOps0_1, hostOps0_2, hostOps0_3, hostOps0_4, List.cons_append, List.nil_append, StableHlo.TRef.binary, StableHlo.TRef.nullary,
    StableHlo.TRef.ternary, StableHlo.TRef.unary, StableHlo.TRef.toBuf, StableHlo.TRef.ofBuf, cast_eq]
  after_results <;> rfl

/-- The batch of a grid point. -/
def bat (t : Fin cfg0.N) : Fin 8 := ⟨t.val / 8, by have := (idx t).2.2.2.2.2; omega⟩

/-- The chunk of a grid point. -/
def chunk (t : Fin cfg0.N) : Fin 8 := ⟨t.val % 8, by omega⟩

/-- A head's queries of the chunk. -/
theorem blk_q (c : Dev nD) (t : Fin cfg0.N) (f : ∀ i, ∃ r : ℝ, (show FVec Ideal S16384x2048 .bf16 from m ((c : Thread nD τ).loc main_arg0)) i = r)
    (h : Fin 4) (o : ℕ) (ho : o = h.val * 512) (inb : ∀ a, (![0, o] : Fin S256x2048.rank → ℕ) a + (![256, 512] : Fin S256x2048.rank → ℕ) a ≤ S256x2048.size a)
    (s : Fin 256) (d : Fin 512) :
    (show FVec Ideal S256x512 .bf16 from View.ld (iblk m c 0 t) (Rect.unit (s := S256x2048) ![0, o] ![256, 512] inb)) (ix2 s d)
      = ((tok (m ((c : Thread nD τ).loc main_arg0)) (bat t) h (256 * (chunk t).val + s.val) d : ℝ) : EReal) := by
  subst ho
  have e : (Rect.unit (s := S256x2048) ![0, h.val * 512] ![256, 512] inb).idx (ix2 s d) = ix2 s ⟨h.val * 512 + d.val, by omega⟩ := by
    funext a
    match a with
    | ⟨0, _⟩ => exact Fin.ext (by simp)
    | ⟨1, _⟩ => exact Fin.ext (by simp)
  have hc : 256 * (chunk t).val + s.val < 2048 := by have := (chunk t).isLt; omega
  refine Eq.trans (congrArg (iblk m c 0 t) e) (Eq.trans ?_ ((congrFun (V_main_arg0 m c) _).trans (tok_eq _ f (bat t) h ⟨_, hc⟩ d)))
  have hb : (bat t).val = t.val / 8 := rfl
  have hk : (chunk t).val = t.val % 8 := rfl
  blk_ext [iblk, idx t, hb, hk]

/-- A head's keys of the chunk. -/
theorem blk_k (c : Dev nD) (t : Fin cfg0.N) (f : ∀ i, ∃ r : ℝ, (show FVec Ideal S16384x2048 .bf16 from m ((c : Thread nD τ).loc main_arg1)) i = r)
    (h : Fin 4) (o : ℕ) (ho : o = h.val * 512) (inb : ∀ a, (![0, o] : Fin S256x2048.rank → ℕ) a + (![256, 512] : Fin S256x2048.rank → ℕ) a ≤ S256x2048.size a)
    (s : Fin 256) (d : Fin 512) :
    (show FVec Ideal S256x512 .bf16 from View.ld (iblk m c 1 t) (Rect.unit (s := S256x2048) ![0, o] ![256, 512] inb)) (ix2 s d)
      = ((tok (m ((c : Thread nD τ).loc main_arg1)) (bat t) h (256 * (chunk t).val + s.val) d : ℝ) : EReal) := by
  subst ho
  have e : (Rect.unit (s := S256x2048) ![0, h.val * 512] ![256, 512] inb).idx (ix2 s d) = ix2 s ⟨h.val * 512 + d.val, by omega⟩ := by
    funext a
    match a with
    | ⟨0, _⟩ => exact Fin.ext (by simp)
    | ⟨1, _⟩ => exact Fin.ext (by simp)
  have hc : 256 * (chunk t).val + s.val < 2048 := by have := (chunk t).isLt; omega
  refine Eq.trans (congrArg (iblk m c 1 t) e) (Eq.trans ?_ ((congrFun (V_main_arg1 m c) _).trans (tok_eq _ f (bat t) h ⟨_, hc⟩ d)))
  have hb : (bat t).val = t.val / 8 := rfl
  have hk : (chunk t).val = t.val % 8 := rfl
  blk_ext [iblk, idx t, hb, hk]

/-- A head's values of the chunk. -/
theorem blk_v (c : Dev nD) (t : Fin cfg0.N) (f : ∀ i, ∃ r : ℝ, (show FVec Ideal S16384x2048 .bf16 from m ((c : Thread nD τ).loc main_arg2)) i = r)
    (h : Fin 4) (o : ℕ) (ho : o = h.val * 512) (inb : ∀ a, (![0, o] : Fin S256x2048.rank → ℕ) a + (![256, 512] : Fin S256x2048.rank → ℕ) a ≤ S256x2048.size a)
    (s : Fin 256) (d : Fin 512) :
    (show FVec Ideal S256x512 .bf16 from View.ld (iblk m c 2 t) (Rect.unit (s := S256x2048) ![0, o] ![256, 512] inb)) (ix2 s d)
      = ((tok (m ((c : Thread nD τ).loc main_arg2)) (bat t) h (256 * (chunk t).val + s.val) d : ℝ) : EReal) := by
  subst ho
  have e : (Rect.unit (s := S256x2048) ![0, h.val * 512] ![256, 512] inb).idx (ix2 s d) = ix2 s ⟨h.val * 512 + d.val, by omega⟩ := by
    funext a
    match a with
    | ⟨0, _⟩ => exact Fin.ext (by simp)
    | ⟨1, _⟩ => exact Fin.ext (by simp)
  have hc : 256 * (chunk t).val + s.val < 2048 := by have := (chunk t).isLt; omega
  refine Eq.trans (congrArg (iblk m c 2 t) e) (Eq.trans ?_ ((congrFun (V_main_arg2 m c) _).trans (tok_eq _ f (bat t) h ⟨_, hc⟩ d)))
  have hb : (bat t).val = t.val / 8 := rfl
  have hk : (chunk t).val = t.val % 8 := rfl
  blk_ext [iblk, idx t, hb, hk]

/-- A column of the chunk's column table. -/
theorem blk_col (c : Dev nD) (t : Fin cfg0.N) (o : Fin 8)
    (inb : ∀ a, (![0, o.val] : Fin S256x128.rank → ℕ) a + (![256, 1] : Fin S256x128.rank → ℕ) a ≤ S256x128.size a) (s : Fin 256) :
    (show FVec Ideal S256x1 .f32 from View.ld (iblk m c 4 t) (Rect.unit (s := S256x128) ![0, o.val] ![256, 1] inb)) (ix2 s 0)
      = Cert.GatesRefIdeal.Read.val_main_v13 (F := Ideal) (ga m c) (ix3 (bat t) ⟨(chunk t).val * 256 + s.val, by have := (chunk t).isLt; omega⟩ o) := by
  have e : (Rect.unit (s := S256x128) ![0, o.val] ![256, 1] inb).idx (ix2 s 0) = ix2 s ⟨o.val, by omega⟩ := by
    funext a
    match a with
    | ⟨0, _⟩ => exact Fin.ext (by simp)
    | ⟨1, _⟩ => exact Fin.ext (by simp)
  have hN := (idx t).2.2.2.2.2
  have hb : (bat t).val = t.val / 8 := rfl
  have hk : (chunk t).val = t.val % 8 := rfl
  have hR : (⟨t.val * 256 + s.val, by omega⟩ : Fin 16384).val = (bat t).val * 2048 + (⟨(chunk t).val * 256 + s.val, by omega⟩ : Fin 2048).val := by
    show t.val * 256 + s.val = (bat t).val * 2048 + ((chunk t).val * 256 + s.val)
    omega
  refine Eq.trans (congrArg (iblk m c 4 t) e) (Eq.trans ?_ ((congrFun (entry_col m c) _).trans (Cert.GatesRefIdeal.Read.g17 (ga m c) (bat t) _ o _ hR)))
  blk_ext [iblk, idx t]

/-- A row of the chunk's row table. -/
theorem blk_row (c : Dev nD) (t : Fin cfg0.N) (o : Fin 8)
    (inb : ∀ a, (![0, o.val, 0] : Fin S1x8x256.rank → ℕ) a + (![1, 1, 256] : Fin S1x8x256.rank → ℕ) a ≤ S1x8x256.size a) (s : Fin 256) :
    (show FVec Ideal S1x1x256 .f32 from View.ld (iblk m c 3 t) (Rect.unit (s := S1x8x256) ![0, o.val, 0] ![1, 1, 256] inb)) (ix3 0 0 s)
      = Cert.GatesRefIdeal.Read.val_main_v13 (F := Ideal) (ga m c) (ix3 (bat t) ⟨(chunk t).val * 256 + s.val, by have := (chunk t).isLt; omega⟩ o) := by
  have e : (Rect.unit (s := S1x8x256) ![0, o.val, 0] ![1, 1, 256] inb).idx (ix3 0 0 s) = ix3 0 o s := by
    funext a
    match a with
    | ⟨0, _⟩ => exact Fin.ext (by simp)
    | ⟨1, _⟩ => exact Fin.ext (by simp)
    | ⟨2, _⟩ => exact Fin.ext (by simp)
  have hb : (bat t).val = t.val / 8 := rfl
  have hk : (chunk t).val = t.val % 8 := rfl
  refine Eq.trans (congrArg (iblk m c 3 t) e) (Eq.trans ?_ ((congrFun (entry_row m c) _).trans (Cert.GatesRefIdeal.Read.g15 (ga m c) (bat t) _ o)))
  blk_ext [iblk, idx t, hb, hk]

end Cert.MlstmIdeal.Value

end
-- ==== Proof.MlstmStep.lean ====
/- The prompt's matrix recurrence: what one grid point makes of the state it finds. -/
module

public import proofs.«01_k».proof.Proof.MlstmBlocks
public import Idealize.ShloMosaic.Lib.Pipeline.ReadBack

@[expose] public section

set_option maxRecDepth 16384

noncomputable section

namespace Cert.MlstmIdeal.Value

open Cert.MlstmIdeal Cert.MlstmIdeal.Gen Idealize.ShloMosaic Idealize.ShloMosaic.TcCoe Idealize.SL.Sem
open Idealize.ShloMosaic.Pipeline (Dat)
open Cert.MlstmRefIdeal.Read (tok gf gi tok_eq)

variable (m : (ℓ : Loc nD τ sig) → Buf (Elt Ideal) ℓ)

/-- The matrix state of a batch after its first `n` tokens. -/
def stC (c : Dev nD) (b : Fin 8) (n : ℕ) : Vec Ideal S4x512x512 .f32 := fun y =>
  ((Recur.acc (gf (ga m c) b (y 0)) (gi (ga m c) b (y 0)) n (fun s => tok (m ((c : Thread nD τ).loc main_arg1)) b (y 0) s (y 1)
    * tok (m ((c : Thread nD τ).loc main_arg2)) b (y 0) s (y 2)) : ℝ) : EReal)

/-- The key sum of a batch after its first `n` tokens. -/
def stN (c : Dev nD) (b : Fin 8) (n : ℕ) : Vec Ideal S4x1x512 .f32 := fun y =>
  ((Recur.acc (gf (ga m c) b (y 0)) (gi (ga m c) b (y 0)) n (fun s => tok (m ((c : Thread nD τ).loc main_arg1)) b (y 0) s (y 2)) : ℝ) : EReal)

/-- The stabiliser of a batch after its first `n` tokens. -/
def stM (c : Dev nD) (b : Fin 8) (n : ℕ) : Vec Ideal S4x1x128 .f32 := fun y =>
  ((Recur.cum (gf (ga m c) b (y 0)) n + Recur.peak (gf (ga m c) b (y 0)) (gi (ga m c) b (y 0)) n : ℝ) : EReal)

/-- What a token of a batch reads. -/
def stO (c : Dev nD) (t : Fin cfg0.N) : FVec Ideal S256x2048 .f32 := fun y =>
  Recur.out (gf (ga m c) (bat t) ⟨(y 1).val / 512, by have : (y 1).val < 2048 := (y 1).isLt; omega⟩)
    (gi (ga m c) (bat t) ⟨(y 1).val / 512, by have : (y 1).val < 2048 := (y 1).isLt; omega⟩) (256 * (chunk t).val + (y 0).val + 1)
    (fun s => (∑ d, tok (m ((c : Thread nD τ).loc main_arg0)) (bat t) ⟨(y 1).val / 512, by have : (y 1).val < 2048 := (y 1).isLt; omega⟩ (256 * (chunk t).val + (y 0).val) d
        * tok (m ((c : Thread nD τ).loc main_arg1)) (bat t) ⟨(y 1).val / 512, by have : (y 1).val < 2048 := (y 1).isLt; omega⟩ s d)
      * tok (m ((c : Thread nD τ).loc main_arg2)) (bat t) ⟨(y 1).val / 512, by have : (y 1).val < 2048 := (y 1).isLt; omega⟩ s ⟨(y 1).val % 512, by omega⟩)
    (fun s => ∑ d, tok (m ((c : Thread nD τ).loc main_arg0)) (bat t) ⟨(y 1).val / 512, by have : (y 1).val < 2048 := (y 1).isLt; omega⟩ (256 * (chunk t).val + (y 0).val) d
        * tok (m ((c : Thread nD τ).loc main_arg1)) (bat t) ⟨(y 1).val / 512, by have : (y 1).val < 2048 := (y 1).isLt; omega⟩ s d)

/-- The recurrence starts from nothing. -/
theorem stC_zero (c : Dev nD) (b : Fin 8) : k0_pay4 (F := Ideal) = stC m c b 0 := by
  funext y
  have h0 : stC m c b 0 y = 0 := by unfold stC Recur.acc; rw [Finset.sum_range_zero]; rfl
  rw [h0]
  pointwise [k0_pay4]

/-- The key sum starts from nothing. -/
theorem stN_zero (c : Dev nD) (b : Fin 8) : k0_pay5 (F := Ideal) = stN m c b 0 := by
  funext y
  have h0 : stN m c b 0 y = 0 := by unfold stN Recur.acc; rw [Finset.sum_range_zero]; rfl
  rw [h0]
  pointwise [k0_pay5]

/-- The stabiliser starts from zero. -/
theorem stM_zero (c : Dev nD) (b : Fin 8) : k0_pay6 (F := Ideal) = stM m c b 0 := by
  funext y
  have h0 : stM m c b 0 y = 0 := by
    have e1 : ∀ lf, Recur.cum lf 0 = 0 := fun lf => Finset.sum_range_zero _
    have e2 : ∀ lf li, Recur.peak lf li 0 = 0 := fun _ _ => rfl
    unfold stM; rw [e1, e2, add_zero]; rfl
  rw [h0]
  pointwise [k0_pay6]

/-- A head's matrix of the state. -/
theorem ld_C (c : Dev nD) (b : Fin 8) (n : ℕ) (h : Fin 4)
    (inb : ∀ a, (![h.val, 0, 0] : Fin S4x512x512.rank → ℕ) a + (![1, 512, 512] : Fin S4x512x512.rank → ℕ) a ≤ S4x512x512.size a) (d e : Fin 512) :
    (show FVec Ideal S1x512x512 .f32 from View.ld (stC m c b n) (Rect.unit (s := S4x512x512) ![h.val, 0, 0] ![1, 512, 512] inb)) (ix3 0 d e)
      = ((Recur.acc (gf (ga m c) b h) (gi (ga m c) b h) n (fun s => tok (m ((c : Thread nD τ).loc main_arg1)) b h s d
        * tok (m ((c : Thread nD τ).loc main_arg2)) b h s e) : ℝ) : EReal) := by
  have e : (Rect.unit (s := S4x512x512) ![h.val, 0, 0] ![1, 512, 512] inb).idx (ix3 0 d e) = ix3 h d e := by
    funext a
    match a with
    | ⟨0, _⟩ => exact Fin.ext (by simp)
    | ⟨1, _⟩ => exact Fin.ext (by simp)
    | ⟨2, _⟩ => exact Fin.ext (by simp)
  refine Eq.trans (congrArg (stC m c b n) e) ?_
  unfold stC
  rfl

/-- A head's key sum of the state. -/
theorem ld_N (c : Dev nD) (b : Fin 8) (n : ℕ) (h : Fin 4)
    (inb : ∀ a, (![h.val, 0, 0] : Fin S4x1x512.rank → ℕ) a + (![1, 1, 512] : Fin S4x1x512.rank → ℕ) a ≤ S4x1x512.size a) (d : Fin 512) :
    (show FVec Ideal S1x1x512 .f32 from View.ld (stN m c b n) (Rect.unit (s := S4x1x512) ![h.val, 0, 0] ![1, 1, 512] inb)) (ix3 0 0 d)
      = ((Recur.acc (gf (ga m c) b h) (gi (ga m c) b h) n (fun s => tok (m ((c : Thread nD τ).loc main_arg1)) b h s d) : ℝ) : EReal) := by
  have e : (Rect.unit (s := S4x1x512) ![h.val, 0, 0] ![1, 1, 512] inb).idx (ix3 0 0 d) = ix3 h 0 d := by
    funext a
    match a with
    | ⟨0, _⟩ => exact Fin.ext (by simp)
    | ⟨1, _⟩ => exact Fin.ext (by simp)
    | ⟨2, _⟩ => exact Fin.ext (by simp)
  refine Eq.trans (congrArg (stN m c b n) e) ?_
  unfold stN
  rfl

/-- A head's stabiliser of the state. -/
theorem ld_M (c : Dev nD) (b : Fin 8) (n : ℕ) (h : Fin 4)
    (inb : ∀ a, (![h.val, 0, 0] : Fin S4x1x128.rank → ℕ) a + (![1, 1, 128] : Fin S4x1x128.rank → ℕ) a ≤ S4x1x128.size a) (x : Fin 128) :
    (show FVec Ideal S1x1x128 .f32 from View.ld (stM m c b n) (Rect.unit (s := S4x1x128) ![h.val, 0, 0] ![1, 1, 128] inb)) (ix3 0 0 x)
      = ((Recur.cum (gf (ga m c) b h) n + Recur.peak (gf (ga m c) b h) (gi (ga m c) b h) n : ℝ) : EReal) := by
  have e : (Rect.unit (s := S4x1x128) ![h.val, 0, 0] ![1, 1, 128] inb).idx (ix3 0 0 x) = ix3 h 0 x := by
    funext a
    match a with
    | ⟨0, _⟩ => exact Fin.ext (by simp)
    | ⟨1, _⟩ => exact Fin.ext (by simp)
    | ⟨2, _⟩ => exact Fin.ext (by simp)
  refine Eq.trans (congrArg (stM m c b n) e) ?_
  unfold stM
  rfl

section step
variable (c : Dev nD) (t : Fin cfg0.N)
  (f0 : ∀ i, ∃ r : ℝ, (show FVec Ideal S16384x2048 .bf16 from m ((c : Thread nD τ).loc main_arg0)) i = r)
  (f1 : ∀ i, ∃ r : ℝ, (show FVec Ideal S16384x2048 .bf16 from m ((c : Thread nD τ).loc main_arg1)) i = r)
  (f2 : ∀ i, ∃ r : ℝ, (show FVec Ideal S16384x2048 .bf16 from m ((c : Thread nD τ).loc main_arg2)) i = r)
  (f3 : ∀ i, ∃ r : ℝ, ga m c i = r)
  (h : Fin 4) (oi of : Fin 8) (o : ℕ) (hoi : oi.val = h.val) (hof : of.val = 4 + h.val) (ho : o = h.val * 512)

include f3 hoi in
/-- The chunk's input gates, as a column. -/
theorem col_i (inb : ∀ a, (![0, oi.val] : Fin S256x128.rank → ℕ) a + (![256, 1] : Fin S256x128.rank → ℕ) a ≤ S256x128.size a) (s : Fin 256) :
    (show FVec Ideal S256x1 .f32 from View.ld (iblk m c 4 t) (Rect.unit (s := S256x128) ![0, oi.val] ![256, 1] inb)) (ix2 s 0)
      = ((gi (ga m c) (bat t) h (256 * (chunk t).val + s.val) : ℝ) : EReal) := by
  rw [blk_col, ← Cert.GatesRefIdeal.Read.tab_i (ga m c) f3]
  exact congrArg _ ((ix3_inj ..).2 ⟨rfl, rfl, Fin.ext hoi⟩)

include f3 hof in
/-- The chunk's running sums of forget gates, as a column. -/
theorem col_f (inb : ∀ a, (![0, of.val] : Fin S256x128.rank → ℕ) a + (![256, 1] : Fin S256x128.rank → ℕ) a ≤ S256x128.size a) (s : Fin 256) :
    (show FVec Ideal S256x1 .f32 from View.ld (iblk m c 4 t) (Rect.unit (s := S256x128) ![0, of.val] ![256, 1] inb)) (ix2 s 0)
      = ((Recur.cum (gf (ga m c) (bat t) h) (256 * (chunk t).val + s.val + 1) - Recur.cum (gf (ga m c) (bat t) h) (256 * (chunk t).val) : ℝ) : EReal) := by
  rw [blk_col, ← Cert.GatesRefIdeal.Read.tab_f (ga m c) f3]
  exact congrArg _ ((ix3_inj ..).2 ⟨rfl, rfl, Fin.ext hof⟩)

include f3 hoi in
/-- The chunk's input gates, as a row. -/
theorem row_i (inb : ∀ a, (![0, oi.val, 0] : Fin S1x8x256.rank → ℕ) a + (![1, 1, 256] : Fin S1x8x256.rank → ℕ) a ≤ S1x8x256.size a) (s : Fin 256) :
    (show FVec Ideal S1x1x256 .f32 from View.ld (iblk m c 3 t) (Rect.unit (s := S1x8x256) ![0, oi.val, 0] ![1, 1, 256] inb)) (ix3 0 0 s)
      = ((gi (ga m c) (bat t) h (256 * (chunk t).val + s.val) : ℝ) : EReal) := by
  rw [blk_row, ← Cert.GatesRefIdeal.Read.tab_i (ga m c) f3]
  exact congrArg _ ((ix3_inj ..).2 ⟨rfl, rfl, Fin.ext hoi⟩)

include f3 hof in
/-- The chunk's running sums of forget gates, as a row. -/
theorem row_f (inb : ∀ a, (![0, of.val, 0] : Fin S1x8x256.rank → ℕ) a + (![1, 1, 256] : Fin S1x8x256.rank → ℕ) a ≤ S1x8x256.size a) (s : Fin 256) :
    (show FVec Ideal S1x1x256 .f32 from View.ld (iblk m c 3 t) (Rect.unit (s := S1x8x256) ![0, of.val, 0] ![1, 1, 256] inb)) (ix3 0 0 s)
      = ((Recur.cum (gf (ga m c) (bat t) h) (256 * (chunk t).val + s.val + 1) - Recur.cum (gf (ga m c) (bat t) h) (256 * (chunk t).val) : ℝ) : EReal) := by
  rw [blk_row, ← Cert.GatesRefIdeal.Read.tab_f (ga m c) f3]
  exact congrArg _ ((ix3_inj ..).2 ⟨rfl, rfl, Fin.ext hof⟩)

variable (iC : ∀ a, (![h.val, 0, 0] : Fin S4x512x512.rank → ℕ) a + (![1, 512, 512] : Fin S4x512x512.rank → ℕ) a ≤ S4x512x512.size a)
  (iN : ∀ a, (![h.val, 0, 0] : Fin S4x1x512.rank → ℕ) a + (![1, 1, 512] : Fin S4x1x512.rank → ℕ) a ≤ S4x1x512.size a)
  (iM : ∀ a, (![h.val, 0, 0] : Fin S4x1x128.rank → ℕ) a + (![1, 1, 128] : Fin S4x1x128.rank → ℕ) a ≤ S4x1x128.size a)
  (jc : ∀ a, (![0, oi.val] : Fin S256x128.rank → ℕ) a + (![256, 1] : Fin S256x128.rank → ℕ) a ≤ S256x128.size a)
  (kc : ∀ a, (![0, of.val] : Fin S256x128.rank → ℕ) a + (![256, 1] : Fin S256x128.rank → ℕ) a ≤ S256x128.size a)
  (jr : ∀ a, (![0, oi.val, 0] : Fin S1x8x256.rank → ℕ) a + (![1, 1, 256] : Fin S1x8x256.rank → ℕ) a ≤ S1x8x256.size a)
  (kr : ∀ a, (![0, of.val, 0] : Fin S1x8x256.rank → ℕ) a + (![1, 1, 256] : Fin S1x8x256.rank → ℕ) a ≤ S1x8x256.size a)
  (iq : ∀ a, (![0, o] : Fin S256x2048.rank → ℕ) a + (![256, 512] : Fin S256x2048.rank → ℕ) a ≤ S256x2048.size a)

include f3 hoi hof in
/-- A head's stabiliser after the chunk. -/
theorem step_M (x : S1x1x128.Idx) (y : S4x1x128.Idx) (h0 : (y 0).val = h.val + (x 0).val) :
    k0_pay23 (F := Ideal) (k0_pay18 (k0_pay8 (View.ld (iblk m c 4 t) (Rect.unit (s := S256x128) ![0, oi.val] ![256, 1] jc)))
      (k0_pay9 (View.ld (iblk m c 4 t) (Rect.unit (s := S256x128) ![0, of.val] ![256, 1] kc)))
      (k0_pay10 (View.ld (stM m c (bat t) (256 * (chunk t).val)) (Rect.unit (s := S4x1x128) ![h.val, 0, 0] ![1, 1, 128] iM)))) x
      = stM m c (bat t) (256 * (chunk t).val + 256) y := by
  have hx0 : x 0 = (0 : Fin 1) := Subsingleton.elim (α := Fin 1) _ _
  have hx1 : x 1 = (0 : Fin 1) := Subsingleton.elim (α := Fin 1) _ _
  have hl : (x 0).val < 1 := (x 0).isLt
  have hy : y 0 = h := Fin.ext (by show (y 0).val = h.val; omega)
  have hx : x = ix3 0 0 (x 2) := (eq_ix3 x).trans ((ix3_inj ..).2 ⟨hx0, hx1, rfl⟩)
  rw [hx]
  refine (head_M (col_i m c t f3 h oi hoi jc) (col_f m c t f3 h of hof kc) (ld_M m c _ _ h iM) _).trans ?_
  unfold stM; rw [hy]

include f1 f2 f3 hoi hof ho in
/-- A head's matrix after the chunk. -/
theorem step_C (x : S1x512x512.Idx) (y : S4x512x512.Idx) (h0 : (y 0).val = h.val + (x 0).val) (h1 : (y 1).val = (x 1).val) (h2 : (y 2).val = (x 2).val) :
    k0_pay21 (F := Ideal) (View.ld (iblk m c 1 t) (Rect.unit (s := S256x2048) ![0, o] ![256, 512] iq)) (View.ld (iblk m c 2 t) (Rect.unit (s := S256x2048) ![0, o] ![256, 512] iq))
      (k0_pay17 (k0_pay8 (View.ld (iblk m c 4 t) (Rect.unit (s := S256x128) ![0, oi.val] ![256, 1] jc)))
        (k0_pay9 (View.ld (iblk m c 4 t) (Rect.unit (s := S256x128) ![0, of.val] ![256, 1] kc))))
      (k0_pay18 (k0_pay8 (View.ld (iblk m c 4 t) (Rect.unit (s := S256x128) ![0, oi.val] ![256, 1] jc)))
        (k0_pay9 (View.ld (iblk m c 4 t) (Rect.unit (s := S256x128) ![0, of.val] ![256, 1] kc)))
        (k0_pay10 (View.ld (stM m c (bat t) (256 * (chunk t).val)) (Rect.unit (s := S4x1x128) ![h.val, 0, 0] ![1, 1, 128] iM))))
      (k0_pay19 (k0_pay8 (View.ld (iblk m c 4 t) (Rect.unit (s := S256x128) ![0, oi.val] ![256, 1] jc)))
        (k0_pay9 (View.ld (iblk m c 4 t) (Rect.unit (s := S256x128) ![0, of.val] ![256, 1] kc)))
        (k0_pay10 (View.ld (stM m c (bat t) (256 * (chunk t).val)) (Rect.unit (s := S4x1x128) ![h.val, 0, 0] ![1, 1, 128] iM))))
      (View.ld (stC m c (bat t) (256 * (chunk t).val)) (Rect.unit (s := S4x512x512) ![h.val, 0, 0] ![1, 512, 512] iC)) x
      = stC m c (bat t) (256 * (chunk t).val + 256) y := by
  have hx0 : x 0 = (0 : Fin 1) := Subsingleton.elim (α := Fin 1) _ _
  have hl : (x 0).val < 1 := (x 0).isLt
  have hy : y 0 = h := Fin.ext (by show (y 0).val = h.val; omega)
  have hx : x = ix3 0 (x 1) (x 2) := (eq_ix3 x).trans ((ix3_inj ..).2 ⟨hx0, rfl, rfl⟩)
  have e1 : y 1 = x 1 := Fin.ext h1
  have e2 : y 2 = x 2 := Fin.ext h2
  rw [hx]
  refine (head_C (col_i m c t f3 h oi hoi jc) (col_f m c t f3 h of hof kc) (ld_M m c _ _ h iM) (blk_k m c t f1 h o ho iq) (blk_v m c t f2 h o ho iq)
    (ld_C m c _ _ h iC) _ _).trans ?_
  unfold stC; rw [hy, e1, e2]

include f1 f3 hoi hof ho in
/-- A head's key sum after the chunk. -/
theorem step_N (x : S1x1x512.Idx) (y : S4x1x512.Idx) (h0 : (y 0).val = h.val + (x 0).val) (h2 : (y 2).val = (x 2).val) :
    k0_pay22 (F := Ideal) (View.ld (iblk m c 1 t) (Rect.unit (s := S256x2048) ![0, o] ![256, 512] iq))
      (k0_pay17 (k0_pay8 (View.ld (iblk m c 4 t) (Rect.unit (s := S256x128) ![0, oi.val] ![256, 1] jc)))
        (k0_pay9 (View.ld (iblk m c 4 t) (Rect.unit (s := S256x128) ![0, of.val] ![256, 1] kc))))
      (k0_pay18 (k0_pay8 (View.ld (iblk m c 4 t) (Rect.unit (s := S256x128) ![0, oi.val] ![256, 1] jc)))
        (k0_pay9 (View.ld (iblk m c 4 t) (Rect.unit (s := S256x128) ![0, of.val] ![256, 1] kc)))
        (k0_pay10 (View.ld (stM m c (bat t) (256 * (chunk t).val)) (Rect.unit (s := S4x1x128) ![h.val, 0, 0] ![1, 1, 128] iM))))
      (k0_pay19 (k0_pay8 (View.ld (iblk m c 4 t) (Rect.unit (s := S256x128) ![0, oi.val] ![256, 1] jc)))
        (k0_pay9 (View.ld (iblk m c 4 t) (Rect.unit (s := S256x128) ![0, of.val] ![256, 1] kc)))
        (k0_pay10 (View.ld (stM m c (bat t) (256 * (chunk t).val)) (Rect.unit (s := S4x1x128) ![h.val, 0, 0] ![1, 1, 128] iM))))
      (View.ld (stN m c (bat t) (256 * (chunk t).val)) (Rect.unit (s := S4x1x512) ![h.val, 0, 0] ![1, 1, 512] iN)) x
      = stN m c (bat t) (256 * (chunk t).val + 256) y := by
  have hx0 : x 0 = (0 : Fin 1) := Subsingleton.elim (α := Fin 1) _ _
  have hx1 : x 1 = (0 : Fin 1) := Subsingleton.elim (α := Fin 1) _ _
  have hl : (x 0).val < 1 := (x 0).isLt
  have hy : y 0 = h := Fin.ext (by show (y 0).val = h.val; omega)
  have hx : x = ix3 0 0 (x 2) := (eq_ix3 x).trans ((ix3_inj ..).2 ⟨hx0, hx1, rfl⟩)
  have e2 : y 2 = x 2 := Fin.ext h2
  rw [hx]
  refine (head_N (col_i m c t f3 h oi hoi jc) (col_f m c t f3 h of hof kc) (ld_M m c _ _ h iM) (blk_k m c t f1 h o ho iq)
    (ld_N m c _ _ h iN) _).trans ?_
  unfold stN; rw [hy, e2]

include f0 f1 f2 f3 hoi hof ho in
/-- What a head reads in the chunk. -/
theorem step_O (x : S256x512.Idx) (y : S256x2048.Idx) (h0 : (y 0).val = (x 0).val) (h1 : (y 1).val = o + (x 1).val) :
    k0_pay15 (F := Ideal) (View.ld (iblk m c 0 t) (Rect.unit (s := S256x2048) ![0, o] ![256, 512] iq)) (View.ld (iblk m c 2 t) (Rect.unit (s := S256x2048) ![0, o] ![256, 512] iq))
      (k0_pay11 (View.ld (iblk m c 4 t) (Rect.unit (s := S256x128) ![0, of.val] ![256, 1] kc))
        (View.ld (iblk m c 3 t) (Rect.unit (s := S1x8x256) ![0, oi.val, 0] ![1, 1, 256] jr)) (View.ld (iblk m c 3 t) (Rect.unit (s := S1x8x256) ![0, of.val, 0] ![1, 1, 256] kr)))
      (k0_pay12 (View.ld (iblk m c 4 t) (Rect.unit (s := S256x128) ![0, of.val] ![256, 1] kc))
        (View.ld (stM m c (bat t) (256 * (chunk t).val)) (Rect.unit (s := S4x1x128) ![h.val, 0, 0] ![1, 1, 128] iM)))
      (k0_pay13 (View.ld (iblk m c 4 t) (Rect.unit (s := S256x128) ![0, of.val] ![256, 1] kc))
        (View.ld (iblk m c 3 t) (Rect.unit (s := S1x8x256) ![0, oi.val, 0] ![1, 1, 256] jr)) (View.ld (iblk m c 3 t) (Rect.unit (s := S1x8x256) ![0, of.val, 0] ![1, 1, 256] kr))
        (View.ld (stM m c (bat t) (256 * (chunk t).val)) (Rect.unit (s := S4x1x128) ![h.val, 0, 0] ![1, 1, 128] iM)))
      (k0_pay14 (View.ld (iblk m c 0 t) (Rect.unit (s := S256x2048) ![0, o] ![256, 512] iq)) (View.ld (iblk m c 1 t) (Rect.unit (s := S256x2048) ![0, o] ![256, 512] iq)))
      (View.ld (stC m c (bat t) (256 * (chunk t).val)) (Rect.unit (s := S4x512x512) ![h.val, 0, 0] ![1, 512, 512] iC))
      (View.ld (stN m c (bat t) (256 * (chunk t).val)) (Rect.unit (s := S4x1x512) ![h.val, 0, 0] ![1, 1, 512] iN)) x
      = stO m c t y := by
  have hl : (x 1).val < 512 := (x 1).isLt
  have e0 : (y 0).val = (x 0).val := h0
  have eh : ∀ p, (⟨(y 1).val / 512, p⟩ : Fin 4) = h := fun p => Fin.ext (by show (y 1).val / 512 = h.val; omega)
  have ee : ∀ p, (⟨(y 1).val % 512, p⟩ : Fin 512) = x 1 := fun p => Fin.ext (by show (y 1).val % 512 = (x 1).val; omega)
  refine (congrArg _ (eq_ix2 x)).trans ?_
  refine (head_out (col_f m c t f3 h of hof kc) (row_i m c t f3 h oi hoi jr) (row_f m c t f3 h of hof kr) (ld_M m c _ _ h iM)
    (blk_q m c t f0 h o ho iq) (blk_k m c t f1 h o ho iq) (blk_v m c t f2 h o ho iq) (ld_C m c _ _ h iC) (ld_N m c _ _ h iN) _ _).trans ?_
  unfold stO; simp only [eh, ee, e0]

end step

end Cert.MlstmIdeal.Value

end
-- ==== Proof.MlstmCases.lean ====
/- The prompt's matrix recurrence: the state and the result block after one grid point, case by case. -/
module

public import proofs.«01_k».proof.Proof.MlstmStep

@[expose] public section

set_option maxRecDepth 16384
set_option maxHeartbeats 2000000

noncomputable section

namespace Cert.MlstmIdeal.Value

open Cert.MlstmIdeal Cert.MlstmIdeal.Gen Idealize.ShloMosaic Idealize.ShloMosaic.TcCoe Idealize.SL.Sem
open Idealize.ShloMosaic.Pipeline (Dat)

variable (m : (ℓ : Loc nD τ sig) → Buf (Elt Ideal) ℓ)

section cases
variable (c : Dev nD) (t : Fin cfg0.N)
  (f0 : ∀ i, ∃ r : ℝ, (show FVec Ideal S16384x2048 .bf16 from m ((c : Thread nD τ).loc main_arg0)) i = r)
  (f1 : ∀ i, ∃ r : ℝ, (show FVec Ideal S16384x2048 .bf16 from m ((c : Thread nD τ).loc main_arg1)) i = r)
  (f2 : ∀ i, ∃ r : ℝ, (show FVec Ideal S16384x2048 .bf16 from m ((c : Thread nD τ).loc main_arg2)) i = r)
  (f3 : ∀ i, ∃ r : ℝ, ga m c i = r)

include f0 f1 f2 f3 in
/-- The result block at a batch's first chunk. -/
theorem O_A (h0 : t.val % 8 = 0) (h1 : ¬t.val % 8 = 7) :
    (outsAt0 m c t.val t.isLt).1 = stO m c t := by
  have hz : 256 * (chunk t).val = 0 := by show 256 * (t.val % 8) = 0; rw [h0]
  have iC := (stC_zero m c (bat t)).trans (congrArg (stC m c (bat t)) hz.symm)
  have iN := (stN_zero m c (bat t)).trans (congrArg (stN m c (bat t)) hz.symm)
  have iM := (stM_zero m c (bat t)).trans (congrArg (stM m c (bat t)) hz.symm)
  rw [outsAt0_A m c t h0 h1]
  frame_open
  simp (disch := decide) only [↓ View.readCov_skip, ↓ View.readCov_fill]
  frame_out
  simp only [iC, iN, iM]
  funext y
  canon_tiles x h
  · exact step_O m c t f0 f1 f2 f3 3 3 7 1536 rfl rfl rfl inb_S4x512x512_S1x512x512_3_0_0 inb_S4x1x512_S1x1x512_3_0_0 inb_S4x1x128_S1x1x128_3_0_0 inb_S256x128_S256x1_0_7 inb_S1x8x256_S1x1x256_0_3_0 inb_S1x8x256_S1x1x256_0_7_0 inb_S256x2048_S256x512_0_1536 x y h0 h1
  · exact step_O m c t f0 f1 f2 f3 2 2 6 1024 rfl rfl rfl inb_S4x512x512_S1x512x512_2_0_0 inb_S4x1x512_S1x1x512_2_0_0 inb_S4x1x128_S1x1x128_2_0_0 inb_S256x128_S256x1_0_6 inb_S1x8x256_S1x1x256_0_2_0 inb_S1x8x256_S1x1x256_0_6_0 inb_S256x2048_S256x512_0_1024 x y h0 h1
  · exact step_O m c t f0 f1 f2 f3 1 1 5 512 rfl rfl rfl inb_S4x512x512_S1x512x512_1_0_0 inb_S4x1x512_S1x1x512_1_0_0 inb_S4x1x128_S1x1x128_1_0_0 inb_S256x128_S256x1_0_5 inb_S1x8x256_S1x1x256_0_1_0 inb_S1x8x256_S1x1x256_0_5_0 inb_S256x2048_S256x512_0_512 x y h0 h1
  · exact step_O m c t f0 f1 f2 f3 0 0 4 0 rfl rfl rfl inb_S4x512x512_S1x512x512_0_0_0 inb_S4x1x512_S1x1x512_0_0_0 inb_S4x1x128_S1x1x128_0_0_0 inb_S256x128_S256x1_0_4 inb_S1x8x256_S1x1x256_0_0_0 inb_S1x8x256_S1x1x256_0_4_0 inb_S256x2048_S256x512_0_0 x y h0 (h1.trans (Nat.zero_add _).symm)

include f1 f2 f3 in
/-- The matrix state at a batch's first chunk. -/
theorem C_A (h0 : t.val % 8 = 0) (h1 : ¬t.val % 8 = 7) :
    (outsAt0 m c t.val t.isLt).2.2.2.2.1 = stC m c (bat t) (256 * (chunk t).val + 256) := by
  have hz : 256 * (chunk t).val = 0 := by show 256 * (t.val % 8) = 0; rw [h0]
  have iC := (stC_zero m c (bat t)).trans (congrArg (stC m c (bat t)) hz.symm)
  have iM := (stM_zero m c (bat t)).trans (congrArg (stM m c (bat t)) hz.symm)
  rw [outsAt0_A m c t h0 h1]
  frame_open
  simp (disch := decide) only [↓ View.readCov_skip, ↓ View.readCov_fill]
  frame_out
  simp only [iC, iM]
  funext y
  refine View.canon_append_of_piecesOf (stC m c (bat t) (256 * (chunk t).val + 256)) [_] [_, _, _, _] ⟨fun x => ?_, fun x => ?_, fun x => ?_, fun x => ?_, trivial⟩ y (View.cover_of_tiled_head _ _ _ (by rfl) y)
  · exact step_C m c t f1 f2 f3 3 3 7 1536 rfl rfl rfl inb_S4x512x512_S1x512x512_3_0_0 inb_S4x1x128_S1x1x128_3_0_0 inb_S256x128_S256x1_0_3 inb_S256x128_S256x1_0_7 inb_S256x2048_S256x512_0_1536 x _ (by show 3 + 1 * (x 0).val = 3 + (x 0).val; omega) (by show 0 + 1 * (x 1).val = (x 1).val; omega) (by show 0 + 1 * (x 2).val = (x 2).val; omega)
  · exact step_C m c t f1 f2 f3 2 2 6 1024 rfl rfl rfl inb_S4x512x512_S1x512x512_2_0_0 inb_S4x1x128_S1x1x128_2_0_0 inb_S256x128_S256x1_0_2 inb_S256x128_S256x1_0_6 inb_S256x2048_S256x512_0_1024 x _ (by show 2 + 1 * (x 0).val = 2 + (x 0).val; omega) (by show 0 + 1 * (x 1).val = (x 1).val; omega) (by show 0 + 1 * (x 2).val = (x 2).val; omega)
  · exact step_C m c t f1 f2 f3 1 1 5 512 rfl rfl rfl inb_S4x512x512_S1x512x512_1_0_0 inb_S4x1x128_S1x1x128_1_0_0 inb_S256x128_S256x1_0_1 inb_S256x128_S256x1_0_5 inb_S256x2048_S256x512_0_512 x _ (by show 1 + 1 * (x 0).val = 1 + (x 0).val; omega) (by show 0 + 1 * (x 1).val = (x 1).val; omega) (by show 0 + 1 * (x 2).val = (x 2).val; omega)
  · exact step_C m c t f1 f2 f3 0 0 4 0 rfl rfl rfl inb_S4x512x512_S1x512x512_0_0_0 inb_S4x1x128_S1x1x128_0_0_0 inb_S256x128_S256x1_0_0 inb_S256x128_S256x1_0_4 inb_S256x2048_S256x512_0_0 x _ (by show 0 + 1 * (x 0).val = 0 + (x 0).val; omega) (by show 0 + 1 * (x 1).val = (x 1).val; omega) (by show 0 + 1 * (x 2).val = (x 2).val; omega)

include f1 f3 in
/-- The key sum at a batch's first chunk. -/
theorem N_A (h0 : t.val % 8 = 0) (h1 : ¬t.val % 8 = 7) :
    (outsAt0 m c t.val t.isLt).2.2.2.2.2.1 = stN m c (bat t) (256 * (chunk t).val + 256) := by
  have hz : 256 * (chunk t).val = 0 := by show 256 * (t.val % 8) = 0; rw [h0]
  have iN := (stN_zero m c (bat t)).trans (congrArg (stN m c (bat t)) hz.symm)
  have iM := (stM_zero m c (bat t)).trans (congrArg (stM m c (bat t)) hz.symm)
  rw [outsAt0_A m c t h0 h1]
  frame_open
  simp (disch := decide) only [↓ View.readCov_skip, ↓ View.readCov_fill]
  frame_out
  simp only [iN, iM]
  funext y
  refine View.canon_append_of_piecesOf (stN m c (bat t) (256 * (chunk t).val + 256)) [_] [_, _, _, _] ⟨fun x => ?_, fun x => ?_, fun x => ?_, fun x => ?_, trivial⟩ y (View.cover_of_tiled_head _ _ _ (by rfl) y)
  · exact step_N m c t f1 f3 3 3 7 1536 rfl rfl rfl inb_S4x1x512_S1x1x512_3_0_0 inb_S4x1x128_S1x1x128_3_0_0 inb_S256x128_S256x1_0_3 inb_S256x128_S256x1_0_7 inb_S256x2048_S256x512_0_1536 x _ (by show 3 + 1 * (x 0).val = 3 + (x 0).val; omega) (by show 0 + 1 * (x 2).val = (x 2).val; omega)
  · exact step_N m c t f1 f3 2 2 6 1024 rfl rfl rfl inb_S4x1x512_S1x1x512_2_0_0 inb_S4x1x128_S1x1x128_2_0_0 inb_S256x128_S256x1_0_2 inb_S256x128_S256x1_0_6 inb_S256x2048_S256x512_0_1024 x _ (by show 2 + 1 * (x 0).val = 2 + (x 0).val; omega) (by show 0 + 1 * (x 2).val = (x 2).val; omega)
  · exact step_N m c t f1 f3 1 1 5 512 rfl rfl rfl inb_S4x1x512_S1x1x512_1_0_0 inb_S4x1x128_S1x1x128_1_0_0 inb_S256x128_S256x1_0_1 inb_S256x128_S256x1_0_5 inb_S256x2048_S256x512_0_512 x _ (by show 1 + 1 * (x 0).val = 1 + (x 0).val; omega) (by show 0 + 1 * (x 2).val = (x 2).val; omega)
  · exact step_N m c t f1 f3 0 0 4 0 rfl rfl rfl inb_S4x1x512_S1x1x512_0_0_0 inb_S4x1x128_S1x1x128_0_0_0 inb_S256x128_S256x1_0_0 inb_S256x128_S256x1_0_4 inb_S256x2048_S256x512_0_0 x _ (by show 0 + 1 * (x 0).val = 0 + (x 0).val; omega) (by show 0 + 1 * (x 2).val = (x 2).val; omega)

include f3 in
/-- The stabiliser at a batch's first chunk. -/
theorem M_A (h0 : t.val % 8 = 0) (h1 : ¬t.val % 8 = 7) :
    (outsAt0 m c t.val t.isLt).2.2.2.2.2.2 = stM m c (bat t) (256 * (chunk t).val + 256) := by
  have hz : 256 * (chunk t).val = 0 := by show 256 * (t.val % 8) = 0; rw [h0]
  have iM := (stM_zero m c (bat t)).trans (congrArg (stM m c (bat t)) hz.symm)
  rw [outsAt0_A m c t h0 h1]
  frame_open
  simp (disch := decide) only [↓ View.readCov_skip, ↓ View.readCov_fill]
  frame_out
  simp only [iM]
  funext y
  refine View.canon_append_of_piecesOf (stM m c (bat t) (256 * (chunk t).val + 256)) [_] [_, _, _, _] ⟨fun x => ?_, fun x => ?_, fun x => ?_, fun x => ?_, trivial⟩ y (View.cover_of_tiled_head _ _ _ (by rfl) y)
  · exact step_M m c t f3 3 3 7 rfl rfl inb_S4x1x128_S1x1x128_3_0_0 inb_S256x128_S256x1_0_3 inb_S256x128_S256x1_0_7 x _ (by show 3 + 1 * (x 0).val = 3 + (x 0).val; omega)
  · exact step_M m c t f3 2 2 6 rfl rfl inb_S4x1x128_S1x1x128_2_0_0 inb_S256x128_S256x1_0_2 inb_S256x128_S256x1_0_6 x _ (by show 2 + 1 * (x 0).val = 2 + (x 0).val; omega)
  · exact step_M m c t f3 1 1 5 rfl rfl inb_S4x1x128_S1x1x128_1_0_0 inb_S256x128_S256x1_0_1 inb_S256x128_S256x1_0_5 x _ (by show 1 + 1 * (x 0).val = 1 + (x 0).val; omega)
  · exact step_M m c t f3 0 0 4 rfl rfl inb_S4x1x128_S1x1x128_0_0_0 inb_S256x128_S256x1_0_0 inb_S256x128_S256x1_0_4 x _ (by show 0 + 1 * (x 0).val = 0 + (x 0).val; omega)

include f0 f1 f2 f3 in
/-- The result block at a chunk in the middle. -/
theorem O_B (h0 : ¬t.val % 8 = 0) (h1 : ¬t.val % 8 = 7)
    (iC : (outsAt0 m c (t.val - 1) (Nat.lt_of_le_of_lt (Nat.sub_le _ _) t.isLt)).2.2.2.2.1 = stC m c (bat t) (256 * (chunk t).val))
    (iN : (outsAt0 m c (t.val - 1) (Nat.lt_of_le_of_lt (Nat.sub_le _ _) t.isLt)).2.2.2.2.2.1 = stN m c (bat t) (256 * (chunk t).val))
    (iM : (outsAt0 m c (t.val - 1) (Nat.lt_of_le_of_lt (Nat.sub_le _ _) t.isLt)).2.2.2.2.2.2 = stM m c (bat t) (256 * (chunk t).val)) :
    (outsAt0 m c t.val t.isLt).1 = stO m c t := by
  rw [outsAt0_B m c t h0 h1]
  frame_out
  simp only [read_unread_whole, iC, iN, iM]
  funext y
  canon_tiles x h
  · exact step_O m c t f0 f1 f2 f3 3 3 7 1536 rfl rfl rfl inb_S4x512x512_S1x512x512_3_0_0 inb_S4x1x512_S1x1x512_3_0_0 inb_S4x1x128_S1x1x128_3_0_0 inb_S256x128_S256x1_0_7 inb_S1x8x256_S1x1x256_0_3_0 inb_S1x8x256_S1x1x256_0_7_0 inb_S256x2048_S256x512_0_1536 x y h0 h1
  · exact step_O m c t f0 f1 f2 f3 2 2 6 1024 rfl rfl rfl inb_S4x512x512_S1x512x512_2_0_0 inb_S4x1x512_S1x1x512_2_0_0 inb_S4x1x128_S1x1x128_2_0_0 inb_S256x128_S256x1_0_6 inb_S1x8x256_S1x1x256_0_2_0 inb_S1x8x256_S1x1x256_0_6_0 inb_S256x2048_S256x512_0_1024 x y h0 h1
  · exact step_O m c t f0 f1 f2 f3 1 1 5 512 rfl rfl rfl inb_S4x512x512_S1x512x512_1_0_0 inb_S4x1x512_S1x1x512_1_0_0 inb_S4x1x128_S1x1x128_1_0_0 inb_S256x128_S256x1_0_5 inb_S1x8x256_S1x1x256_0_1_0 inb_S1x8x256_S1x1x256_0_5_0 inb_S256x2048_S256x512_0_512 x y h0 h1
  · exact step_O m c t f0 f1 f2 f3 0 0 4 0 rfl rfl rfl inb_S4x512x512_S1x512x512_0_0_0 inb_S4x1x512_S1x1x512_0_0_0 inb_S4x1x128_S1x1x128_0_0_0 inb_S256x128_S256x1_0_4 inb_S1x8x256_S1x1x256_0_0_0 inb_S1x8x256_S1x1x256_0_4_0 inb_S256x2048_S256x512_0_0 x y h0 (h1.trans (Nat.zero_add _).symm)

include f1 f2 f3 in
/-- The matrix state at a chunk in the middle. -/
theorem C_B (h0 : ¬t.val % 8 = 0) (h1 : ¬t.val % 8 = 7)
    (iC : (outsAt0 m c (t.val - 1) (Nat.lt_of_le_of_lt (Nat.sub_le _ _) t.isLt)).2.2.2.2.1 = stC m c (bat t) (256 * (chunk t).val))
    (iM : (outsAt0 m c (t.val - 1) (Nat.lt_of_le_of_lt (Nat.sub_le _ _) t.isLt)).2.2.2.2.2.2 = stM m c (bat t) (256 * (chunk t).val)) :
    (outsAt0 m c t.val t.isLt).2.2.2.2.1 = stC m c (bat t) (256 * (chunk t).val + 256) := by
  rw [outsAt0_B m c t h0 h1]
  frame_out
  simp only [read_unread_whole, iC, iM]
  funext y
  canon_tiles x h
  · exact step_C m c t f1 f2 f3 3 3 7 1536 rfl rfl rfl inb_S4x512x512_S1x512x512_3_0_0 inb_S4x1x128_S1x1x128_3_0_0 inb_S256x128_S256x1_0_3 inb_S256x128_S256x1_0_7 inb_S256x2048_S256x512_0_1536 x y h0 h1 h2
  · exact step_C m c t f1 f2 f3 2 2 6 1024 rfl rfl rfl inb_S4x512x512_S1x512x512_2_0_0 inb_S4x1x128_S1x1x128_2_0_0 inb_S256x128_S256x1_0_2 inb_S256x128_S256x1_0_6 inb_S256x2048_S256x512_0_1024 x y h0 h1 h2
  · exact step_C m c t f1 f2 f3 1 1 5 512 rfl rfl rfl inb_S4x512x512_S1x512x512_1_0_0 inb_S4x1x128_S1x1x128_1_0_0 inb_S256x128_S256x1_0_1 inb_S256x128_S256x1_0_5 inb_S256x2048_S256x512_0_512 x y h0 h1 h2
  · exact step_C m c t f1 f2 f3 0 0 4 0 rfl rfl rfl inb_S4x512x512_S1x512x512_0_0_0 inb_S4x1x128_S1x1x128_0_0_0 inb_S256x128_S256x1_0_0 inb_S256x128_S256x1_0_4 inb_S256x2048_S256x512_0_0 x y (h0.trans (Nat.zero_add _).symm) h1 h2

include f1 f3 in
/-- The key sum at a chunk in the middle. -/
theorem N_B (h0 : ¬t.val % 8 = 0) (h1 : ¬t.val % 8 = 7)
    (iN : (outsAt0 m c (t.val - 1) (Nat.lt_of_le_of_lt (Nat.sub_le _ _) t.isLt)).2.2.2.2.2.1 = stN m c (bat t) (256 * (chunk t).val))
    (iM : (outsAt0 m c (t.val - 1) (Nat.lt_of_le_of_lt (Nat.sub_le _ _) t.isLt)).2.2.2.2.2.2 = stM m c (bat t) (256 * (chunk t).val)) :
    (outsAt0 m c t.val t.isLt).2.2.2.2.2.1 = stN m c (bat t) (256 * (chunk t).val + 256) := by
  rw [outsAt0_B m c t h0 h1]
  frame_out
  simp only [read_unread_whole, iN, iM]
  funext y
  canon_tiles x h
  · exact step_N m c t f1 f3 3 3 7 1536 rfl rfl rfl inb_S4x1x512_S1x1x512_3_0_0 inb_S4x1x128_S1x1x128_3_0_0 inb_S256x128_S256x1_0_3 inb_S256x128_S256x1_0_7 inb_S256x2048_S256x512_0_1536 x y h0 h2
  · exact step_N m c t f1 f3 2 2 6 1024 rfl rfl rfl inb_S4x1x512_S1x1x512_2_0_0 inb_S4x1x128_S1x1x128_2_0_0 inb_S256x128_S256x1_0_2 inb_S256x128_S256x1_0_6 inb_S256x2048_S256x512_0_1024 x y h0 h2
  · exact step_N m c t f1 f3 1 1 5 512 rfl rfl rfl inb_S4x1x512_S1x1x512_1_0_0 inb_S4x1x128_S1x1x128_1_0_0 inb_S256x128_S256x1_0_1 inb_S256x128_S256x1_0_5 inb_S256x2048_S256x512_0_512 x y h0 h2
  · exact step_N m c t f1 f3 0 0 4 0 rfl rfl rfl inb_S4x1x512_S1x1x512_0_0_0 inb_S4x1x128_S1x1x128_0_0_0 inb_S256x128_S256x1_0_0 inb_S256x128_S256x1_0_4 inb_S256x2048_S256x512_0_0 x y (h0.trans (Nat.zero_add _).symm) h2

include f3 in
/-- The stabiliser at a chunk in the middle. -/
theorem M_B (h0 : ¬t.val % 8 = 0) (h1 : ¬t.val % 8 = 7)
    (iM : (outsAt0 m c (t.val - 1) (Nat.lt_of_le_of_lt (Nat.sub_le _ _) t.isLt)).2.2.2.2.2.2 = stM m c (bat t) (256 * (chunk t).val)) :
    (outsAt0 m c t.val t.isLt).2.2.2.2.2.2 = stM m c (bat t) (256 * (chunk t).val + 256) := by
  rw [outsAt0_B m c t h0 h1]
  frame_out
  simp only [read_unread_whole, iM]
  funext y
  canon_tiles x h
  · exact step_M m c t f3 3 3 7 rfl rfl inb_S4x1x128_S1x1x128_3_0_0 inb_S256x128_S256x1_0_3 inb_S256x128_S256x1_0_7 x y h0
  · exact step_M m c t f3 2 2 6 rfl rfl inb_S4x1x128_S1x1x128_2_0_0 inb_S256x128_S256x1_0_2 inb_S256x128_S256x1_0_6 x y h0
  · exact step_M m c t f3 1 1 5 rfl rfl inb_S4x1x128_S1x1x128_1_0_0 inb_S256x128_S256x1_0_1 inb_S256x128_S256x1_0_5 x y h0
  · exact step_M m c t f3 0 0 4 rfl rfl inb_S4x1x128_S1x1x128_0_0_0 inb_S256x128_S256x1_0_0 inb_S256x128_S256x1_0_4 x y (h0.trans (Nat.zero_add _).symm)

include f0 f1 f2 f3 in
/-- The result block at a batch's last chunk. -/
theorem O_C (h0 : ¬t.val % 8 = 0) (h1 : t.val % 8 = 7)
    (iC : (outsAt0 m c (t.val - 1) (Nat.lt_of_le_of_lt (Nat.sub_le _ _) t.isLt)).2.2.2.2.1 = stC m c (bat t) (256 * (chunk t).val))
    (iN : (outsAt0 m c (t.val - 1) (Nat.lt_of_le_of_lt (Nat.sub_le _ _) t.isLt)).2.2.2.2.2.1 = stN m c (bat t) (256 * (chunk t).val))
    (iM : (outsAt0 m c (t.val - 1) (Nat.lt_of_le_of_lt (Nat.sub_le _ _) t.isLt)).2.2.2.2.2.2 = stM m c (bat t) (256 * (chunk t).val)) :
    (outsAt0 m c t.val t.isLt).1 = stO m c t := by
  rw [outsAt0_C m c t h0 h1]
  frame_out
  simp only [read_unread_whole, iC, iN, iM]
  funext y
  canon_tiles x h
  · exact step_O m c t f0 f1 f2 f3 3 3 7 1536 rfl rfl rfl inb_S4x512x512_S1x512x512_3_0_0 inb_S4x1x512_S1x1x512_3_0_0 inb_S4x1x128_S1x1x128_3_0_0 inb_S256x128_S256x1_0_7 inb_S1x8x256_S1x1x256_0_3_0 inb_S1x8x256_S1x1x256_0_7_0 inb_S256x2048_S256x512_0_1536 x y h0 h1
  · exact step_O m c t f0 f1 f2 f3 2 2 6 1024 rfl rfl rfl inb_S4x512x512_S1x512x512_2_0_0 inb_S4x1x512_S1x1x512_2_0_0 inb_S4x1x128_S1x1x128_2_0_0 inb_S256x128_S256x1_0_6 inb_S1x8x256_S1x1x256_0_2_0 inb_S1x8x256_S1x1x256_0_6_0 inb_S256x2048_S256x512_0_1024 x y h0 h1
  · exact step_O m c t f0 f1 f2 f3 1 1 5 512 rfl rfl rfl inb_S4x512x512_S1x512x512_1_0_0 inb_S4x1x512_S1x1x512_1_0_0 inb_S4x1x128_S1x1x128_1_0_0 inb_S256x128_S256x1_0_5 inb_S1x8x256_S1x1x256_0_1_0 inb_S1x8x256_S1x1x256_0_5_0 inb_S256x2048_S256x512_0_512 x y h0 h1
  · exact step_O m c t f0 f1 f2 f3 0 0 4 0 rfl rfl rfl inb_S4x512x512_S1x512x512_0_0_0 inb_S4x1x512_S1x1x512_0_0_0 inb_S4x1x128_S1x1x128_0_0_0 inb_S256x128_S256x1_0_4 inb_S1x8x256_S1x1x256_0_0_0 inb_S1x8x256_S1x1x256_0_4_0 inb_S256x2048_S256x512_0_0 x y h0 (h1.trans (Nat.zero_add _).symm)

include f1 f2 f3 in
/-- The matrix state at a batch's last chunk. -/
theorem C_C (h0 : ¬t.val % 8 = 0) (h1 : t.val % 8 = 7)
    (iC : (outsAt0 m c (t.val - 1) (Nat.lt_of_le_of_lt (Nat.sub_le _ _) t.isLt)).2.2.2.2.1 = stC m c (bat t) (256 * (chunk t).val))
    (iM : (outsAt0 m c (t.val - 1) (Nat.lt_of_le_of_lt (Nat.sub_le _ _) t.isLt)).2.2.2.2.2.2 = stM m c (bat t) (256 * (chunk t).val)) :
    (outsAt0 m c t.val t.isLt).2.2.2.2.1 = stC m c (bat t) (256 * (chunk t).val + 256) := by
  rw [outsAt0_C m c t h0 h1]
  frame_out
  simp only [read_unread_whole, iC, iM]
  funext y
  canon_tiles x h
  · exact step_C m c t f1 f2 f3 3 3 7 1536 rfl rfl rfl inb_S4x512x512_S1x512x512_3_0_0 inb_S4x1x128_S1x1x128_3_0_0 inb_S256x128_S256x1_0_3 inb_S256x128_S256x1_0_7 inb_S256x2048_S256x512_0_1536 x y h0 h1 h2
  · exact step_C m c t f1 f2 f3 2 2 6 1024 rfl rfl rfl inb_S4x512x512_S1x512x512_2_0_0 inb_S4x1x128_S1x1x128_2_0_0 inb_S256x128_S256x1_0_2 inb_S256x128_S256x1_0_6 inb_S256x2048_S256x512_0_1024 x y h0 h1 h2
  · exact step_C m c t f1 f2 f3 1 1 5 512 rfl rfl rfl inb_S4x512x512_S1x512x512_1_0_0 inb_S4x1x128_S1x1x128_1_0_0 inb_S256x128_S256x1_0_1 inb_S256x128_S256x1_0_5 inb_S256x2048_S256x512_0_512 x y h0 h1 h2
  · exact step_C m c t f1 f2 f3 0 0 4 0 rfl rfl rfl inb_S4x512x512_S1x512x512_0_0_0 inb_S4x1x128_S1x1x128_0_0_0 inb_S256x128_S256x1_0_0 inb_S256x128_S256x1_0_4 inb_S256x2048_S256x512_0_0 x y (h0.trans (Nat.zero_add _).symm) h1 h2

include f1 f3 in
/-- The key sum at a batch's last chunk. -/
theorem N_C (h0 : ¬t.val % 8 = 0) (h1 : t.val % 8 = 7)
    (iN : (outsAt0 m c (t.val - 1) (Nat.lt_of_le_of_lt (Nat.sub_le _ _) t.isLt)).2.2.2.2.2.1 = stN m c (bat t) (256 * (chunk t).val))
    (iM : (outsAt0 m c (t.val - 1) (Nat.lt_of_le_of_lt (Nat.sub_le _ _) t.isLt)).2.2.2.2.2.2 = stM m c (bat t) (256 * (chunk t).val)) :
    (outsAt0 m c t.val t.isLt).2.2.2.2.2.1 = stN m c (bat t) (256 * (chunk t).val + 256) := by
  rw [outsAt0_C m c t h0 h1]
  frame_out
  simp only [read_unread_whole, iN, iM]
  funext y
  canon_tiles x h
  · exact step_N m c t f1 f3 3 3 7 1536 rfl rfl rfl inb_S4x1x512_S1x1x512_3_0_0 inb_S4x1x128_S1x1x128_3_0_0 inb_S256x128_S256x1_0_3 inb_S256x128_S256x1_0_7 inb_S256x2048_S256x512_0_1536 x y h0 h2
  · exact step_N m c t f1 f3 2 2 6 1024 rfl rfl rfl inb_S4x1x512_S1x1x512_2_0_0 inb_S4x1x128_S1x1x128_2_0_0 inb_S256x128_S256x1_0_2 inb_S256x128_S256x1_0_6 inb_S256x2048_S256x512_0_1024 x y h0 h2
  · exact step_N m c t f1 f3 1 1 5 512 rfl rfl rfl inb_S4x1x512_S1x1x512_1_0_0 inb_S4x1x128_S1x1x128_1_0_0 inb_S256x128_S256x1_0_1 inb_S256x128_S256x1_0_5 inb_S256x2048_S256x512_0_512 x y h0 h2
  · exact step_N m c t f1 f3 0 0 4 0 rfl rfl rfl inb_S4x1x512_S1x1x512_0_0_0 inb_S4x1x128_S1x1x128_0_0_0 inb_S256x128_S256x1_0_0 inb_S256x128_S256x1_0_4 inb_S256x2048_S256x512_0_0 x y (h0.trans (Nat.zero_add _).symm) h2

include f3 in
/-- The stabiliser at a batch's last chunk. -/
theorem M_C (h0 : ¬t.val % 8 = 0) (h1 : t.val % 8 = 7)
    (iM : (outsAt0 m c (t.val - 1) (Nat.lt_of_le_of_lt (Nat.sub_le _ _) t.isLt)).2.2.2.2.2.2 = stM m c (bat t) (256 * (chunk t).val)) :
    (outsAt0 m c t.val t.isLt).2.2.2.2.2.2 = stM m c (bat t) (256 * (chunk t).val + 256) := by
  rw [outsAt0_C m c t h0 h1]
  frame_out
  simp only [read_unread_whole, iM]
  funext y
  canon_tiles x h
  · exact step_M m c t f3 3 3 7 rfl rfl inb_S4x1x128_S1x1x128_3_0_0 inb_S256x128_S256x1_0_3 inb_S256x128_S256x1_0_7 x y h0
  · exact step_M m c t f3 2 2 6 rfl rfl inb_S4x1x128_S1x1x128_2_0_0 inb_S256x128_S256x1_0_2 inb_S256x128_S256x1_0_6 x y h0
  · exact step_M m c t f3 1 1 5 rfl rfl inb_S4x1x128_S1x1x128_1_0_0 inb_S256x128_S256x1_0_1 inb_S256x128_S256x1_0_5 x y h0
  · exact step_M m c t f3 0 0 4 rfl rfl inb_S4x1x128_S1x1x128_0_0_0 inb_S256x128_S256x1_0_0 inb_S256x128_S256x1_0_4 x y (h0.trans (Nat.zero_add _).symm)

/-- The matrix state handed out at a batch's last chunk is the one carried. -/
theorem out_C (h0 : ¬t.val % 8 = 0) (h1 : t.val % 8 = 7) (G : Vec Ideal S4x512x512 .f32) (hG : (outsAt0 m c t.val t.isLt).2.2.2.2.1 = G) :
    (outsAt0 m c t.val t.isLt).2.1 = k0_pay1 (F := Ideal) G := by
  rw [outsAt0_C m c t h0 h1] at hG ⊢
  frame_out at hG
  frame_out
  refine congrArg (k0_pay1 (F := Ideal)) (Eq.trans ?_ hG)
  rw [View.readCov_eq_canon']
  funext j
  refine congrArg (View.canon _) (funext fun a => ?_)
  match a with
  | ⟨0, _⟩ => exact Fin.ext (by show 0 + 1 * (j 0).val = (j 0).val; omega)
  | ⟨1, _⟩ => exact Fin.ext (by show 0 + 1 * (j 1).val = (j 1).val; omega)
  | ⟨2, _⟩ => exact Fin.ext (by show 0 + 1 * (j 2).val = (j 2).val; omega)

/-- The key sum handed out at a batch's last chunk is the one carried. -/
theorem out_N (h0 : ¬t.val % 8 = 0) (h1 : t.val % 8 = 7) (G : Vec Ideal S4x1x512 .f32) (hG : (outsAt0 m c t.val t.isLt).2.2.2.2.2.1 = G) :
    (outsAt0 m c t.val t.isLt).2.2.1 = k0_pay2 (F := Ideal) G := by
  rw [outsAt0_C m c t h0 h1] at hG ⊢
  frame_out at hG
  frame_out
  refine congrArg (k0_pay2 (F := Ideal)) (Eq.trans ?_ hG)
  rw [View.readCov_eq_canon']
  funext j
  refine congrArg (View.canon _) (funext fun a => ?_)
  match a with
  | ⟨0, _⟩ => exact Fin.ext (by show 0 + 1 * (j 0).val = (j 0).val; omega)
  | ⟨1, _⟩ => exact Fin.ext (by show 0 + 1 * (j 1).val = (j 1).val; omega)
  | ⟨2, _⟩ => exact Fin.ext (by show 0 + 1 * (j 2).val = (j 2).val; omega)

/-- The stabiliser handed out at a batch's last chunk is the one carried. -/
theorem out_M (h0 : ¬t.val % 8 = 0) (h1 : t.val % 8 = 7) (G : Vec Ideal S4x1x128 .f32) (hG : (outsAt0 m c t.val t.isLt).2.2.2.2.2.2 = G) :
    (outsAt0 m c t.val t.isLt).2.2.2.1 = k0_pay3 (F := Ideal) G := by
  rw [outsAt0_C m c t h0 h1] at hG ⊢
  frame_out at hG
  frame_out
  refine congrArg (k0_pay3 (F := Ideal)) (Eq.trans ?_ hG)
  rw [View.readCov_eq_canon']
  funext j
  refine congrArg (View.canon _) (funext fun a => ?_)
  match a with
  | ⟨0, _⟩ => exact Fin.ext (by show 0 + 1 * (j 0).val = (j 0).val; omega)
  | ⟨1, _⟩ => exact Fin.ext (by show 0 + 1 * (j 1).val = (j 1).val; omega)
  | ⟨2, _⟩ => exact Fin.ext (by show 0 + 1 * (j 2).val = (j 2).val; omega)

end cases

end Cert.MlstmIdeal.Value

end
-- ==== Proof.MlstmValue.lean ====
/- The prompt's matrix recurrence: after the run the kernel's four result arrays are the reference's terms, entry by entry. -/
module

public import proofs.«01_k».proof.Proof.MlstmCases
public import proofs.«01_k».proof.Proof.SwaHead

@[expose] public section

set_option maxRecDepth 16384
set_option maxHeartbeats 2000000

noncomputable section

namespace Cert.MlstmIdeal.Value

open Cert.MlstmIdeal Cert.MlstmIdeal.Gen Idealize.ShloMosaic Idealize.ShloMosaic.TcCoe Idealize.SL.Sem
open Idealize.ShloMosaic.Pipeline (Dat)
open Cert.SwaIdeal.Value (real_of)

variable (m : (ℓ : Loc nD τ sig) → Buf (Elt Ideal) ℓ)

/-- The precondition says that every entry of the arguments is a real number. -/
theorem pre_real [Cert.Pre_finite_tokens.Facts] (x0 x1 x2 : FVec Ideal S16384x2048 .bf16) (x3 : FVec Ideal S16384x128 .f32)
    (h : (Cert.Pre_finite_tokens.fn (F := Ideal) x0 x1 x2 x3).1 = (fun _ => 1#1)
      ∧ (Cert.Pre_finite_tokens.fn (F := Ideal) x0 x1 x2 x3).2.1 = (fun _ => 1#1)
      ∧ (Cert.Pre_finite_tokens.fn (F := Ideal) x0 x1 x2 x3).2.2.1 = (fun _ => 1#1)
      ∧ (Cert.Pre_finite_tokens.fn (F := Ideal) x0 x1 x2 x3).2.2.2 = (fun _ => 1#1)) :
    (∀ i, ∃ r : ℝ, x0 i = r) ∧ (∀ i, ∃ r : ℝ, x1 i = r) ∧ (∀ i, ∃ r : ℝ, x2 i = r) ∧ (∀ i, ∃ r : ℝ, x3 i = r) :=
  ⟨fun i => real_of _ (congrFun h.1 i), fun i => real_of _ (congrFun h.2.1 i), fun i => real_of _ (congrFun h.2.2.1 i),
    fun i => real_of _ (congrFun h.2.2.2 i)⟩

section run
variable (c : Dev nD)
  (f0 : ∀ i, ∃ r : ℝ, (show FVec Ideal S16384x2048 .bf16 from m ((c : Thread nD τ).loc main_arg0)) i = r)
  (f1 : ∀ i, ∃ r : ℝ, (show FVec Ideal S16384x2048 .bf16 from m ((c : Thread nD τ).loc main_arg1)) i = r)
  (f2 : ∀ i, ∃ r : ℝ, (show FVec Ideal S16384x2048 .bf16 from m ((c : Thread nD τ).loc main_arg2)) i = r)
  (f3 : ∀ i, ∃ r : ℝ, ga m c i = r)

/-- The point before is the chunk before, of the same batch. -/
theorem before (t : Fin cfg0.N) (h0 : ¬t.val % 8 = 0) (p : t.val - 1 < cfg0.N) :
    bat ⟨t.val - 1, p⟩ = bat t ∧ 256 * (chunk ⟨t.val - 1, p⟩).val + 256 = 256 * (chunk t).val := by
  constructor
  · exact Fin.ext (by show (t.val - 1) / 8 = t.val / 8; omega)
  · show 256 * ((t.val - 1) % 8) + 256 = 256 * (t.val % 8); omega

include f1 f2 f3 in
/-- The state carried past every grid point is that of the tokens read so far. -/
theorem carried : ∀ (n : ℕ) (hn : n < cfg0.N),
    (outsAt0 m c n hn).2.2.2.2.1 = stC m c (bat ⟨n, hn⟩) (256 * (chunk ⟨n, hn⟩).val + 256)
    ∧ (outsAt0 m c n hn).2.2.2.2.2.1 = stN m c (bat ⟨n, hn⟩) (256 * (chunk ⟨n, hn⟩).val + 256)
    ∧ (outsAt0 m c n hn).2.2.2.2.2.2 = stM m c (bat ⟨n, hn⟩) (256 * (chunk ⟨n, hn⟩).val + 256) := by
  intro n
  induction n using Nat.strong_induction_on with
  | _ n ih =>
    intro hn
    by_cases h0 : n % 8 = 0
    · have h1 : ¬n % 8 = 7 := by omega
      exact ⟨C_A m c ⟨n, hn⟩ f1 f2 f3 h0 h1, N_A m c ⟨n, hn⟩ f1 f3 h0 h1, M_A m c ⟨n, hn⟩ f3 h0 h1⟩
    · have hp : n - 1 < cfg0.N := Nat.lt_of_le_of_lt (Nat.sub_le _ _) hn
      obtain ⟨iC, iN, iM⟩ := ih (n - 1) (by omega) hp
      obtain ⟨eb, ec⟩ := before ⟨n, hn⟩ h0 hp
      rw [eb, ec] at iC iN iM
      by_cases h1 : n % 8 = 7
      · exact ⟨C_C m c ⟨n, hn⟩ f1 f2 f3 h0 h1 iC iM, N_C m c ⟨n, hn⟩ f1 f3 h0 h1 iN iM, M_C m c ⟨n, hn⟩ f3 h0 h1 iM⟩
      · exact ⟨C_B m c ⟨n, hn⟩ f1 f2 f3 h0 h1 iC iM, N_B m c ⟨n, hn⟩ f1 f3 h0 h1 iN iM, M_B m c ⟨n, hn⟩ f3 h0 h1 iM⟩

include f0 f1 f2 f3 in
/-- The result block of every grid point holds what its tokens read. -/
theorem read_block (t : Fin cfg0.N) : (outsAt0 m c t.val t.isLt).1 = stO m c t := by
  by_cases h0 : t.val % 8 = 0
  · exact O_A m c t f0 f1 f2 f3 h0 (by omega)
  · have hp : t.val - 1 < cfg0.N := Nat.lt_of_le_of_lt (Nat.sub_le _ _) t.isLt
    obtain ⟨iC, iN, iM⟩ := carried m c f1 f2 f3 (t.val - 1) hp
    obtain ⟨eb, ec⟩ := before t h0 hp
    rw [eb, ec] at iC iN iM
    by_cases h1 : t.val % 8 = 7
    · exact O_C m c t f0 f1 f2 f3 h0 h1 iC iN iM
    · exact O_B m c t f0 f1 f2 f3 h0 h1 iC iN iM

end run

/-- The hypothesis that the precondition holds of the launch contents. -/
abbrev Finite [Cert.Pre_finite_tokens.Facts] (c : Dev nD) : Prop :=
  (Cert.Pre_finite_tokens.fn (F := Ideal) (m ((c : Thread nD τ).loc main_arg0)) (m ((c : Thread nD τ).loc main_arg1)) (m ((c : Thread nD τ).loc main_arg2)) (m ((c : Thread nD τ).loc main_arg3))).1 = (fun _ => 1#1)
    ∧ (Cert.Pre_finite_tokens.fn (F := Ideal) (m ((c : Thread nD τ).loc main_arg0)) (m ((c : Thread nD τ).loc main_arg1)) (m ((c : Thread nD τ).loc main_arg2)) (m ((c : Thread nD τ).loc main_arg3))).2.1 = (fun _ => 1#1)
    ∧ (Cert.Pre_finite_tokens.fn (F := Ideal) (m ((c : Thread nD τ).loc main_arg0)) (m ((c : Thread nD τ).loc main_arg1)) (m ((c : Thread nD τ).loc main_arg2)) (m ((c : Thread nD τ).loc main_arg3))).2.2.1 = (fun _ => 1#1)
    ∧ (Cert.Pre_finite_tokens.fn (F := Ideal) (m ((c : Thread nD τ).loc main_arg0)) (m ((c : Thread nD τ).loc main_arg1)) (m ((c : Thread nD τ).loc main_arg2)) (m ((c : Thread nD τ).loc main_arg3))).2.2.2 = (fun _ => 1#1)

/-- What a token reads is the reference's entry. -/
theorem O_at (c : Dev nD) (t : Fin cfg0.N)
    (f0 : ∀ i, ∃ r : ℝ, (show FVec Ideal S16384x2048 .bf16 from m ((c : Thread nD τ).loc main_arg0)) i = r)
    (f1 : ∀ i, ∃ r : ℝ, (show FVec Ideal S16384x2048 .bf16 from m ((c : Thread nD τ).loc main_arg1)) i = r)
    (f2 : ∀ i, ∃ r : ℝ, (show FVec Ideal S16384x2048 .bf16 from m ((c : Thread nD τ).loc main_arg2)) i = r)
    (f3 : ∀ i, ∃ r : ℝ, ga m c i = r) (j : S256x2048.Idx) (i : S16384x2048.Idx) (h0 : (i 0).val = t.val * 256 + (j 0).val) (h1 : (i 1).val = (j 1).val) :
    stO m c t j = MlstmRefIdeal.Read.val_main_v62 (F := Ideal) (m ((c : Thread nD τ).loc main_arg0)) (m ((c : Thread nD τ).loc main_arg1)) (m ((c : Thread nD τ).loc main_arg2)) (m ((c : Thread nD τ).loc main_arg3)) i := by
  have hN := (idx t).2.2.2.2.2
  have j0 : (j 0).val < 256 := (j 0).isLt
  have j1 : (j 1).val < 2048 := (j 1).isLt
  have hk : (chunk t).val = t.val % 8 := rfl
  have hb : (bat t).val = t.val / 8 := rfl
  refine Eq.trans ?_ (congrArg _ (eq_ix2 i)).symm
  rw [MlstmRefIdeal.Read.ref_out _ _ _ _ f0 f1 f2 f3 (bat t) ⟨(j 1).val / 512, by omega⟩ ⟨256 * (chunk t).val + (j 0).val, by omega⟩
      ⟨(j 1).val % 512, by omega⟩ (i 0) (i 1) (by show (i 0).val = (bat t).val * 2048 + (256 * (chunk t).val + (j 0).val); omega)
      (by show (i 1).val = (j 1).val / 512 * 512 + (j 1).val % 512; omega)]
  unfold stO
  rfl

/-- The matrix state handed out is the reference's. -/
theorem C_at (c : Dev nD) (f1 : ∀ i, ∃ r : ℝ, (show FVec Ideal S16384x2048 .bf16 from m ((c : Thread nD τ).loc main_arg1)) i = r) (f2 : ∀ i, ∃ r : ℝ, (show FVec Ideal S16384x2048 .bf16 from m ((c : Thread nD τ).loc main_arg2)) i = r) (f3 : ∀ i, ∃ r : ℝ, ga m c i = r) (b : Fin 8)
    (j : S1x4x512x512.Idx) (i : S8x4x512x512.Idx) (h0 : (i 0).val = b.val) (h1 : (i 1).val = (j 1).val) (h2 : (i 2).val = (j 2).val) (h3 : (i 3).val = (j 3).val) :
    k0_pay1 (F := Ideal) (stC m c b 2048) j = MlstmRefIdeal.Read.val_main_v60 (F := Ideal) (m ((c : Thread nD τ).loc main_arg1)) (m ((c : Thread nD τ).loc main_arg2)) (m ((c : Thread nD τ).loc main_arg3)) i := by
  have j0 : (j 0).val < 1 := (j 0).isLt
  have ej : j = ix4 0 (j 1) (j 2) (j 3) := (eq_ix4 j).trans ((ix4_inj ..).2 ⟨Fin.ext (by show (j 0).val = 0; omega), rfl, rfl, rfl⟩)
  have ei : i = ix4 b (j 1) (j 2) (j 3) := (eq_ix4 i).trans ((ix4_inj ..).2 ⟨Fin.ext h0, Fin.ext h1, Fin.ext h2, Fin.ext h3⟩)
  refine Eq.trans (congrArg _ ej) (Eq.trans ?_ (congrArg _ ei).symm)
  refine Eq.trans ?_ (MlstmRefIdeal.Read.ref_C _ _ _ f1 f2 f3 b (j 1) (j 2) (j 3)).symm
  refine Eq.trans (b := stC m c b 2048 (ix3 (j 1) (j 2) (j 3))) ?_ (by unfold stC; rfl)
  pointwise [k0_pay1]

/-- The key sum handed out is the reference's. -/
theorem N_at (c : Dev nD) (f1 : ∀ i, ∃ r : ℝ, (show FVec Ideal S16384x2048 .bf16 from m ((c : Thread nD τ).loc main_arg1)) i = r) (f3 : ∀ i, ∃ r : ℝ, ga m c i = r) (b : Fin 8)
    (j : S1x4x1x512.Idx) (i : S8x4x1x512.Idx) (h0 : (i 0).val = b.val) (h1 : (i 1).val = (j 1).val) (h3 : (i 3).val = (j 3).val) :
    k0_pay2 (F := Ideal) (stN m c b 2048) j = MlstmRefIdeal.Read.val_main_v64 (F := Ideal) (m ((c : Thread nD τ).loc main_arg1)) (m ((c : Thread nD τ).loc main_arg3)) i := by
  have j0 : (j 0).val < 1 := (j 0).isLt
  have j2 : (j 2).val < 1 := (j 2).isLt
  have i2 : (i 2).val < 1 := (i 2).isLt
  have ej : j = ix4 0 (j 1) 0 (j 3) := (eq_ix4 j).trans ((ix4_inj ..).2 ⟨Fin.ext (by show (j 0).val = 0; omega), rfl, Fin.ext (by show (j 2).val = 0; omega), rfl⟩)
  have ei : i = ix4 b (j 1) 0 (j 3) := (eq_ix4 i).trans ((ix4_inj ..).2 ⟨Fin.ext h0, Fin.ext h1, Fin.ext (by show (i 2).val = 0; omega), Fin.ext h3⟩)
  refine Eq.trans (congrArg _ ej) (Eq.trans ?_ (congrArg _ ei).symm)
  refine Eq.trans ?_ (MlstmRefIdeal.Read.ref_N _ _ f1 f3 b (j 1) (j 3)).symm
  refine Eq.trans (b := stN m c b 2048 (ix3 (j 1) 0 (j 3))) ?_ (by unfold stN; rfl)
  pointwise [k0_pay2]

/-- The stabiliser handed out is the reference's. -/
theorem M_at (c : Dev nD) (f3 : ∀ i, ∃ r : ℝ, ga m c i = r) (b : Fin 8)
    (j : S1x4x1x128.Idx) (i : S8x4x1x128.Idx) (h0 : (i 0).val = b.val) (h1 : (i 1).val = (j 1).val) (h3 : (i 3).val = (j 3).val) :
    k0_pay3 (F := Ideal) (stM m c b 2048) j = MlstmRefIdeal.Read.val_main_v66 (F := Ideal) (m ((c : Thread nD τ).loc main_arg3)) i := by
  have j0 : (j 0).val < 1 := (j 0).isLt
  have j2 : (j 2).val < 1 := (j 2).isLt
  have i2 : (i 2).val < 1 := (i 2).isLt
  have ej : j = ix4 0 (j 1) 0 (j 3) := (eq_ix4 j).trans ((ix4_inj ..).2 ⟨Fin.ext (by show (j 0).val = 0; omega), rfl, Fin.ext (by show (j 2).val = 0; omega), rfl⟩)
  have ei : i = ix4 b (j 1) 0 (j 3) := (eq_ix4 i).trans ((ix4_inj ..).2 ⟨Fin.ext h0, Fin.ext h1, Fin.ext (by show (i 2).val = 0; omega), Fin.ext h3⟩)
  refine Eq.trans (congrArg _ ej) (Eq.trans ?_ (congrArg _ ei).symm)
  refine Eq.trans ?_ (MlstmRefIdeal.Read.ref_M _ f3 b (j 1) (j 3)).symm
  refine Eq.trans (b := stM m c b 2048 (ix3 (j 1) 0 (j 3))) ?_ (by unfold stM; rfl)
  pointwise [k0_pay3]

/-- What the tokens read, after the run. -/
theorem final_h [Cert.Pre_finite_tokens.Facts] (c : Dev nD) (h : Finite m c) :
    (dats m 0 c).arrAt 5 cfg0.N = MlstmRefIdeal.Read.val_main_v62 (F := Ideal) (m ((c : Thread nD τ).loc main_arg0)) (m ((c : Thread nD τ).loc main_arg1)) (m ((c : Thread nD τ).loc main_arg2)) (m ((c : Thread nD τ).loc main_arg3)) := by
  obtain ⟨f0, f1, f2, f3⟩ := pre_real _ _ _ _ h
  refine (dats m 0 c).arrAt_eq_of_covers 5 _ (by decide +kernel) fun t _ y => ?_
  blk_simp
  rw [after0_5, read_block m c f0 f1 f2 f3 t]
  refine O_at m c t f0 f1 f2 f3 _ _ ?_ ?_
  · blk_simp; rw [(idx_out t).1]; rfl
  · blk_simp; rw [(idx_out t).1]; show 0 * 2048 + (y 1).val = (y 1).val; omega

/-- The matrix state handed out, after the run. -/
theorem final_C [Cert.Pre_finite_tokens.Facts] (c : Dev nD) (h : Finite m c) :
    (dats m 0 c).arrAt 6 cfg0.N = MlstmRefIdeal.Read.val_main_v60 (F := Ideal) (m ((c : Thread nD τ).loc main_arg1)) (m ((c : Thread nD τ).loc main_arg2)) (m ((c : Thread nD τ).loc main_arg3)) := by
  obtain ⟨f0, f1, f2, f3⟩ := pre_real _ _ _ _ h
  refine (dats m 0 c).arrAt_eq_of_covers 6 _ (by decide +kernel) fun t hf y => ?_
  have h1 : t.val % 8 = 7 := (flush0_6 t).mp hf
  have hk : 256 * (chunk t).val + 256 = 2048 := by show 256 * (t.val % 8) + 256 = 2048; omega
  have y0 : (y 0).val < 1 := (y 0).isLt
  blk_simp
  rw [after0_6, out_C m c t (by omega) h1 _ (carried m c f1 f2 f3 t.val t.isLt).1, hk]
  refine C_at m c f1 f2 f3 (bat t) _ _ ?_ ?_ ?_ ?_
  · blk_simp; rw [(idx_out t).2.1]; rfl
  · blk_simp; rw [(idx_out t).2.1]; show 0 * 4 + (y 1).val = (y 1).val; omega
  · blk_simp; rw [(idx_out t).2.1]; show 0 * 512 + (y 2).val = (y 2).val; omega
  · blk_simp; rw [(idx_out t).2.1]; show 0 * 512 + (y 3).val = (y 3).val; omega

/-- The key sum handed out, after the run. -/
theorem final_N [Cert.Pre_finite_tokens.Facts] (c : Dev nD) (h : Finite m c) :
    (dats m 0 c).arrAt 7 cfg0.N = MlstmRefIdeal.Read.val_main_v64 (F := Ideal) (m ((c : Thread nD τ).loc main_arg1)) (m ((c : Thread nD τ).loc main_arg3)) := by
  obtain ⟨f0, f1, f2, f3⟩ := pre_real _ _ _ _ h
  refine (dats m 0 c).arrAt_eq_of_covers 7 _ (by decide +kernel) fun t hf y => ?_
  have h1 : t.val % 8 = 7 := (flush0_7 t).mp hf
  have hk : 256 * (chunk t).val + 256 = 2048 := by show 256 * (t.val % 8) + 256 = 2048; omega
  have y0 : (y 0).val < 1 := (y 0).isLt
  blk_simp
  rw [after0_7, out_N m c t (by omega) h1 _ (carried m c f1 f2 f3 t.val t.isLt).2.1, hk]
  refine N_at m c f1 f3 (bat t) _ _ ?_ ?_ ?_
  · blk_simp; rw [(idx_out t).2.2.1]; rfl
  · blk_simp; rw [(idx_out t).2.2.1]; show 0 * 4 + (y 1).val = (y 1).val; omega
  · blk_simp; rw [(idx_out t).2.2.1]; show 0 * 512 + (y 3).val = (y 3).val; omega

/-- The stabiliser handed out, after the run. -/
theorem final_M [Cert.Pre_finite_tokens.Facts] (c : Dev nD) (h : Finite m c) :
    (dats m 0 c).arrAt 8 cfg0.N = MlstmRefIdeal.Read.val_main_v66 (F := Ideal) (m ((c : Thread nD τ).loc main_arg3)) := by
  obtain ⟨f0, f1, f2, f3⟩ := pre_real _ _ _ _ h
  refine (dats m 0 c).arrAt_eq_of_covers 8 _ (by decide +kernel) fun t hf y => ?_
  have h1 : t.val % 8 = 7 := (flush0_8 t).mp hf
  have hk : 256 * (chunk t).val + 256 = 2048 := by show 256 * (t.val % 8) + 256 = 2048; omega
  have y0 : (y 0).val < 1 := (y 0).isLt
  blk_simp
  rw [after0_8, out_M m c t (by omega) h1 _ (carried m c f1 f2 f3 t.val t.isLt).2.2, hk]
  refine M_at m c f3 (bat t) _ _ ?_ ?_ ?_
  · blk_simp; rw [(idx_out t).2.2.2]; rfl
  · blk_simp; rw [(idx_out t).2.2.2]; show 0 * 4 + (y 1).val = (y 1).val; omega
  · blk_simp; rw [(idx_out t).2.2.2]; show 0 * 128 + (y 3).val = (y 3).val; omega

end Cert.MlstmIdeal.Value

end
-- ==== Proof.GatesValue.lean ====
/- The gate tables of the prompt: after the run the kernel's two tables are the reference's, entry by entry. The kernel sums
   a chunk's logarithms by doubling: eight times it adds the sums so far to themselves, shifted by a power of two. -/
module

public import proofs.«01_k».proof.Proof.Gen.GatesIdeal.Value
public import proofs.«01_k».proof.Proof.GatesRef
public import proofs.«01_k».proof.Proof.StepValue
public import Idealize.ShloMosaic.Lib.KernelVsHost

@[expose] public section

set_option maxRecDepth 16384

noncomputable section

namespace Cert.GatesIdeal.Value

open Cert.GatesIdeal Cert.GatesIdeal.Gen Idealize.ShloMosaic Idealize.ShloMosaic.TcCoe Idealize.SL.Sem
open Idealize.ShloMosaic.Pipeline (Dat)
open Cert.MlstmRefIdeal.Read (LSig)
open Cert.StepIdeal.Value (LS lsig_eq)

/-! ## Sums by doubling -/

/-- The sum of the last `w` entries up to entry `t`, as far as there are so many. -/
def back (w : ℕ) (a : ℕ → EReal) (t : ℕ) : EReal := ∑ j ∈ Finset.range w, if j ≤ t then a (t - j) else 0

/-- The last `w` entries and the `w` entries before them. -/
theorem back_double (w : ℕ) (a : ℕ → EReal) (t : ℕ) : back w a t + (if w ≤ t then back w a (t - w) else 0) = back (w + w) a t := by
  unfold back
  rw [Finset.sum_range_add]
  refine congrArg _ ?_
  split_ifs with h
  · refine Finset.sum_congr rfl fun j _ => ?_
    by_cases h2 : j ≤ t - w
    · rw [if_pos h2, if_pos (by omega), show t - w - j = t - (w + j) by omega]
    · rw [if_neg h2, if_neg (by omega)]
  · exact (Finset.sum_eq_zero fun j _ => if_neg (by omega)).symm

/-- All entries up to entry `t`. -/
theorem back_all (a : ℕ → EReal) (t : Fin 256) : back 256 a t.val = ∑ s : Fin 256, if s ≤ t then a s.val else 0 := by
  have ht := t.isLt
  have h : ∀ s : Fin 256, (if s ≤ t then a s.val else 0) = (fun i : ℕ => if i ≤ t.val then a i else 0) s.val := fun s => rfl
  have hf : (Finset.range 256).filter (fun i => i ≤ t.val) = Finset.range (t.val + 1) := by
    ext i; simp only [Finset.mem_range, Finset.mem_filter]; omega
  rw [Finset.sum_congr rfl fun s _ => h s, Fin.sum_univ_eq_sum_range (fun i : ℕ => if i ≤ t.val then a i else 0) 256, ← Finset.sum_filter, hf,
    ← Finset.sum_range_reflect]
  unfold back
  rw [← Finset.sum_filter, hf]
  exact Finset.sum_congr rfl fun j _ => rfl

/-- The last entry alone. -/
theorem back_one (a : ℕ → EReal) (t : ℕ) : back 1 a t = a t := by
  unfold back
  rw [Finset.sum_range_one, if_pos (Nat.zero_le t), Nat.sub_zero]

/-! ## The kernel's rounds -/

/-- A token's number in its chunk. -/
theorem pos : ∀ (p : Fin 2048), k0_pay4 (ix2 (0 : Fin 8) p) = BitVec.ofNat 32 (p.val % 256) := by
  decide +kernel

/-- A token's number in its chunk, in every row. -/
theorem pos_row (f : Fin 8) (p : Fin 2048) : k0_pay4 (ix2 f p) = BitVec.ofNat 32 (p.val % 256) := pos p

/-- Which rows are forget gates. -/
theorem isf (f : Fin 8) (p : Fin 2048) : k0_pay5 (ix2 f p) = if 4 ≤ f.val then 1#1 else 0#1 := by
  have h : ∀ f : Fin 8, IntOp.cmpi CmpIPredicate.sge (BitVec.ofNat 32 f.val) 4#32 = if 4 ≤ f.val then 1#1 else 0#1 := by decide +kernel
  pointwise [k0_pay5]
  exact h f

/-- One round: the sums so far and the same shifted by `wb` tokens, where the chunk reaches so far back. -/
def rnd (wb : BitVec 32) (X : FVec Ideal S8x2048 .f32) : FVec Ideal S8x2048 .f32 :=
  addf X (select (cmpi .sge k0_pay4 (broadcast S8x2048 wb)) (dynamicRotate 1 wb none X rotates_S8x2048_d1)
    (broadcast S8x2048 (Scalar.ofBits .f32 0x00000000#32)))

/-- A round doubles the number of the tokens summed. -/
theorem rnd_at (wb : BitVec 32) (w : ℕ) (hw : wb.toNat = w) (hw1 : w < 256)
    (hc : ∀ t : Fin 256, IntOp.cmpi CmpIPredicate.sge (BitVec.ofNat 32 t.val) wb = if w ≤ t.val then 1#1 else 0#1)
    (X : FVec Ideal S8x2048 .f32) (f : Fin 8) (a : ℕ → ℕ → EReal)
    (hX : ∀ (c : Fin 8) (t : Fin 256), X (ix2 f ⟨c.val * 256 + t.val, by omega⟩) = back w (a c.val) t.val) (c : Fin 8) (t : Fin 256) :
    rnd wb X (ix2 f ⟨c.val * 256 + t.val, by omega⟩) = back (w + w) (a c.val) t.val := by
  rw [← back_double, ← hX]
  have hz : (Scalar.ofBits .f32 0x00000000#32 : Ideal .f32) = (0 : EReal) := by pointwise
  refine congrArg (fun z : EReal => (X (ix2 f ⟨c.val * 256 + t.val, by omega⟩) : EReal) + z) ?_
  show Scalar.select (IntOp.cmpi CmpIPredicate.sge (k0_pay4 (ix2 f ⟨c.val * 256 + t.val, by omega⟩)) wb)
    (dynamicRotate 1 wb none X rotates_S8x2048_d1 (ix2 f ⟨c.val * 256 + t.val, by omega⟩)) (Scalar.ofBits .f32 0x00000000#32 : Ideal .f32) = _
  rw [pos_row, show (⟨c.val * 256 + t.val, by omega⟩ : Fin 2048).val % 256 = t.val by show (c.val * 256 + t.val) % 256 = t.val; omega, hc t]
  by_cases h : w ≤ t.val
  · rw [if_pos h, if_pos h]
    show dynamicRotate 1 wb none X rotates_S8x2048_d1 (ix2 f ⟨c.val * 256 + t.val, by omega⟩) = _
    rw [dynamicRotate_apply (1 : Fin 2) wb X rotates_S8x2048_d1 (ix2 f ⟨c.val * 256 + t.val, by omega⟩) (ix2 f ⟨c.val * 256 + (t.val - w), by omega⟩) (by
      intro b
      match b with
      | ⟨0, _⟩ => rfl
      | ⟨1, _⟩ =>
        show c.val * 256 + (t.val - w) = (c.val * 256 + t.val + 2048 - wb.toNat % 2048) % 2048
        rw [hw]; omega)]
    exact hX c ⟨t.val - w, by omega⟩
  · rw [if_neg h, if_neg h]
    exact hz

/-- The first eight columns of the block, as rows. -/
theorem top (v : FVec Ideal S2048x128 .f32) (f : Fin 8) (p : Fin 2048) : k0_pay3 (F := Ideal) v (ix2 f p) = v (ix2 p ⟨f.val, by omega⟩) := by
  pointwise [k0_pay3]

/-- The logarithms before they are summed; zero in the input gates' rows. -/
def base (v : FVec Ideal S2048x128 .f32) : FVec Ideal S8x2048 .f32 :=
  select k0_pay5 (subf (minimumf (k0_pay3 v) (broadcast S8x2048 (Scalar.ofBits .f32 0x00000000#32)))
    (log1p (exp (subf (broadcast S8x2048 (Scalar.ofBits .f32 0x00000000#32)) (absf (k0_pay3 v))))))
    (broadcast S8x2048 (Scalar.ofBits .f32 0x00000000#32))

/-- The logarithm of the sigmoid, written in two ways. -/
theorem ls_lsig (x : EReal) : LS x = LSig x := by
  rw [← lsig_eq, if_neg (fun h => h rfl)]
  rfl

/-- The logarithm of a token's forget gate. -/
theorem base_f (v : FVec Ideal S2048x128 .f32) (f : Fin 8) (hf : 4 ≤ f.val) (p : Fin 2048) :
    base v (ix2 f p) = LSig (v (ix2 p ⟨f.val, by omega⟩)) := by
  rw [← ls_lsig, ← top v f p]
  have hz : (Scalar.ofBits .f32 0x00000000#32 : Ideal .f32) = (0 : EReal) := by pointwise
  show Scalar.select (k0_pay5 (ix2 f p)) (min (k0_pay3 (F := Ideal) v (ix2 f p) : EReal) (Scalar.ofBits .f32 0x00000000#32 : Ideal .f32)
    - Ideal.log1p (Ideal.exp ((Scalar.ofBits .f32 0x00000000#32 : Ideal .f32) - FloatOps.absf (F := Ideal) (φ := .f32) (k0_pay3 (F := Ideal) v (ix2 f p)))))
    (Scalar.ofBits .f32 0x00000000#32 : Ideal .f32) = _
  rw [isf, if_pos hf, hz]
  rfl

/-- The kernel's table. -/
def tab (v : FVec Ideal S2048x128 .f32) : FVec Ideal S8x2048 .f32 :=
  k0_pay9 (k0_pay3 v) k0_pay4 k0_pay5 (k0_pay6 v) k0_pay7 (k0_pay8 v)

/-- The kernel's table is the input gates and the eighth round of the sums. -/
theorem tab_eq (v : FVec Ideal S2048x128 .f32) : tab v = select k0_pay5
    (rnd 128#32 (rnd 64#32 (rnd 32#32 (rnd 16#32 (rnd 8#32 (rnd 4#32 (rnd 2#32 (rnd 1#32 (base v))))))))) (k0_pay3 v) := rfl

/-- The table, as the call's body names it. -/
theorem pay10 (v : FVec Ideal S2048x128 .f32) : k0_pay10 (F := Ideal) v = tab v := by
  have h : (show FVec Ideal S2048x128 .f32 from View.ld (Val := Elt Ideal) (e' := .f32) v r0_0) = v := by
    funext i
    exact congrArg v (funext fun a => Fin.ext (by
      match a with
      | ⟨0, _⟩ => show 0 + 1 * (i 0).val = (i 0).val; omega
      | ⟨1, _⟩ => show 0 + 1 * (i 1).val = (i 1).val; omega))
  exact congrArg (fun z : FVec Ideal S2048x128 .f32 => k0_pay9 (F := Ideal) (k0_pay3 z) k0_pay4 k0_pay5 (k0_pay6 z) k0_pay7 (k0_pay8 z)) h

/-- The table's input gates. -/
theorem tab_in (v : FVec Ideal S2048x128 .f32) (f : Fin 8) (hf : f.val < 4) (p : Fin 2048) : tab v (ix2 f p) = v (ix2 p ⟨f.val, by omega⟩) := by
  rw [← top v f p, tab_eq]
  show Scalar.select (k0_pay5 (ix2 f p)) _ (k0_pay3 (F := Ideal) v (ix2 f p)) = _
  rw [isf, if_neg (by omega)]
  rfl

/-- The table's running sums. -/
theorem tab_sum (v : FVec Ideal S2048x128 .f32) (f : Fin 8) (hf : 4 ≤ f.val) (c : Fin 8) (t : Fin 256) : tab v (ix2 f ⟨c.val * 256 + t.val, by omega⟩)
    = ∑ s : Fin 256, if s ≤ t then LSig (v (ix2 ⟨c.val * 256 + s.val, by omega⟩ ⟨f.val, by omega⟩)) else 0 := by
  let a : ℕ → ℕ → EReal := fun c s => LSig (v (ix2 ⟨(c * 256 + s) % 2048, Nat.mod_lt _ (by decide)⟩ ⟨f.val, by omega⟩))
  have h0 : ∀ (c : Fin 8) (t : Fin 256), base v (ix2 f ⟨c.val * 256 + t.val, by omega⟩) = back 1 (a c.val) t.val := fun c t => by
    rw [back_one, base_f v f hf]
    exact congrArg (fun z => LSig (v (ix2 z ⟨f.val, by omega⟩))) (Fin.ext (by show c.val * 256 + t.val = (c.val * 256 + t.val) % 2048; omega))
  have h1 := rnd_at 1#32 1 rfl (by omega) (by decide +kernel) _ f a h0
  have h2 := rnd_at 2#32 2 rfl (by omega) (by decide +kernel) _ f a h1
  have h3 := rnd_at 4#32 4 rfl (by omega) (by decide +kernel) _ f a h2
  have h4 := rnd_at 8#32 8 rfl (by omega) (by decide +kernel) _ f a h3
  have h5 := rnd_at 16#32 16 rfl (by omega) (by decide +kernel) _ f a h4
  have h6 := rnd_at 32#32 32 rfl (by omega) (by decide +kernel) _ f a h5
  have h7 := rnd_at 64#32 64 rfl (by omega) (by decide +kernel) _ f a h6
  have h8 := rnd_at 128#32 128 rfl (by omega) (by decide +kernel) _ f a h7
  have h9 : tab v (ix2 f ⟨c.val * 256 + t.val, by omega⟩) = back 256 (a c.val) t.val := by
    rw [← h8 c t, tab_eq]
    show Scalar.select (k0_pay5 (ix2 f _)) _ _ = _
    rw [isf, if_pos hf]
    rfl
  rw [h9, back_all]
  refine Finset.sum_congr rfl fun s _ => ?_
  split
  · exact congrArg (fun z => LSig (v (ix2 z ⟨f.val, by omega⟩))) (Fin.ext (by show (c.val * 256 + s.val) % 2048 = c.val * 256 + s.val; omega))
  · rfl

/-- A block's table is the reference's. -/
theorem tab_ref (x : FVec Ideal S16384x128 .f32) (v : FVec Ideal S2048x128 .f32) (b : Fin 8)
    (hv : ∀ (p : Fin 2048) (l : Fin 128), v (ix2 p l) = x (ix2 ⟨b.val * 2048 + p.val, by omega⟩ l)) (f : Fin 8) (p : Fin 2048) :
    tab v (ix2 f p) = GatesRefIdeal.Read.val_main_v13 (F := Ideal) x (ix3 b p f) := by
  by_cases hf : f.val < 4
  · rw [tab_in v f hf, hv]
    exact ((GatesRefIdeal.Read.g13_i x b p ⟨f.val, hf⟩).trans (GatesRefIdeal.Read.g1 x b p ⟨f.val, hf⟩)).symm
  · obtain ⟨c, t, rfl⟩ : ∃ (c : Fin 8) (t : Fin 256), p = ⟨c.val * 256 + t.val, by have := c.isLt; have := t.isLt; clear hf; omega⟩ :=
      ⟨⟨p.val / 256, by omega⟩, ⟨p.val % 256, by omega⟩, Fin.ext (by show p.val = p.val / 256 * 256 + p.val % 256; omega)⟩
    have ef : f = ⟨4 + (⟨f.val - 4, by omega⟩ : Fin 4).val, by dsimp only; omega⟩ := Fin.ext (by show f.val = 4 + (f.val - 4); omega)
    rw [tab_sum v f (by omega)]
    refine Eq.trans ?_ (congrArg (fun z => GatesRefIdeal.Read.val_main_v13 (F := Ideal) x (ix3 b _ z)) ef).symm
    rw [GatesRefIdeal.Read.g13_f, GatesRefIdeal.Read.g11]
    refine Finset.sum_congr rfl fun s _ => ?_
    rw [GatesRefIdeal.Read.g3, hv]
    split
    · refine congrArg LSig (congrArg x ((ix2_inj ..).2 ⟨Fin.ext ?_, Fin.ext ?_⟩))
      · show b.val * 2048 + (c.val * 256 + s.val) = b.val * 2048 + c.val * 256 + s.val; omega
      · show f.val = 4 + (f.val - 4); omega
    · rfl

/-! ## The two tables -/

/-- The row table's block. -/
theorem row_at (L : FVec Ideal S8x2048 .f32) (f : Fin 8) (p : Fin 2048) : k0_pay1 (F := Ideal) L (ix3 0 f p) = L (ix2 f p) := by
  pointwise [k0_pay1]

/-- The column table's block, in its first eight columns. -/
theorem col_at (L : FVec Ideal S8x2048 .f32) (f : Fin 8) (p : Fin 2048) : k0_pay2 (F := Ideal) L (ix2 p ⟨f.val, by omega⟩) = L (ix2 f p) := by
  pointwise [k0_pay2]

/-- The column table's block, in its other columns. -/
theorem col_rest (L : FVec Ideal S8x2048 .f32) (l : Fin 128) (hl : 8 ≤ l.val) (p : Fin 2048) : k0_pay2 (F := Ideal) L (ix2 p l) = (0 : EReal) := by
  obtain ⟨k, rfl⟩ : ∃ k : Fin 120, l = ⟨8 + k.val, Nat.add_lt_add_left k.isLt 8⟩ := ⟨⟨l.val - 8, by omega⟩, Fin.ext (by show l.val = 8 + (l.val - 8); omega)⟩
  pointwise [k0_pay2]

/-- The reference's column table, in its other columns. -/
theorem ref_rest (x : FVec Ideal S16384x128 .f32) (l : Fin 128) (hl : 8 ≤ l.val) (R : Fin 16384) :
    GatesRefIdeal.Read.val_main_v17 (F := Ideal) x (ix2 R l) = (0 : EReal) := by
  obtain ⟨k, rfl⟩ : ∃ k : Fin 120, l = ⟨8 + k.val, Nat.add_lt_add_left k.isLt 8⟩ := ⟨⟨l.val - 8, by omega⟩, Fin.ext (by show l.val = 8 + (l.val - 8); omega)⟩
  unfold GatesRefIdeal.Read.val_main_v17
  generalize GatesRefIdeal.Read.val_main_v16 (F := Ideal) x = A
  pointwise [GatesRefIdeal.Read.val_main_v14, GatesRefIdeal.Read.val_main_cst_1]

variable (m : (ℓ : Loc nD τ sig) → Buf (Elt Ideal) ℓ)

/-- Which block each window reads or writes at grid point `t`. -/
theorem idx : ∀ t : Fin cfg0.N, win0_0.index t = ![t.val, 0] ∧ win0_1.index t = ![t.val, 0, 0] ∧ win0_2.index t = ![t.val, 0] ∧ t.val < 8 :=
  (by decide +kernel : ∀ t : Fin grid0.N, _)

/-- The block of the gates at a grid point. -/
theorem blk0 (c : Dev nD) (t : Fin cfg0.N) (p : Fin 2048) (l : Fin 128) :
    iblk m c 0 t (ix2 p l) = m ((c : Thread nD τ).loc main_arg0) (ix2 ⟨t.val * 2048 + p.val, by have := (idx t).2.2.2; omega⟩ l) := by
  blk_ext [iblk, idx t]

/-- The row table after the run. -/
theorem final_row (c : Dev nD) : (dats m 0 c).arrAt 1 cfg0.N = GatesRefIdeal.Read.val_main_v15 (F := Ideal) (m ((c : Thread nD τ).loc main_arg0)) := by
  refine (dats m 0 c).arrAt_eq_of_covers 1 _ (by decide +kernel) fun t _ y => ?_
  blk_simp
  rw [after0_1]; frame_out
  rw [pay10]
  have h1 := (idx t).2.2.2
  have hy0 : (y 0 : ℕ) < 1 := (y 0).isLt
  obtain ⟨f, p, rfl⟩ : ∃ f : Fin 8, ∃ p : Fin 2048, y = ix3 0 f p := by
    refine ⟨y 1, y 2, ?_⟩
    funext a
    match a with
    | ⟨0, _⟩ => exact Fin.ext (Nat.lt_one_iff.mp hy0)
    | ⟨1, _⟩ => exact rfl
    | ⟨2, _⟩ => exact rfl
  refine (row_at _ f p).trans ?_
  rw [tab_ref (m ((c : Thread nD τ).loc main_arg0)) _ ⟨t.val, h1⟩ (fun p l => blk0 m c t p l), ← GatesRefIdeal.Read.g15]
  refine congrArg _ ?_
  blk_ext [idx t]

/-- The column table after the run. -/
theorem final_col (c : Dev nD) : (dats m 0 c).arrAt 2 cfg0.N = GatesRefIdeal.Read.val_main_v17 (F := Ideal) (m ((c : Thread nD τ).loc main_arg0)) := by
  refine (dats m 0 c).arrAt_eq_of_covers 2 _ (by decide +kernel) fun t _ y => ?_
  blk_simp
  rw [after0_2]; frame_out
  rw [pay10]
  have h1 := (idx t).2.2.2
  obtain ⟨p, l, rfl⟩ : ∃ p : Fin 2048, ∃ l : Fin 128, y = ix2 p l := ⟨y 0, y 1, eq_ix2 y⟩
  have key : k0_pay2 (F := Ideal) (tab (iblk m c 0 t)) (ix2 p l)
      = GatesRefIdeal.Read.val_main_v17 (F := Ideal) (m ((c : Thread nD τ).loc main_arg0)) (ix2 ⟨t.val * 2048 + p.val, by omega⟩ l) := by
    by_cases hl : l.val < 8
    · refine (col_at (tab (iblk m c 0 t)) ⟨l.val, hl⟩ p).trans ?_
      rw [tab_ref (m ((c : Thread nD τ).loc main_arg0)) _ ⟨t.val, h1⟩ (fun p l => blk0 m c t p l)]
      exact (GatesRefIdeal.Read.g17 _ ⟨t.val, h1⟩ p ⟨l.val, hl⟩ _ rfl).symm
    · rw [col_rest _ l (by omega), ref_rest _ l (by omega)]
  refine key.trans (congrArg _ ?_)
  blk_ext [idx t]

end Cert.GatesIdeal.Value

end
-- ==== Proof.lean ====
module

public import proofs.«01_k».proof.Defs
public import proofs.«01_k».proof.Proof.Gen.Lin
public import proofs.«01_k».proof.Proof.Gen.Lin.Skeleton
public import proofs.«01_k».proof.Proof.Gen.Lin.Launch
public import proofs.«01_k».proof.Proof.Gen.Lin.Points
public import proofs.«01_k».proof.Proof.Gen.Lin.Frame
public import proofs.«01_k».proof.Proof.Gen.LinIdeal
public import proofs.«01_k».proof.Proof.Gen.LinIdeal.Skeleton
public import proofs.«01_k».proof.Proof.Gen.LinIdeal.Launch
public import proofs.«01_k».proof.Proof.Gen.LinIdeal.Points
public import proofs.«01_k».proof.Proof.Gen.LinIdeal.Frame
public import proofs.«01_k».proof.Proof.Gen.LinRefIdeal
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.Plain
public import proofs.«01_k».proof.Proof.Gen.Plain.Skeleton
public import proofs.«01_k».proof.Proof.Gen.Plain.Launch
public import proofs.«01_k».proof.Proof.Gen.Plain.Points
public import proofs.«01_k».proof.Proof.Gen.Plain.Frame
public import proofs.«01_k».proof.Proof.Gen.PlainIdeal
public import proofs.«01_k».proof.Proof.Gen.PlainIdeal.Skeleton
public import proofs.«01_k».proof.Proof.Gen.PlainIdeal.Launch
public import proofs.«01_k».proof.Proof.Gen.PlainIdeal.Points
public import proofs.«01_k».proof.Proof.Gen.PlainIdeal.Frame
public import proofs.«01_k».proof.Proof.Gen.PlainRefIdeal
public import proofs.«01_k».proof.Proof.Gen.LinS
public import proofs.«01_k».proof.Proof.Gen.LinS.Skeleton
public import proofs.«01_k».proof.Proof.Gen.LinS.Launch
public import proofs.«01_k».proof.Proof.Gen.LinS.Points
public import proofs.«01_k».proof.Proof.Gen.LinS.Frame
public import proofs.«01_k».proof.Proof.Gen.LinSIdeal
public import proofs.«01_k».proof.Proof.Gen.LinSIdeal.Skeleton
public import proofs.«01_k».proof.Proof.Gen.LinSIdeal.Launch
public import proofs.«01_k».proof.Proof.Gen.LinSIdeal.Points
public import proofs.«01_k».proof.Proof.Gen.LinSIdeal.Frame
public import proofs.«01_k».proof.Proof.Gen.LinSRefIdeal
public import proofs.«01_k».proof.Proof.Gen.QkvS
public import proofs.«01_k».proof.Proof.Gen.QkvS.Skeleton
public import proofs.«01_k».proof.Proof.Gen.QkvS.Launch
public import proofs.«01_k».proof.Proof.Gen.QkvS.Points
public import proofs.«01_k».proof.Proof.Gen.QkvS.Frame
public import proofs.«01_k».proof.Proof.Gen.QkvSIdeal
public import proofs.«01_k».proof.Proof.Gen.QkvSIdeal.Skeleton
public import proofs.«01_k».proof.Proof.Gen.QkvSIdeal.Launch
public import proofs.«01_k».proof.Proof.Gen.QkvSIdeal.Points
public import proofs.«01_k».proof.Proof.Gen.QkvSIdeal.Frame
public import proofs.«01_k».proof.Proof.Gen.QkvSRefIdeal
public import proofs.«01_k».proof.Proof.Gen.Step
public import proofs.«01_k».proof.Proof.Gen.Step.Skeleton
public import proofs.«01_k».proof.Proof.Gen.Step.Launch
public import proofs.«01_k».proof.Proof.Gen.Step.Points
public import proofs.«01_k».proof.Proof.Gen.Step.Frame
public import proofs.«01_k».proof.Proof.Gen.StepIdeal
public import proofs.«01_k».proof.Proof.Gen.StepIdeal.Skeleton
public import proofs.«01_k».proof.Proof.Gen.StepIdeal.Launch
public import proofs.«01_k».proof.Proof.Gen.StepIdeal.Points
public import proofs.«01_k».proof.Proof.Gen.StepIdeal.Frame
public import proofs.«01_k».proof.Proof.Gen.StepRefIdeal
public import proofs.«01_k».proof.Proof.Gen.Gates
public import proofs.«01_k».proof.Proof.Gen.Gates.Skeleton
public import proofs.«01_k».proof.Proof.Gen.Gates.Launch
public import proofs.«01_k».proof.Proof.Gen.Gates.Points
public import proofs.«01_k».proof.Proof.Gen.Gates.Frame
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesIdeal.Frame
public import proofs.«01_k».proof.Proof.Gen.GatesRefIdeal
public import proofs.«01_k».proof.Proof.Gen.Mlstm
public import proofs.«01_k».proof.Proof.Gen.Mlstm.Skeleton
public import proofs.«01_k».proof.Proof.Gen.Mlstm.Launch
public import proofs.«01_k».proof.Proof.Gen.Mlstm.Points
public import proofs.«01_k».proof.Proof.Gen.Mlstm.Frame
public import proofs.«01_k».proof.Proof.Gen.MlstmIdeal
public import proofs.«01_k».proof.Proof.Gen.MlstmIdeal.Skeleton
public import proofs.«01_k».proof.Proof.Gen.MlstmIdeal.Launch
public import proofs.«01_k».proof.Proof.Gen.MlstmIdeal.Points
public import proofs.«01_k».proof.Proof.Gen.MlstmIdeal.Frame
public import proofs.«01_k».proof.Proof.Gen.MlstmRefIdeal
public import proofs.«01_k».proof.Proof.Gen.Swa
public import proofs.«01_k».proof.Proof.Gen.Swa.Skeleton
public import proofs.«01_k».proof.Proof.Gen.Swa.Launch
public import proofs.«01_k».proof.Proof.Gen.Swa.Points
public import proofs.«01_k».proof.Proof.Gen.Swa.Frame
public import proofs.«01_k».proof.Proof.Gen.SwaIdeal
public import proofs.«01_k».proof.Proof.Gen.SwaIdeal.Skeleton
public import proofs.«01_k».proof.Proof.Gen.SwaIdeal.Launch
public import proofs.«01_k».proof.Proof.Gen.SwaIdeal.Points
public import proofs.«01_k».proof.Proof.Gen.SwaIdeal.Frame
public import proofs.«01_k».proof.Proof.Gen.SwaRefIdeal
public import proofs.«01_k».proof.Proof.Gen.Pre_finite_tokens
public import proofs.«01_k».proof.Proof.Gen.Pre_finite_inputs
public import proofs.«01_k».proof.Proof.LinValue
public import proofs.«01_k».proof.Proof.ConvValue
public import proofs.«01_k».proof.Proof.OutValue
public import proofs.«01_k».proof.Proof.SwaValue
public import proofs.«01_k».proof.Proof.QkvValue
public import proofs.«01_k».proof.Proof.QkvSValue
public import proofs.«01_k».proof.Proof.LinSValue
public import proofs.«01_k».proof.Proof.PlainValue
public import proofs.«01_k».proof.Proof.StepValue
public import proofs.«01_k».proof.Proof.MlstmValue
public import proofs.«01_k».proof.Proof.GatesValue
public import Idealize.ShloMosaic.Lib.Claim
public import Idealize.ShloMosaic.Adequacy
public import Idealize.ShloMosaic.Init

@[expose] public section

noncomputable section

namespace Cert.Proof

open Idealize.ShloMosaic Idealize.SL.Sem

/-- The idealized call of `Lin` and its reference end with equal results. -/
theorem values_Lin : Cert.algebraic_LinIdeal_LinRefIdeal := by
  intro m ρ m' ρ' _ hagree
  refine ⟨_, Cert.LinIdeal.Value.run_blocks (F := Ideal) m ρ, ?_⟩
  refine (θ_run Cert.LinRefIdeal.defs _ _).mono (fun _ h c => ⟨((h c).1).trans ?_, (h c).2⟩)
    (Cert.LinRefIdeal.Value.run (F := Ideal) m' ρ')
  · obtain ⟨e0, e1, e2⟩ := hagree c
    refine (Cert.LinRefIdeal.Read.val_main_v7_eq (F := Ideal) (m' (c.tc.loc Cert.LinRefIdeal.main_arg0)) (m' (c.tc.loc Cert.LinRefIdeal.main_arg1)) (m' (c.tc.loc Cert.LinRefIdeal.main_arg2))).trans ?_
    rw [e0, e1, e2]
    exact (Cert.LinIdeal.Value.final m c).symm

/-- The idealized call of `Conv` and its reference end with equal results. -/
theorem values_Conv : Cert.algebraic_ConvIdeal_ConvRefIdeal := by
  intro m ρ m' ρ' _ hagree
  refine ⟨_, _, _, Cert.ConvIdeal.Value.run_blocks (F := Ideal) m ρ, ?_⟩
  refine (θ_run Cert.ConvRefIdeal.defs _ _).mono (fun _ h c => ⟨((h c).1).trans ?_, ((h c).2.1).trans ?_, ((h c).2.2.1).trans ?_, (h c).2.2.2⟩)
    (Cert.ConvRefIdeal.Value.run (F := Ideal) m' ρ')
  · obtain ⟨e0, e1, e2, e3, e4, e5⟩ := hagree c
    refine (Cert.ConvRefIdeal.Read.val_main_v53_eq (F := Ideal) m' c).trans ?_
    rw [e0, e1, e2, e3]
    exact (Cert.ConvIdeal.Value.final_q m c).symm
  · obtain ⟨e0, e1, e2, e3, e4, e5⟩ := hagree c
    refine (Cert.ConvRefIdeal.Read.val_main_v55_eq (F := Ideal) m' c).trans ?_
    rw [e0, e1, e2, e4]
    exact (Cert.ConvIdeal.Value.final_k m c).symm
  · obtain ⟨e0, e1, e2, e3, e4, e5⟩ := hagree c
    refine (Cert.ConvRefIdeal.Read.val_main_v57_eq (F := Ideal) (m' (c.tc.loc Cert.ConvRefIdeal.main_arg0)) (m' (c.tc.loc Cert.ConvRefIdeal.main_arg5))).trans ?_
    rw [e0, e5]
    exact (Cert.ConvIdeal.Value.final_v m c).symm

/-- The idealized call of `Out` and its reference end with equal results. -/
theorem values_Out : Cert.algebraic_OutIdeal_OutRefIdeal := by
  intro m ρ m' ρ' _ hagree
  refine ⟨_, Cert.OutIdeal.Value.run_blocks (F := Ideal) m ρ, ?_⟩
  refine (θ_run Cert.OutRefIdeal.defs _ _).mono (fun _ h c => ⟨((h c).1).trans ?_, (h c).2⟩)
    (Cert.OutRefIdeal.Value.run (F := Ideal) m' ρ')
  · obtain ⟨e0, e1, e2, e3, e4, e5⟩ := hagree c
    refine (Cert.OutRefIdeal.Read.val_main_v42_eq (F := Ideal) m' c).trans ?_
    rw [e0, e1, e2, e3, e4, e5]
    exact (Cert.OutIdeal.Value.final m c).symm

/-- The idealized call of `Qkv` and its reference end with equal results. -/
theorem values_Qkv : Cert.algebraic_QkvIdeal_QkvRefIdeal := by
  intro m ρ m' ρ' _ hagree
  refine ⟨_, Cert.QkvIdeal.Value.run_blocks (F := Ideal) m ρ, ?_⟩
  refine (θ_run Cert.QkvRefIdeal.defs _ _).mono (fun _ h c => ⟨((h c).1).trans ?_, (h c).2⟩)
    (Cert.QkvRefIdeal.Value.run (F := Ideal) m' ρ')
  · obtain ⟨e0, e1, e2⟩ := hagree c
    refine (Cert.QkvRefIdeal.Read.val_main_v3_eq (F := Ideal) (m' (c.tc.loc Cert.QkvRefIdeal.main_arg0)) (m' (c.tc.loc Cert.QkvRefIdeal.main_arg1)) (m' (c.tc.loc Cert.QkvRefIdeal.main_arg2))).trans ?_
    rw [e0, e1, e2]
    exact (Cert.QkvIdeal.Value.final m c).symm

/-- The idealized call of `Plain` and its reference end with equal results. -/
theorem values_Plain : Cert.algebraic_PlainIdeal_PlainRefIdeal := by
  intro m ρ m' ρ' _ hagree
  refine ⟨_, Cert.PlainIdeal.Value.run_blocks (F := Ideal) m ρ, ?_⟩
  refine (θ_run Cert.PlainRefIdeal.defs _ _).mono (fun _ h c => ⟨((h c).1).trans ?_, (h c).2⟩)
    (Cert.PlainRefIdeal.Value.run (F := Ideal) m' ρ')
  · obtain ⟨e0, e1, e2, e3, e4⟩ := hagree c
    refine (Cert.PlainRefIdeal.Read.val_main_v32_eq (F := Ideal) (m' (c.tc.loc Cert.PlainRefIdeal.main_arg0)) (m' (c.tc.loc Cert.PlainRefIdeal.main_arg1)) (m' (c.tc.loc Cert.PlainRefIdeal.main_arg2)) (m' (c.tc.loc Cert.PlainRefIdeal.main_arg3)) (m' (c.tc.loc Cert.PlainRefIdeal.main_arg4))).trans ?_
    rw [e0, e1, e2, e3, e4]
    exact (Cert.PlainIdeal.Value.final m c).symm

/-- The idealized call of `LinS` and its reference end with equal results. -/
theorem values_LinS : Cert.algebraic_LinSIdeal_LinSRefIdeal := by
  intro m ρ m' ρ' _ hagree
  refine ⟨_, Cert.LinSIdeal.Value.run_blocks (F := Ideal) m ρ, ?_⟩
  refine (θ_run Cert.LinSRefIdeal.defs _ _).mono (fun _ h c => ⟨((h c).1).trans ?_, (h c).2⟩)
    (Cert.LinSRefIdeal.Value.run (F := Ideal) m' ρ')
  · obtain ⟨e0, e1, e2⟩ := hagree c
    refine (Cert.LinSRefIdeal.Read.val_main_v7_eq (F := Ideal) (m' (c.tc.loc Cert.LinSRefIdeal.main_arg0)) (m' (c.tc.loc Cert.LinSRefIdeal.main_arg1)) (m' (c.tc.loc Cert.LinSRefIdeal.main_arg2))).trans ?_
    rw [e0, e1, e2]
    exact (Cert.LinSIdeal.Value.final m c).symm

/-- The idealized call of `QkvS` and its reference end with equal results. -/
theorem values_QkvS : Cert.algebraic_QkvSIdeal_QkvSRefIdeal := by
  intro m ρ m' ρ' _ hagree
  refine ⟨_, Cert.QkvSIdeal.Value.run_blocks (F := Ideal) m ρ, ?_⟩
  refine (θ_run Cert.QkvSRefIdeal.defs _ _).mono (fun _ h c => ⟨((h c).1).trans ?_, (h c).2⟩)
    (Cert.QkvSRefIdeal.Value.run (F := Ideal) m' ρ')
  · obtain ⟨e0, e1, e2⟩ := hagree c
    refine (Cert.QkvSRefIdeal.Read.val_main_v3_eq (F := Ideal) (m' (c.tc.loc Cert.QkvSRefIdeal.main_arg0)) (m' (c.tc.loc Cert.QkvSRefIdeal.main_arg1)) (m' (c.tc.loc Cert.QkvSRefIdeal.main_arg2))).trans ?_
    rw [e0, e1, e2]
    exact (Cert.QkvSIdeal.Value.final m c).symm

/-- The idealized call of `Step` and its reference end with equal results. -/
theorem values_Step : Cert.algebraic_StepIdeal_StepRefIdeal := by
  intro m ρ m' ρ' _ hagree
  refine ⟨_, _, _, _, Cert.StepIdeal.Value.run_blocks (F := Ideal) m ρ, ?_⟩
  refine (θ_run Cert.StepRefIdeal.defs _ _).mono (fun _ h c => ⟨((h c).1).trans ?_, ((h c).2.1).trans ?_, ((h c).2.2.1).trans ?_, ((h c).2.2.2.1).trans ?_, (h c).2.2.2.2⟩)
    (Cert.StepRefIdeal.Value.run (F := Ideal) m' ρ')
  · obtain ⟨e0, e1, e2, e3, e4, e5, e6⟩ := hagree c
    refine (Cert.StepRefIdeal.Read.val_main_v52_eq (F := Ideal) m' c).trans ?_
    rw [e0, e1, e2, e3, e4, e5, e6]
    exact (Cert.StepIdeal.Value.final9 m c).symm
  · obtain ⟨e0, e1, e2, e3, e4, e5, e6⟩ := hagree c
    refine (Cert.StepRefIdeal.Read.val_main_v47_eq (F := Ideal) m' c).trans ?_
    rw [e1, e2, e3, e4, e6]
    exact (Cert.StepIdeal.Value.final10 m c).symm
  · obtain ⟨e0, e1, e2, e3, e4, e5, e6⟩ := hagree c
    refine (Cert.StepRefIdeal.Read.val_main_v53_eq (F := Ideal) m' c).trans ?_
    rw [e1, e3, e4, e5]
    exact (Cert.StepIdeal.Value.final11 m c).symm
  · obtain ⟨e0, e1, e2, e3, e4, e5, e6⟩ := hagree c
    refine (Cert.StepRefIdeal.Read.val_main_v55_eq (F := Ideal) (m' (c.tc.loc Cert.StepRefIdeal.main_arg3)) (m' (c.tc.loc Cert.StepRefIdeal.main_arg4))).trans ?_
    rw [e3, e4]
    exact (Cert.StepIdeal.Value.final12 m c).symm

/-- The idealized call of `Gates` and its reference end with equal results. -/
theorem values_Gates : Cert.algebraic_GatesIdeal_GatesRefIdeal := by
  intro m ρ m' ρ' _ hagree
  refine ⟨_, _, Cert.GatesIdeal.Value.run_blocks (F := Ideal) m ρ, ?_⟩
  refine (θ_run Cert.GatesRefIdeal.defs _ _).mono (fun _ h c => ⟨((h c).1).trans ?_, ((h c).2.1).trans ?_, (h c).2.2⟩)
    (Cert.GatesRefIdeal.Value.run (F := Ideal) m' ρ')
  · have e0 := hagree c
    refine (Cert.GatesRefIdeal.Read.val_main_v15_eq (F := Ideal) (m' (c.tc.loc Cert.GatesRefIdeal.main_arg0))).trans ?_
    rw [e0]
    exact (Cert.GatesIdeal.Value.final_row m c).symm
  · have e0 := hagree c
    refine (Cert.GatesRefIdeal.Read.val_main_v17_eq (F := Ideal) (m' (c.tc.loc Cert.GatesRefIdeal.main_arg0))).trans ?_
    rw [e0]
    exact (Cert.GatesIdeal.Value.final_col m c).symm

/-- The idealized call of `Mlstm` and its reference end with equal results. -/
theorem values_Mlstm : Cert.algebraic_MlstmIdeal_MlstmRefIdeal_pre_finite_tokens := by
  intro m ρ m' ρ' hpre hagree
  refine ⟨_, _, _, _, Cert.MlstmIdeal.Value.run_blocks (F := Ideal) m ρ, ?_⟩
  refine (θ_run Cert.MlstmRefIdeal.defs _ _).mono (fun _ h c => ⟨((h c).1).trans ?_, ((h c).2.1).trans ?_, ((h c).2.2.1).trans ?_, ((h c).2.2.2.1).trans ?_, (h c).2.2.2.2⟩)
    (Cert.MlstmRefIdeal.Value.run (F := Ideal) m' ρ')
  · obtain ⟨e0, e1, e2, e3⟩ := hagree c
    refine (Cert.MlstmRefIdeal.Read.val_main_v62_eq (F := Ideal) m' c).trans ?_
    rw [e0, e1, e2, e3]
    exact (Cert.MlstmIdeal.Value.final_h m c (hpre c)).symm
  · obtain ⟨e0, e1, e2, e3⟩ := hagree c
    refine (Cert.MlstmRefIdeal.Read.val_main_v60_eq (F := Ideal) m' c).trans ?_
    rw [e1, e2, e3]
    exact (Cert.MlstmIdeal.Value.final_C m c (hpre c)).symm
  · obtain ⟨e0, e1, e2, e3⟩ := hagree c
    refine (Cert.MlstmRefIdeal.Read.val_main_v64_eq (F := Ideal) m' c).trans ?_
    rw [e1, e3]
    exact (Cert.MlstmIdeal.Value.final_N m c (hpre c)).symm
  · obtain ⟨e0, e1, e2, e3⟩ := hagree c
    refine (Cert.MlstmRefIdeal.Read.val_main_v66_eq (F := Ideal) m' c).trans ?_
    rw [e3]
    exact (Cert.MlstmIdeal.Value.final_M m c (hpre c)).symm

/-- The idealized call of `Swa` and its reference end with equal results. -/
theorem values_Swa : Cert.algebraic_SwaIdeal_SwaRefIdeal_pre_finite_inputs := by
  intro m ρ m' ρ' hpre hagree
  refine ⟨_, Cert.SwaIdeal.Value.run_blocks (F := Ideal) m ρ, ?_⟩
  refine (θ_run Cert.SwaRefIdeal.defs _ _).mono (fun _ h c => ⟨((h c).1).trans ?_, (h c).2⟩)
    (Cert.SwaRefIdeal.Value.run (F := Ideal) m' ρ')
  · obtain ⟨e0, e1, e2⟩ := hagree c
    refine (Cert.SwaRefIdeal.Read.val_main_v85_eq (F := Ideal) m' c).trans ?_
    rw [e0, e1, e2]
    exact (Cert.SwaIdeal.Value.final m c (hpre c)).symm

/-- The certificate's claims. -/
theorem claim : Cert.Claim := by
  refine ⟨Cert.Lin.Gen.facts, Cert.LinIdeal.Gen.facts, Cert.LinRefIdeal.Gen.facts, Cert.Conv.Gen.facts, Cert.ConvIdeal.Gen.facts, Cert.ConvRefIdeal.Gen.facts, Cert.Out.Gen.facts, Cert.OutIdeal.Gen.facts, Cert.OutRefIdeal.Gen.facts, Cert.Qkv.Gen.facts, Cert.QkvIdeal.Gen.facts, Cert.QkvRefIdeal.Gen.facts, Cert.Plain.Gen.facts, Cert.PlainIdeal.Gen.facts, Cert.PlainRefIdeal.Gen.facts, Cert.LinS.Gen.facts, Cert.LinSIdeal.Gen.facts, Cert.LinSRefIdeal.Gen.facts, Cert.QkvS.Gen.facts, Cert.QkvSIdeal.Gen.facts, Cert.QkvSRefIdeal.Gen.facts, Cert.Step.Gen.facts, Cert.StepIdeal.Gen.facts, Cert.StepRefIdeal.Gen.facts, Cert.Gates.Gen.facts, Cert.GatesIdeal.Gen.facts, Cert.GatesRefIdeal.Gen.facts, Cert.Mlstm.Gen.facts, Cert.MlstmIdeal.Gen.facts, Cert.MlstmRefIdeal.Gen.facts, Cert.Swa.Gen.facts, Cert.SwaIdeal.Gen.facts, Cert.SwaRefIdeal.Gen.facts, Cert.Pre_finite_tokens.Gen.facts, Cert.Pre_finite_inputs.Gen.facts, ?_⟩
  refine ⟨fun m ρ _ => Cert.Lin.Gen.frame m ρ,
    fun m ρ _ => Cert.LinIdeal.Gen.frame m ρ,
    fun m ρ _ => (θ_run Cert.LinRefIdeal.defs _ _).mono (fun r h => ⟨fun c => (h c).2, sem_eq_zero_of_no_sems (by decide) r.2⟩) (Cert.LinRefIdeal.Value.run (F := Ideal) m ρ),
    fun m ρ _ => Cert.Conv.Gen.frame m ρ,
    fun m ρ _ => Cert.ConvIdeal.Gen.frame m ρ,
    fun m ρ _ => (θ_run Cert.ConvRefIdeal.defs _ _).mono (fun r h => ⟨fun c => (h c).2.2.2, sem_eq_zero_of_no_sems (by decide) r.2⟩) (Cert.ConvRefIdeal.Value.run (F := Ideal) m ρ),
    fun m ρ _ => Cert.Out.Gen.frame m ρ,
    fun m ρ _ => Cert.OutIdeal.Gen.frame m ρ,
    fun m ρ _ => (θ_run Cert.OutRefIdeal.defs _ _).mono (fun r h => ⟨fun c => (h c).2, sem_eq_zero_of_no_sems (by decide) r.2⟩) (Cert.OutRefIdeal.Value.run (F := Ideal) m ρ),
    fun m ρ _ => Cert.Qkv.Gen.frame m ρ,
    fun m ρ _ => Cert.QkvIdeal.Gen.frame m ρ,
    fun m ρ _ => (θ_run Cert.QkvRefIdeal.defs _ _).mono (fun r h => ⟨fun c => (h c).2, sem_eq_zero_of_no_sems (by decide) r.2⟩) (Cert.QkvRefIdeal.Value.run (F := Ideal) m ρ),
    fun m ρ _ => Cert.Plain.Gen.frame m ρ,
    fun m ρ _ => Cert.PlainIdeal.Gen.frame m ρ,
    fun m ρ _ => (θ_run Cert.PlainRefIdeal.defs _ _).mono (fun r h => ⟨fun c => (h c).2, sem_eq_zero_of_no_sems (by decide) r.2⟩) (Cert.PlainRefIdeal.Value.run (F := Ideal) m ρ),
    fun m ρ _ => Cert.LinS.Gen.frame m ρ,
    fun m ρ _ => Cert.LinSIdeal.Gen.frame m ρ,
    fun m ρ _ => (θ_run Cert.LinSRefIdeal.defs _ _).mono (fun r h => ⟨fun c => (h c).2, sem_eq_zero_of_no_sems (by decide) r.2⟩) (Cert.LinSRefIdeal.Value.run (F := Ideal) m ρ),
    fun m ρ _ => Cert.QkvS.Gen.frame m ρ,
    fun m ρ _ => Cert.QkvSIdeal.Gen.frame m ρ,
    fun m ρ _ => (θ_run Cert.QkvSRefIdeal.defs _ _).mono (fun r h => ⟨fun c => (h c).2, sem_eq_zero_of_no_sems (by decide) r.2⟩) (Cert.QkvSRefIdeal.Value.run (F := Ideal) m ρ),
    fun m ρ _ => Cert.Step.Gen.frame m ρ,
    fun m ρ _ => Cert.StepIdeal.Gen.frame m ρ,
    fun m ρ _ => (θ_run Cert.StepRefIdeal.defs _ _).mono (fun r h => ⟨fun c => (h c).2.2.2.2, sem_eq_zero_of_no_sems (by decide) r.2⟩) (Cert.StepRefIdeal.Value.run (F := Ideal) m ρ),
    fun m ρ _ => Cert.Gates.Gen.frame m ρ,
    fun m ρ _ => Cert.GatesIdeal.Gen.frame m ρ,
    fun m ρ _ => (θ_run Cert.GatesRefIdeal.defs _ _).mono (fun r h => ⟨fun c => (h c).2.2, sem_eq_zero_of_no_sems (by decide) r.2⟩) (Cert.GatesRefIdeal.Value.run (F := Ideal) m ρ),
    fun m ρ _ => Cert.Mlstm.Gen.frame m ρ,
    fun m ρ _ => Cert.MlstmIdeal.Gen.frame m ρ,
    fun m ρ _ => Cert.MlstmIdeal.Gen.frame m ρ,
    fun m ρ _ => (θ_run Cert.MlstmRefIdeal.defs _ _).mono (fun r h => ⟨fun c => (h c).2.2.2.2, sem_eq_zero_of_no_sems (by decide) r.2⟩) (Cert.MlstmRefIdeal.Value.run (F := Ideal) m ρ),
    fun m ρ _ => (θ_run Cert.MlstmRefIdeal.defs _ _).mono (fun r h => ⟨fun c => (h c).2.2.2.2, sem_eq_zero_of_no_sems (by decide) r.2⟩) (Cert.MlstmRefIdeal.Value.run (F := Ideal) m ρ),
    fun m ρ _ => Cert.Swa.Gen.frame m ρ,
    fun m ρ _ => Cert.SwaIdeal.Gen.frame m ρ,
    fun m ρ _ => Cert.SwaIdeal.Gen.frame m ρ,
    fun m ρ _ => (θ_run Cert.SwaRefIdeal.defs _ _).mono (fun r h => ⟨fun c => (h c).2, sem_eq_zero_of_no_sems (by decide) r.2⟩) (Cert.SwaRefIdeal.Value.run (F := Ideal) m ρ),
    fun m ρ _ => (θ_run Cert.SwaRefIdeal.defs _ _).mono (fun r h => ⟨fun c => (h c).2, sem_eq_zero_of_no_sems (by decide) r.2⟩) (Cert.SwaRefIdeal.Value.run (F := Ideal) m ρ),
    trivial,
    values_Lin,
    trivial,
    values_Conv,
    trivial,
    values_Out,
    trivial,
    values_Qkv,
    trivial,
    values_Plain,
    trivial,
    values_LinS,
    trivial,
    values_QkvS,
    trivial,
    values_Step,
    trivial,
    values_Gates,
    IdealRules.named_const.statement _ _ _ _ _ rfl,
    values_Mlstm,
    IdealRules.named_const.statement _ _ _ _ _ rfl,
    values_Swa⟩

end Cert.Proof

end
